-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjEven (m : (ℓ : Loc Cert.OutProjEven.nD Cert.OutProjEven.τ Cert.OutProjEven.sig) → Buf (Elt Bits) ℓ) : Prop :=
  True

def Pre_OutProjEvenIdeal (m : (ℓ : Loc Cert.OutProjEvenIdeal.nD Cert.OutProjEvenIdeal.τ Cert.OutProjEvenIdeal.sig) → Buf (Elt Ideal) ℓ) : Prop :=
  True

def Pre_OutProjEvenRefIdeal (m : (ℓ : Loc Cert.OutProjEvenRefIdeal.nD Cert.OutProjEvenRefIdeal.τ Cert.OutProjEvenRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjRefIdeal (m : (ℓ : Loc Cert.MlaProjRefIdeal.nD Cert.MlaProjRefIdeal.τ Cert.MlaProjRefIdeal.sig) → Buf (Elt Ideal) ℓ) : Prop :=
  True

def Pre_HyProj (m : (ℓ : Loc Cert.HyProj.nD Cert.HyProj.τ Cert.HyProj.sig) → Buf (Elt Bits) ℓ) : Prop :=
  True

def Pre_HyProjIdeal (m : (ℓ : Loc Cert.HyProjIdeal.nD Cert.HyProjIdeal.τ Cert.HyProjIdeal.sig) → Buf (Elt Ideal) ℓ) : Prop :=
  True

def Pre_HyProjRefIdeal (m : (ℓ : Loc Cert.HyProjRefIdeal.nD Cert.HyProjRefIdeal.τ Cert.HyProjRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_OutProjEven [hOutProjEven : Cert.OutProjEven.Facts] : Prop :=
  ∀ (m : (ℓ : Loc Cert.OutProjEven.nD Cert.OutProjEven.τ Cert.OutProjEven.sig) → Buf (Elt Bits) ℓ) (g : Dev Cert.OutProjEven.nD → PrngReg), Pre_OutProjEven m →
    θ_run (Cert.OutProjEven.defs (F := Bits)) (onTc (τ := Cert.OutProjEven.τ) (Cert.OutProjEven.main (F := Bits))) ⟨m, fun _ => 0, g⟩ (fun r => (∀ c : Dev Cert.OutProjEven.nD,
      r.2.mem ((c.tc : Thread Cert.OutProjEven.nD Cert.OutProjEven.τ).loc Cert.OutProjEven.main_arg0) = m ((c.tc : Thread Cert.OutProjEven.nD Cert.OutProjEven.τ).loc Cert.OutProjEven.main_arg0)
      ∧ r.2.mem ((c.tc : Thread Cert.OutProjEven.nD Cert.OutProjEven.τ).loc Cert.OutProjEven.main_arg1) = m ((c.tc : Thread Cert.OutProjEven.nD Cert.OutProjEven.τ).loc Cert.OutProjEven.main_arg1)
      ∧ r.2.mem ((c.tc : Thread Cert.OutProjEven.nD Cert.OutProjEven.τ).loc Cert.OutProjEven.main_arg2) = m ((c.tc : Thread Cert.OutProjEven.nD Cert.OutProjEven.τ).loc Cert.OutProjEven.main_arg2)
      ∧ r.2.mem ((c.tc : Thread Cert.OutProjEven.nD Cert.OutProjEven.τ).loc Cert.OutProjEven.main_arg3) = m ((c.tc : Thread Cert.OutProjEven.nD Cert.OutProjEven.τ).loc Cert.OutProjEven.main_arg3)
      ∧ r.2.mem ((c.tc : Thread Cert.OutProjEven.nD Cert.OutProjEven.τ).loc Cert.OutProjEven.main_arg4) = m ((c.tc : Thread Cert.OutProjEven.nD Cert.OutProjEven.τ).loc Cert.OutProjEven.main_arg4)
      ∧ r.2.mem ((c.tc : Thread Cert.OutProjEven.nD Cert.OutProjEven.τ).loc Cert.OutProjEven.main_arg5) = m ((c.tc : Thread Cert.OutProjEven.nD Cert.OutProjEven.τ).loc Cert.OutProjEven.main_arg5)
      ∧ r.2.mem ((c.tc : Thread Cert.OutProjEven.nD Cert.OutProjEven.τ).loc Cert.OutProjEven.main_arg6) = m ((c.tc : Thread Cert.OutProjEven.nD Cert.OutProjEven.τ).loc Cert.OutProjEven.main_arg6)
      ∧ r.2.mem ((c.tc : Thread Cert.OutProjEven.nD Cert.OutProjEven.τ).loc Cert.OutProjEven.main_arg7) = m ((c.tc : Thread Cert.OutProjEven.nD Cert.OutProjEven.τ).loc Cert.OutProjEven.main_arg7)
      ∧ r.2.mem ((c.tc : Thread Cert.OutProjEven.nD Cert.OutProjEven.τ).loc Cert.OutProjEven.main_arg8) = m ((c.tc : Thread Cert.OutProjEven.nD Cert.OutProjEven.τ).loc Cert.OutProjEven.main_arg8)
      ∧ r.2.mem ((c.tc : Thread Cert.OutProjEven.nD Cert.OutProjEven.τ).loc Cert.OutProjEven.main_arg9) = m ((c.tc : Thread Cert.OutProjEven.nD Cert.OutProjEven.τ).loc Cert.OutProjEven.main_arg9))
      ∧ r.2.sem = fun _ => 0)

def quiescent_OutProjEvenIdeal [hOutProjEvenIdeal : Cert.OutProjEvenIdeal.Facts] : Prop :=
  ∀ (m : (ℓ : Loc Cert.OutProjEvenIdeal.nD Cert.OutProjEvenIdeal.τ Cert.OutProjEvenIdeal.sig) → Buf (Elt Ideal) ℓ) (g : Dev Cert.OutProjEvenIdeal.nD → PrngReg), Pre_OutProjEvenIdeal m →
    θ_run (Cert.OutProjEvenIdeal.defs (F := Ideal)) (onTc (τ := Cert.OutProjEvenIdeal.τ) (Cert.OutProjEvenIdeal.main (F := Ideal))) ⟨m, fun _ => 0, g⟩ (fun r => (∀ c : Dev Cert.OutProjEvenIdeal.nD,
      r.2.mem ((c.tc : Thread Cert.OutProjEvenIdeal.nD Cert.OutProjEvenIdeal.τ).loc Cert.OutProjEvenIdeal.main_arg0) = m ((c.tc : Thread Cert.OutProjEvenIdeal.nD Cert.OutProjEvenIdeal.τ).loc Cert.OutProjEvenIdeal.main_arg0)
      ∧ r.2.mem ((c.tc : Thread Cert.OutProjEvenIdeal.nD Cert.OutProjEvenIdeal.τ).loc Cert.OutProjEvenIdeal.main_arg1) = m ((c.tc : Thread Cert.OutProjEvenIdeal.nD Cert.OutProjEvenIdeal.τ).loc Cert.OutProjEvenIdeal.main_arg1)
      ∧ r.2.mem ((c.tc : Thread Cert.OutProjEvenIdeal.nD Cert.OutProjEvenIdeal.τ).loc Cert.OutProjEvenIdeal.main_arg2) = m ((c.tc : Thread Cert.OutProjEvenIdeal.nD Cert.OutProjEvenIdeal.τ).loc Cert.OutProjEvenIdeal.main_arg2)
      ∧ r.2.mem ((c.tc : Thread Cert.OutProjEvenIdeal.nD Cert.OutProjEvenIdeal.τ).loc Cert.OutProjEvenIdeal.main_arg3) = m ((c.tc : Thread Cert.OutProjEvenIdeal.nD Cert.OutProjEvenIdeal.τ).loc Cert.OutProjEvenIdeal.main_arg3)
      ∧ r.2.mem ((c.tc : Thread Cert.OutProjEvenIdeal.nD Cert.OutProjEvenIdeal.τ).loc Cert.OutProjEvenIdeal.main_arg4) = m ((c.tc : Thread Cert.OutProjEvenIdeal.nD Cert.OutProjEvenIdeal.τ).loc Cert.OutProjEvenIdeal.main_arg4)
      ∧ r.2.mem ((c.tc : Thread Cert.OutProjEvenIdeal.nD Cert.OutProjEvenIdeal.τ).loc Cert.OutProjEvenIdeal.main_arg5) = m ((c.tc : Thread Cert.OutProjEvenIdeal.nD Cert.OutProjEvenIdeal.τ).loc Cert.OutProjEvenIdeal.main_arg5)
      ∧ r.2.mem ((c.tc : Thread Cert.OutProjEvenIdeal.nD Cert.OutProjEvenIdeal.τ).loc Cert.OutProjEvenIdeal.main_arg6) = m ((c.tc : Thread Cert.OutProjEvenIdeal.nD Cert.OutProjEvenIdeal.τ).loc Cert.OutProjEvenIdeal.main_arg6)
      ∧ r.2.mem ((c.tc : Thread Cert.OutProjEvenIdeal.nD Cert.OutProjEvenIdeal.τ).loc Cert.OutProjEvenIdeal.main_arg7) = m ((c.tc : Thread Cert.OutProjEvenIdeal.nD Cert.OutProjEvenIdeal.τ).loc Cert.OutProjEvenIdeal.main_arg7)
      ∧ r.2.mem ((c.tc : Thread Cert.OutProjEvenIdeal.nD Cert.OutProjEvenIdeal.τ).loc Cert.OutProjEvenIdeal.main_arg8) = m ((c.tc : Thread Cert.OutProjEvenIdeal.nD Cert.OutProjEvenIdeal.τ).loc Cert.OutProjEvenIdeal.main_arg8)
      ∧ r.2.mem ((c.tc : Thread Cert.OutProjEvenIdeal.nD Cert.OutProjEvenIdeal.τ).loc Cert.OutProjEvenIdeal.main_arg9) = m ((c.tc : Thread Cert.OutProjEvenIdeal.nD Cert.OutProjEvenIdeal.τ).loc Cert.OutProjEvenIdeal.main_arg9))
      ∧ r.2.sem = fun _ => 0)

def quiescent_OutProjEvenRefIdeal [hOutProjEvenRefIdeal : Cert.OutProjEvenRefIdeal.Facts] : Prop :=
  ∀ (m : (ℓ : Loc Cert.OutProjEvenRefIdeal.nD Cert.OutProjEvenRefIdeal.τ Cert.OutProjEvenRefIdeal.sig) → Buf (Elt Ideal) ℓ) (g : Dev Cert.OutProjEvenRefIdeal.nD → PrngReg), Pre_OutProjEvenRefIdeal m →
    θ_run (Cert.OutProjEvenRefIdeal.defs (F := Ideal)) (onTc (τ := Cert.OutProjEvenRefIdeal.τ) (Cert.OutProjEvenRefIdeal.main (F := Ideal))) ⟨m, fun _ => 0, g⟩ (fun r => (∀ c : Dev Cert.OutProjEvenRefIdeal.nD,
      r.2.mem ((c.tc : Thread Cert.OutProjEvenRefIdeal.nD Cert.OutProjEvenRefIdeal.τ).loc Cert.OutProjEvenRefIdeal.main_arg0) = m ((c.tc : Thread Cert.OutProjEvenRefIdeal.nD Cert.OutProjEvenRefIdeal.τ).loc Cert.OutProjEvenRefIdeal.main_arg0)
      ∧ r.2.mem ((c.tc : Thread Cert.OutProjEvenRefIdeal.nD Cert.OutProjEvenRefIdeal.τ).loc Cert.OutProjEvenRefIdeal.main_arg1) = m ((c.tc : Thread Cert.OutProjEvenRefIdeal.nD Cert.OutProjEvenRefIdeal.τ).loc Cert.OutProjEvenRefIdeal.main_arg1)
      ∧ r.2.mem ((c.tc : Thread Cert.OutProjEvenRefIdeal.nD Cert.OutProjEvenRefIdeal.τ).loc Cert.OutProjEvenRefIdeal.main_arg2) = m ((c.tc : Thread Cert.OutProjEvenRefIdeal.nD Cert.OutProjEvenRefIdeal.τ).loc Cert.OutProjEvenRefIdeal.main_arg2)
      ∧ r.2.mem ((c.tc : Thread Cert.OutProjEvenRefIdeal.nD Cert.OutProjEvenRefIdeal.τ).loc Cert.OutProjEvenRefIdeal.main_arg3) = m ((c.tc : Thread Cert.OutProjEvenRefIdeal.nD Cert.OutProjEvenRefIdeal.τ).loc Cert.OutProjEvenRefIdeal.main_arg3)
      ∧ r.2.mem ((c.tc : Thread Cert.OutProjEvenRefIdeal.nD Cert.OutProjEvenRefIdeal.τ).loc Cert.OutProjEvenRefIdeal.main_arg4) = m ((c.tc : Thread Cert.OutProjEvenRefIdeal.nD Cert.OutProjEvenRefIdeal.τ).loc Cert.OutProjEvenRefIdeal.main_arg4)
      ∧ r.2.mem ((c.tc : Thread Cert.OutProjEvenRefIdeal.nD Cert.OutProjEvenRefIdeal.τ).loc Cert.OutProjEvenRefIdeal.main_arg5) = m ((c.tc : Thread Cert.OutProjEvenRefIdeal.nD Cert.OutProjEvenRefIdeal.τ).loc Cert.OutProjEvenRefIdeal.main_arg5)
      ∧ r.2.mem ((c.tc : Thread Cert.OutProjEvenRefIdeal.nD Cert.OutProjEvenRefIdeal.τ).loc Cert.OutProjEvenRefIdeal.main_arg6) = m ((c.tc : Thread Cert.OutProjEvenRefIdeal.nD Cert.OutProjEvenRefIdeal.τ).loc Cert.OutProjEvenRefIdeal.main_arg6)
      ∧ r.2.mem ((c.tc : Thread Cert.OutProjEvenRefIdeal.nD Cert.OutProjEvenRefIdeal.τ).loc Cert.OutProjEvenRefIdeal.main_arg7) = m ((c.tc : Thread Cert.OutProjEvenRefIdeal.nD Cert.OutProjEvenRefIdeal.τ).loc Cert.OutProjEvenRefIdeal.main_arg7)
      ∧ r.2.mem ((c.tc : Thread Cert.OutProjEvenRefIdeal.nD Cert.OutProjEvenRefIdeal.τ).loc Cert.OutProjEvenRefIdeal.main_arg8) = m ((c.tc : Thread Cert.OutProjEvenRefIdeal.nD Cert.OutProjEvenRefIdeal.τ).loc Cert.OutProjEvenRefIdeal.main_arg8)
      ∧ r.2.mem ((c.tc : Thread Cert.OutProjEvenRefIdeal.nD Cert.OutProjEvenRefIdeal.τ).loc Cert.OutProjEvenRefIdeal.main_arg9) = m ((c.tc : Thread Cert.OutProjEvenRefIdeal.nD Cert.OutProjEvenRefIdeal.τ).loc Cert.OutProjEvenRefIdeal.main_arg9))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5)
      ∧ r.2.mem ((c.tc : Thread Cert.MlaProj.nD Cert.MlaProj.τ).loc Cert.MlaProj.main_arg6) = m ((c.tc : Thread Cert.MlaProj.nD Cert.MlaProj.τ).loc Cert.MlaProj.main_arg6)
      ∧ r.2.mem ((c.tc : Thread Cert.MlaProj.nD Cert.MlaProj.τ).loc Cert.MlaProj.main_arg7) = m ((c.tc : Thread Cert.MlaProj.nD Cert.MlaProj.τ).loc Cert.MlaProj.main_arg7)
      ∧ r.2.mem ((c.tc : Thread Cert.MlaProj.nD Cert.MlaProj.τ).loc Cert.MlaProj.main_arg8) = m ((c.tc : Thread Cert.MlaProj.nD Cert.MlaProj.τ).loc Cert.MlaProj.main_arg8)
      ∧ r.2.mem ((c.tc : Thread Cert.MlaProj.nD Cert.MlaProj.τ).loc Cert.MlaProj.main_arg9) = m ((c.tc : Thread Cert.MlaProj.nD Cert.MlaProj.τ).loc Cert.MlaProj.main_arg9)
      ∧ r.2.mem ((c.tc : Thread Cert.MlaProj.nD Cert.MlaProj.τ).loc Cert.MlaProj.main_arg10) = m ((c.tc : Thread Cert.MlaProj.nD Cert.MlaProj.τ).loc Cert.MlaProj.main_arg10))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
      ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
      ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
      ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8)
      ∧ r.2.mem ((c.tc : Thread Cert.MlaProjIdeal.nD Cert.MlaProjIdeal.τ).loc Cert.MlaProjIdeal.main_arg9) = m ((c.tc : Thread Cert.MlaProjIdeal.nD Cert.MlaProjIdeal.τ).loc Cert.MlaProjIdeal.main_arg9)
      ∧ r.2.mem ((c.tc : Thread Cert.MlaProjIdeal.nD Cert.MlaProjIdeal.τ).loc Cert.MlaProjIdeal.main_arg10) = m ((c.tc : Thread Cert.MlaProjIdeal.nD Cert.MlaProjIdeal.τ).loc Cert.MlaProjIdeal.main_arg10))
      ∧ r.2.sem = fun _ => 0)

def quiescent_MlaProjRefIdeal [hMlaProjRefIdeal : Cert.MlaProjRefIdeal.Facts] : Prop :=
  ∀ (m : (ℓ : Loc Cert.MlaProjRefIdeal.nD Cert.MlaProjRefIdeal.τ Cert.MlaProjRefIdeal.sig) → Buf (Elt Ideal) ℓ) (g : Dev Cert.MlaProjRefIdeal.nD → PrngReg), Pre_MlaProjRefIdeal m →
    θ_run (Cert.MlaProjRefIdeal.defs (F := Ideal)) (onTc (τ := Cert.MlaProjRefIdeal.τ) (Cert.MlaProjRefIdeal.main (F := Ideal))) ⟨m, fun _ => 0, g⟩ (fun r => (∀ c : Dev Cert.MlaProjRefIdeal.nD,
      r.2.mem ((c.tc : Thread Cert.MlaProjRefIdeal.nD Cert.MlaProjRefIdeal.τ).loc Cert.MlaProjRefIdeal.main_arg0) = m ((c.tc : Thread Cert.MlaProjRefIdeal.nD Cert.MlaProjRefIdeal.τ).loc Cert.MlaProjRefIdeal.main_arg0)
      ∧ r.2.mem ((c.tc : Thread Cert.MlaProjRefIdeal.nD Cert.MlaProjRefIdeal.τ).loc Cert.MlaProjRefIdeal.main_arg1) = m ((c.tc : Thread Cert.MlaProjRefIdeal.nD Cert.MlaProjRefIdeal.τ).loc Cert.MlaProjRefIdeal.main_arg1)
      ∧ r.2.mem ((c.tc : Thread Cert.MlaProjRefIdeal.nD Cert.MlaProjRefIdeal.τ).loc Cert.MlaProjRefIdeal.main_arg2) = m ((c.tc : Thread Cert.MlaProjRefIdeal.nD Cert.MlaProjRefIdeal.τ).loc Cert.MlaProjRefIdeal.main_arg2)
      ∧ r.2.mem ((c.tc : Thread Cert.MlaProjRefIdeal.nD Cert.MlaProjRefIdeal.τ).loc Cert.MlaProjRefIdeal.main_arg3) = m ((c.tc : Thread Cert.MlaProjRefIdeal.nD Cert.MlaProjRefIdeal.τ).loc Cert.MlaProjRefIdeal.main_arg3)
      ∧ r.2.mem ((c.tc : Thread Cert.MlaProjRefIdeal.nD Cert.MlaProjRefIdeal.τ).loc Cert.MlaProjRefIdeal.main_arg4) = m ((c.tc : Thread Cert.MlaProjRefIdeal.nD Cert.MlaProjRefIdeal.τ).loc Cert.MlaProjRefIdeal.main_arg4)
      ∧ r.2.mem ((c.tc : Thread Cert.MlaProjRefIdeal.nD Cert.MlaProjRefIdeal.τ).loc Cert.MlaProjRefIdeal.main_arg5) = m ((c.tc : Thread Cert.MlaProjRefIdeal.nD Cert.MlaProjRefIdeal.τ).loc Cert.MlaProjRefIdeal.main_arg5)
      ∧ r.2.mem ((c.tc : Thread Cert.MlaProjRefIdeal.nD Cert.MlaProjRefIdeal.τ).loc Cert.MlaProjRefIdeal.main_arg6) = m ((c.tc : Thread Cert.MlaProjRefIdeal.nD Cert.MlaProjRefIdeal.τ).loc Cert.MlaProjRefIdeal.main_arg6)
      ∧ r.2.mem ((c.tc : Thread Cert.MlaProjRefIdeal.nD Cert.MlaProjRefIdeal.τ).loc Cert.MlaProjRefIdeal.main_arg7) = m ((c.tc : Thread Cert.MlaProjRefIdeal.nD Cert.MlaProjRefIdeal.τ).loc Cert.MlaProjRefIdeal.main_arg7)
      ∧ r.2.mem ((c.tc : Thread Cert.MlaProjRefIdeal.nD Cert.MlaProjRefIdeal.τ).loc Cert.MlaProjRefIdeal.main_arg8) = m ((c.tc : Thread Cert.MlaProjRefIdeal.nD Cert.MlaProjRefIdeal.τ).loc Cert.MlaProjRefIdeal.main_arg8)
      ∧ r.2.mem ((c.tc : Thread Cert.MlaProjRefIdeal.nD Cert.MlaProjRefIdeal.τ).loc Cert.MlaProjRefIdeal.main_arg9) = m ((c.tc : Thread Cert.MlaProjRefIdeal.nD Cert.MlaProjRefIdeal.τ).loc Cert.MlaProjRefIdeal.main_arg9)
      ∧ r.2.mem ((c.tc : Thread Cert.MlaProjRefIdeal.nD Cert.MlaProjRefIdeal.τ).loc Cert.MlaProjRefIdeal.main_arg10) = m ((c.tc : Thread Cert.MlaProjRefIdeal.nD Cert.MlaProjRefIdeal.τ).loc Cert.MlaProjRefIdeal.main_arg10))
      ∧ r.2.sem = fun _ => 0)

def quiescent_HyProj [hHyProj : Cert.HyProj.Facts] : Prop :=
  ∀ (m : (ℓ : Loc Cert.HyProj.nD Cert.HyProj.τ Cert.HyProj.sig) → Buf (Elt Bits) ℓ) (g : Dev Cert.HyProj.nD → PrngReg), Pre_HyProj m →
    θ_run (Cert.HyProj.defs (F := Bits)) (onTc (τ := Cert.HyProj.τ) (Cert.HyProj.main (F := Bits))) ⟨m, fun _ => 0, g⟩ (fun r => (∀ c : Dev Cert.HyProj.nD,
      r.2.mem ((c.tc : Thread Cert.HyProj.nD Cert.HyProj.τ).loc Cert.HyProj.main_arg0) = m ((c.tc : Thread Cert.HyProj.nD Cert.HyProj.τ).loc Cert.HyProj.main_arg0)
      ∧ r.2.mem ((c.tc : Thread Cert.HyProj.nD Cert.HyProj.τ).loc Cert.HyProj.main_arg1) = m ((c.tc : Thread Cert.HyProj.nD Cert.HyProj.τ).loc Cert.HyProj.main_arg1)
      ∧ r.2.mem ((c.tc : Thread Cert.HyProj.nD Cert.HyProj.τ).loc Cert.HyProj.main_arg2) = m ((c.tc : Thread Cert.HyProj.nD Cert.HyProj.τ).loc Cert.HyProj.main_arg2)
      ∧ r.2.mem ((c.tc : Thread Cert.HyProj.nD Cert.HyProj.τ).loc Cert.HyProj.main_arg3) = m ((c.tc : Thread Cert.HyProj.nD Cert.HyProj.τ).loc Cert.HyProj.main_arg3)
      ∧ r.2.mem ((c.tc : Thread Cert.HyProj.nD Cert.HyProj.τ).loc Cert.HyProj.main_arg4) = m ((c.tc : Thread Cert.HyProj.nD Cert.HyProj.τ).loc Cert.HyProj.main_arg4)
      ∧ r.2.mem ((c.tc : Thread Cert.HyProj.nD Cert.HyProj.τ).loc Cert.HyProj.main_arg5) = m ((c.tc : Thread Cert.HyProj.nD Cert.HyProj.τ).loc Cert.HyProj.main_arg5)
      ∧ r.2.mem ((c.tc : Thread Cert.HyProj.nD Cert.HyProj.τ).loc Cert.HyProj.main_arg6) = m ((c.tc : Thread Cert.HyProj.nD Cert.HyProj.τ).loc Cert.HyProj.main_arg6))
      ∧ r.2.sem = fun _ => 0)

def quiescent_HyProjIdeal [hHyProjIdeal : Cert.HyProjIdeal.Facts] : Prop :=
  ∀ (m : (ℓ : Loc Cert.HyProjIdeal.nD Cert.HyProjIdeal.τ Cert.HyProjIdeal.sig) → Buf (Elt Ideal) ℓ) (g : Dev Cert.HyProjIdeal.nD → PrngReg), Pre_HyProjIdeal m →
    θ_run (Cert.HyProjIdeal.defs (F := Ideal)) (onTc (τ := Cert.HyProjIdeal.τ) (Cert.HyProjIdeal.main (F := Ideal))) ⟨m, fun _ => 0, g⟩ (fun r => (∀ c : Dev Cert.HyProjIdeal.nD,
      r.2.mem ((c.tc : Thread Cert.HyProjIdeal.nD Cert.HyProjIdeal.τ).loc Cert.HyProjIdeal.main_arg0) = m ((c.tc : Thread Cert.HyProjIdeal.nD Cert.HyProjIdeal.τ).loc Cert.HyProjIdeal.main_arg0)
      ∧ r.2.mem ((c.tc : Thread Cert.HyProjIdeal.nD Cert.HyProjIdeal.τ).loc Cert.HyProjIdeal.main_arg1) = m ((c.tc : Thread Cert.HyProjIdeal.nD Cert.HyProjIdeal.τ).loc Cert.HyProjIdeal.main_arg1)
      ∧ r.2.mem ((c.tc : Thread Cert.HyProjIdeal.nD Cert.HyProjIdeal.τ).loc Cert.HyProjIdeal.main_arg2) = m ((c.tc : Thread Cert.HyProjIdeal.nD Cert.HyProjIdeal.τ).loc Cert.HyProjIdeal.main_arg2)
      ∧ r.2.mem ((c.tc : Thread Cert.HyProjIdeal.nD Cert.HyProjIdeal.τ).loc Cert.HyProjIdeal.main_arg3) = m ((c.tc : Thread Cert.HyProjIdeal.nD Cert.HyProjIdeal.τ).loc Cert.HyProjIdeal.main_arg3)
      ∧ r.2.mem ((c.tc : Thread Cert.HyProjIdeal.nD Cert.HyProjIdeal.τ).loc Cert.HyProjIdeal.main_arg4) = m ((c.tc : Thread Cert.HyProjIdeal.nD Cert.HyProjIdeal.τ).loc Cert.HyProjIdeal.main_arg4)
      ∧ r.2.mem ((c.tc : Thread Cert.HyProjIdeal.nD Cert.HyProjIdeal.τ).loc Cert.HyProjIdeal.main_arg5) = m ((c.tc : Thread Cert.HyProjIdeal.nD Cert.HyProjIdeal.τ).loc Cert.HyProjIdeal.main_arg5)
      ∧ r.2.mem ((c.tc : Thread Cert.HyProjIdeal.nD Cert.HyProjIdeal.τ).loc Cert.HyProjIdeal.main_arg6) = m ((c.tc : Thread Cert.HyProjIdeal.nD Cert.HyProjIdeal.τ).loc Cert.HyProjIdeal.main_arg6))
      ∧ r.2.sem = fun _ => 0)

def quiescent_HyProjRefIdeal [hHyProjRefIdeal : Cert.HyProjRefIdeal.Facts] : Prop :=
  ∀ (m : (ℓ : Loc Cert.HyProjRefIdeal.nD Cert.HyProjRefIdeal.τ Cert.HyProjRefIdeal.sig) → Buf (Elt Ideal) ℓ) (g : Dev Cert.HyProjRefIdeal.nD → PrngReg), Pre_HyProjRefIdeal m →
    θ_run (Cert.HyProjRefIdeal.defs (F := Ideal)) (onTc (τ := Cert.HyProjRefIdeal.τ) (Cert.HyProjRefIdeal.main (F := Ideal))) ⟨m, fun _ => 0, g⟩ (fun r => (∀ c : Dev Cert.HyProjRefIdeal.nD,
      r.2.mem ((c.tc : Thread Cert.HyProjRefIdeal.nD Cert.HyProjRefIdeal.τ).loc Cert.HyProjRefIdeal.main_arg0) = m ((c.tc : Thread Cert.HyProjRefIdeal.nD Cert.HyProjRefIdeal.τ).loc Cert.HyProjRefIdeal.main_arg0)
      ∧ r.2.mem ((c.tc : Thread Cert.HyProjRefIdeal.nD Cert.HyProjRefIdeal.τ).loc Cert.HyProjRefIdeal.main_arg1) = m ((c.tc : Thread Cert.HyProjRefIdeal.nD Cert.HyProjRefIdeal.τ).loc Cert.HyProjRefIdeal.main_arg1)
      ∧ r.2.mem ((c.tc : Thread Cert.HyProjRefIdeal.nD Cert.HyProjRefIdeal.τ).loc Cert.HyProjRefIdeal.main_arg2) = m ((c.tc : Thread Cert.HyProjRefIdeal.nD Cert.HyProjRefIdeal.τ).loc Cert.HyProjRefIdeal.main_arg2)
      ∧ r.2.mem ((c.tc : Thread Cert.HyProjRefIdeal.nD Cert.HyProjRefIdeal.τ).loc Cert.HyProjRefIdeal.main_arg3) = m ((c.tc : Thread Cert.HyProjRefIdeal.nD Cert.HyProjRefIdeal.τ).loc Cert.HyProjRefIdeal.main_arg3)
      ∧ r.2.mem ((c.tc : Thread Cert.HyProjRefIdeal.nD Cert.HyProjRefIdeal.τ).loc Cert.HyProjRefIdeal.main_arg4) = m ((c.tc : Thread Cert.HyProjRefIdeal.nD Cert.HyProjRefIdeal.τ).loc Cert.HyProjRefIdeal.main_arg4)
      ∧ r.2.mem ((c.tc : Thread Cert.HyProjRefIdeal.nD Cert.HyProjRefIdeal.τ).loc Cert.HyProjRefIdeal.main_arg5) = m ((c.tc : Thread Cert.HyProjRefIdeal.nD Cert.HyProjRefIdeal.τ).loc Cert.HyProjRefIdeal.main_arg5)
      ∧ r.2.mem ((c.tc : Thread Cert.HyProjRefIdeal.nD Cert.HyProjRefIdeal.τ).loc Cert.HyProjRefIdeal.main_arg6) = m ((c.tc : Thread Cert.HyProjRefIdeal.nD Cert.HyProjRefIdeal.τ).loc Cert.HyProjRefIdeal.main_arg6))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v11_0)) (v1 : (c : Dev Cert.OutProjIdeal.nD) → Buf (Elt Ideal) ((c.tc : Thread Cert.OutProjIdeal.nD Cert.OutProjIdeal.τ).loc Cert.OutProjIdeal.main_v11_1)) (v2 : (c : Dev Cert.OutProjIdeal.nD) → Buf (Elt Ideal) ((c.tc : Thread Cert.OutProjIdeal.nD Cert.OutProjIdeal.τ).loc Cert.OutProjIdeal.main_v11_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_v11_1) = v1 c
          ∧ r.2.mem ((c.tc : Thread Cert.OutProjIdeal.nD Cert.OutProjIdeal.τ).loc Cert.OutProjIdeal.main_v11_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v27) = v0 c
          ∧ r.2.mem ((c.tc : Thread Cert.OutProjRefIdeal.nD Cert.OutProjRefIdeal.τ).loc Cert.OutProjRefIdeal.main_v29) = v1 c
          ∧ r.2.mem ((c.tc : Thread Cert.OutProjRefIdeal.nD Cert.OutProjRefIdeal.τ).loc Cert.OutProjRefIdeal.main_v31) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_OutProjEven_OutProjEvenIdeal : Prop :=
  True

def algebraic_OutProjEvenIdeal_OutProjEvenRefIdeal [hOutProjEvenIdeal : Cert.OutProjEvenIdeal.Facts] [hOutProjEvenRefIdeal : Cert.OutProjEvenRefIdeal.Facts] : Prop :=
  ∀ (m : (ℓ : Loc Cert.OutProjEvenIdeal.nD Cert.OutProjEvenIdeal.τ Cert.OutProjEvenIdeal.sig) → Buf (Elt Ideal) ℓ) (g : Dev Cert.OutProjEvenIdeal.nD → PrngReg)
    (m' : (ℓ : Loc Cert.OutProjEvenRefIdeal.nD Cert.OutProjEvenRefIdeal.τ Cert.OutProjEvenRefIdeal.sig) → Buf (Elt Ideal) ℓ) (g' : Dev Cert.OutProjEvenRefIdeal.nD → PrngReg), Pre_OutProjEvenIdeal m →
    (∀ c : Dev Cert.OutProjEvenIdeal.nD,
      m' ((c.tc : Thread Cert.OutProjEvenRefIdeal.nD Cert.OutProjEvenRefIdeal.τ).loc Cert.OutProjEvenRefIdeal.main_arg0) = m ((c.tc : Thread Cert.OutProjEvenIdeal.nD Cert.OutProjEvenIdeal.τ).loc Cert.OutProjEvenIdeal.main_arg0)
      ∧ m' ((c.tc : Thread Cert.OutProjEvenRefIdeal.nD Cert.OutProjEvenRefIdeal.τ).loc Cert.OutProjEvenRefIdeal.main_arg1) = m ((c.tc : Thread Cert.OutProjEvenIdeal.nD Cert.OutProjEvenIdeal.τ).loc Cert.OutProjEvenIdeal.main_arg1)
      ∧ m' ((c.tc : Thread Cert.OutProjEvenRefIdeal.nD Cert.OutProjEvenRefIdeal.τ).loc Cert.OutProjEvenRefIdeal.main_arg2) = m ((c.tc : Thread Cert.OutProjEvenIdeal.nD Cert.OutProjEvenIdeal.τ).loc Cert.OutProjEvenIdeal.main_arg2)
      ∧ m' ((c.tc : Thread Cert.OutProjEvenRefIdeal.nD Cert.OutProjEvenRefIdeal.τ).loc Cert.OutProjEvenRefIdeal.main_arg3) = m ((c.tc : Thread Cert.OutProjEvenIdeal.nD Cert.OutProjEvenIdeal.τ).loc Cert.OutProjEvenIdeal.main_arg3)
      ∧ m' ((c.tc : Thread Cert.OutProjEvenRefIdeal.nD Cert.OutProjEvenRefIdeal.τ).loc Cert.OutProjEvenRefIdeal.main_arg4) = m ((c.tc : Thread Cert.OutProjEvenIdeal.nD Cert.OutProjEvenIdeal.τ).loc Cert.OutProjEvenIdeal.main_arg4)
      ∧ m' ((c.tc : Thread Cert.OutProjEvenRefIdeal.nD Cert.OutProjEvenRefIdeal.τ).loc Cert.OutProjEvenRefIdeal.main_arg5) = m ((c.tc : Thread Cert.OutProjEvenIdeal.nD Cert.OutProjEvenIdeal.τ).loc Cert.OutProjEvenIdeal.main_arg5)
      ∧ m' ((c.tc : Thread Cert.OutProjEvenRefIdeal.nD Cert.OutProjEvenRefIdeal.τ).loc Cert.OutProjEvenRefIdeal.main_arg6) = m ((c.tc : Thread Cert.OutProjEvenIdeal.nD Cert.OutProjEvenIdeal.τ).loc Cert.OutProjEvenIdeal.main_arg6)
      ∧ m' ((c.tc : Thread Cert.OutProjEvenRefIdeal.nD Cert.OutProjEvenRefIdeal.τ).loc Cert.OutProjEvenRefIdeal.main_arg7) = m ((c.tc : Thread Cert.OutProjEvenIdeal.nD Cert.OutProjEvenIdeal.τ).loc Cert.OutProjEvenIdeal.main_arg7)
      ∧ m' ((c.tc : Thread Cert.OutProjEvenRefIdeal.nD Cert.OutProjEvenRefIdeal.τ).loc Cert.OutProjEvenRefIdeal.main_arg8) = m ((c.tc : Thread Cert.OutProjEvenIdeal.nD Cert.OutProjEvenIdeal.τ).loc Cert.OutProjEvenIdeal.main_arg8)
      ∧ m' ((c.tc : Thread Cert.OutProjEvenRefIdeal.nD Cert.OutProjEvenRefIdeal.τ).loc Cert.OutProjEvenRefIdeal.main_arg9) = m ((c.tc : Thread Cert.OutProjEvenIdeal.nD Cert.OutProjEvenIdeal.τ).loc Cert.OutProjEvenIdeal.main_arg9)) →
    ∃ (v0 : (c : Dev Cert.OutProjEvenIdeal.nD) → Buf (Elt Ideal) ((c.tc : Thread Cert.OutProjEvenIdeal.nD Cert.OutProjEvenIdeal.τ).loc Cert.OutProjEvenIdeal.main_v15_0)) (v1 : (c : Dev Cert.OutProjEvenIdeal.nD) → Buf (Elt Ideal) ((c.tc : Thread Cert.OutProjEvenIdeal.nD Cert.OutProjEvenIdeal.τ).loc Cert.OutProjEvenIdeal.main_v15_1)) (v2 : (c : Dev Cert.OutProjEvenIdeal.nD) → Buf (Elt Ideal) ((c.tc : Thread Cert.OutProjEvenIdeal.nD Cert.OutProjEvenIdeal.τ).loc Cert.OutProjEvenIdeal.main_v15_2)),
      θ_run (Cert.OutProjEvenIdeal.defs (F := Ideal)) (onTc (τ := Cert.OutProjEvenIdeal.τ) (Cert.OutProjEvenIdeal.main (F := Ideal))) ⟨m, fun _ => 0, g⟩ (fun r => ∀ c : Dev Cert.OutProjEvenIdeal.nD,
          r.2.mem ((c.tc : Thread Cert.OutProjEvenIdeal.nD Cert.OutProjEvenIdeal.τ).loc Cert.OutProjEvenIdeal.main_v15_0) = v0 c
          ∧ r.2.mem ((c.tc : Thread Cert.OutProjEvenIdeal.nD Cert.OutProjEvenIdeal.τ).loc Cert.OutProjEvenIdeal.main_v15_1) = v1 c
          ∧ r.2.mem ((c.tc : Thread Cert.OutProjEvenIdeal.nD Cert.OutProjEvenIdeal.τ).loc Cert.OutProjEvenIdeal.main_v15_2) = v2 c
          ∧ r.2.mem ((c.tc : Thread Cert.OutProjEvenIdeal.nD Cert.OutProjEvenIdeal.τ).loc Cert.OutProjEvenIdeal.main_arg0) = m ((c.tc : Thread Cert.OutProjEvenIdeal.nD Cert.OutProjEvenIdeal.τ).loc Cert.OutProjEvenIdeal.main_arg0)
          ∧ r.2.mem ((c.tc : Thread Cert.OutProjEvenIdeal.nD Cert.OutProjEvenIdeal.τ).loc Cert.OutProjEvenIdeal.main_arg1) = m ((c.tc : Thread Cert.OutProjEvenIdeal.nD Cert.OutProjEvenIdeal.τ).loc Cert.OutProjEvenIdeal.main_arg1)
          ∧ r.2.mem ((c.tc : Thread Cert.OutProjEvenIdeal.nD Cert.OutProjEvenIdeal.τ).loc Cert.OutProjEvenIdeal.main_arg2) = m ((c.tc : Thread Cert.OutProjEvenIdeal.nD Cert.OutProjEvenIdeal.τ).loc Cert.OutProjEvenIdeal.main_arg2)
          ∧ r.2.mem ((c.tc : Thread Cert.OutProjEvenIdeal.nD Cert.OutProjEvenIdeal.τ).loc Cert.OutProjEvenIdeal.main_arg3) = m ((c.tc : Thread Cert.OutProjEvenIdeal.nD Cert.OutProjEvenIdeal.τ).loc Cert.OutProjEvenIdeal.main_arg3)
          ∧ r.2.mem ((c.tc : Thread Cert.OutProjEvenIdeal.nD Cert.OutProjEvenIdeal.τ).loc Cert.OutProjEvenIdeal.main_arg4) = m ((c.tc : Thread Cert.OutProjEvenIdeal.nD Cert.OutProjEvenIdeal.τ).loc Cert.OutProjEvenIdeal.main_arg4)
          ∧ r.2.mem ((c.tc : Thread Cert.OutProjEvenIdeal.nD Cert.OutProjEvenIdeal.τ).loc Cert.OutProjEvenIdeal.main_arg5) = m ((c.tc : Thread Cert.OutProjEvenIdeal.nD Cert.OutProjEvenIdeal.τ).loc Cert.OutProjEvenIdeal.main_arg5)
          ∧ r.2.mem ((c.tc : Thread Cert.OutProjEvenIdeal.nD Cert.OutProjEvenIdeal.τ).loc Cert.OutProjEvenIdeal.main_arg6) = m ((c.tc : Thread Cert.OutProjEvenIdeal.nD Cert.OutProjEvenIdeal.τ).loc Cert.OutProjEvenIdeal.main_arg6)
          ∧ r.2.mem ((c.tc : Thread Cert.OutProjEvenIdeal.nD Cert.OutProjEvenIdeal.τ).loc Cert.OutProjEvenIdeal.main_arg7) = m ((c.tc : Thread Cert.OutProjEvenIdeal.nD Cert.OutProjEvenIdeal.τ).loc Cert.OutProjEvenIdeal.main_arg7)
          ∧ r.2.mem ((c.tc : Thread Cert.OutProjEvenIdeal.nD Cert.OutProjEvenIdeal.τ).loc Cert.OutProjEvenIdeal.main_arg8) = m ((c.tc : Thread Cert.OutProjEvenIdeal.nD Cert.OutProjEvenIdeal.τ).loc Cert.OutProjEvenIdeal.main_arg8)
          ∧ r.2.mem ((c.tc : Thread Cert.OutProjEvenIdeal.nD Cert.OutProjEvenIdeal.τ).loc Cert.OutProjEvenIdeal.main_arg9) = m ((c.tc : Thread Cert.OutProjEvenIdeal.nD Cert.OutProjEvenIdeal.τ).loc Cert.OutProjEvenIdeal.main_arg9))
      ∧ θ_run (Cert.OutProjEvenRefIdeal.defs (F := Ideal)) (onTc (τ := Cert.OutProjEvenRefIdeal.τ) (Cert.OutProjEvenRefIdeal.main (F := Ideal))) ⟨m', fun _ => 0, g'⟩ (fun r => ∀ c : Dev Cert.OutProjEvenRefIdeal.nD,
          r.2.mem ((c.tc : Thread Cert.OutProjEvenRefIdeal.nD Cert.OutProjEvenRefIdeal.τ).loc Cert.OutProjEvenRefIdeal.main_v28) = v0 c
          ∧ r.2.mem ((c.tc : Thread Cert.OutProjEvenRefIdeal.nD Cert.OutProjEvenRefIdeal.τ).loc Cert.OutProjEvenRefIdeal.main_v30) = v1 c
          ∧ r.2.mem ((c.tc : Thread Cert.OutProjEvenRefIdeal.nD Cert.OutProjEvenRefIdeal.τ).loc Cert.OutProjEvenRefIdeal.main_v32) = v2 c
          ∧ r.2.mem ((c.tc : Thread Cert.OutProjEvenRefIdeal.nD Cert.OutProjEvenRefIdeal.τ).loc Cert.OutProjEvenRefIdeal.main_arg0) = m' ((c.tc : Thread Cert.OutProjEvenRefIdeal.nD Cert.OutProjEvenRefIdeal.τ).loc Cert.OutProjEvenRefIdeal.main_arg0)
          ∧ r.2.mem ((c.tc : Thread Cert.OutProjEvenRefIdeal.nD Cert.OutProjEvenRefIdeal.τ).loc Cert.OutProjEvenRefIdeal.main_arg1) = m' ((c.tc : Thread Cert.OutProjEvenRefIdeal.nD Cert.OutProjEvenRefIdeal.τ).loc Cert.OutProjEvenRefIdeal.main_arg1)
          ∧ r.2.mem ((c.tc : Thread Cert.OutProjEvenRefIdeal.nD Cert.OutProjEvenRefIdeal.τ).loc Cert.OutProjEvenRefIdeal.main_arg2) = m' ((c.tc : Thread Cert.OutProjEvenRefIdeal.nD Cert.OutProjEvenRefIdeal.τ).loc Cert.OutProjEvenRefIdeal.main_arg2)
          ∧ r.2.mem ((c.tc : Thread Cert.OutProjEvenRefIdeal.nD Cert.OutProjEvenRefIdeal.τ).loc Cert.OutProjEvenRefIdeal.main_arg3) = m' ((c.tc : Thread Cert.OutProjEvenRefIdeal.nD Cert.OutProjEvenRefIdeal.τ).loc Cert.OutProjEvenRefIdeal.main_arg3)
          ∧ r.2.mem ((c.tc : Thread Cert.OutProjEvenRefIdeal.nD Cert.OutProjEvenRefIdeal.τ).loc Cert.OutProjEvenRefIdeal.main_arg4) = m' ((c.tc : Thread Cert.OutProjEvenRefIdeal.nD Cert.OutProjEvenRefIdeal.τ).loc Cert.OutProjEvenRefIdeal.main_arg4)
          ∧ r.2.mem ((c.tc : Thread Cert.OutProjEvenRefIdeal.nD Cert.OutProjEvenRefIdeal.τ).loc Cert.OutProjEvenRefIdeal.main_arg5) = m' ((c.tc : Thread Cert.OutProjEvenRefIdeal.nD Cert.OutProjEvenRefIdeal.τ).loc Cert.OutProjEvenRefIdeal.main_arg5)
          ∧ r.2.mem ((c.tc : Thread Cert.OutProjEvenRefIdeal.nD Cert.OutProjEvenRefIdeal.τ).loc Cert.OutProjEvenRefIdeal.main_arg6) = m' ((c.tc : Thread Cert.OutProjEvenRefIdeal.nD Cert.OutProjEvenRefIdeal.τ).loc Cert.OutProjEvenRefIdeal.main_arg6)
          ∧ r.2.mem ((c.tc : Thread Cert.OutProjEvenRefIdeal.nD Cert.OutProjEvenRefIdeal.τ).loc Cert.OutProjEvenRefIdeal.main_arg7) = m' ((c.tc : Thread Cert.OutProjEvenRefIdeal.nD Cert.OutProjEvenRefIdeal.τ).loc Cert.OutProjEvenRefIdeal.main_arg7)
          ∧ r.2.mem ((c.tc : Thread Cert.OutProjEvenRefIdeal.nD Cert.OutProjEvenRefIdeal.τ).loc Cert.OutProjEvenRefIdeal.main_arg8) = m' ((c.tc : Thread Cert.OutProjEvenRefIdeal.nD Cert.OutProjEvenRefIdeal.τ).loc Cert.OutProjEvenRefIdeal.main_arg8)
          ∧ r.2.mem ((c.tc : Thread Cert.OutProjEvenRefIdeal.nD Cert.OutProjEvenRefIdeal.τ).loc Cert.OutProjEvenRefIdeal.main_arg9) = m' ((c.tc : Thread Cert.OutProjEvenRefIdeal.nD Cert.OutProjEvenRefIdeal.τ).loc Cert.OutProjEvenRefIdeal.main_arg9))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_MlaProj_MlaProjIdeal : Prop :=
  True

def algebraic_MlaProjIdeal_MlaProjRefIdeal [hMlaProjIdeal : Cert.MlaProjIdeal.Facts] [hMlaProjRefIdeal : Cert.MlaProjRefIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjRefIdeal.nD Cert.MlaProjRefIdeal.τ Cert.MlaProjRefIdeal.sig) → Buf (Elt Ideal) ℓ) (g' : Dev Cert.MlaProjRefIdeal.nD → PrngReg), Pre_MlaProjIdeal m →
    (∀ c : Dev Cert.MlaProjIdeal.nD,
      m' ((c.tc : Thread Cert.MlaProjRefIdeal.nD Cert.MlaProjRefIdeal.τ).loc Cert.MlaProjRefIdeal.main_arg0) = m ((c.tc : Thread Cert.MlaProjIdeal.nD Cert.MlaProjIdeal.τ).loc Cert.MlaProjIdeal.main_arg0)
      ∧ m' ((c.tc : Thread Cert.MlaProjRefIdeal.nD Cert.MlaProjRefIdeal.τ).loc Cert.MlaProjRefIdeal.main_arg1) = m ((c.tc : Thread Cert.MlaProjIdeal.nD Cert.MlaProjIdeal.τ).loc Cert.MlaProjIdeal.main_arg1)
      ∧ m' ((c.tc : Thread Cert.MlaProjRefIdeal.nD Cert.MlaProjRefIdeal.τ).loc Cert.MlaProjRefIdeal.main_arg2) = m ((c.tc : Thread Cert.MlaProjIdeal.nD Cert.MlaProjIdeal.τ).loc Cert.MlaProjIdeal.main_arg2)
      ∧ m' ((c.tc : Thread Cert.MlaProjRefIdeal.nD Cert.MlaProjRefIdeal.τ).loc Cert.MlaProjRefIdeal.main_arg3) = m ((c.tc : Thread Cert.MlaProjIdeal.nD Cert.MlaProjIdeal.τ).loc Cert.MlaProjIdeal.main_arg3)
      ∧ m' ((c.tc : Thread Cert.MlaProjRefIdeal.nD Cert.MlaProjRefIdeal.τ).loc Cert.MlaProjRefIdeal.main_arg4) = m ((c.tc : Thread Cert.MlaProjIdeal.nD Cert.MlaProjIdeal.τ).loc Cert.MlaProjIdeal.main_arg4)
      ∧ m' ((c.tc : Thread Cert.MlaProjRefIdeal.nD Cert.MlaProjRefIdeal.τ).loc Cert.MlaProjRefIdeal.main_arg5) = m ((c.tc : Thread Cert.MlaProjIdeal.nD Cert.MlaProjIdeal.τ).loc Cert.MlaProjIdeal.main_arg5)
      ∧ m' ((c.tc : Thread Cert.MlaProjRefIdeal.nD Cert.MlaProjRefIdeal.τ).loc Cert.MlaProjRefIdeal.main_arg6) = m ((c.tc : Thread Cert.MlaProjIdeal.nD Cert.MlaProjIdeal.τ).loc Cert.MlaProjIdeal.main_arg6)
      ∧ m' ((c.tc : Thread Cert.MlaProjRefIdeal.nD Cert.MlaProjRefIdeal.τ).loc Cert.MlaProjRefIdeal.main_arg7) = m ((c.tc : Thread Cert.MlaProjIdeal.nD Cert.MlaProjIdeal.τ).loc Cert.MlaProjIdeal.main_arg7)
      ∧ m' ((c.tc : Thread Cert.MlaProjRefIdeal.nD Cert.MlaProjRefIdeal.τ).loc Cert.MlaProjRefIdeal.main_arg8) = m ((c.tc : Thread Cert.MlaProjIdeal.nD Cert.MlaProjIdeal.τ).loc Cert.MlaProjIdeal.main_arg8)
      ∧ m' ((c.tc : Thread Cert.MlaProjRefIdeal.nD Cert.MlaProjRefIdeal.τ).loc Cert.MlaProjRefIdeal.main_arg9) = m ((c.tc : Thread Cert.MlaProjIdeal.nD Cert.MlaProjIdeal.τ).loc Cert.MlaProjIdeal.main_arg9)
      ∧ m' ((c.tc : Thread Cert.MlaProjRefIdeal.nD Cert.MlaProjRefIdeal.τ).loc Cert.MlaProjRefIdeal.main_arg10) = m ((c.tc : Thread Cert.MlaProjIdeal.nD Cert.MlaProjIdeal.τ).loc Cert.MlaProjIdeal.main_arg10)) →
    ∃ (v0 : (c : Dev Cert.MlaProjIdeal.nD) → Buf (Elt Ideal) ((c.tc : Thread Cert.MlaProjIdeal.nD Cert.MlaProjIdeal.τ).loc Cert.MlaProjIdeal.main_v32_0)) (v1 : (c : Dev Cert.MlaProjIdeal.nD) → Buf (Elt Ideal) ((c.tc : Thread Cert.MlaProjIdeal.nD Cert.MlaProjIdeal.τ).loc Cert.MlaProjIdeal.main_v32_1)) (v2 : (c : Dev Cert.MlaProjIdeal.nD) → Buf (Elt Ideal) ((c.tc : Thread Cert.MlaProjIdeal.nD Cert.MlaProjIdeal.τ).loc Cert.MlaProjIdeal.main_v32_2)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v32_0) = v0 c
          ∧ r.2.mem ((c.tc : Thread Cert.MlaProjIdeal.nD Cert.MlaProjIdeal.τ).loc Cert.MlaProjIdeal.main_v32_1) = v1 c
          ∧ r.2.mem ((c.tc : Thread Cert.MlaProjIdeal.nD Cert.MlaProjIdeal.τ).loc Cert.MlaProjIdeal.main_v32_2) = v2 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
          ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
          ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
          ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8)
          ∧ r.2.mem ((c.tc : Thread Cert.MlaProjIdeal.nD Cert.MlaProjIdeal.τ).loc Cert.MlaProjIdeal.main_arg9) = m ((c.tc : Thread Cert.MlaProjIdeal.nD Cert.MlaProjIdeal.τ).loc Cert.MlaProjIdeal.main_arg9)
          ∧ r.2.mem ((c.tc : Thread Cert.MlaProjIdeal.nD Cert.MlaProjIdeal.τ).loc Cert.MlaProjIdeal.main_arg10) = m ((c.tc : Thread Cert.MlaProjIdeal.nD Cert.MlaProjIdeal.τ).loc Cert.MlaProjIdeal.main_arg10))
      ∧ θ_run (Cert.MlaProjRefIdeal.defs (F := Ideal)) (onTc (τ := Cert.MlaProjRefIdeal.τ) (Cert.MlaProjRefIdeal.main (F := Ideal))) ⟨m', fun _ => 0, g'⟩ (fun r => ∀ c : Dev Cert.MlaProjRefIdeal.nD,
          r.2.mem ((c.tc : Thread Cert.MlaProjRefIdeal.nD Cert.MlaProjRefIdeal.τ).loc Cert.MlaProjRefIdeal.main_v89) = v0 c
          ∧ r.2.mem ((c.tc : Thread Cert.MlaProjRefIdeal.nD Cert.MlaProjRefIdeal.τ).loc Cert.MlaProjRefIdeal.main_v92) = v1 c
          ∧ r.2.mem ((c.tc : Thread Cert.MlaProjRefIdeal.nD Cert.MlaProjRefIdeal.τ).loc Cert.MlaProjRefIdeal.main_v98) = v2 c
          ∧ r.2.mem ((c.tc : Thread Cert.MlaProjRefIdeal.nD Cert.MlaProjRefIdeal.τ).loc Cert.MlaProjRefIdeal.main_arg0) = m' ((c.tc : Thread Cert.MlaProjRefIdeal.nD Cert.MlaProjRefIdeal.τ).loc Cert.MlaProjRefIdeal.main_arg0)
          ∧ r.2.mem ((c.tc : Thread Cert.MlaProjRefIdeal.nD Cert.MlaProjRefIdeal.τ).loc Cert.MlaProjRefIdeal.main_arg1) = m' ((c.tc : Thread Cert.MlaProjRefIdeal.nD Cert.MlaProjRefIdeal.τ).loc Cert.MlaProjRefIdeal.main_arg1)
          ∧ r.2.mem ((c.tc : Thread Cert.MlaProjRefIdeal.nD Cert.MlaProjRefIdeal.τ).loc Cert.MlaProjRefIdeal.main_arg2) = m' ((c.tc : Thread Cert.MlaProjRefIdeal.nD Cert.MlaProjRefIdeal.τ).loc Cert.MlaProjRefIdeal.main_arg2)
          ∧ r.2.mem ((c.tc : Thread Cert.MlaProjRefIdeal.nD Cert.MlaProjRefIdeal.τ).loc Cert.MlaProjRefIdeal.main_arg3) = m' ((c.tc : Thread Cert.MlaProjRefIdeal.nD Cert.MlaProjRefIdeal.τ).loc Cert.MlaProjRefIdeal.main_arg3)
          ∧ r.2.mem ((c.tc : Thread Cert.MlaProjRefIdeal.nD Cert.MlaProjRefIdeal.τ).loc Cert.MlaProjRefIdeal.main_arg4) = m' ((c.tc : Thread Cert.MlaProjRefIdeal.nD Cert.MlaProjRefIdeal.τ).loc Cert.MlaProjRefIdeal.main_arg4)
          ∧ r.2.mem ((c.tc : Thread Cert.MlaProjRefIdeal.nD Cert.MlaProjRefIdeal.τ).loc Cert.MlaProjRefIdeal.main_arg5) = m' ((c.tc : Thread Cert.MlaProjRefIdeal.nD Cert.MlaProjRefIdeal.τ).loc Cert.MlaProjRefIdeal.main_arg5)
          ∧ r.2.mem ((c.tc : Thread Cert.MlaProjRefIdeal.nD Cert.MlaProjRefIdeal.τ).loc Cert.MlaProjRefIdeal.main_arg6) = m' ((c.tc : Thread Cert.MlaProjRefIdeal.nD Cert.MlaProjRefIdeal.τ).loc Cert.MlaProjRefIdeal.main_arg6)
          ∧ r.2.mem ((c.tc : Thread Cert.MlaProjRefIdeal.nD Cert.MlaProjRefIdeal.τ).loc Cert.MlaProjRefIdeal.main_arg7) = m' ((c.tc : Thread Cert.MlaProjRefIdeal.nD Cert.MlaProjRefIdeal.τ).loc Cert.MlaProjRefIdeal.main_arg7)
          ∧ r.2.mem ((c.tc : Thread Cert.MlaProjRefIdeal.nD Cert.MlaProjRefIdeal.τ).loc Cert.MlaProjRefIdeal.main_arg8) = m' ((c.tc : Thread Cert.MlaProjRefIdeal.nD Cert.MlaProjRefIdeal.τ).loc Cert.MlaProjRefIdeal.main_arg8)
          ∧ r.2.mem ((c.tc : Thread Cert.MlaProjRefIdeal.nD Cert.MlaProjRefIdeal.τ).loc Cert.MlaProjRefIdeal.main_arg9) = m' ((c.tc : Thread Cert.MlaProjRefIdeal.nD Cert.MlaProjRefIdeal.τ).loc Cert.MlaProjRefIdeal.main_arg9)
          ∧ r.2.mem ((c.tc : Thread Cert.MlaProjRefIdeal.nD Cert.MlaProjRefIdeal.τ).loc Cert.MlaProjRefIdeal.main_arg10) = m' ((c.tc : Thread Cert.MlaProjRefIdeal.nD Cert.MlaProjRefIdeal.τ).loc Cert.MlaProjRefIdeal.main_arg10))

def preserves_HyProj_HyProjIdeal : Prop :=
  True

def algebraic_HyProjIdeal_HyProjRefIdeal [hHyProjIdeal : Cert.HyProjIdeal.Facts] [hHyProjRefIdeal : Cert.HyProjRefIdeal.Facts] : Prop :=
  ∀ (m : (ℓ : Loc Cert.HyProjIdeal.nD Cert.HyProjIdeal.τ Cert.HyProjIdeal.sig) → Buf (Elt Ideal) ℓ) (g : Dev Cert.HyProjIdeal.nD → PrngReg)
    (m' : (ℓ : Loc Cert.HyProjRefIdeal.nD Cert.HyProjRefIdeal.τ Cert.HyProjRefIdeal.sig) → Buf (Elt Ideal) ℓ) (g' : Dev Cert.HyProjRefIdeal.nD → PrngReg), Pre_HyProjIdeal m →
    (∀ c : Dev Cert.HyProjIdeal.nD,
      m' ((c.tc : Thread Cert.HyProjRefIdeal.nD Cert.HyProjRefIdeal.τ).loc Cert.HyProjRefIdeal.main_arg0) = m ((c.tc : Thread Cert.HyProjIdeal.nD Cert.HyProjIdeal.τ).loc Cert.HyProjIdeal.main_arg0)
      ∧ m' ((c.tc : Thread Cert.HyProjRefIdeal.nD Cert.HyProjRefIdeal.τ).loc Cert.HyProjRefIdeal.main_arg1) = m ((c.tc : Thread Cert.HyProjIdeal.nD Cert.HyProjIdeal.τ).loc Cert.HyProjIdeal.main_arg1)
      ∧ m' ((c.tc : Thread Cert.HyProjRefIdeal.nD Cert.HyProjRefIdeal.τ).loc Cert.HyProjRefIdeal.main_arg2) = m ((c.tc : Thread Cert.HyProjIdeal.nD Cert.HyProjIdeal.τ).loc Cert.HyProjIdeal.main_arg2)
      ∧ m' ((c.tc : Thread Cert.HyProjRefIdeal.nD Cert.HyProjRefIdeal.τ).loc Cert.HyProjRefIdeal.main_arg3) = m ((c.tc : Thread Cert.HyProjIdeal.nD Cert.HyProjIdeal.τ).loc Cert.HyProjIdeal.main_arg3)
      ∧ m' ((c.tc : Thread Cert.HyProjRefIdeal.nD Cert.HyProjRefIdeal.τ).loc Cert.HyProjRefIdeal.main_arg4) = m ((c.tc : Thread Cert.HyProjIdeal.nD Cert.HyProjIdeal.τ).loc Cert.HyProjIdeal.main_arg4)
      ∧ m' ((c.tc : Thread Cert.HyProjRefIdeal.nD Cert.HyProjRefIdeal.τ).loc Cert.HyProjRefIdeal.main_arg5) = m ((c.tc : Thread Cert.HyProjIdeal.nD Cert.HyProjIdeal.τ).loc Cert.HyProjIdeal.main_arg5)
      ∧ m' ((c.tc : Thread Cert.HyProjRefIdeal.nD Cert.HyProjRefIdeal.τ).loc Cert.HyProjRefIdeal.main_arg6) = m ((c.tc : Thread Cert.HyProjIdeal.nD Cert.HyProjIdeal.τ).loc Cert.HyProjIdeal.main_arg6)) →
    ∃ (v0 : (c : Dev Cert.HyProjIdeal.nD) → Buf (Elt Ideal) ((c.tc : Thread Cert.HyProjIdeal.nD Cert.HyProjIdeal.τ).loc Cert.HyProjIdeal.main_v17_0)) (v1 : (c : Dev Cert.HyProjIdeal.nD) → Buf (Elt Ideal) ((c.tc : Thread Cert.HyProjIdeal.nD Cert.HyProjIdeal.τ).loc Cert.HyProjIdeal.main_v17_1)) (v2 : (c : Dev Cert.HyProjIdeal.nD) → Buf (Elt Ideal) ((c.tc : Thread Cert.HyProjIdeal.nD Cert.HyProjIdeal.τ).loc Cert.HyProjIdeal.main_v17_2)) (v3 : (c : Dev Cert.HyProjIdeal.nD) → Buf (Elt Ideal) ((c.tc : Thread Cert.HyProjIdeal.nD Cert.HyProjIdeal.τ).loc Cert.HyProjIdeal.main_v17_3)) (v4 : (c : Dev Cert.HyProjIdeal.nD) → Buf (Elt Ideal) ((c.tc : Thread Cert.HyProjIdeal.nD Cert.HyProjIdeal.τ).loc Cert.HyProjIdeal.main_v17_4)) (v5 : (c : Dev Cert.HyProjIdeal.nD) → Buf (Elt Ideal) ((c.tc : Thread Cert.HyProjIdeal.nD Cert.HyProjIdeal.τ).loc Cert.HyProjIdeal.main_v17_5)),
      θ_run (Cert.HyProjIdeal.defs (F := Ideal)) (onTc (τ := Cert.HyProjIdeal.τ) (Cert.HyProjIdeal.main (F := Ideal))) ⟨m, fun _ => 0, g⟩ (fun r => ∀ c : Dev Cert.HyProjIdeal.nD,
          r.2.mem ((c.tc : Thread Cert.HyProjIdeal.nD Cert.HyProjIdeal.τ).loc Cert.HyProjIdeal.main_v17_0) = v0 c
          ∧ r.2.mem ((c.tc : Thread Cert.HyProjIdeal.nD Cert.HyProjIdeal.τ).loc Cert.HyProjIdeal.main_v17_1) = v1 c
          ∧ r.2.mem ((c.tc : Thread Cert.HyProjIdeal.nD Cert.HyProjIdeal.τ).loc Cert.HyProjIdeal.main_v17_2) = v2 c
          ∧ r.2.mem ((c.tc : Thread Cert.HyProjIdeal.nD Cert.HyProjIdeal.τ).loc Cert.HyProjIdeal.main_v17_3) = v3 c
          ∧ r.2.mem ((c.tc : Thread Cert.HyProjIdeal.nD Cert.HyProjIdeal.τ).loc Cert.HyProjIdeal.main_v17_4) = v4 c
          ∧ r.2.mem ((c.tc : Thread Cert.HyProjIdeal.nD Cert.HyProjIdeal.τ).loc Cert.HyProjIdeal.main_v17_5) = v5 c
          ∧ r.2.mem ((c.tc : Thread Cert.HyProjIdeal.nD Cert.HyProjIdeal.τ).loc Cert.HyProjIdeal.main_arg0) = m ((c.tc : Thread Cert.HyProjIdeal.nD Cert.HyProjIdeal.τ).loc Cert.HyProjIdeal.main_arg0)
          ∧ r.2.mem ((c.tc : Thread Cert.HyProjIdeal.nD Cert.HyProjIdeal.τ).loc Cert.HyProjIdeal.main_arg1) = m ((c.tc : Thread Cert.HyProjIdeal.nD Cert.HyProjIdeal.τ).loc Cert.HyProjIdeal.main_arg1)
          ∧ r.2.mem ((c.tc : Thread Cert.HyProjIdeal.nD Cert.HyProjIdeal.τ).loc Cert.HyProjIdeal.main_arg2) = m ((c.tc : Thread Cert.HyProjIdeal.nD Cert.HyProjIdeal.τ).loc Cert.HyProjIdeal.main_arg2)
          ∧ r.2.mem ((c.tc : Thread Cert.HyProjIdeal.nD Cert.HyProjIdeal.τ).loc Cert.HyProjIdeal.main_arg3) = m ((c.tc : Thread Cert.HyProjIdeal.nD Cert.HyProjIdeal.τ).loc Cert.HyProjIdeal.main_arg3)
          ∧ r.2.mem ((c.tc : Thread Cert.HyProjIdeal.nD Cert.HyProjIdeal.τ).loc Cert.HyProjIdeal.main_arg4) = m ((c.tc : Thread Cert.HyProjIdeal.nD Cert.HyProjIdeal.τ).loc Cert.HyProjIdeal.main_arg4)
          ∧ r.2.mem ((c.tc : Thread Cert.HyProjIdeal.nD Cert.HyProjIdeal.τ).loc Cert.HyProjIdeal.main_arg5) = m ((c.tc : Thread Cert.HyProjIdeal.nD Cert.HyProjIdeal.τ).loc Cert.HyProjIdeal.main_arg5)
          ∧ r.2.mem ((c.tc : Thread Cert.HyProjIdeal.nD Cert.HyProjIdeal.τ).loc Cert.HyProjIdeal.main_arg6) = m ((c.tc : Thread Cert.HyProjIdeal.nD Cert.HyProjIdeal.τ).loc Cert.HyProjIdeal.main_arg6))
      ∧ θ_run (Cert.HyProjRefIdeal.defs (F := Ideal)) (onTc (τ := Cert.HyProjRefIdeal.τ) (Cert.HyProjRefIdeal.main (F := Ideal))) ⟨m', fun _ => 0, g'⟩ (fun r => ∀ c : Dev Cert.HyProjRefIdeal.nD,
          r.2.mem ((c.tc : Thread Cert.HyProjRefIdeal.nD Cert.HyProjRefIdeal.τ).loc Cert.HyProjRefIdeal.main_v64) = v0 c
          ∧ r.2.mem ((c.tc : Thread Cert.HyProjRefIdeal.nD Cert.HyProjRefIdeal.τ).loc Cert.HyProjRefIdeal.main_v65) = v1 c
          ∧ r.2.mem ((c.tc : Thread Cert.HyProjRefIdeal.nD Cert.HyProjRefIdeal.τ).loc Cert.HyProjRefIdeal.main_v63) = v2 c
          ∧ r.2.mem ((c.tc : Thread Cert.HyProjRefIdeal.nD Cert.HyProjRefIdeal.τ).loc Cert.HyProjRefIdeal.main_v68) = v3 c
          ∧ r.2.mem ((c.tc : Thread Cert.HyProjRefIdeal.nD Cert.HyProjRefIdeal.τ).loc Cert.HyProjRefIdeal.main_v70) = v4 c
          ∧ r.2.mem ((c.tc : Thread Cert.HyProjRefIdeal.nD Cert.HyProjRefIdeal.τ).loc Cert.HyProjRefIdeal.main_v76) = v5 c
          ∧ r.2.mem ((c.tc : Thread Cert.HyProjRefIdeal.nD Cert.HyProjRefIdeal.τ).loc Cert.HyProjRefIdeal.main_arg0) = m' ((c.tc : Thread Cert.HyProjRefIdeal.nD Cert.HyProjRefIdeal.τ).loc Cert.HyProjRefIdeal.main_arg0)
          ∧ r.2.mem ((c.tc : Thread Cert.HyProjRefIdeal.nD Cert.HyProjRefIdeal.τ).loc Cert.HyProjRefIdeal.main_arg1) = m' ((c.tc : Thread Cert.HyProjRefIdeal.nD Cert.HyProjRefIdeal.τ).loc Cert.HyProjRefIdeal.main_arg1)
          ∧ r.2.mem ((c.tc : Thread Cert.HyProjRefIdeal.nD Cert.HyProjRefIdeal.τ).loc Cert.HyProjRefIdeal.main_arg2) = m' ((c.tc : Thread Cert.HyProjRefIdeal.nD Cert.HyProjRefIdeal.τ).loc Cert.HyProjRefIdeal.main_arg2)
          ∧ r.2.mem ((c.tc : Thread Cert.HyProjRefIdeal.nD Cert.HyProjRefIdeal.τ).loc Cert.HyProjRefIdeal.main_arg3) = m' ((c.tc : Thread Cert.HyProjRefIdeal.nD Cert.HyProjRefIdeal.τ).loc Cert.HyProjRefIdeal.main_arg3)
          ∧ r.2.mem ((c.tc : Thread Cert.HyProjRefIdeal.nD Cert.HyProjRefIdeal.τ).loc Cert.HyProjRefIdeal.main_arg4) = m' ((c.tc : Thread Cert.HyProjRefIdeal.nD Cert.HyProjRefIdeal.τ).loc Cert.HyProjRefIdeal.main_arg4)
          ∧ r.2.mem ((c.tc : Thread Cert.HyProjRefIdeal.nD Cert.HyProjRefIdeal.τ).loc Cert.HyProjRefIdeal.main_arg5) = m' ((c.tc : Thread Cert.HyProjRefIdeal.nD Cert.HyProjRefIdeal.τ).loc Cert.HyProjRefIdeal.main_arg5)
          ∧ r.2.mem ((c.tc : Thread Cert.HyProjRefIdeal.nD Cert.HyProjRefIdeal.τ).loc Cert.HyProjRefIdeal.main_arg6) = m' ((c.tc : Thread Cert.HyProjRefIdeal.nD Cert.HyProjRefIdeal.τ).loc Cert.HyProjRefIdeal.main_arg6))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v2)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v2) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v4) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v29_0)) (v1 : (c : Dev Cert.RopeIdeal.nD) → Buf (Elt Ideal) ((c.tc : Thread Cert.RopeIdeal.nD Cert.RopeIdeal.τ).loc Cert.RopeIdeal.main_v29_1)) (v2 : (c : Dev Cert.RopeIdeal.nD) → Buf (Elt Ideal) ((c.tc : Thread Cert.RopeIdeal.nD Cert.RopeIdeal.τ).loc Cert.RopeIdeal.main_v29_2)) (v3 : (c : Dev Cert.RopeIdeal.nD) → Buf (Elt Ideal) ((c.tc : Thread Cert.RopeIdeal.nD Cert.RopeIdeal.τ).loc Cert.RopeIdeal.main_v29_3)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v29_0) = v0 c
          ∧ r.2.mem ((c.tc : Thread Cert.RopeIdeal.nD Cert.RopeIdeal.τ).loc Cert.RopeIdeal.main_v29_1) = v1 c
          ∧ r.2.mem ((c.tc : Thread Cert.RopeIdeal.nD Cert.RopeIdeal.τ).loc Cert.RopeIdeal.main_v29_2) = v2 c
          ∧ r.2.mem ((c.tc : Thread Cert.RopeIdeal.nD Cert.RopeIdeal.τ).loc Cert.RopeIdeal.main_v29_3) = v3 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v37) = v0 c
          ∧ r.2.mem ((c.tc : Thread Cert.RopeRefIdeal.nD Cert.RopeRefIdeal.τ).loc Cert.RopeRefIdeal.main_v40) = v1 c
          ∧ r.2.mem ((c.tc : Thread Cert.RopeRefIdeal.nD Cert.RopeRefIdeal.τ).loc Cert.RopeRefIdeal.main_v43) = v2 c
          ∧ r.2.mem ((c.tc : Thread Cert.RopeRefIdeal.nD Cert.RopeRefIdeal.τ).loc Cert.RopeRefIdeal.main_v47) = v3 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjRefIdeal : Cert.OutProjRefIdeal.Facts) (hOutProjEven : Cert.OutProjEven.Facts) (hOutProjEvenIdeal : Cert.OutProjEvenIdeal.Facts) (hOutProjEvenRefIdeal : Cert.OutProjEvenRefIdeal.Facts) (hFinalNorm : Cert.FinalNorm.Facts) (hFinalNormIdeal : Cert.FinalNormIdeal.Facts) (hFinalNormRefIdeal : Cert.FinalNormRefIdeal.Facts) (hMlaProj : Cert.MlaProj.Facts) (hMlaProjIdeal : Cert.MlaProjIdeal.Facts) (hMlaProjRefIdeal : Cert.MlaProjRefIdeal.Facts) (hHyProj : Cert.HyProj.Facts) (hHyProjIdeal : Cert.HyProjIdeal.Facts) (hHyProjRefIdeal : Cert.HyProjRefIdeal.Facts) (hModulation : Cert.Modulation.Facts) (hModulationIdeal : Cert.ModulationIdeal.Facts) (hModulationRefIdeal : Cert.ModulationRefIdeal.Facts) (hRope : Cert.Rope.Facts) (hRopeIdeal : Cert.RopeIdeal.Facts) (hRopeRefIdeal : Cert.RopeRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjEven (hOutProjEven := hOutProjEven)
    ∧ quiescent_OutProjEvenIdeal (hOutProjEvenIdeal := hOutProjEvenIdeal)
    ∧ quiescent_OutProjEvenRefIdeal (hOutProjEvenRefIdeal := hOutProjEvenRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_MlaProj (hMlaProj := hMlaProj)
    ∧ quiescent_MlaProjIdeal (hMlaProjIdeal := hMlaProjIdeal)
    ∧ quiescent_MlaProjRefIdeal (hMlaProjRefIdeal := hMlaProjRefIdeal)
    ∧ quiescent_HyProj (hHyProj := hHyProj)
    ∧ quiescent_HyProjIdeal (hHyProjIdeal := hHyProjIdeal)
    ∧ quiescent_HyProjRefIdeal (hHyProjRefIdeal := hHyProjRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_Rope (hRope := hRope)
    ∧ quiescent_RopeIdeal (hRopeIdeal := hRopeIdeal)
    ∧ quiescent_RopeRefIdeal (hRopeRefIdeal := hRopeRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_OutProj_OutProjIdeal
    ∧ algebraic_OutProjIdeal_OutProjRefIdeal (hOutProjIdeal := hOutProjIdeal) (hOutProjRefIdeal := hOutProjRefIdeal)
    ∧ preserves_OutProjEven_OutProjEvenIdeal
    ∧ algebraic_OutProjEvenIdeal_OutProjEvenRefIdeal (hOutProjEvenIdeal := hOutProjEvenIdeal) (hOutProjEvenRefIdeal := hOutProjEvenRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_MlaProj_MlaProjIdeal
    ∧ algebraic_MlaProjIdeal_MlaProjRefIdeal (hMlaProjIdeal := hMlaProjIdeal) (hMlaProjRefIdeal := hMlaProjRefIdeal)
    ∧ preserves_HyProj_HyProjIdeal
    ∧ algebraic_HyProjIdeal_HyProjRefIdeal (hHyProjIdeal := hHyProjIdeal) (hHyProjRefIdeal := hHyProjRefIdeal)
    ∧ preserves_Modulation_ModulationIdeal
    ∧ algebraic_ModulationIdeal_ModulationRefIdeal (hModulationIdeal := hModulationIdeal) (hModulationRefIdeal := hModulationRefIdeal)
    ∧ preserves_Rope_RopeIdeal
    ∧ algebraic_RopeIdeal_RopeRefIdeal (hRopeIdeal := hRopeIdeal) (hRopeRefIdeal := hRopeRefIdeal)
-- ==== Pre_finite_scores.lean ====
abbrev S1x16384x8x128 : Shape := ⟨4, ![1, 16384, 8, 128]⟩
abbrev S1x16384x8x64 : Shape := ⟨4, ![1, 16384, 8, 64]⟩
abbrev S1x16384x64 : Shape := ⟨3, ![1, 16384, 64]⟩
abbrev S_ : Shape := ⟨0, ![]⟩

class Facts : Prop where
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_
  h_S_ : 0 < S_.numel
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_
  bcast_S_S1x16384x64 : S_.BroadcastsInDim S1x16384x64 (![] : Fin 0 → Fin S1x16384x64.rank)
  reducesTo_S1x16384x64_S_d0_1_2 : S1x16384x64.ReducesTo [0, 1, 2] S_

variable [Facts]

def fn_part1 {F : FTy → Type} [FloatOps F] (main_v13 : IVec S_ 1) (main_v16 : IVec S1x16384x64 1) : IVec S_ 1 :=
  let main_c_5 : IVec S_ 1 := constantI S_ 1 1#1
  let main_v17 : IVec S_ 1 := (fun x v => Host.reduce IntOp.andi x v reducesTo_S1x16384x64_S_d0_1_2 h_S_) main_v16 main_c_5
  let main_v18 : IVec S_ 1 := andi main_v13 main_v17
  main_v18

def fn {F : FTy → Type} [FloatOps F] (main_arg0 : FVec F S1x16384x8x128 .f32) (main_arg1 : FVec F S1x16384x8x64 .f32) (main_arg2 : FVec F S1x16384x8x128 .f32) (main_arg3 : FVec F S1x16384x64 .f32) (main_arg4 : FVec F S1x16384x8x128 .f32) : IVec S_ 1 :=
  let main_v0 : FVec F S1x16384x8x128 .f32 := Host.absf main_arg0
  let main_cst : FVec F S_ .f32 := constant S_ .f32 0x7F800000#32
  let main_v1 : FVec F S1x16384x8x128 .f32 := broadcastInDim S1x16384x8x128 ![] bcast_S_S1x16384x8x128 main_cst
  let main_v2 : IVec S1x16384x8x128 1 := cmpf .olt main_v0 main_v1
  let main_c : IVec S_ 1 := constantI S_ 1 1#1
  let main_v3 : IVec S_ 1 := (fun x v => Host.reduce IntOp.andi x v reducesTo_S1x16384x8x128_S_d0_1_2_3 h_S_) main_v2 main_c
  let main_v4 : FVec F S1x16384x8x64 .f32 := Host.absf main_arg1
  let main_cst_0 : FVec F S_ .f32 := constant S_ .f32 0x7F800000#32
  let main_v5 : FVec F S1x16384x8x64 .f32 := broadcastInDim S1x16384x8x64 ![] bcast_S_S1x16384x8x64 main_cst_0
  let main_v6 : IVec S1x16384x8x64 1 := cmpf .olt main_v4 main_v5
  let main_c_1 : IVec S_ 1 := constantI S_ 1 1#1
  let main_v7 : IVec S_ 1 := (fun x v => Host.reduce IntOp.andi x v reducesTo_S1x16384x8x64_S_d0_1_2_3 h_S_) main_v6 main_c_1
  let main_v8 : IVec S_ 1 := andi main_v3 main_v7
  let main_v9 : FVec F S1x16384x8x128 .f32 := Host.absf main_arg2
  let main_cst_2 : FVec F S_ .f32 := constant S_ .f32 0x7F800000#32
  let main_v10 : FVec F S1x16384x8x128 .f32 := broadcastInDim S1x16384x8x128 ![] bcast_S_S1x16384x8x128 main_cst_2
  let main_v11 : IVec S1x16384x8x128 1 := cmpf .olt main_v9 main_v10
  let main_c_3 : IVec S_ 1 := constantI S_ 1 1#1
  let main_v12 : IVec S_ 1 := (fun x v => Host.reduce IntOp.andi x v reducesTo_S1x16384x8x128_S_d0_1_2_3 h_S_) main_v11 main_c_3
  let main_v13 : IVec S_ 1 := andi main_v8 main_v12
  let main_v14 : FVec F S1x16384x64 .f32 := Host.absf main_arg3
  let main_cst_4 : FVec F S_ .f32 := constant S_ .f32 0x7F800000#32
  let main_v15 : FVec F S1x16384x64 .f32 := broadcastInDim S1x16384x64 ![] bcast_S_S1x16384x64 main_cst_4
  let main_v16 : IVec S1x16384x64 1 := cmpf .olt main_v14 main_v15
  fn_part1 (F := F) main_v13 main_v16
-- ==== Kernel.lean ====
abbrev S1x16384x8x128 : Shape := ⟨4, ![1, 16384, 8, 128]⟩
abbrev S1x16384x8x64 : Shape := ⟨4, ![1, 16384, 8, 64]⟩
abbrev S1x16384x64 : Shape := ⟨3, ![1, 16384, 64]⟩
abbrev S_ : Shape := ⟨0, ![]⟩
abbrev S16384x8x128 : Shape := ⟨3, ![16384, 8, 128]⟩
abbrev S16384x8x64 : Shape := ⟨3, ![16384, 8, 64]⟩
abbrev S16384x8x192 : Shape := ⟨3, ![16384, 8, 192]⟩
abbrev S64x256x8x192 : Shape := ⟨4, ![64, 256, 8, 192]⟩
abbrev S8x64x192x256 : Shape := ⟨4, ![8, 64, 192, 256]⟩
abbrev S16384x64 : Shape := ⟨2, ![16384, 64]⟩
abbrev S16384x1x64 : Shape := ⟨3, ![16384, 1, 64]⟩
abbrev S8x16384x192 : Shape := ⟨3, ![8, 16384, 192]⟩
abbrev S64x256x8x128 : Shape := ⟨4, ![64, 256, 8, 128]⟩
abbrev S8x64x128x256 : Shape := ⟨4, ![8, 64, 128, 256]⟩
abbrev S8x64x16x256 : Shape := ⟨4, ![8, 64, 16, 256]⟩
abbrev S8x64x144x256 : Shape := ⟨4, ![8, 64, 144, 256]⟩
abbrev S16384x1024 : Shape := ⟨2, ![16384, 1024]⟩
abbrev S1x2x192x256 : Shape := ⟨4, ![1, 2, 192, 256]⟩
abbrev S1x16384x192 : Shape := ⟨3, ![1, 16384, 192]⟩
abbrev S1x64x144x256 : Shape := ⟨4, ![1, 64, 144, 256]⟩
abbrev S512x128 : Shape := ⟨2, ![512, 128]⟩
abbrev S2x512x512 : Shape := ⟨3, ![2, 512, 512]⟩
abbrev S2x1x512 : Shape := ⟨3, ![2, 1, 512]⟩
abbrev S144x512 : Shape := ⟨2, ![144, 512]⟩
abbrev S1x1x192x256 : Shape := ⟨4, ![1, 1, 192, 256]⟩
abbrev S192x256 : Shape := ⟨2, ![192, 256]⟩
abbrev S192x512 : Shape := ⟨2, ![192, 512]⟩
abbrev S1x512x192 : Shape := ⟨3, ![1, 512, 192]⟩
abbrev S512x192 : Shape := ⟨2, ![512, 192]⟩
abbrev S256x192 : Shape := ⟨2, ![256, 192]⟩
abbrev S256x512 : Shape := ⟨2, ![256, 512]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S1x1x144x256 : Shape := ⟨4, ![1, 1, 144, 256]⟩
abbrev S144x256 : Shape := ⟨2, ![144, 256]⟩
abbrev S128x512 : Shape := ⟨2, ![128, 512]⟩

abbrev nBuf : Space → Nat
  | .hbm => 37
  | .vmem => 12
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x64, .f32⟩
  | .hbm, ⟨2, _⟩ => ⟨S1x16384x8x128, .f32⟩
  | .hbm, ⟨3, _⟩ => ⟨S1x16384x64, .f32⟩
  | .hbm, ⟨4, _⟩ => ⟨S1x16384x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x8x128, .f32⟩
  | .hbm, ⟨10, _⟩ => ⟨S16384x8x128, .f32⟩
  | .hbm, ⟨11, _⟩ => ⟨S16384x8x128, .f32⟩
  | .hbm, ⟨12, _⟩ => ⟨S16384x8x64, .f32⟩
  | .hbm, ⟨13, _⟩ => ⟨S16384x8x64, .f32⟩
  | .hbm, ⟨14, _⟩ => ⟨S16384x8x64, .f32⟩
  | .hbm, ⟨15, _⟩ => ⟨S16384x8x192, .f32⟩
  | .hbm, ⟨16, _⟩ => ⟨S16384x8x192, .bf16⟩
  | .hbm, ⟨17, _⟩ => ⟨S64x256x8x192, .bf16⟩
  | .hbm, ⟨18, _⟩ => ⟨S8x64x192x256, .bf16⟩
  | .hbm, ⟨19, _⟩ => ⟨S16384x8x128, .f32⟩
  | .hbm, ⟨20, _⟩ => ⟨S16384x64, .f32⟩
  | .hbm, ⟨21, _⟩ => ⟨S16384x1x64, .f32⟩
  | .hbm, ⟨22, _⟩ => ⟨S16384x8x64, .f32⟩
  | .hbm, ⟨23, _⟩ => ⟨S16384x8x192, .f32⟩
  | .hbm, ⟨24, _⟩ => ⟨S16384x8x192, .bf16⟩
  | .hbm, ⟨25, _⟩ => ⟨S8x16384x192, .bf16⟩
  | .hbm, ⟨26, _⟩ => ⟨S16384x8x128, .f32⟩
  | .hbm, ⟨27, _⟩ => ⟨S64x256x8x128, .f32⟩
  | .hbm, ⟨28, _⟩ => ⟨S8x64x128x256, .f32⟩
  | .hbm, ⟨29, _⟩ => ⟨S8x64x16x256, .i32⟩
  | .hbm, ⟨30, _⟩ => ⟨S_, .i32⟩
  | .hbm, ⟨31, _⟩ => ⟨S8x64x16x256, .i32⟩
  | .hbm, ⟨32, _⟩ => ⟨S8x64x16x256, .i1⟩
  | .hbm, ⟨33, _⟩ => ⟨S8x64x16x256, .f32⟩
  | .hbm, ⟨34, _⟩ => ⟨S8x64x144x256, .f32⟩
  | .hbm, ⟨35, _⟩ => ⟨S8x64x144x256, .bf16⟩
  | .hbm, ⟨36, _⟩ => ⟨S16384x1024, .bf16⟩
  | .local _ .vmem, ⟨0, _⟩ => ⟨S1x2x192x256, .bf16⟩
  | .local _ .vmem, ⟨1, _⟩ => ⟨S1x2x192x256, .bf16⟩
  | .local _ .vmem, ⟨2, _⟩ => ⟨S1x16384x192, .bf16⟩
  | .local _ .vmem, ⟨3, _⟩ => ⟨S1x16384x192, .bf16⟩
  | .local _ .vmem, ⟨4, _⟩ => ⟨S1x64x144x256, .bf16⟩
  | .local _ .vmem, ⟨5, _⟩ => ⟨S1x64x144x256, .bf16⟩
  | .local _ .vmem, ⟨6, _⟩ => ⟨S512x128, .bf16⟩
  | .local _ .vmem, ⟨7, _⟩ => ⟨S512x128, .bf16⟩
  | .local _ .vmem, ⟨8, _⟩ => ⟨S2x512x512, .f32⟩
  | .local _ .vmem, ⟨9, _⟩ => ⟨S2x1x512, .f32⟩
  | .local _ .vmem, ⟨10, _⟩ => ⟨S2x512x512, .bf16⟩
  | .local _ .vmem, ⟨11, _⟩ => ⟨S144x512, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let c2_i32 : BitVec 32 := 2#32
  let arg1 : BitVec 32 := BitVec.ofNat 32 (i 1).val
  let v5 : BitVec 32 := Scalar.muli c2_i32 arg1
  let c256_i32 : BitVec 32 := 256#32
  let v8 : BitVec 32 := Scalar.muli v5 c256_i32
  v8
def k0_off1 (i : grid0.Coords) : Fin 3 → Nat :=
  let c0_7 : Index := 0#32
  let c2_i32 : BitVec 32 := 2#32
  let arg1 : BitVec 32 := BitVec.ofNat 32 (i 1).val
  let v5 : BitVec 32 := Scalar.muli c2_i32 arg1
  let c256_i32 : BitVec 32 := 256#32
  let v8 : BitVec 32 := Scalar.muli v5 c256_i32
  let v9 : BitVec 32 := v8
  let v10 : Index := Scalar.indexCast v9
  let c0_8 : Index := 0#32
  ![0, v10.toNat, 0]
def k0_mult2 : BitVec 32 :=
  let c0_i32 : BitVec 32 := 0#32
  c0_i32
@[reducible] def k0_t1_loop (i : grid0.Coords) : Scf.Loop 32 :=
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let c1_i32_45 : BitVec 32 := 1#32
  ⟨c1_i32_43, v69, c1_i32_45⟩
def k0_cond1 (i : grid0.Coords) (k0_t1 : Fin (k0_t1_loop i).trips) : BitVec 1 :=
  let c1_i32_43 : BitVec 32 := 1#32
  let c1_i32_45 : BitVec 32 := 1#32
  let arg10 : BitVec 32 := Scf.iv c1_i32_43 c1_i32_45 k0_t1
  let c2_i32_74 : BitVec 32 := 2#32
  let c0_i32_75 : BitVec 32 := 0#32
  let v114 : BitVec 1 := Scalar.cmpi .eq c2_i32_74 c0_i32_75
  let c1_i32_76 : BitVec 32 := 1#32
  let v115 : BitVec 32 := Scalar.select v114 c1_i32_76 c2_i32_74
  let v116 : BitVec 32 := Scalar.remsi arg10 v115
  let c0_i32_78 : BitVec 32 := 0#32
  let v118 : BitVec 1 := Scalar.cmpi .slt v116 c0_i32_78
  let c0_i32_79 : BitVec 32 := 0#32
  let v119 : BitVec 1 := Scalar.cmpi .slt v115 c0_i32_79
  let v120 : BitVec 1 := Scalar.xori v118 v119
  let c0_i32_77 : BitVec 32 := 0#32
  let v117 : BitVec 1 := Scalar.cmpi .ne v116 c0_i32_77
  let v121 : BitVec 1 := Scalar.andi v120 v117
  let v122 : BitVec 32 := Scalar.addi v116 v115
  let v123 : BitVec 32 := Scalar.select v121 v122 v116
  let c0_i32_80 : BitVec 32 := 0#32
  let v124 : BitVec 1 := Scalar.cmpi .eq v123 c0_i32_80
  let v125 : BitVec 32 := Scalar.extui v124
  let c0_i32_81 : BitVec 32 := 0#32
  let v126 : BitVec 1 := Scalar.cmpi .ne v125 c0_i32_81
  v126

def k0_mult3 (i : grid0.Coords) (k0_t1 : Fin (k0_t1_loop i).trips) : BitVec 32 :=
  let c2_i32_85 : BitVec 32 := 2#32
  let c1_i32_43 : BitVec 32 := 1#32
  let c1_i32_45 : BitVec 32 := 1#32
  let arg10 : BitVec 32 := Scf.iv c1_i32_43 c1_i32_45 k0_t1
  let c1_i32_82 : BitVec 32 := 1#32
  let v128 : BitVec 32 := Scalar.addi arg10 c1_i32_82
  let arg1 : BitVec 32 := BitVec.ofNat 32 (i 1).val
  let c1_i32_83 : BitVec 32 := 1#32
  let v129 : BitVec 32 := Scalar.maxsi arg1 c1_i32_83
  let v130 : BitVec 32 := Scalar.minsi v128 v129
  let c1_i32_84 : BitVec 32 := 1#32
  let v131 : BitVec 32 := Scalar.subi v130 c1_i32_84
  let v132 : BitVec 32 := Scalar.muli c2_i32_85 v131
  let c256_i32_89 : BitVec 32 := 256#32
  let v136 : BitVec 32 := Scalar.muli v132 c256_i32_89
  v136
def k0_off2 (i : grid0.Coords) (k0_t1 : Fin (k0_t1_loop i).trips) : Fin 3 → Nat :=
  let c0_90 : Index := 0#32
  let c2_i32_85 : BitVec 32 := 2#32
  let c1_i32_43 : BitVec 32 := 1#32
  let c1_i32_45 : BitVec 32 := 1#32
  let arg10 : BitVec 32 := Scf.iv c1_i32_43 c1_i32_45 k0_t1
  let c1_i32_82 : BitVec 32 := 1#32
  let v128 : BitVec 32 := Scalar.addi arg10 c1_i32_82
  let arg1 : BitVec 32 := BitVec.ofNat 32 (i 1).val
  let c1_i32_83 : BitVec 32 := 1#32
  let v129 : BitVec 32 := Scalar.maxsi arg1 c1_i32_83
  let v130 : BitVec 32 := Scalar.minsi v128 v129
  let c1_i32_84 : BitVec 32 := 1#32
  let v131 : BitVec 32 := Scalar.subi v130 c1_i32_84
  let v132 : BitVec 32 := Scalar.muli c2_i32_85 v131
  let c256_i32_89 : BitVec 32 := 256#32
  let v136 : BitVec 32 := Scalar.muli v132 c256_i32_89
  let v137 : BitVec 32 := v136
  let v138 : Index := Scalar.indexCast v137
  let c0_91 : Index := 0#32
  ![0, v138.toNat, 0]
def k0_off3 (i : grid0.Coords) (k0_t1 : Fin (k0_t1_loop i).trips) : Fin 4 → Nat :=
  let c0_118 : Index := 0#32
  let c1_i32_43 : BitVec 32 := 1#32
  let c1_i32_45 : BitVec 32 := 1#32
  let arg10 : BitVec 32 := Scf.iv c1_i32_43 c1_i32_45 k0_t1
  let c1_i32_114 : BitVec 32 := 1#32
  let v171 : BitVec 1 := Scalar.cmpi .eq arg10 c1_i32_114
  let c2_i32 : BitVec 32 := 2#32
  let arg1 : BitVec 32 := BitVec.ofNat 32 (i 1).val
  let v5 : BitVec 32 := Scalar.muli c2_i32 arg1
  let c2_i32_110 : BitVec 32 := 2#32
  let c1_i32_107 : BitVec 32 := 1#32
  let v164 : BitVec 32 := Scalar.subi arg10 c1_i32_107
  let c1_i32_108 : BitVec 32 := 1#32
  let v165 : BitVec 32 := Scalar.maxsi v164 c1_i32_108
  let c1_i32_109 : BitVec 32 := 1#32
  let v166 : BitVec 32 := Scalar.subi v165 c1_i32_109
  let v167 : BitVec 32 := Scalar.muli c2_i32_110 v166
  let v172 : BitVec 32 := Scalar.select v171 v5 v167
  let v178 : Index := Scalar.indexCast v172
  let c0_119 : Index := 0#32
  let c0_120 : Index := 0#32
  ![0, v178.toNat, 0, 0]
def k0_off4 (i : grid0.Coords) (k0_t1 : Fin (k0_t1_loop i).trips) : Fin 4 → Nat :=
  let c0_121 : Index := 0#32
  let c1_i32_43 : BitVec 32 := 1#32
  let c1_i32_45 : BitVec 32 := 1#32
  let arg10 : BitVec 32 := Scf.iv c1_i32_43 c1_i32_45 k0_t1
  let c1_i32_115 : BitVec 32 := 1#32
  let v173 : BitVec 1 := Scalar.cmpi .eq arg10 c1_i32_115
  let c2_i32_6 : BitVec 32 := 2#32
  let arg1 : BitVec 32 := BitVec.ofNat 32 (i 1).val
  let v6 : BitVec 32 := Scalar.muli c2_i32_6 arg1
  let c1_i32 : BitVec 32 := 1#32
  let v7 : BitVec 32 := Scalar.addi v6 c1_i32
  let c2_i32_112 : BitVec 32 := 2#32
  let c1_i32_107 : BitVec 32 := 1#32
  let v164 : BitVec 32 := Scalar.subi arg10 c1_i32_107
  let c1_i32_108 : BitVec 32 := 1#32
  let v165 : BitVec 32 := Scalar.maxsi v164 c1_i32_108
  let c1_i32_111 : BitVec 32 := 1#32
  let v168 : BitVec 32 := Scalar.subi v165 c1_i32_111
  let v169 : BitVec 32 := Scalar.muli c2_i32_112 v168
  let c1_i32_113 : BitVec 32 := 1#32
  let v170 : BitVec 32 := Scalar.addi v169 c1_i32_113
  let v174 : BitVec 32 := Scalar.select v173 v7 v170
  let v181 : Index := Scalar.indexCast v174
  let c0_122 : Index := 0#32
  let c0_123 : Index := 0#32
  ![0, v181.toNat, 0, 0]
def k0_mult4 (i : grid0.Coords) (k0_t1 : Fin (k0_t1_loop i).trips) : BitVec 32 :=
  let c2_i32_85 : BitVec 32 := 2#32
  let c1_i32_43 : BitVec 32 := 1#32
  let c1_i32_45 : BitVec 32 := 1#32
  let arg10 : BitVec 32 := Scf.iv c1_i32_43 c1_i32_45 k0_t1
  let c1_i32_82 : BitVec 32 := 1#32
  let v128 : BitVec 32 := Scalar.addi arg10 c1_i32_82
  let arg1 : BitVec 32 := BitVec.ofNat 32 (i 1).val
  let c1_i32_83 : BitVec 32 := 1#32
  let v129 : BitVec 32 := Scalar.maxsi arg1 c1_i32_83
  let v130 : BitVec 32 := Scalar.minsi v128 v129
  let c1_i32_84 : BitVec 32 := 1#32
  let v131 : BitVec 32 := Scalar.subi v130 c1_i32_84
  let v132 : BitVec 32 := Scalar.muli c2_i32_85 v131
  let c256_i32_89 : BitVec 32 := 256#32
  let v136 : BitVec 32 := Scalar.muli v132 c256_i32_89
  v136
def k0_off5 (i : grid0.Coords) (k0_t1 : Fin (k0_t1_loop i).trips) : Fin 3 → Nat :=
  let c0_90 : Index := 0#32
  let c2_i32_85 : BitVec 32 := 2#32
  let c1_i32_43 : BitVec 32 := 1#32
  let c1_i32_45 : BitVec 32 := 1#32
  let arg10 : BitVec 32 := Scf.iv c1_i32_43 c1_i32_45 k0_t1
  let c1_i32_82 : BitVec 32 := 1#32
  let v128 : BitVec 32 := Scalar.addi arg10 c1_i32_82
  let arg1 : BitVec 32 := BitVec.ofNat 32 (i 1).val
  let c1_i32_83 : BitVec 32 := 1#32
  let v129 : BitVec 32 := Scalar.maxsi arg1 c1_i32_83
  let v130 : BitVec 32 := Scalar.minsi v128 v129
  let c1_i32_84 : BitVec 32 := 1#32
  let v131 : BitVec 32 := Scalar.subi v130 c1_i32_84
  let v132 : BitVec 32 := Scalar.muli c2_i32_85 v131
  let c256_i32_89 : BitVec 32 := 256#32
  let v136 : BitVec 32 := Scalar.muli v132 c256_i32_89
  let v137 : BitVec 32 := v136
  let v138 : Index := Scalar.indexCast v137
  let c0_91 : Index := 0#32
  ![0, v138.toNat, 0]
def k0_off6 (i : grid0.Coords) (k0_t1 : Fin (k0_t1_loop i).trips) : Fin 4 → Nat :=
  let c0_118 : Index := 0#32
  let c1_i32_43 : BitVec 32 := 1#32
  let c1_i32_45 : BitVec 32 := 1#32
  let arg10 : BitVec 32 := Scf.iv c1_i32_43 c1_i32_45 k0_t1
  let c1_i32_114 : BitVec 32 := 1#32
  let v171 : BitVec 1 := Scalar.cmpi .eq arg10 c1_i32_114
  let c2_i32 : BitVec 32 := 2#32
  let arg1 : BitVec 32 := BitVec.ofNat 32 (i 1).val
  let v5 : BitVec 32 := Scalar.muli c2_i32 arg1
  let c2_i32_110 : BitVec 32 := 2#32
  let c1_i32_107 : BitVec 32 := 1#32
  let v164 : BitVec 32 := Scalar.subi arg10 c1_i32_107
  let c1_i32_108 : BitVec 32 := 1#32
  let v165 : BitVec 32 := Scalar.maxsi v164 c1_i32_108
  let c1_i32_109 : BitVec 32 := 1#32
  let v166 : BitVec 32 := Scalar.subi v165 c1_i32_109
  let v167 : BitVec 32 := Scalar.muli c2_i32_110 v166
  let v172 : BitVec 32 := Scalar.select v171 v5 v167
  let v178 : Index := Scalar.indexCast v172
  let c0_119 : Index := 0#32
  let c0_120 : Index := 0#32
  ![0, v178.toNat, 0, 0]
def k0_off7 (i : grid0.Coords) (k0_t1 : Fin (k0_t1_loop i).trips) : Fin 4 → Nat :=
  let c0_121 : Index := 0#32
  let c1_i32_43 : BitVec 32 := 1#32
  let c1_i32_45 : BitVec 32 := 1#32
  let arg10 : BitVec 32 := Scf.iv c1_i32_43 c1_i32_45 k0_t1
  let c1_i32_115 : BitVec 32 := 1#32
  let v173 : BitVec 1 := Scalar.cmpi .eq arg10 c1_i32_115
  let c2_i32_6 : BitVec 32 := 2#32
  let arg1 : BitVec 32 := BitVec.ofNat 32 (i 1).val
  let v6 : BitVec 32 := Scalar.muli c2_i32_6 arg1
  let c1_i32 : BitVec 32 := 1#32
  let v7 : BitVec 32 := Scalar.addi v6 c1_i32
  let c2_i32_112 : BitVec 32 := 2#32
  let c1_i32_107 : BitVec 32 := 1#32
  let v164 : BitVec 32 := Scalar.subi arg10 c1_i32_107
  let c1_i32_108 : BitVec 32 := 1#32
  let v165 : BitVec 32 := Scalar.maxsi v164 c1_i32_108
  let c1_i32_111 : BitVec 32 := 1#32
  let v168 : BitVec 32 := Scalar.subi v165 c1_i32_111
  let v169 : BitVec 32 := Scalar.muli c2_i32_112 v168
  let c1_i32_113 : BitVec 32 := 1#32
  let v170 : BitVec 32 := Scalar.addi v169 c1_i32_113
  let v174 : BitVec 32 := Scalar.select v173 v7 v170
  let v181 : Index := Scalar.indexCast v174
  let c0_122 : Index := 0#32
  let c0_123 : Index := 0#32
  ![0, v181.toNat, 0, 0]
@[reducible] def k0_t2_loop (i : grid0.Coords) : Scf.Loop 32 :=
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let v66 : BitVec 32 := Scalar.addi c1_i32_43 v65
  let c1_i32_46 : BitVec 32 := 1#32
  ⟨v69, v66, c1_i32_46⟩
def k0_cond2 (i : grid0.Coords) (k0_t2 : Fin (k0_t2_loop i).trips) : BitVec 1 :=
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let c1_i32_46 : BitVec 32 := 1#32
  let arg10 : BitVec 32 := Scf.iv v69 c1_i32_46 k0_t2
  let c2_i32_74 : BitVec 32 := 2#32
  let c0_i32_75 : BitVec 32 := 0#32
  let v114 : BitVec 1 := Scalar.cmpi .eq c2_i32_74 c0_i32_75
  let c1_i32_76 : BitVec 32 := 1#32
  let v115 : BitVec 32 := Scalar.select v114 c1_i32_76 c2_i32_74
  let v116 : BitVec 32 := Scalar.remsi arg10 v115
  let c0_i32_78 : BitVec 32 := 0#32
  let v118 : BitVec 1 := Scalar.cmpi .slt v116 c0_i32_78
  let c0_i32_79 : BitVec 32 := 0#32
  let v119 : BitVec 1 := Scalar.cmpi .slt v115 c0_i32_79
  let v120 : BitVec 1 := Scalar.xori v118 v119
  let c0_i32_77 : BitVec 32 := 0#32
  let v117 : BitVec 1 := Scalar.cmpi .ne v116 c0_i32_77
  let v121 : BitVec 1 := Scalar.andi v120 v117
  let v122 : BitVec 32 := Scalar.addi v116 v115
  let v123 : BitVec 32 := Scalar.select v121 v122 v116
  let c0_i32_80 : BitVec 32 := 0#32
  let v124 : BitVec 1 := Scalar.cmpi .eq v123 c0_i32_80
  let v125 : BitVec 32 := Scalar.extui v124
  let c0_i32_81 : BitVec 32 := 0#32
  let v126 : BitVec 1 := Scalar.cmpi .ne v125 c0_i32_81
  v126

def k0_mult5 (i : grid0.Coords) (k0_t2 : Fin (k0_t2_loop i).trips) : BitVec 32 :=
  let c2_i32_85 : BitVec 32 := 2#32
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let c1_i32_46 : BitVec 32 := 1#32
  let arg10 : BitVec 32 := Scf.iv v69 c1_i32_46 k0_t2
  let c1_i32_82 : BitVec 32 := 1#32
  let v128 : BitVec 32 := Scalar.addi arg10 c1_i32_82
  let c1_i32_83 : BitVec 32 := 1#32
  let v129 : BitVec 32 := Scalar.maxsi arg1 c1_i32_83
  let v130 : BitVec 32 := Scalar.minsi v128 v129
  let c1_i32_84 : BitVec 32 := 1#32
  let v131 : BitVec 32 := Scalar.subi v130 c1_i32_84
  let v132 : BitVec 32 := Scalar.muli c2_i32_85 v131
  let c256_i32_89 : BitVec 32 := 256#32
  let v136 : BitVec 32 := Scalar.muli v132 c256_i32_89
  v136
def k0_off8 (i : grid0.Coords) (k0_t2 : Fin (k0_t2_loop i).trips) : Fin 3 → Nat :=
  let c0_90 : Index := 0#32
  let c2_i32_85 : BitVec 32 := 2#32
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let c1_i32_46 : BitVec 32 := 1#32
  let arg10 : BitVec 32 := Scf.iv v69 c1_i32_46 k0_t2
  let c1_i32_82 : BitVec 32 := 1#32
  let v128 : BitVec 32 := Scalar.addi arg10 c1_i32_82
  let c1_i32_83 : BitVec 32 := 1#32
  let v129 : BitVec 32 := Scalar.maxsi arg1 c1_i32_83
  let v130 : BitVec 32 := Scalar.minsi v128 v129
  let c1_i32_84 : BitVec 32 := 1#32
  let v131 : BitVec 32 := Scalar.subi v130 c1_i32_84
  let v132 : BitVec 32 := Scalar.muli c2_i32_85 v131
  let c256_i32_89 : BitVec 32 := 256#32
  let v136 : BitVec 32 := Scalar.muli v132 c256_i32_89
  let v137 : BitVec 32 := v136
  let v138 : Index := Scalar.indexCast v137
  let c0_91 : Index := 0#32
  ![0, v138.toNat, 0]
def k0_off9 (i : grid0.Coords) (k0_t2 : Fin (k0_t2_loop i).trips) : Fin 4 → Nat :=
  let c0_118 : Index := 0#32
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let c1_i32_46 : BitVec 32 := 1#32
  let arg10 : BitVec 32 := Scf.iv v69 c1_i32_46 k0_t2
  let c1_i32_114 : BitVec 32 := 1#32
  let v171 : BitVec 1 := Scalar.cmpi .eq arg10 c1_i32_114
  let c2_i32 : BitVec 32 := 2#32
  let v5 : BitVec 32 := Scalar.muli c2_i32 arg1
  let c2_i32_110 : BitVec 32 := 2#32
  let c1_i32_107 : BitVec 32 := 1#32
  let v164 : BitVec 32 := Scalar.subi arg10 c1_i32_107
  let c1_i32_108 : BitVec 32 := 1#32
  let v165 : BitVec 32 := Scalar.maxsi v164 c1_i32_108
  let c1_i32_109 : BitVec 32 := 1#32
  let v166 : BitVec 32 := Scalar.subi v165 c1_i32_109
  let v167 : BitVec 32 := Scalar.muli c2_i32_110 v166
  let v172 : BitVec 32 := Scalar.select v171 v5 v167
  let v178 : Index := Scalar.indexCast v172
  let c0_119 : Index := 0#32
  let c0_120 : Index := 0#32
  ![0, v178.toNat, 0, 0]
def k0_off10 (i : grid0.Coords) (k0_t2 : Fin (k0_t2_loop i).trips) : Fin 4 → Nat :=
  let c0_121 : Index := 0#32
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let c1_i32_46 : BitVec 32 := 1#32
  let arg10 : BitVec 32 := Scf.iv v69 c1_i32_46 k0_t2
  let c1_i32_115 : BitVec 32 := 1#32
  let v173 : BitVec 1 := Scalar.cmpi .eq arg10 c1_i32_115
  let c2_i32_6 : BitVec 32 := 2#32
  let v6 : BitVec 32 := Scalar.muli c2_i32_6 arg1
  let c1_i32 : BitVec 32 := 1#32
  let v7 : BitVec 32 := Scalar.addi v6 c1_i32
  let c2_i32_112 : BitVec 32 := 2#32
  let c1_i32_107 : BitVec 32 := 1#32
  let v164 : BitVec 32 := Scalar.subi arg10 c1_i32_107
  let c1_i32_108 : BitVec 32 := 1#32
  let v165 : BitVec 32 := Scalar.maxsi v164 c1_i32_108
  let c1_i32_111 : BitVec 32 := 1#32
  let v168 : BitVec 32 := Scalar.subi v165 c1_i32_111
  let v169 : BitVec 32 := Scalar.muli c2_i32_112 v168
  let c1_i32_113 : BitVec 32 := 1#32
  let v170 : BitVec 32 := Scalar.addi v169 c1_i32_113
  let v174 : BitVec 32 := Scalar.select v173 v7 v170
  let v181 : Index := Scalar.indexCast v174
  let c0_122 : Index := 0#32
  let c0_123 : Index := 0#32
  ![0, v181.toNat, 0, 0]
def k0_mult6 (i : grid0.Coords) (k0_t2 : Fin (k0_t2_loop i).trips) : BitVec 32 :=
  let c2_i32_85 : BitVec 32 := 2#32
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let c1_i32_46 : BitVec 32 := 1#32
  let arg10 : BitVec 32 := Scf.iv v69 c1_i32_46 k0_t2
  let c1_i32_82 : BitVec 32 := 1#32
  let v128 : BitVec 32 := Scalar.addi arg10 c1_i32_82
  let c1_i32_83 : BitVec 32 := 1#32
  let v129 : BitVec 32 := Scalar.maxsi arg1 c1_i32_83
  let v130 : BitVec 32 := Scalar.minsi v128 v129
  let c1_i32_84 : BitVec 32 := 1#32
  let v131 : BitVec 32 := Scalar.subi v130 c1_i32_84
  let v132 : BitVec 32 := Scalar.muli c2_i32_85 v131
  let c256_i32_89 : BitVec 32 := 256#32
  let v136 : BitVec 32 := Scalar.muli v132 c256_i32_89
  v136
def k0_off11 (i : grid0.Coords) (k0_t2 : Fin (k0_t2_loop i).trips) : Fin 3 → Nat :=
  let c0_90 : Index := 0#32
  let c2_i32_85 : BitVec 32 := 2#32
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let c1_i32_46 : BitVec 32 := 1#32
  let arg10 : BitVec 32 := Scf.iv v69 c1_i32_46 k0_t2
  let c1_i32_82 : BitVec 32 := 1#32
  let v128 : BitVec 32 := Scalar.addi arg10 c1_i32_82
  let c1_i32_83 : BitVec 32 := 1#32
  let v129 : BitVec 32 := Scalar.maxsi arg1 c1_i32_83
  let v130 : BitVec 32 := Scalar.minsi v128 v129
  let c1_i32_84 : BitVec 32 := 1#32
  let v131 : BitVec 32 := Scalar.subi v130 c1_i32_84
  let v132 : BitVec 32 := Scalar.muli c2_i32_85 v131
  let c256_i32_89 : BitVec 32 := 256#32
  let v136 : BitVec 32 := Scalar.muli v132 c256_i32_89
  let v137 : BitVec 32 := v136
  let v138 : Index := Scalar.indexCast v137
  let c0_91 : Index := 0#32
  ![0, v138.toNat, 0]
def k0_off12 (i : grid0.Coords) (k0_t2 : Fin (k0_t2_loop i).trips) : Fin 4 → Nat :=
  let c0_118 : Index := 0#32
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let c1_i32_46 : BitVec 32 := 1#32
  let arg10 : BitVec 32 := Scf.iv v69 c1_i32_46 k0_t2
  let c1_i32_114 : BitVec 32 := 1#32
  let v171 : BitVec 1 := Scalar.cmpi .eq arg10 c1_i32_114
  let c2_i32 : BitVec 32 := 2#32
  let v5 : BitVec 32 := Scalar.muli c2_i32 arg1
  let c2_i32_110 : BitVec 32 := 2#32
  let c1_i32_107 : BitVec 32 := 1#32
  let v164 : BitVec 32 := Scalar.subi arg10 c1_i32_107
  let c1_i32_108 : BitVec 32 := 1#32
  let v165 : BitVec 32 := Scalar.maxsi v164 c1_i32_108
  let c1_i32_109 : BitVec 32 := 1#32
  let v166 : BitVec 32 := Scalar.subi v165 c1_i32_109
  let v167 : BitVec 32 := Scalar.muli c2_i32_110 v166
  let v172 : BitVec 32 := Scalar.select v171 v5 v167
  let v178 : Index := Scalar.indexCast v172
  let c0_119 : Index := 0#32
  let c0_120 : Index := 0#32
  ![0, v178.toNat, 0, 0]
def k0_off13 (i : grid0.Coords) (k0_t2 : Fin (k0_t2_loop i).trips) : Fin 4 → Nat :=
  let c0_121 : Index := 0#32
  let c1_i32_43 : BitVec 32 := 1#32
  let arg1 : BitVec 32 := BitVec.ofNat 32 (i 1).val
  let c1_i32_41 : BitVec 32 := 1#32
  let v63 : BitVec 32 := Scalar.addi arg1 c1_i32_41
  let v65 : BitVec 32 := Scalar.subi v63 c1_i32_43
  let c1_i32_44 : BitVec 32 := 1#32
  let v67 : BitVec 32 := Scalar.divsi v65 c1_i32_44
  let v68 : BitVec 32 := Scalar.muli v67 c1_i32_44
  let v69 : BitVec 32 := Scalar.addi c1_i32_43 v68
  let c1_i32_46 : BitVec 32 := 1#32
  let arg10 : BitVec 32 := Scf.iv v69 c1_i32_46 k0_t2
  let c1_i32_115 : BitVec 32 := 1#32
  let v173 : BitVec 1 := Scalar.cmpi .eq arg10 c1_i32_115
  let c2_i32_6 : BitVec 32 := 2#32
  let v6 : BitVec 32 := Scalar.muli c2_i32_6 arg1
  let c1_i32 : BitVec 32 := 1#32
  let v7 : BitVec 32 := Scalar.addi v6 c1_i32
  let c2_i32_112 : BitVec 32 := 2#32
  let c1_i32_107 : BitVec 32 := 1#32
  let v164 : BitVec 32 := Scalar.subi arg10 c1_i32_107
  let c1_i32_108 : BitVec 32 := 1#32
  let v165 : BitVec 32 := Scalar.maxsi v164 c1_i32_108
  let c1_i32_111 : BitVec 32 := 1#32
  let v168 : BitVec 32 := Scalar.subi v165 c1_i32_111
  let v169 : BitVec 32 := Scalar.muli c2_i32_112 v168
  let c1_i32_113 : BitVec 32 := 1#32
  let v170 : BitVec 32 := Scalar.addi v169 c1_i32_113
  let v174 : BitVec 32 := Scalar.select v173 v7 v170
  let v181 : Index := Scalar.indexCast v174
  let c0_122 : Index := 0#32
  let c0_123 : Index := 0#32
  ![0, v181.toNat, 0, 0]
def k0_off14 (i : grid0.Coords) : Fin 4 → Nat :=
  let c0_63 : Index := 0#32
  let arg1 : BitVec 32 := BitVec.ofNat 32 (i 1).val
  let c0_i32_53 : BitVec 32 := 0#32
  let v78 : BitVec 1 := Scalar.cmpi .eq arg1 c0_i32_53
  let c2_i32 : BitVec 32 := 2#32
  let v5 : BitVec 32 := Scalar.muli c2_i32 arg1
  let c2_i32_49 : BitVec 32 := 2#32
  let c1_i32_47 : BitVec 32 := 1#32
  let v72 : BitVec 32 := Scalar.maxsi arg1 c1_i32_47
  let c1_i32_48 : BitVec 32 := 1#32
  let v73 : BitVec 32 := Scalar.subi v72 c1_i32_48
  let v74 : BitVec 32 := Scalar.muli c2_i32_49 v73
  let v79 : BitVec 32 := Scalar.select v78 v5 v74
  let v95 : Index := Scalar.indexCast v79
  let c0_64 : Index := 0#32
  let c0_65 : Index := 0#32
  ![0, v95.toNat, 0, 0]
def k0_off15 (i : grid0.Coords) : Fin 4 → Nat :=
  let c0_66 : Index := 0#32
  let arg1 : BitVec 32 := BitVec.ofNat 32 (i 1).val
  let c0_i32_54 : BitVec 32 := 0#32
  let v80 : BitVec 1 := Scalar.cmpi .eq arg1 c0_i32_54
  let c2_i32_6 : BitVec 32 := 2#32
  let v6 : BitVec 32 := Scalar.muli c2_i32_6 arg1
  let c1_i32 : BitVec 32 := 1#32
  let v7 : BitVec 32 := Scalar.addi v6 c1_i32
  let c2_i32_51 : BitVec 32 := 2#32
  let c1_i32_47 : BitVec 32 := 1#32
  let v72 : BitVec 32 := Scalar.maxsi arg1 c1_i32_47
  let c1_i32_50 : BitVec 32 := 1#32
  let v75 : BitVec 32 := Scalar.subi v72 c1_i32_50
  let v76 : BitVec 32 := Scalar.muli c2_i32_51 v75
  let c1_i32_52 : BitVec 32 := 1#32
  let v77 : BitVec 32 := Scalar.addi v76 c1_i32_52
  let v81 : BitVec 32 := Scalar.select v80 v7 v77
  let v98 : Index := Scalar.indexCast v81
  let c0_67 : Index := 0#32
  let c0_68 : Index := 0#32
  ![0, v98.toNat, 0, 0]
def k0_off16 (i : grid0.Coords) : Fin 3 → Nat :=
  let arg1 : BitVec 32 := BitVec.ofNat 32 (i 1).val
  let c2_i32_57 : BitVec 32 := 2#32
  let c0_i32_58 : BitVec 32 := 0#32
  let v85 : BitVec 1 := Scalar.cmpi .eq c2_i32_57 c0_i32_58
  let c1_i32_59 : BitVec 32 := 1#32
  let v86 : BitVec 32 := Scalar.select v85 c1_i32_59 c2_i32_57
  let v87 : BitVec 32 := Scalar.remsi arg1 v86
  let c0_i32_61 : BitVec 32 := 0#32
  let v89 : BitVec 1 := Scalar.cmpi .slt v87 c0_i32_61
  let c0_i32_62 : BitVec 32 := 0#32
  let v90 : BitVec 1 := Scalar.cmpi .slt v86 c0_i32_62
  let v91 : BitVec 1 := Scalar.xori v89 v90
  let c0_i32_60 : BitVec 32 := 0#32
  let v88 : BitVec 1 := Scalar.cmpi .ne v87 c0_i32_60
  let v92 : BitVec 1 := Scalar.andi v91 v88
  let v93 : BitVec 32 := Scalar.addi v87 v86
  let v94 : BitVec 32 := Scalar.select v92 v93 v87
  let v102 : Index := Scalar.indexCast v94
  let c0_69 : Index := 0#32
  let c0_70 : Index := 0#32
  ![v102.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2x192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1x16384x8x128 : Shape := ⟨4, ![1, 16384, 8, 128]⟩
abbrev S1x16384x8x64 : Shape := ⟨4, ![1, 16384, 8, 64]⟩
abbrev S1x16384x64 : Shape := ⟨3, ![1, 16384, 64]⟩
abbrev S1x8x16384x128 : Shape := ⟨4, ![1, 8, 16384, 128]⟩
abbrev S_ : Shape := ⟨0, ![]⟩
abbrev S1x8x16384x64 : Shape := ⟨4, ![1, 8, 16384, 64]⟩
abbrev S16384 : Shape := ⟨1, ![16384]⟩
abbrev S1x8x16384x16384 : Shape := ⟨4, ![1, 8, 16384, 16384]⟩
abbrev S1x16384 : Shape := ⟨2, ![1, 16384]⟩
abbrev S16384x1 : Shape := ⟨2, ![16384, 1]⟩
abbrev S16384x16384 : Shape := ⟨2, ![16384, 16384]⟩
abbrev S1x8x16384 : Shape := ⟨3, ![1, 8, 16384]⟩
abbrev S1x8x16384x1 : Shape := ⟨4, ![1, 8, 16384, 1]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x64, .f32⟩
  | .hbm, ⟨2, _⟩ => ⟨S1x16384x8x128, .f32⟩
  | .hbm, ⟨3, _⟩ => ⟨S1x16384x64, .f32⟩
  | .hbm, ⟨4, _⟩ => ⟨S1x16384x8x128, .f32⟩
  | .hbm, ⟨5, _⟩ => ⟨S1x8x16384x128, .f32⟩
  | .hbm, ⟨6, _⟩ => ⟨S_, .f32⟩
  | .hbm, ⟨7, _⟩ => ⟨S1x8x16384x128, .f32⟩
  | .hbm, ⟨8, _⟩ => ⟨S1x8x16384x128, .f32⟩
  | .hbm, ⟨9, _⟩ => ⟨S1x8x16384x64, .f32⟩
  | .hbm, ⟨10, _⟩ => ⟨S_, .f32⟩
  | .hbm, ⟨11, _⟩ => ⟨S1x8x16384x64, .f32⟩
  | .hbm, ⟨12, _⟩ => ⟨S1x8x16384x64, .f32⟩
  | .hbm, ⟨13, _⟩ => ⟨S1x8x16384x128, .f32⟩
  | .hbm, ⟨14, _⟩ => ⟨S1x8x16384x128, .f32⟩
  | .hbm, ⟨15, _⟩ => ⟨S16384, .i32⟩
  | .hbm, ⟨16, _⟩ => ⟨S1x8x16384x16384, .f32⟩
  | .hbm, ⟨17, _⟩ => ⟨S1x8x16384x16384, .f32⟩
  | .hbm, ⟨18, _⟩ => ⟨S1x8x16384x16384, .f32⟩
  | .hbm, ⟨19, _⟩ => ⟨S1x16384, .i32⟩
  | .hbm, ⟨20, _⟩ => ⟨S16384x1, .i32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S_, .f32⟩
  | .hbm, ⟨25, _⟩ => ⟨S_, .f32⟩
  | .hbm, ⟨26, _⟩ => ⟨S1x8x16384x16384, .i1⟩
  | .hbm, ⟨27, _⟩ => ⟨S1x8x16384x16384, .f32⟩
  | .hbm, ⟨28, _⟩ => ⟨S1x8x16384x16384, .f32⟩
  | .hbm, ⟨29, _⟩ => ⟨S_, .f32⟩
  | .hbm, ⟨30, _⟩ => ⟨S1x8x16384, .f32⟩
  | .hbm, ⟨31, _⟩ => ⟨S_, .f32⟩
  | .hbm, ⟨32, _⟩ => ⟨S1x8x16384, .f32⟩
  | .hbm, ⟨33, _⟩ => ⟨S1x8x16384, .f32⟩
  | .hbm, ⟨34, _⟩ => ⟨S1x8x16384x1, .f32⟩
  | .hbm, ⟨35, _⟩ => ⟨S1x8x16384x16384, .f32⟩
  | .hbm, ⟨36, _⟩ => ⟨S1x8x16384x16384, .f32⟩
  | .hbm, ⟨37, _⟩ => ⟨S1x8x16384x16384, .f32⟩
  | .hbm, ⟨38, _⟩ => ⟨S_, .f32⟩
  | .hbm, ⟨39, _⟩ => ⟨S1x8x16384, .f32⟩
  | .hbm, ⟨40, _⟩ => ⟨S1x8x16384x1, .f32⟩
  | .hbm, ⟨41, _⟩ => ⟨S1x8x16384x16384, .f32⟩
  | .hbm, ⟨42, _⟩ => ⟨S1x8x16384x16384, .f32⟩
  | .hbm, ⟨43, _⟩ => ⟨S1x8x16384x128, .f32⟩
  | .hbm, ⟨44, _⟩ => ⟨S1x16384x8x128, .f32⟩
  | .hbm, ⟨45, _⟩ => ⟨S16384x1024, .f32⟩
  | .hbm, ⟨46, _⟩ => ⟨S16384x1024, .bf16⟩
  | _, _ => ⟨S1x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== OutProj.lean ====
abbrev S1x16384x1024 : Shape := ⟨3, ![1, 16384, 1024]⟩
abbrev S1024x1024 : Shape := ⟨2, ![1024, 1024]⟩
abbrev S1x1x1024 : Shape := ⟨3, ![1, 1, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S16384x1024 : Shape := ⟨2, ![16384, 1024]⟩
abbrev S1x1024 : Shape := ⟨2, ![1, 1024]⟩
abbrev S16x128x16384 : Shape := ⟨3, ![16, 128, 16384]⟩
abbrev S256x1024 : Shape := ⟨2, ![256, 1024]⟩
abbrev S16x128x256 : Shape := ⟨3, ![16, 128, 256]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 23
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x16384x1024, .f32⟩
  | .hbm, ⟨3, _⟩ => ⟨S1x1x1024, .f32⟩
  | .hbm, ⟨4, _⟩ => ⟨S1024, .f32⟩
  | .hbm, ⟨5, _⟩ => ⟨S1x1x1024, .f32⟩
  | .hbm, ⟨6, _⟩ => ⟨S1x1x1024, .f32⟩
  | .hbm, ⟨7, _⟩ => ⟨S1024x2048, .f32⟩
  | .hbm, ⟨8, _⟩ => ⟨S8x2x128x128, .f32⟩
  | .hbm, ⟨9, _⟩ => ⟨S8x2x128x128, .bf16⟩
  | .hbm, ⟨10, _⟩ => ⟨S16x128x128, .bf16⟩
  | .hbm, ⟨11, _⟩ => ⟨S16384x1024, .f32⟩
  | .hbm, ⟨12, _⟩ => ⟨S16384x1024, .bf16⟩
  | .hbm, ⟨13, _⟩ => ⟨S1024x1024, .bf16⟩
  | .hbm, ⟨14, _⟩ => ⟨S16384x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1024x2048, .bf16⟩
  | .hbm, ⟨20, _⟩ => ⟨S16384x1024, .f32⟩
  | .hbm, ⟨21, _⟩ => ⟨S16384x1024, .bf16⟩
  | .hbm, ⟨22, _⟩ => ⟨S16x128x16384, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x2048, .bf16⟩
  | .local _ .vmem, ⟨10, _⟩ => ⟨S16x128x128, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S16x128x256, .f32⟩
  | .local _ .vmem, ⟨16, _⟩ => ⟨S16x128x256, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutProjRefIdeal.lean ====
abbrev S1x16384x1024 : Shape := ⟨3, ![1, 16384, 1024]⟩
abbrev S1024x1024 : Shape := ⟨2, ![1024, 1024]⟩
abbrev S1x1x1024 : Shape := ⟨3, ![1, 1, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S1x16384 : Shape := ⟨2, ![1, 16384]⟩
abbrev S1x16384x1 : Shape := ⟨3, ![1, 16384, 1]⟩
abbrev S1x16384x2048 : Shape := ⟨3, ![1, 16384, 2048]⟩
abbrev S1x16384x8x2x128 : Shape := ⟨5, ![1, 16384, 8, 2, 128]⟩
abbrev S8x2x128x1x16384 : Shape := ⟨5, ![8, 2, 128, 1, 16384]⟩
abbrev S16384x1024 : Shape := ⟨2, ![16384, 1024]⟩
abbrev S16384x16x128 : Shape := ⟨3, ![16384, 16, 128]⟩
abbrev S16x128x16384 : Shape := ⟨3, ![16, 128, 16384]⟩

abbrev nBuf : Space → Nat
  | .hbm => 45
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x16384x1024, .f32⟩
  | .hbm, ⟨3, _⟩ => ⟨S1x1x1024, .f32⟩
  | .hbm, ⟨4, _⟩ => ⟨S1024, .f32⟩
  | .hbm, ⟨5, _⟩ => ⟨S1x1x1024, .f32⟩
  | .hbm, ⟨6, _⟩ => ⟨S1x1x1024, .f32⟩
  | .hbm, ⟨7, _⟩ => ⟨S1024x2048, .f32⟩
  | .hbm, ⟨8, _⟩ => ⟨S8x2x128x128, .f32⟩
  | .hbm, ⟨9, _⟩ => ⟨S1x16384x1024, .f32⟩
  | .hbm, ⟨10, _⟩ => ⟨S1x16384x1024, .f32⟩
  | .hbm, ⟨11, _⟩ => ⟨S1x16384x1024, .f32⟩
  | .hbm, ⟨12, _⟩ => ⟨S1x16384x1024, .f32⟩
  | .hbm, ⟨13, _⟩ => ⟨S1x16384x1024, .f32⟩
  | .hbm, ⟨14, _⟩ => ⟨S_, .f32⟩
  | .hbm, ⟨15, _⟩ => ⟨S1x16384, .f32⟩
  | .hbm, ⟨16, _⟩ => ⟨S1x16384x1, .f32⟩
  | .hbm, ⟨17, _⟩ => ⟨S_, .f32⟩
  | .hbm, ⟨18, _⟩ => ⟨S1x16384x1, .f32⟩
  | .hbm, ⟨19, _⟩ => ⟨S1x16384x1, .f32⟩
  | .hbm, ⟨20, _⟩ => ⟨S_, .f32⟩
  | .hbm, ⟨21, _⟩ => ⟨S1x16384x1, .f32⟩
  | .hbm, ⟨22, _⟩ => ⟨S1x16384x1, .f32⟩
  | .hbm, ⟨23, _⟩ => ⟨S1x16384x1, .f32⟩
  | .hbm, ⟨24, _⟩ => ⟨S1x16384x1024, .f32⟩
  | .hbm, ⟨25, _⟩ => ⟨S1x16384x1024, .f32⟩
  | .hbm, ⟨26, _⟩ => ⟨S1x1x1024, .f32⟩
  | .hbm, ⟨27, _⟩ => ⟨S1x16384x1024, .f32⟩
  | .hbm, ⟨28, _⟩ => ⟨S1x16384x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x16384x1024, .f32⟩
  | .hbm, ⟨33, _⟩ => ⟨S1x16384x1024, .f32⟩
  | .hbm, ⟨34, _⟩ => ⟨S1x16384x1024, .f32⟩
  | .hbm, ⟨35, _⟩ => ⟨S1x16384x1024, .f32⟩
  | .hbm, ⟨36, _⟩ => ⟨S1x16384x2048, .f32⟩
  | .hbm, ⟨37, _⟩ => ⟨S1x16384x8x2x128, .f32⟩
  | .hbm, ⟨38, _⟩ => ⟨S8x2x128x1x16384, .f32⟩
  | .hbm, ⟨39, _⟩ => ⟨S1x16384x8x2x128, .f32⟩
  | .hbm, ⟨40, _⟩ => ⟨S16384x1024, .f32⟩
  | .hbm, ⟨41, _⟩ => ⟨S16384x1024, .f32⟩
  | .hbm, ⟨42, _⟩ => ⟨S16384x1024, .bf16⟩
  | .hbm, ⟨43, _⟩ => ⟨S16384x16x128, .f32⟩
  | .hbm, ⟨44, _⟩ => ⟨S16x128x16384, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== OutProjEven.lean ====
abbrev S1x16384x512 : Shape := ⟨3, ![1, 16384, 512]⟩
abbrev S1024x1024 : Shape := ⟨2, ![1024, 1024]⟩
abbrev S1x16384x1024 : Shape := ⟨3, ![1, 16384, 1024]⟩
abbrev S1x1x1024 : Shape := ⟨3, ![1, 1, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S16384x512 : Shape := ⟨2, ![16384, 512]⟩
abbrev S512x1024 : Shape := ⟨2, ![512, 1024]⟩
abbrev S16384x1024 : Shape := ⟨2, ![16384, 1024]⟩
abbrev S1x1024 : Shape := ⟨2, ![1, 1024]⟩
abbrev S16x128x16384 : Shape := ⟨3, ![16, 128, 16384]⟩
abbrev S256x512 : Shape := ⟨2, ![256, 512]⟩
abbrev S256x1024 : Shape := ⟨2, ![256, 1024]⟩
abbrev S16x128x256 : Shape := ⟨3, ![16, 128, 256]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 28
  | .vmem => 20
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1024x1024, .f32⟩
  | .hbm, ⟨3, _⟩ => ⟨S1x16384x1024, .f32⟩
  | .hbm, ⟨4, _⟩ => ⟨S1x1x1024, .f32⟩
  | .hbm, ⟨5, _⟩ => ⟨S1024, .f32⟩
  | .hbm, ⟨6, _⟩ => ⟨S1x1x1024, .f32⟩
  | .hbm, ⟨7, _⟩ => ⟨S1x1x1024, .f32⟩
  | .hbm, ⟨8, _⟩ => ⟨S1024x2048, .f32⟩
  | .hbm, ⟨9, _⟩ => ⟨S8x2x128x128, .f32⟩
  | .hbm, ⟨10, _⟩ => ⟨S1024x1024, .bf16⟩
  | .hbm, ⟨11, _⟩ => ⟨S8x2x128x128, .bf16⟩
  | .hbm, ⟨12, _⟩ => ⟨S16x128x128, .bf16⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S512x1024, .bf16⟩
  | .hbm, ⟨18, _⟩ => ⟨S512x1024, .bf16⟩
  | .hbm, ⟨19, _⟩ => ⟨S16384x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1024x2048, .bf16⟩
  | .hbm, ⟨25, _⟩ => ⟨S16384x1024, .f32⟩
  | .hbm, ⟨26, _⟩ => ⟨S16384x1024, .bf16⟩
  | .hbm, ⟨27, _⟩ => ⟨S16x128x16384, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S512x1024, .bf16⟩
  | .local _ .vmem, ⟨5, _⟩ => ⟨S512x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x2048, .bf16⟩
  | .local _ .vmem, ⟨13, _⟩ => ⟨S16x128x128, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S16x128x256, .f32⟩
  | .local _ .vmem, ⟨19, _⟩ => ⟨S16x128x256, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutProjEvenRefIdeal.lean ====
abbrev S1x16384x512 : Shape := ⟨3, ![1, 16384, 512]⟩
abbrev S1024x1024 : Shape := ⟨2, ![1024, 1024]⟩
abbrev S1x16384x1024 : Shape := ⟨3, ![1, 16384, 1024]⟩
abbrev S1x1x1024 : Shape := ⟨3, ![1, 1, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S1x16384 : Shape := ⟨2, ![1, 16384]⟩
abbrev S1x16384x1 : Shape := ⟨3, ![1, 16384, 1]⟩
abbrev S1x16384x2048 : Shape := ⟨3, ![1, 16384, 2048]⟩
abbrev S1x16384x8x2x128 : Shape := ⟨5, ![1, 16384, 8, 2, 128]⟩
abbrev S8x2x128x1x16384 : Shape := ⟨5, ![8, 2, 128, 1, 16384]⟩
abbrev S16384x1024 : Shape := ⟨2, ![16384, 1024]⟩
abbrev S16384x16x128 : Shape := ⟨3, ![16384, 16, 128]⟩
abbrev S16x128x16384 : Shape := ⟨3, ![16, 128, 16384]⟩

abbrev nBuf : Space → Nat
  | .hbm => 47
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1024x1024, .f32⟩
  | .hbm, ⟨3, _⟩ => ⟨S1x16384x1024, .f32⟩
  | .hbm, ⟨4, _⟩ => ⟨S1x1x1024, .f32⟩
  | .hbm, ⟨5, _⟩ => ⟨S1024, .f32⟩
  | .hbm, ⟨6, _⟩ => ⟨S1x1x1024, .f32⟩
  | .hbm, ⟨7, _⟩ => ⟨S1x1x1024, .f32⟩
  | .hbm, ⟨8, _⟩ => ⟨S1024x2048, .f32⟩
  | .hbm, ⟨9, _⟩ => ⟨S8x2x128x128, .f32⟩
  | .hbm, ⟨10, _⟩ => ⟨S1x16384x1024, .f32⟩
  | .hbm, ⟨11, _⟩ => ⟨S1x16384x1024, .f32⟩
  | .hbm, ⟨12, _⟩ => ⟨S1x16384x1024, .f32⟩
  | .hbm, ⟨13, _⟩ => ⟨S1x16384x1024, .f32⟩
  | .hbm, ⟨14, _⟩ => ⟨S1x16384x1024, .f32⟩
  | .hbm, ⟨15, _⟩ => ⟨S1x16384x1024, .f32⟩
  | .hbm, ⟨16, _⟩ => ⟨S_, .f32⟩
  | .hbm, ⟨17, _⟩ => ⟨S1x16384, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S_, .f32⟩
  | .hbm, ⟨23, _⟩ => ⟨S1x16384x1, .f32⟩
  | .hbm, ⟨24, _⟩ => ⟨S1x16384x1, .f32⟩
  | .hbm, ⟨25, _⟩ => ⟨S1x16384x1, .f32⟩
  | .hbm, ⟨26, _⟩ => ⟨S1x16384x1024, .f32⟩
  | .hbm, ⟨27, _⟩ => ⟨S1x16384x1024, .f32⟩
  | .hbm, ⟨28, _⟩ => ⟨S1x1x1024, .f32⟩
  | .hbm, ⟨29, _⟩ => ⟨S1x16384x1024, .f32⟩
  | .hbm, ⟨30, _⟩ => ⟨S1x16384x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S1x16384x1024, .f32⟩
  | .hbm, ⟨35, _⟩ => ⟨S1x16384x1024, .f32⟩
  | .hbm, ⟨36, _⟩ => ⟨S1x16384x1024, .f32⟩
  | .hbm, ⟨37, _⟩ => ⟨S1x16384x1024, .f32⟩
  | .hbm, ⟨38, _⟩ => ⟨S1x16384x2048, .f32⟩
  | .hbm, ⟨39, _⟩ => ⟨S1x16384x8x2x128, .f32⟩
  | .hbm, ⟨40, _⟩ => ⟨S8x2x128x1x16384, .f32⟩
  | .hbm, ⟨41, _⟩ => ⟨S1x16384x8x2x128, .f32⟩
  | .hbm, ⟨42, _⟩ => ⟨S16384x1024, .f32⟩
  | .hbm, ⟨43, _⟩ => ⟨S16384x1024, .f32⟩
  | .hbm, ⟨44, _⟩ => ⟨S16384x1024, .bf16⟩
  | .hbm, ⟨45, _⟩ => ⟨S16384x16x128, .f32⟩
  | .hbm, ⟨46, _⟩ => ⟨S16x128x16384, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== FinalNorm.lean ====
abbrev S1x16384x1024 : Shape := ⟨3, ![1, 16384, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S1x16384x1024 : Shape := ⟨3, ![1, 16384, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x16384x1024, .f32⟩
  | .hbm, ⟨3, _⟩ => ⟨S_, .f32⟩
  | .hbm, ⟨4, _⟩ => ⟨S1x16384, .f32⟩
  | .hbm, ⟨5, _⟩ => ⟨S1x16384x1, .f32⟩
  | .hbm, ⟨6, _⟩ => ⟨S_, .f32⟩
  | .hbm, ⟨7, _⟩ => ⟨S1x16384x1, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S1x16384x1, .f32⟩
  | .hbm, ⟨13, _⟩ => ⟨S1x16384x1024, .f32⟩
  | .hbm, ⟨14, _⟩ => ⟨S1x16384x1024, .f32⟩
  | .hbm, ⟨15, _⟩ => ⟨S1x1x1024, .f32⟩
  | .hbm, ⟨16, _⟩ => ⟨S1x16384x1024, .f32⟩
  | .hbm, ⟨17, _⟩ => ⟨S1x16384x1024, .f32⟩
  | .hbm, ⟨18, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MlaProj.lean ====
abbrev S1x16384x1024 : Shape := ⟨3, ![1, 16384, 1024]⟩
abbrev S1024 : Shape := ⟨1, ![1024]⟩
abbrev S1x1x1024 : Shape := ⟨3, ![1, 1, 1024]⟩
abbrev S1x16384x32 : Shape := ⟨3, ![1, 16384, 32]⟩
abbrev S1024x832 : Shape := ⟨2, ![1024, 832]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S1024x64 : Shape := ⟨2, ![1024, 64]⟩
abbrev S_ : Shape := ⟨0, ![]⟩
abbrev S1024x128 : Shape := ⟨2, ![1024, 128]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x512 : Shape := ⟨2, ![512, 512]⟩
abbrev S256x8x256 : Shape := ⟨3, ![256, 8, 256]⟩
abbrev S256x8x128 : Shape := ⟨3, ![256, 8, 128]⟩
abbrev S256x1024 : Shape := ⟨2, ![256, 1024]⟩
abbrev S16384x32 : Shape := ⟨2, ![16384, 32]⟩
abbrev S16384x64 : Shape := ⟨2, ![16384, 64]⟩
abbrev S16384x128 : Shape := ⟨2, ![16384, 128]⟩
abbrev S16384x1024 : Shape := ⟨2, ![16384, 1024]⟩
abbrev S1x1024 : Shape := ⟨2, ![1, 1024]⟩
abbrev S1024x512 : Shape := ⟨2, ![1024, 512]⟩
abbrev S1024x256 : Shape := ⟨2, ![1024, 256]⟩
abbrev S1x512 : Shape := ⟨2, ![1, 512]⟩
abbrev S1x256 : Shape := ⟨2, ![1, 256]⟩
abbrev S8x64x192x256 : Shape := ⟨4, ![8, 64, 192, 256]⟩
abbrev S8x16384x192 : Shape := ⟨3, ![8, 16384, 192]⟩
abbrev S8x64x144x256 : Shape := ⟨4, ![8, 64, 144, 256]⟩
abbrev S256x128 : Shape := ⟨2, ![256, 128]⟩
abbrev S8x1x192x256 : Shape := ⟨4, ![8, 1, 192, 256]⟩
abbrev S8x256x192 : Shape := ⟨3, ![8, 256, 192]⟩
abbrev S8x1x144x256 : Shape := ⟨4, ![8, 1, 144, 256]⟩
abbrev S256x1 : Shape := ⟨2, ![256, 1]⟩
abbrev S256x512 : Shape := ⟨2, ![256, 512]⟩
abbrev S256x256 : Shape := ⟨2, ![256, 256]⟩
abbrev S256x64 : Shape := ⟨2, ![256, 64]⟩
abbrev S128x256 : Shape := ⟨2, ![128, 256]⟩
abbrev S64x256 : Shape := ⟨2, ![64, 256]⟩
abbrev S1x1x64x256 : Shape := ⟨4, ![1, 1, 64, 256]⟩
abbrev S1x1x128x256 : Shape := ⟨4, ![1, 1, 128, 256]⟩
abbrev S1x256x128 : Shape := ⟨3, ![1, 256, 128]⟩
abbrev S1x256x64 : Shape := ⟨3, ![1, 256, 64]⟩
abbrev S16x256 : Shape := ⟨2, ![16, 256]⟩
abbrev S144x256 : Shape := ⟨2, ![144, 256]⟩
abbrev S1x1x144x256 : Shape := ⟨4, ![1, 1, 144, 256]⟩

abbrev nBuf : Space → Nat
  | .hbm => 48
  | .vmem => 24
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1x16384x32, .f32⟩
  | .hbm, ⟨5, _⟩ => ⟨S1x16384x32, .f32⟩
  | .hbm, ⟨6, _⟩ => ⟨S1024x832, .f32⟩
  | .hbm, ⟨7, _⟩ => ⟨S512, .f32⟩
  | .hbm, ⟨8, _⟩ => ⟨S256, .f32⟩
  | .hbm, ⟨9, _⟩ => ⟨S512x1536, .f32⟩
  | .hbm, ⟨10, _⟩ => ⟨S256x2048, .f32⟩
  | .hbm, ⟨11, _⟩ => ⟨S1024x832, .bf16⟩
  | .hbm, ⟨12, _⟩ => ⟨S1024x64, .bf16⟩
  | .hbm, ⟨13, _⟩ => ⟨S_, .i32⟩
  | .hbm, ⟨14, _⟩ => ⟨S_, .bf16⟩
  | .hbm, ⟨15, _⟩ => ⟨S1024x128, .bf16⟩
  | .hbm, ⟨16, _⟩ => ⟨S512x1536, .bf16⟩
  | .hbm, ⟨17, _⟩ => ⟨S512x8x192, .bf16⟩
  | .hbm, ⟨18, _⟩ => ⟨S512x8x128, .bf16⟩
  | .hbm, ⟨19, _⟩ => ⟨S512x1024, .bf16⟩
  | .hbm, ⟨20, _⟩ => ⟨S512x8x64, .bf16⟩
  | .hbm, ⟨21, _⟩ => ⟨S512x512, .bf16⟩
  | .hbm, ⟨22, _⟩ => ⟨S256x2048, .bf16⟩
  | .hbm, ⟨23, _⟩ => ⟨S256x8x256, .bf16⟩
  | .hbm, ⟨24, _⟩ => ⟨S256x8x128, .bf16⟩
  | .hbm, ⟨25, _⟩ => ⟨S256x1024, .bf16⟩
  | .hbm, ⟨26, _⟩ => ⟨S256x8x128, .bf16⟩
  | .hbm, ⟨27, _⟩ => ⟨S256x1024, .bf16⟩
  | .hbm, ⟨28, _⟩ => ⟨S16384x32, .f32⟩
  | .hbm, ⟨29, _⟩ => ⟨S16384x32, .f32⟩
  | .hbm, ⟨30, _⟩ => ⟨S16384x64, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S16384x64, .f32⟩
  | .hbm, ⟨35, _⟩ => ⟨S16384x128, .f32⟩
  | .hbm, ⟨36, _⟩ => ⟨S16384x128, .f32⟩
  | .hbm, ⟨37, _⟩ => ⟨S16384x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1024x512, .bf16⟩
  | .hbm, ⟨42, _⟩ => ⟨S1024x256, .bf16⟩
  | .hbm, ⟨43, _⟩ => ⟨S1x512, .f32⟩
  | .hbm, ⟨44, _⟩ => ⟨S1x256, .f32⟩
  | .hbm, ⟨45, _⟩ => ⟨S8x64x192x256, .bf16⟩
  | .hbm, ⟨46, _⟩ => ⟨S8x16384x192, .bf16⟩
  | .hbm, ⟨47, _⟩ => ⟨S8x64x144x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x512, .bf16⟩
  | .local _ .vmem, ⟨6, _⟩ => ⟨S1024x256, .bf16⟩
  | .local _ .vmem, ⟨7, _⟩ => ⟨S1024x128, .bf16⟩
  | .local _ .vmem, ⟨8, _⟩ => ⟨S1x512, .f32⟩
  | .local _ .vmem, ⟨9, _⟩ => ⟨S1x256, .f32⟩
  | .local _ .vmem, ⟨10, _⟩ => ⟨S512x1024, .bf16⟩
  | .local _ .vmem, ⟨11, _⟩ => ⟨S512x512, .bf16⟩
  | .local _ .vmem, ⟨12, _⟩ => ⟨S256x1024, .bf16⟩
  | .local _ .vmem, ⟨13, _⟩ => ⟨S256x1024, .bf16⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S8x1x192x256, .bf16⟩
  | .local _ .vmem, ⟨19, _⟩ => ⟨S8x1x192x256, .bf16⟩
  | .local _ .vmem, ⟨20, _⟩ => ⟨S8x256x192, .bf16⟩
  | .local _ .vmem, ⟨21, _⟩ => ⟨S8x256x192, .bf16⟩
  | .local _ .vmem, ⟨22, _⟩ => ⟨S8x1x144x256, .bf16⟩
  | .local _ .vmem, ⟨23, _⟩ => ⟨S8x1x144x256, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1x192x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256x192 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x1x144x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MlaProjRefIdeal.lean ====
abbrev S1x16384x1024 : Shape := ⟨3, ![1, 16384, 1024]⟩
abbrev S1024 : Shape := ⟨1, ![1024]⟩
abbrev S1x1x1024 : Shape := ⟨3, ![1, 1, 1024]⟩
abbrev S1x16384x32 : Shape := ⟨3, ![1, 16384, 32]⟩
abbrev S1024x832 : Shape := ⟨2, ![1024, 832]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S_ : Shape := ⟨0, ![]⟩
abbrev S1x16384 : Shape := ⟨2, ![1, 16384]⟩
abbrev S1x16384x1 : Shape := ⟨3, ![1, 16384, 1]⟩
abbrev S1x16384x832 : Shape := ⟨3, ![1, 16384, 832]⟩
abbrev S1x16384x512 : Shape := ⟨3, ![1, 16384, 512]⟩
abbrev S1x16384x256 : Shape := ⟨3, ![1, 16384, 256]⟩
abbrev S1x16384x64 : Shape := ⟨3, ![1, 16384, 64]⟩
abbrev S1x1x512 : Shape := ⟨3, ![1, 1, 512]⟩
abbrev S1x16384x1536 : Shape := ⟨3, ![1, 16384, 1536]⟩
abbrev S1x16384x8x192 : Shape := ⟨4, ![1, 16384, 8, 192]⟩
abbrev S1x1x256 : Shape := ⟨3, ![1, 1, 256]⟩
abbrev S1x16384x2048 : Shape := ⟨3, ![1, 16384, 2048]⟩
abbrev S1x16384x8x256 : Shape := ⟨4, ![1, 16384, 8, 256]⟩
abbrev S1x16384x8x128 : Shape := ⟨4, ![1, 16384, 8, 128]⟩
abbrev S1x16384x8x64 : Shape := ⟨4, ![1, 16384, 8, 64]⟩
abbrev S1x16384x8x32 : Shape := ⟨4, ![1, 16384, 8, 32]⟩
abbrev S1x16384x1x32 : Shape := ⟨4, ![1, 16384, 1, 32]⟩
abbrev S1x16384x1x64 : Shape := ⟨4, ![1, 16384, 1, 64]⟩
abbrev S64x256x8x192 : Shape := ⟨4, ![64, 256, 8, 192]⟩
abbrev S8x64x192x256 : Shape := ⟨4, ![8, 64, 192, 256]⟩
abbrev S16384x8x192 : Shape := ⟨3, ![16384, 8, 192]⟩
abbrev S8x16384x192 : Shape := ⟨3, ![8, 16384, 192]⟩
abbrev S8x64x1x256 : Shape := ⟨4, ![8, 64, 1, 256]⟩
abbrev S8x64x15x256 : Shape := ⟨4, ![8, 64, 15, 256]⟩
abbrev S64x256x8x128 : Shape := ⟨4, ![64, 256, 8, 128]⟩
abbrev S8x64x128x256 : Shape := ⟨4, ![8, 64, 128, 256]⟩
abbrev S8x64x144x256 : Shape := ⟨4, ![8, 64, 144, 256]⟩

abbrev nBuf : Space → Nat
  | .hbm => 122
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1x16384x32, .f32⟩
  | .hbm, ⟨5, _⟩ => ⟨S1x16384x32, .f32⟩
  | .hbm, ⟨6, _⟩ => ⟨S1024x832, .f32⟩
  | .hbm, ⟨7, _⟩ => ⟨S512, .f32⟩
  | .hbm, ⟨8, _⟩ => ⟨S256, .f32⟩
  | .hbm, ⟨9, _⟩ => ⟨S512x1536, .f32⟩
  | .hbm, ⟨10, _⟩ => ⟨S256x2048, .f32⟩
  | .hbm, ⟨11, _⟩ => ⟨S1x16384x1024, .f32⟩
  | .hbm, ⟨12, _⟩ => ⟨S_, .f32⟩
  | .hbm, ⟨13, _⟩ => ⟨S1x16384, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x1, .f32⟩
  | .hbm, ⟨22, _⟩ => ⟨S1x16384x1024, .f32⟩
  | .hbm, ⟨23, _⟩ => ⟨S1x16384x1024, .f32⟩
  | .hbm, ⟨24, _⟩ => ⟨S1x1x1024, .f32⟩
  | .hbm, ⟨25, _⟩ => ⟨S1x16384x1024, .f32⟩
  | .hbm, ⟨26, _⟩ => ⟨S1x16384x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S1x16384x1024, .f32⟩
  | .hbm, ⟨31, _⟩ => ⟨S1x16384x1024, .f32⟩
  | .hbm, ⟨32, _⟩ => ⟨S1x16384x1024, .f32⟩
  | .hbm, ⟨33, _⟩ => ⟨S1x16384x1024, .f32⟩
  | .hbm, ⟨34, _⟩ => ⟨S1x16384x832, .f32⟩
  | .hbm, ⟨35, _⟩ => ⟨S1x16384x512, .f32⟩
  | .hbm, ⟨36, _⟩ => ⟨S1x16384x256, .f32⟩
  | .hbm, ⟨37, _⟩ => ⟨S1x16384x64, .f32⟩
  | .hbm, ⟨38, _⟩ => ⟨S1x16384x512, .f32⟩
  | .hbm, ⟨39, _⟩ => ⟨S_, .f32⟩
  | .hbm, ⟨40, _⟩ => ⟨S1x16384, .f32⟩
  | .hbm, ⟨41, _⟩ => ⟨S1x16384x1, .f32⟩
  | .hbm, ⟨42, _⟩ => ⟨S_, .f32⟩
  | .hbm, ⟨43, _⟩ => ⟨S1x16384x1, .f32⟩
  | .hbm, ⟨44, _⟩ => ⟨S1x16384x1, .f32⟩
  | .hbm, ⟨45, _⟩ => ⟨S_, .f32⟩
  | .hbm, ⟨46, _⟩ => ⟨S1x16384x1, .f32⟩
  | .hbm, ⟨47, _⟩ => ⟨S1x16384x1, .f32⟩
  | .hbm, ⟨48, _⟩ => ⟨S1x16384x1, .f32⟩
  | .hbm, ⟨49, _⟩ => ⟨S1x16384x512, .f32⟩
  | .hbm, ⟨50, _⟩ => ⟨S1x16384x512, .f32⟩
  | .hbm, ⟨51, _⟩ => ⟨S1x1x512, .f32⟩
  | .hbm, ⟨52, _⟩ => ⟨S1x16384x512, .f32⟩
  | .hbm, ⟨53, _⟩ => ⟨S1x16384x512, .f32⟩
  | .hbm, ⟨54, _⟩ => ⟨S1x16384x1536, .f32⟩
  | .hbm, ⟨55, _⟩ => ⟨S1x16384x8x192, .f32⟩
  | .hbm, ⟨56, _⟩ => ⟨S1x16384x256, .f32⟩
  | .hbm, ⟨57, _⟩ => ⟨S_, .f32⟩
  | .hbm, ⟨58, _⟩ => ⟨S1x16384, .f32⟩
  | .hbm, ⟨59, _⟩ => ⟨S1x16384x1, .f32⟩
  | .hbm, ⟨60, _⟩ => ⟨S_, .f32⟩
  | .hbm, ⟨61, _⟩ => ⟨S1x16384x1, .f32⟩
  | .hbm, ⟨62, _⟩ => ⟨S1x16384x1, .f32⟩
  | .hbm, ⟨63, _⟩ => ⟨S_, .f32⟩
  | .hbm, ⟨64, _⟩ => ⟨S1x16384x1, .f32⟩
  | .hbm, ⟨65, _⟩ => ⟨S1x16384x1, .f32⟩
  | .hbm, ⟨66, _⟩ => ⟨S1x16384x1, .f32⟩
  | .hbm, ⟨67, _⟩ => ⟨S1x16384x256, .f32⟩
  | .hbm, ⟨68, _⟩ => ⟨S1x16384x256, .f32⟩
  | .hbm, ⟨69, _⟩ => ⟨S1x1x256, .f32⟩
  | .hbm, ⟨70, _⟩ => ⟨S1x16384x256, .f32⟩
  | .hbm, ⟨71, _⟩ => ⟨S1x16384x256, .f32⟩
  | .hbm, ⟨72, _⟩ => ⟨S1x16384x2048, .f32⟩
  | .hbm, ⟨73, _⟩ => ⟨S1x16384x8x256, .f32⟩
  | .hbm, ⟨74, _⟩ => ⟨S1x16384x8x128, .f32⟩
  | .hbm, ⟨75, _⟩ => ⟨S1x16384x8x64, .f32⟩
  | .hbm, ⟨76, _⟩ => ⟨S1x16384x8x128, .f32⟩
  | .hbm, ⟨77, _⟩ => ⟨S1x16384x8x128, .f32⟩
  | .hbm, ⟨78, _⟩ => ⟨S1x16384x8x32, .f32⟩
  | .hbm, ⟨79, _⟩ => ⟨S1x16384x8x32, .f32⟩
  | .hbm, ⟨80, _⟩ => ⟨S1x16384x1x32, .f32⟩
  | .hbm, ⟨81, _⟩ => ⟨S1x16384x1x32, .f32⟩
  | .hbm, ⟨82, _⟩ => ⟨S1x16384x8x32, .f32⟩
  | .hbm, ⟨83, _⟩ => ⟨S1x16384x8x32, .f32⟩
  | .hbm, ⟨84, _⟩ => ⟨S1x16384x8x32, .f32⟩
  | .hbm, ⟨85, _⟩ => ⟨S1x16384x8x32, .f32⟩
  | .hbm, ⟨86, _⟩ => ⟨S1x16384x8x32, .f32⟩
  | .hbm, ⟨87, _⟩ => ⟨S1x16384x8x32, .f32⟩
  | .hbm, ⟨88, _⟩ => ⟨S1x16384x8x32, .f32⟩
  | .hbm, ⟨89, _⟩ => ⟨S1x16384x8x32, .f32⟩
  | .hbm, ⟨90, _⟩ => ⟨S1x16384x8x32, .f32⟩
  | .hbm, ⟨91, _⟩ => ⟨S1x16384x8x32, .f32⟩
  | .hbm, ⟨92, _⟩ => ⟨S1x16384x8x64, .f32⟩
  | .hbm, ⟨93, _⟩ => ⟨S1x16384x1x64, .f32⟩
  | .hbm, ⟨94, _⟩ => ⟨S1x16384x1x32, .f32⟩
  | .hbm, ⟨95, _⟩ => ⟨S1x16384x1x32, .f32⟩
  | .hbm, ⟨96, _⟩ => ⟨S1x16384x1x32, .f32⟩
  | .hbm, ⟨97, _⟩ => ⟨S1x16384x1x32, .f32⟩
  | .hbm, ⟨98, _⟩ => ⟨S1x16384x1x32, .f32⟩
  | .hbm, ⟨99, _⟩ => ⟨S1x16384x1x32, .f32⟩
  | .hbm, ⟨100, _⟩ => ⟨S1x16384x1x32, .f32⟩
  | .hbm, ⟨101, _⟩ => ⟨S1x16384x1x32, .f32⟩
  | .hbm, ⟨102, _⟩ => ⟨S1x16384x1x32, .f32⟩
  | .hbm, ⟨103, _⟩ => ⟨S1x16384x1x32, .f32⟩
  | .hbm, ⟨104, _⟩ => ⟨S1x16384x1x64, .f32⟩
  | .hbm, ⟨105, _⟩ => ⟨S1x16384x8x192, .f32⟩
  | .hbm, ⟨106, _⟩ => ⟨S1x16384x8x64, .f32⟩
  | .hbm, ⟨107, _⟩ => ⟨S1x16384x8x192, .f32⟩
  | .hbm, ⟨108, _⟩ => ⟨S64x256x8x192, .f32⟩
  | .hbm, ⟨109, _⟩ => ⟨S8x64x192x256, .f32⟩
  | .hbm, ⟨110, _⟩ => ⟨S8x64x192x256, .bf16⟩
  | .hbm, ⟨111, _⟩ => ⟨S16384x8x192, .f32⟩
  | .hbm, ⟨112, _⟩ => ⟨S8x16384x192, .f32⟩
  | .hbm, ⟨113, _⟩ => ⟨S8x16384x192, .bf16⟩
  | .hbm, ⟨114, _⟩ => ⟨S_, .f32⟩
  | .hbm, ⟨115, _⟩ => ⟨S8x64x1x256, .f32⟩
  | .hbm, ⟨116, _⟩ => ⟨S_, .f32⟩
  | .hbm, ⟨117, _⟩ => ⟨S8x64x15x256, .f32⟩
  | .hbm, ⟨118, _⟩ => ⟨S64x256x8x128, .f32⟩
  | .hbm, ⟨119, _⟩ => ⟨S8x64x128x256, .f32⟩
  | .hbm, ⟨120, _⟩ => ⟨S8x64x144x256, .f32⟩
  | .hbm, ⟨121, _⟩ => ⟨S8x64x144x256, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_9 : Ref sig .tc := ⟨.hbm, 114, rfl⟩
abbrev main_v93 : Ref sig .tc := ⟨.hbm, 115, rfl⟩
abbrev main_cst_10 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩

abbrev nD : Nat := 1
abbrev τ : Topo := Topo.v7x

variable {F : FTy → Type} [FloatOps F]
-- ==== HyProj.lean ====
abbrev S1x16384x1024 : Shape := ⟨3, ![1, 16384, 1024]⟩
abbrev S1024 : Shape := ⟨1, ![1024]⟩
abbrev S1x1x1024 : Shape := ⟨3, ![1, 1, 1024]⟩
abbrev S1x16384x64 : Shape := ⟨3, ![1, 16384, 64]⟩
abbrev S1024x3592 : Shape := ⟨2, ![1024, 3592]⟩
abbrev S1024x8 : Shape := ⟨2, ![1024, 8]⟩
abbrev S_ : Shape := ⟨0, ![]⟩
abbrev S1024x128 : Shape := ⟨2, ![1024, 128]⟩
abbrev S16384x64 : Shape := ⟨2, ![16384, 64]⟩
abbrev S16384x128 : Shape := ⟨2, ![16384, 128]⟩
abbrev S16384x1024 : Shape := ⟨2, ![16384, 1024]⟩
abbrev S1x1024 : Shape := ⟨2, ![1, 1024]⟩
abbrev S1024x1536 : Shape := ⟨2, ![1024, 1536]⟩
abbrev S1024x512 : Shape := ⟨2, ![1024, 512]⟩
abbrev S16384x1536 : Shape := ⟨2, ![16384, 1536]⟩
abbrev S16384x512 : Shape := ⟨2, ![16384, 512]⟩
abbrev S4x64x128x256 : Shape := ⟨4, ![4, 64, 128, 256]⟩
abbrev S4x64x144x256 : Shape := ⟨4, ![4, 64, 144, 256]⟩
abbrev S256x1024 : Shape := ⟨2, ![256, 1024]⟩
abbrev S256x128 : Shape := ⟨2, ![256, 128]⟩
abbrev S256x1536 : Shape := ⟨2, ![256, 1536]⟩
abbrev S256x512 : Shape := ⟨2, ![256, 512]⟩
abbrev S4x1x128x256 : Shape := ⟨4, ![4, 1, 128, 256]⟩
abbrev S4x1x144x256 : Shape := ⟨4, ![4, 1, 144, 256]⟩
abbrev S256 : Shape := ⟨1, ![256]⟩
abbrev S256x1 : Shape := ⟨2, ![256, 1]⟩
abbrev S128x256 : Shape := ⟨2, ![128, 256]⟩
abbrev S1x1x128x256 : Shape := ⟨4, ![1, 1, 128, 256]⟩
abbrev S16x256 : Shape := ⟨2, ![16, 256]⟩
abbrev S144x256 : Shape := ⟨2, ![144, 256]⟩
abbrev S1x1x144x256 : Shape := ⟨4, ![1, 1, 144, 256]⟩

abbrev nBuf : Space → Nat
  | .hbm => 32
  | .vmem => 25
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1x16384x64, .f32⟩
  | .hbm, ⟨5, _⟩ => ⟨S1x16384x64, .f32⟩
  | .hbm, ⟨6, _⟩ => ⟨S1024x3592, .f32⟩
  | .hbm, ⟨7, _⟩ => ⟨S1024x3592, .bf16⟩
  | .hbm, ⟨8, _⟩ => ⟨S1024x8, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S16384x64, .f32⟩
  | .hbm, ⟨13, _⟩ => ⟨S16384x64, .f32⟩
  | .hbm, ⟨14, _⟩ => ⟨S16384x128, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x128, .f32⟩
  | .hbm, ⟨19, _⟩ => ⟨S16384x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1024x1536, .bf16⟩
  | .hbm, ⟨24, _⟩ => ⟨S1024x512, .bf16⟩
  | .hbm, ⟨25, _⟩ => ⟨S1024x1536, .bf16⟩
  | .hbm, ⟨26, _⟩ => ⟨S16384x1536, .f32⟩
  | .hbm, ⟨27, _⟩ => ⟨S16384x512, .f32⟩
  | .hbm, ⟨28, _⟩ => ⟨S16384x128, .f32⟩
  | .hbm, ⟨29, _⟩ => ⟨S4x64x128x256, .bf16⟩
  | .hbm, ⟨30, _⟩ => ⟨S16384x512, .bf16⟩
  | .hbm, ⟨31, _⟩ => ⟨S4x64x144x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1536, .bf16⟩
  | .local _ .vmem, ⟨6, _⟩ => ⟨S1024x512, .bf16⟩
  | .local _ .vmem, ⟨7, _⟩ => ⟨S1024x128, .bf16⟩
  | .local _ .vmem, ⟨8, _⟩ => ⟨S1024x1536, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x1536, .f32⟩
  | .local _ .vmem, ⟨14, _⟩ => ⟨S256x1536, .f32⟩
  | .local _ .vmem, ⟨15, _⟩ => ⟨S256x512, .f32⟩
  | .local _ .vmem, ⟨16, _⟩ => ⟨S256x512, .f32⟩
  | .local _ .vmem, ⟨17, _⟩ => ⟨S256x128, .f32⟩
  | .local _ .vmem, ⟨18, _⟩ => ⟨S256x128, .f32⟩
  | .local _ .vmem, ⟨19, _⟩ => ⟨S4x1x128x256, .bf16⟩
  | .local _ .vmem, ⟨20, _⟩ => ⟨S4x1x128x256, .bf16⟩
  | .local _ .vmem, ⟨21, _⟩ => ⟨S256x512, .bf16⟩
  | .local _ .vmem, ⟨22, _⟩ => ⟨S256x512, .bf16⟩
  | .local _ .vmem, ⟨23, _⟩ => ⟨S4x1x144x256, .bf16⟩
  | .local _ .vmem, ⟨24, _⟩ => ⟨S4x1x144x256, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v17_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x1x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x1x144x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== HyProjRefIdeal.lean ====
abbrev S1x16384x1024 : Shape := ⟨3, ![1, 16384, 1024]⟩
abbrev S1024 : Shape := ⟨1, ![1024]⟩
abbrev S1x1x1024 : Shape := ⟨3, ![1, 1, 1024]⟩
abbrev S1x16384x64 : Shape := ⟨3, ![1, 16384, 64]⟩
abbrev S1024x3592 : Shape := ⟨2, ![1024, 3592]⟩
abbrev S_ : Shape := ⟨0, ![]⟩
abbrev S1x16384 : Shape := ⟨2, ![1, 16384]⟩
abbrev S1x16384x1 : Shape := ⟨3, ![1, 16384, 1]⟩
abbrev S1x16384x3592 : Shape := ⟨3, ![1, 16384, 3592]⟩
abbrev S1x16384x1536 : Shape := ⟨3, ![1, 16384, 1536]⟩
abbrev S1x16384x512 : Shape := ⟨3, ![1, 16384, 512]⟩
abbrev S1x16384x4 : Shape := ⟨3, ![1, 16384, 4]⟩
abbrev S1x16384x4x128 : Shape := ⟨4, ![1, 16384, 4, 128]⟩
abbrev S1x16384x4x64 : Shape := ⟨4, ![1, 16384, 4, 64]⟩
abbrev S1x16384x1x64 : Shape := ⟨4, ![1, 16384, 1, 64]⟩
abbrev S16384x4 : Shape := ⟨2, ![16384, 4]⟩
abbrev S16384x120 : Shape := ⟨2, ![16384, 120]⟩
abbrev S16384x128 : Shape := ⟨2, ![16384, 128]⟩
abbrev S16384x1536 : Shape := ⟨2, ![16384, 1536]⟩
abbrev S16384x512 : Shape := ⟨2, ![16384, 512]⟩
abbrev S64x256x4x128 : Shape := ⟨4, ![64, 256, 4, 128]⟩
abbrev S4x64x128x256 : Shape := ⟨4, ![4, 64, 128, 256]⟩
abbrev S4x64x1x256 : Shape := ⟨4, ![4, 64, 1, 256]⟩
abbrev S4x64x15x256 : Shape := ⟨4, ![4, 64, 15, 256]⟩
abbrev S4x64x144x256 : Shape := ⟨4, ![4, 64, 144, 256]⟩

abbrev nBuf : Space → Nat
  | .hbm => 91
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1x16384x64, .f32⟩
  | .hbm, ⟨5, _⟩ => ⟨S1x16384x64, .f32⟩
  | .hbm, ⟨6, _⟩ => ⟨S1024x3592, .f32⟩
  | .hbm, ⟨7, _⟩ => ⟨S1x16384x1024, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x1024, .f32⟩
  | .hbm, ⟨19, _⟩ => ⟨S1x16384x1024, .f32⟩
  | .hbm, ⟨20, _⟩ => ⟨S1x1x1024, .f32⟩
  | .hbm, ⟨21, _⟩ => ⟨S1x16384x1024, .f32⟩
  | .hbm, ⟨22, _⟩ => ⟨S1x16384x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S1x16384x1024, .f32⟩
  | .hbm, ⟨27, _⟩ => ⟨S1x16384x1024, .f32⟩
  | .hbm, ⟨28, _⟩ => ⟨S1x16384x1024, .f32⟩
  | .hbm, ⟨29, _⟩ => ⟨S1x16384x1024, .f32⟩
  | .hbm, ⟨30, _⟩ => ⟨S1x16384x3592, .f32⟩
  | .hbm, ⟨31, _⟩ => ⟨S1x16384x1536, .f32⟩
  | .hbm, ⟨32, _⟩ => ⟨S1x16384x512, .f32⟩
  | .hbm, ⟨33, _⟩ => ⟨S1x16384x4, .f32⟩
  | .hbm, ⟨34, _⟩ => ⟨S1x16384x4, .f32⟩
  | .hbm, ⟨35, _⟩ => ⟨S1x16384x512, .f32⟩
  | .hbm, ⟨36, _⟩ => ⟨S1x16384x512, .f32⟩
  | .hbm, ⟨37, _⟩ => ⟨S1x16384x512, .f32⟩
  | .hbm, ⟨38, _⟩ => ⟨S1x16384x4x128, .f32⟩
  | .hbm, ⟨39, _⟩ => ⟨S1x16384x4x64, .f32⟩
  | .hbm, ⟨40, _⟩ => ⟨S1x16384x4x64, .f32⟩
  | .hbm, ⟨41, _⟩ => ⟨S1x16384x1x64, .f32⟩
  | .hbm, ⟨42, _⟩ => ⟨S1x16384x1x64, .f32⟩
  | .hbm, ⟨43, _⟩ => ⟨S1x16384x4x64, .f32⟩
  | .hbm, ⟨44, _⟩ => ⟨S1x16384x4x64, .f32⟩
  | .hbm, ⟨45, _⟩ => ⟨S1x16384x4x64, .f32⟩
  | .hbm, ⟨46, _⟩ => ⟨S1x16384x4x64, .f32⟩
  | .hbm, ⟨47, _⟩ => ⟨S1x16384x4x64, .f32⟩
  | .hbm, ⟨48, _⟩ => ⟨S1x16384x4x64, .f32⟩
  | .hbm, ⟨49, _⟩ => ⟨S1x16384x4x64, .f32⟩
  | .hbm, ⟨50, _⟩ => ⟨S1x16384x4x64, .f32⟩
  | .hbm, ⟨51, _⟩ => ⟨S1x16384x4x64, .f32⟩
  | .hbm, ⟨52, _⟩ => ⟨S1x16384x4x64, .f32⟩
  | .hbm, ⟨53, _⟩ => ⟨S1x16384x4x128, .f32⟩
  | .hbm, ⟨54, _⟩ => ⟨S1x16384x4x128, .f32⟩
  | .hbm, ⟨55, _⟩ => ⟨S1x16384x4x64, .f32⟩
  | .hbm, ⟨56, _⟩ => ⟨S1x16384x4x64, .f32⟩
  | .hbm, ⟨57, _⟩ => ⟨S1x16384x1x64, .f32⟩
  | .hbm, ⟨58, _⟩ => ⟨S1x16384x1x64, .f32⟩
  | .hbm, ⟨59, _⟩ => ⟨S1x16384x4x64, .f32⟩
  | .hbm, ⟨60, _⟩ => ⟨S1x16384x4x64, .f32⟩
  | .hbm, ⟨61, _⟩ => ⟨S1x16384x4x64, .f32⟩
  | .hbm, ⟨62, _⟩ => ⟨S1x16384x4x64, .f32⟩
  | .hbm, ⟨63, _⟩ => ⟨S1x16384x4x64, .f32⟩
  | .hbm, ⟨64, _⟩ => ⟨S1x16384x4x64, .f32⟩
  | .hbm, ⟨65, _⟩ => ⟨S1x16384x4x64, .f32⟩
  | .hbm, ⟨66, _⟩ => ⟨S1x16384x4x64, .f32⟩
  | .hbm, ⟨67, _⟩ => ⟨S1x16384x4x64, .f32⟩
  | .hbm, ⟨68, _⟩ => ⟨S1x16384x4x64, .f32⟩
  | .hbm, ⟨69, _⟩ => ⟨S1x16384x4x128, .f32⟩
  | .hbm, ⟨70, _⟩ => ⟨S1x16384x4x128, .f32⟩
  | .hbm, ⟨71, _⟩ => ⟨S16384x4, .f32⟩
  | .hbm, ⟨72, _⟩ => ⟨S16384x4, .f32⟩
  | .hbm, ⟨73, _⟩ => ⟨S_, .f32⟩
  | .hbm, ⟨74, _⟩ => ⟨S16384x120, .f32⟩
  | .hbm, ⟨75, _⟩ => ⟨S16384x128, .f32⟩
  | .hbm, ⟨76, _⟩ => ⟨S16384x1536, .f32⟩
  | .hbm, ⟨77, _⟩ => ⟨S16384x512, .f32⟩
  | .hbm, ⟨78, _⟩ => ⟨S64x256x4x128, .f32⟩
  | .hbm, ⟨79, _⟩ => ⟨S4x64x128x256, .f32⟩
  | .hbm, ⟨80, _⟩ => ⟨S4x64x128x256, .bf16⟩
  | .hbm, ⟨81, _⟩ => ⟨S16384x512, .f32⟩
  | .hbm, ⟨82, _⟩ => ⟨S16384x512, .bf16⟩
  | .hbm, ⟨83, _⟩ => ⟨S_, .f32⟩
  | .hbm, ⟨84, _⟩ => ⟨S4x64x1x256, .f32⟩
  | .hbm, ⟨85, _⟩ => ⟨S_, .f32⟩
  | .hbm, ⟨86, _⟩ => ⟨S4x64x15x256, .f32⟩
  | .hbm, ⟨87, _⟩ => ⟨S64x256x4x128, .f32⟩
  | .hbm, ⟨88, _⟩ => ⟨S4x64x128x256, .f32⟩
  | .hbm, ⟨89, _⟩ => ⟨S4x64x144x256, .f32⟩
  | .hbm, ⟨90, _⟩ => ⟨S4x64x144x256, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_3 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_4 : Ref sig .tc := ⟨.hbm, 83, rfl⟩
abbrev main_v71 : Ref sig .tc := ⟨.hbm, 84, rfl⟩
abbrev main_cst_5 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩

abbrev nD : Nat := 1
abbrev τ : Topo := Topo.v7x

variable {F : FTy → Type} [FloatOps F]
-- ==== Modulation.lean ====
abbrev S1x1024 : Shape := ⟨2, ![1, 1024]⟩
abbrev S4x1024x6144 : Shape := ⟨3, ![4, 1024, 6144]⟩
abbrev S4x6144 : Shape := ⟨2, ![4, 6144]⟩
abbrev S1024x1 : Shape := ⟨2, ![1024, 1]⟩
abbrev S4x1x6144 : Shape := ⟨3, ![4, 1, 6144]⟩
abbrev S1x1024x1536 : Shape := ⟨3, ![1, 1024, 1536]⟩
abbrev S1x1x1536 : Shape := ⟨3, ![1, 1, 1536]⟩
abbrev S1024x1536 : Shape := ⟨2, ![1024, 1536]⟩
abbrev S1536 : Shape := ⟨1, ![1536]⟩
abbrev S1x1536 : Shape := ⟨2, ![1, 1536]⟩

abbrev nBuf : Space → Nat
  | .hbm => 6
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S4x1024x6144, .f32⟩
  | .hbm, ⟨2, _⟩ => ⟨S4x6144, .f32⟩
  | .hbm, ⟨3, _⟩ => ⟨S1024x1, .f32⟩
  | .hbm, ⟨4, _⟩ => ⟨S4x1x6144, .f32⟩
  | .hbm, ⟨5, _⟩ => ⟨S4x1x6144, .f32⟩
  | .local _ .vmem, ⟨0, _⟩ => ⟨S1024x1, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x1x1536, .f32⟩
  | .local _ .vmem, ⟨6, _⟩ => ⟨S1x1x1536, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S1x1024 : Shape := ⟨2, ![1, 1024]⟩
abbrev S4x1024x6144 : Shape := ⟨3, ![4, 1024, 6144]⟩
abbrev S4x6144 : Shape := ⟨2, ![4, 6144]⟩
abbrev S_ : Shape := ⟨0, ![]⟩
abbrev S4x6144x1 : Shape := ⟨3, ![4, 6144, 1]⟩
abbrev S4x1x6144 : Shape := ⟨3, ![4, 1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S4x1024x6144, .f32⟩
  | .hbm, ⟨2, _⟩ => ⟨S4x6144, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x6144x1, .f32⟩
  | .hbm, ⟨13, _⟩ => ⟨S4x1x6144, .f32⟩
  | .hbm, ⟨14, _⟩ => ⟨S4x1x6144, .f32⟩
  | .hbm, ⟨15, _⟩ => ⟨S4x1x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Rope.lean ====
abbrev S1x16384 : Shape := ⟨2, ![1, 16384]⟩
abbrev S16384x1 : Shape := ⟨2, ![16384, 1]⟩
abbrev S64 : Shape := ⟨1, ![64]⟩
abbrev S_ : Shape := ⟨0, ![]⟩
abbrev S32 : Shape := ⟨1, ![32]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x32 : Shape := ⟨2, ![1, 32]⟩
abbrev S4x32 : Shape := ⟨2, ![4, 32]⟩
abbrev S16384x128 : Shape := ⟨2, ![16384, 128]⟩
abbrev S1024x1 : Shape := ⟨2, ![1024, 1]⟩
abbrev S1024x128 : Shape := ⟨2, ![1024, 128]⟩

abbrev nBuf : Space → Nat
  | .hbm => 42
  | .vmem => 12
  | .smem => 0
  | _ => 0

abbrev bufTy : (tb : Table) → Fin (tcTables nBuf tb) → BufTy
  | .hbm, ⟨0, _⟩ => ⟨S1x16384, .i32⟩
  | .hbm, ⟨1, _⟩ => ⟨S16384x1, .i32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1x32, .f32⟩
  | .hbm, ⟨35, _⟩ => ⟨S4x32, .f32⟩
  | .hbm, ⟨36, _⟩ => ⟨S128, .f32⟩
  | .hbm, ⟨37, _⟩ => ⟨S1x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S1x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_cst_6 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RopeRefIdeal.lean ====
abbrev S1x16384 : Shape := ⟨2, ![1, 16384]⟩
abbrev S64 : Shape := ⟨1, ![64]⟩
abbrev S_ : Shape := ⟨0, ![]⟩
abbrev S1x16384x1 : Shape := ⟨3, ![1, 16384, 1]⟩
abbrev S1x1x64 : Shape := ⟨3, ![1, 1, 64]⟩
abbrev S1x16384x64 : Shape := ⟨3, ![1, 16384, 64]⟩
abbrev S32 : Shape := ⟨1, ![32]⟩
abbrev S1x1x32 : Shape := ⟨3, ![1, 1, 32]⟩
abbrev S1x16384x32 : Shape := ⟨3, ![1, 16384, 32]⟩
abbrev S16384x64 : Shape := ⟨2, ![16384, 64]⟩
abbrev S16384x128 : Shape := ⟨2, ![16384, 128]⟩
abbrev S16384x32 : Shape := ⟨2, ![16384, 32]⟩

abbrev nBuf : Space → Nat
  | .hbm => 57
  | .vmem => 0
  | .smem => 0
  | _ => 0

abbrev bufTy : (tb : Table) → Fin (tcTables nBuf tb) → BufTy
  | .hbm, ⟨0, _⟩ => ⟨S1x16384, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S1x16384, .f32⟩
  | .hbm, ⟨16, _⟩ => ⟨S1x16384x1, .f32⟩
  | .hbm, ⟨17, _⟩ => ⟨S1x1x64, .f32⟩
  | .hbm, ⟨18, _⟩ => ⟨S1x16384x64, .f32⟩
  | .hbm, ⟨19, _⟩ => ⟨S1x16384x64, .f32⟩
  | .hbm, ⟨20, _⟩ => ⟨S1x16384x64, .f32⟩
  | .hbm, ⟨21, _⟩ => ⟨S1x16384x64, .f32⟩
  | .hbm, ⟨22, _⟩ => ⟨S1x16384x64, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S1x16384, .f32⟩
  | .hbm, ⟨38, _⟩ => ⟨S1x16384x1, .f32⟩
  | .hbm, ⟨39, _⟩ => ⟨S1x1x32, .f32⟩
  | .hbm, ⟨40, _⟩ => ⟨S1x16384x32, .f32⟩
  | .hbm, ⟨41, _⟩ => ⟨S1x16384x32, .f32⟩
  | .hbm, ⟨42, _⟩ => ⟨S1x16384x32, .f32⟩
  | .hbm, ⟨43, _⟩ => ⟨S1x16384x32, .f32⟩
  | .hbm, ⟨44, _⟩ => ⟨S1x16384x32, .f32⟩
  | .hbm, ⟨45, _⟩ => ⟨S16384x64, .f32⟩
  | .hbm, ⟨46, _⟩ => ⟨S16384x128, .f32⟩
  | .hbm, ⟨47, _⟩ => ⟨S16384x64, .f32⟩
  | .hbm, ⟨48, _⟩ => ⟨S16384x64, .f32⟩
  | .hbm, ⟨49, _⟩ => ⟨S16384x128, .f32⟩
  | .hbm, ⟨50, _⟩ => ⟨S16384x32, .f32⟩
  | .hbm, ⟨51, _⟩ => ⟨S16384x64, .f32⟩
  | .hbm, ⟨52, _⟩ => ⟨S16384x128, .f32⟩
  | .hbm, ⟨53, _⟩ => ⟨S16384x32, .f32⟩
  | .hbm, ⟨54, _⟩ => ⟨S16384x32, .f32⟩
  | .hbm, ⟨55, _⟩ => ⟨S16384x64, .f32⟩
  | .hbm, ⟨56, _⟩ => ⟨S16384x128, .f32⟩
  | _, _ => ⟨S1x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Proof.Steps.lean ====
/-
  The attention kernel at one grid point, as sequences over the steps of its software pipeline.

  A grid point is one head and one block of 512 queries. Step 0 treats the block's own ("diagonal") 512 keys, masked
  causally; step `t ≥ 1` treats keys `512 (t − 1) … 512 t − 1`. Per step the kernel keeps a running column maximum `M`,
  a rescaling factor `AL`, the exponentials `P`, and one accumulator `ACC`, which lags one step behind. The sequences
  are stated over the kernel's own payload terms, for any float values, from the tiles the point reads: two halves of
  the query block, the key tiles and the value tiles.

  Beside them: the closed forms of the loop's trip count, of its branch condition and of the last slot's offset.
-/
module

public import proofs.«01_k».proof.Proof.Gen.KernelIdeal.Skeleton
public import Idealize.ShloMosaic.Lib.Decide

@[expose] public section

set_option maxRecDepth 16384

noncomputable section

namespace Cert.Proof.Mla

open Cert.KernelIdeal Cert.KernelIdeal.Gen
open Idealize.ShloMosaic Idealize.ShloMosaic.TcCoe

variable {F : FTy → Type} [FloatOps F]

/-- The tiles one grid point reads: the query block's two halves, the 32 key tiles, the 64 value tiles. -/
structure Tiles (F : FTy → Type) where
  /-- the first 256 queries of the block -/
  q0 : Vec F S1x1x192x256 .bf16
  /-- the last 256 queries of the block -/
  q1 : Vec F S1x1x192x256 .bf16
  /-- key tile `n`: keys `512 n …` -/
  key : ℕ → Vec F S1x512x192 .bf16
  /-- value tile `n`: values `256 n …`, transposed -/
  val : ℕ → Vec F S1x1x144x256 .bf16

namespace Tiles
variable (T : Tiles F) (i : ℕ)

/-- The query block, both halves side by side. -/
def q : FVec F S192x512 .bf16 := k0_pay34 T.q0 T.q1

/-- The scores of step `t`: step 0 masked on the diagonal tile, step `t` plain on key tile `t − 1`. -/
def score (t : ℕ) : FVec F S1x512x512 .f32 :=
  if t = 0 then k0_pay36 T.q0 T.q1 (T.key i) else k0_pay3 T.q (T.key (t - 1))

/-- The column maxima of step `t`'s scores. -/
def colMax (t : ℕ) : FVec F S1x1x512 .f32 :=
  if t = 0 then k0_pay37 T.q0 T.q1 (T.key i) else k0_pay4 T.q (T.key (t - 1))

/-- The running maximum after step `t`. -/
def run : ℕ → FVec F S1x512 .f32
  | 0 => k0_pay38 (T.colMax i 0)
  | t + 1 => k0_pay5 (run t) (T.colMax i (t + 1))

/-- The factor that carries step `t − 1`'s sums over to step `t`'s maximum. -/
def scale : ℕ → FVec F S1x512 .f32
  | 0 => k0_pay44
  | t + 1 => k0_pay6 (T.run i t) (T.colMax i (t + 1))

/-- The exponentials of step `t`. -/
def prob : ℕ → FVec F S1x512x512 .bf16
  | 0 => k0_pay39 (T.colMax i 0) (T.score i 0)
  | t + 1 => k0_pay45 (k0_pay9 (T.run i (t + 1)) (k0_pay7 (T.score i (t + 1))))

/-- The value tiles of step `t`: the diagonal's two, then the two of key tile `t − 1`. -/
def v1 (t : ℕ) : Vec F S1x1x144x256 .bf16 := T.val (if t = 0 then 2 * i else 2 * (t - 1))
def v2 (t : ℕ) : Vec F S1x1x144x256 .bf16 := T.val (if t = 0 then 2 * i + 1 else 2 * (t - 1) + 1)

/-- The accumulator before step `t`'s own values are added: steps `0 … t − 1`. -/
def acc : ℕ → FVec F S144x512 .f32
  | 0 => k0_pay40
  | t + 1 => k0_pay8 (T.scale i t) (acc t) (T.v1 i t) (T.v2 i t) (T.prob i t)

theorem run_succ (t : ℕ) : T.run i (t + 1) = k0_pay5 (T.run i t) (T.colMax i (t + 1)) := rfl
theorem scale_succ (t : ℕ) : T.scale i (t + 1) = k0_pay6 (T.run i t) (T.colMax i (t + 1)) := rfl
theorem prob_succ (t : ℕ) : T.prob i (t + 1) = k0_pay45 (k0_pay9 (T.run i (t + 1)) (k0_pay7 (T.score i (t + 1)))) := rfl
theorem acc_succ (t : ℕ) : T.acc i (t + 1) = k0_pay8 (T.scale i t) (T.acc i t) (T.v1 i t) (T.v2 i t) (T.prob i t) := rfl

/-- The scores and maxima of a step past the diagonal, by its key tile. -/
theorem score_pos {t n : ℕ} (h : t = n + 1) : T.score i t = k0_pay3 T.q (T.key n) := by
  subst h; exact if_neg (Nat.succ_ne_zero n)
theorem colMax_pos {t n : ℕ} (h : t = n + 1) : T.colMax i t = k0_pay4 T.q (T.key n) := by
  subst h; exact if_neg (Nat.succ_ne_zero n)

/-- What the point writes: the accumulator with the last step added, divided by its row of sums. -/
def out : FVec F S512x128 .bf16 :=
  k0_pay1 (k0_pay49 (T.scale i i) (T.acc i i)) (k0_pay50 (T.v1 i i)) (T.v2 i i) (T.prob i i)

end Tiles

/-! ## The loop's counts and condition -/

/-- The main loop runs once per key tile below the diagonal. -/
theorem trips1 (i : grid0.Coords) : (k0_t1_loop i).trips = (i 1).val := by
  have h : ∀ n : Fin 32, Scf.trips 1#32 (Scalar.addi 1#32 (Scalar.muli (Scalar.divsi (Scalar.subi (Scalar.addi (BitVec.ofNat 32 n.val) 1#32) 1#32) 1#32) 1#32)) 1#32 = n.val := by
    decide +kernel
  exact h (i 1)

/-- The remainder loop never runs. -/
theorem trips2 (i : grid0.Coords) : (k0_t2_loop i).trips = 0 :=
  Nat.le_zero.mp (k0_t2_abs i).2.1

/-- The branch: step `k + 1` is even exactly when trip `k` is odd. -/
theorem cond1 (i : grid0.Coords) (k : Fin (k0_t1_loop i).trips) : k0_cond1 i k = 1#1 ↔ k.val % 2 = 1 := by
  have h : ∀ (n : Fin 32),
      (Scalar.cmpi .ne (Scalar.extui (Scalar.cmpi .eq (Scalar.select (Scalar.andi (Scalar.xori
        (Scalar.cmpi .slt (Scalar.remsi (Scf.iv 1#32 1#32 n.val) (Scalar.select (Scalar.cmpi .eq 2#32 0#32) 1#32 2#32)) 0#32)
        (Scalar.cmpi .slt (Scalar.select (Scalar.cmpi .eq 2#32 0#32) 1#32 (2#32 : BitVec 32)) 0#32))
        (Scalar.cmpi .ne (Scalar.remsi (Scf.iv 1#32 1#32 n.val) (Scalar.select (Scalar.cmpi .eq 2#32 0#32) 1#32 2#32)) 0#32))
        (Scalar.addi (Scalar.remsi (Scf.iv 1#32 1#32 n.val) (Scalar.select (Scalar.cmpi .eq 2#32 0#32) 1#32 2#32)) (Scalar.select (Scalar.cmpi .eq 2#32 0#32) 1#32 2#32))
        (Scalar.remsi (Scf.iv 1#32 1#32 n.val) (Scalar.select (Scalar.cmpi .eq 2#32 0#32) 1#32 2#32))) 0#32) : BitVec 32) 0#32) = 1#1 ↔ n.val % 2 = 1 := by
    decide +kernel
  exact h ⟨k.val, lt_trans (trips1 i ▸ k.isLt) (i 1).isLt⟩

/-- The slot the last step's exponentials lie in. -/
theorem off16 (i : grid0.Coords) : k0_off16 i = ![(i 1).val % 2, 0, 0] := by
  have h : ∀ n : grid0.Coords, k0_off16 n 0 = (n 1).val % 2 := by decide +kernel
  funext a; fin_cases a
  · exact h i
  · rfl
  · rfl

end Cert.Proof.Mla

end
-- ==== Proof.Trip.lean ====
/-
  One trip of the kernel's main loop.
-/
module

public import proofs.«01_k».proof.Proof.Steps
public import proofs.«01_k».proof.Proof.Gen.KernelIdeal.Loops
public import Idealize.ShloMosaic.Lib.Tactic
public import Idealize.ShloMosaic.Lib.WritesUnit
public import Idealize.ShloMosaic.Lib.VecWindow
public import Idealize.ShloMosaic.Lib.Pipeline.Kit

@[expose] public section

set_option maxRecDepth 16384

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ
abbrev 𝒱₀ : Variants := Variants.none
local notation "𝕄" => MT nD τ sig Unit (Elt F) ℕ (UU nD τ) ℕ

/-- Memref `M`'s contents type on core `c`, and its buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## What a load reads -/

/-- The contents of a view's window. -/
abbrev ld {sp : Space} {S : Shape} {e : EltTy} (M : Memref sig .tc sp S e) (f : M.view.ty.Contents (Elt F))
    (off size : Fin S.rank → ℕ) (inb : ∀ a, off a + size a ≤ S.size a) :
    (Rect.unit (s := S) off size inb).toLoadRect.shape.Idx → Elt F e :=
  M.view.readAt (Elt F) (Rect.unit (s := S) off size inb).toLoadRect f

theorem ld_congr {sp : Space} {S : Shape} {e : EltTy} (M : Memref sig .tc sp S e) (f : M.view.ty.Contents (Elt F))
    {off off' size : Fin S.rank → ℕ} (inb : ∀ a, off a + size a ≤ S.size a) (inb' : ∀ a, off' a + size a ≤ S.size a) (h : off = off') :
    ld M f off size inb = ld M f off' size inb' := by subst h; rfl

/-- A load of the window just stored reads the payload. -/
theorem ld_self {sp : Space} {S : Shape} {e : EltTy} (M : Memref sig .tc sp S e) (f : M.view.ty.Contents (Elt F))
    {off size : Fin S.rank → ℕ} (inb : ∀ a, off a + size a ≤ S.size a) (w : (Rect.unit off size inb).shape.Idx → Elt F e) (L : List (View.Piece (Elt F) S e)) :
    ld M (M.view.writes (Elt F) f (⟨Rect.unit off size inb, w⟩ :: L)) off size inb = w :=
  funext fun x => View.read_writes_cons_emb M.view f (Rect.unit off size inb) w L x

/-- A load of a window apart from the one just stored reads what was there. -/
theorem ld_other {sp : Space} {S : Shape} {e : EltTy} (M : Memref sig .tc sp S e) (f : M.view.ty.Contents (Elt F))
    {off off' size size' : Fin S.rank → ℕ} (inb : ∀ a, off a + size a ≤ S.size a) (inb' : ∀ a, off' a + size' a ≤ S.size a)
    (w : (Rect.unit off' size' inb').shape.Idx → Elt F e) (a : Fin S.rank) (ha : off a + size a ≤ off' a ∨ off' a + size' a ≤ off a) :
    ld M (M.view.writes (Elt F) f [⟨Rect.unit off' size' inb', w⟩]) off size inb = ld M f off size inb :=
  funext fun x => View.read_writes_cons_unit_of_not_mem M.view f inb' w [] _ rfl a (by
    have hx : (((Rect.unit (s := S) off size inb).toLoadRect.idx x) a).val = off a + 1 * (x a).val := rfl
    have hl : (x a).val < size a := (x a).isLt
    omega)

theorem keyOff_inb (n : ℕ) : ∀ a, (![0, 512 * min n 31, 0] : Fin 3 → ℕ) a + S1x512x192.size a ≤ S1x16384x192.size a := by
  intro a; fin_cases a
  · show 0 + 1 ≤ 1; omega
  · show 512 * min n 31 + 512 ≤ 16384; omega
  · show 0 + 192 ≤ 192; omega
theorem valOff_inb (n : ℕ) : ∀ a, (![0, min n 63, 0, 0] : Fin 4 → ℕ) a + S1x1x144x256.size a ≤ S1x64x144x256.size a := by
  intro a; fin_cases a
  · show 0 + 1 ≤ 1; omega
  · show min n 63 + 1 ≤ 64; omega
  · show 0 + 144 ≤ 144; omega
  · show 0 + 256 ≤ 256; omega

/-- The tiles of the staged blocks: the query block, the head's keys, the head's values. -/
def tiles (arg2 : Memref sig .tc .vmem S1x2x192x256 .bf16) (arg3 : Memref sig .tc .vmem S1x16384x192 .bf16) (arg4 : Memref sig .tc .vmem S1x64x144x256 .bf16)
    (f2 : arg2.view.ty.Contents (Elt F)) (f3 : arg3.view.ty.Contents (Elt F)) (f4 : arg4.view.ty.Contents (Elt F)) : Tiles F where
  q0 := ld arg2 f2 ![0, 0, 0, 0] S1x1x192x256.size inb_S1x2x192x256_S1x1x192x256_0_0_0_0
  q1 := ld arg2 f2 ![0, 1, 0, 0] S1x1x192x256.size inb_S1x2x192x256_S1x1x192x256_0_1_0_0
  key n := ld arg3 f3 ![0, 512 * min n 31, 0] S1x512x192.size (keyOff_inb n)
  val n := ld arg4 f4 ![0, min n 63, 0, 0] S1x1x144x256.size (valOff_inb n)

section TileReads
variable {arg2 : Memref sig .tc .vmem S1x2x192x256 .bf16} {arg3 : Memref sig .tc .vmem S1x16384x192 .bf16} {arg4 : Memref sig .tc .vmem S1x64x144x256 .bf16}
    {f2 : arg2.view.ty.Contents (Elt F)} {f3 : arg3.view.ty.Contents (Elt F)} {f4 : arg4.view.ty.Contents (Elt F)}

/-- A load of the keys at row `512 n` is key tile `n`; -/
theorem key_read {off : Fin 3 → ℕ} (inb : ∀ a, off a + S1x512x192.size a ≤ S1x16384x192.size a) (n : ℕ) (h : off = ![0, 512 * min n 31, 0]) :
    ld arg3 f3 off S1x512x192.size inb = (tiles arg2 arg3 arg4 f2 f3 f4).key n := ld_congr arg3 f3 inb (keyOff_inb n) h
/-- of the values at block `n`, value tile `n`. -/
theorem val_read {off : Fin 4 → ℕ} (inb : ∀ a, off a + S1x1x144x256.size a ≤ S1x64x144x256.size a) (n : ℕ) (h : off = ![0, min n 63, 0, 0]) :
    ld arg4 f4 off S1x1x144x256.size inb = (tiles arg2 arg3 arg4 f2 f3 f4).val n := ld_congr arg4 f4 inb (valOff_inb n) h
end TileReads

/-- What the scratch buffers hold before trip `k`: the accumulator of the steps before `k`; in one slot step `k`'s
    exponentials, in the other the scores and column maxima of the step that follows. -/
structure At (T : Tiles F) (i : ℕ) (arg6 : Memref sig .tc .vmem S2x512x512 .f32) (arg7 : Memref sig .tc .vmem S2x1x512 .f32)
    (arg8 : Memref sig .tc .vmem S2x512x512 .bf16) (arg9 : Memref sig .tc .vmem S144x512 .f32)
    (f6 : arg6.view.ty.Contents (Elt F)) (f7 : arg7.view.ty.Contents (Elt F)) (f8 : arg8.view.ty.Contents (Elt F)) (f9 : arg9.view.ty.Contents (Elt F))
    (k : ℕ) : Prop where
  acc : ld arg9 f9 ![0, 0] S144x512.size inb_S144x512_S144x512_0_0 = T.acc i k
  even : k % 2 = 0 → ld arg8 f8 ![0, 0, 0] S1x512x512.size inb_S2x512x512_S1x512x512_0_0_0 = T.prob i k
    ∧ ld arg6 f6 ![1, 0, 0] S1x512x512.size inb_S2x512x512_S1x512x512_1_0_0 = T.score i (min (k + 1) (max i 1))
    ∧ ld arg7 f7 ![1, 0, 0] S1x1x512.size inb_S2x1x512_S1x1x512_1_0_0 = T.colMax i (min (k + 1) (max i 1))
  odd : k % 2 = 1 → ld arg8 f8 ![1, 0, 0] S1x512x512.size inb_S2x512x512_S1x512x512_1_0_0 = T.prob i k
    ∧ ld arg6 f6 ![0, 0, 0] S1x512x512.size inb_S2x512x512_S1x512x512_0_0_0 = T.score i (min (k + 1) (max i 1))
    ∧ ld arg7 f7 ![0, 0, 0] S1x1x512.size inb_S2x1x512_S1x1x512_0_0_0 = T.colMax i (min (k + 1) (max i 1))

/-- The loop's invariant: the operands as staged, the scratch at `At`, the carried pair at the running maximum and the
    rescaling factor. -/
def inv1 (c : Dev nD) (i : grid0.Coords)
    (arg2 : Memref sig .tc .vmem S1x2x192x256 .bf16) (arg3 : Memref sig .tc .vmem S1x16384x192 .bf16) (arg4 : Memref sig .tc .vmem S1x64x144x256 .bf16)
    (arg6 : Memref sig .tc .vmem S2x512x512 .f32) (arg7 : Memref sig .tc .vmem S2x1x512 .f32) (arg8 : Memref sig .tc .vmem S2x512x512 .bf16) (arg9 : Memref sig .tc .vmem S144x512 .f32)
    (f2 : Bf (F := F) c arg2) (f3 : Bf (F := F) c arg3) (f4 : Bf (F := F) c arg4) (k : ℕ) (a : FVec F S1x512 .f32 × FVec F S1x512 .f32) : sProp 𝕄 :=
  iprop(pt c arg3 f3 ∗ pt c arg4 f4 ∗ ∃ f6 f7 f8 f9, pt c arg6 f6 ∗ pt c arg7 f7 ∗ pt c arg8 f8 ∗ pt c arg9 f9
    ∗ ⌜a = ((tiles arg2 arg3 arg4 f2 f3 f4).run (i 1).val k, (tiles arg2 arg3 arg4 f2 f3 f4).scale (i 1).val k)
      ∧ At (tiles arg2 arg3 arg4 f2 f3 f4) (i 1).val arg6 arg7 arg8 arg9 f6 f7 f8 f9 k⌝)

set_option maxHeartbeats 1000000 in
theorem trip (c : Dev nD) (i : grid0.Coords)
    (arg2 : Memref sig .tc .vmem S1x2x192x256 .bf16) (harg2 : arg2.IsWhole) (arg3 : Memref sig .tc .vmem S1x16384x192 .bf16) (harg3 : arg3.IsWhole) (arg4 : Memref sig .tc .vmem S1x64x144x256 .bf16) (harg4 : arg4.IsWhole) (arg5 : Memref sig .tc .vmem S512x128 .bf16) (harg5 : arg5.IsWhole) (arg6 : Memref sig .tc .vmem S2x512x512 .f32) (harg6 : arg6.IsWhole) (arg7 : Memref sig .tc .vmem S2x1x512 .f32) (harg7 : arg7.IsWhole) (arg8 : Memref sig .tc .vmem S2x512x512 .bf16) (harg8 : arg8.IsWhole) (arg9 : Memref sig .tc .vmem S144x512 .f32) (harg9 : arg9.IsWhole)
    (arg1 v5 v7 c1 : BitVec 32) (v32 : FVec F S1x512 .f32)
    (f2 : Bf (F := F) c arg2) (f3 : Bf (F := F) c arg3) (f4 : Bf (F := F) c arg4)
    (k : Fin (k0_t1_loop i).trips) (a : FVec F S1x512 .f32 × FVec F S1x512 .f32) :
    inv1 c i arg2 arg3 arg4 arg6 arg7 arg8 arg9 f2 f3 f4 k.val a ⊢ wp frame (wpE (defs₀ (F := F)) 𝒱₀ (c : Thread nD τ) none) Set.univ
      (k0_t1_body i arg2 harg2 arg3 harg3 arg4 harg4 arg5 harg5 arg6 harg6 arg7 harg7 arg8 harg8 arg9 harg9 arg1 (tiles arg2 arg3 arg4 f2 f3 f4).q v5 v7 v32 c1 k a)
      (inv1 c i arg2 arg3 arg4 arg6 arg7 arg8 arg9 f2 f3 f4 (k.val + 1)) := by
  have hk := cond1 i k
  have hn : k.val < (i 1).val := trips1 i ▸ k.isLt
  have hi : (i 1).val < 32 := (i 1).isLt
  have hmin : min (k.val + 1) (max (i 1).val 1) = k.val + 1 := by omega
  unfold inv1
  iintro ⟨H3, H4, ⟨%f6, %f7, %f8, %f9, H6, H7, H8, H9, %hp⟩⟩
  obtain ⟨ha, hat⟩ := hp
  by_cases h : k0_cond1 i k = 1#1
  · have hpar := hk.mp h
    obtain ⟨h8, h6, h7⟩ := hat.odd hpar
    rw [hmin] at h6 h7
    have hv1 := val_read (arg2 := arg2) (arg3 := arg3) (f2 := f2) (f3 := f3) (arg4 := arg4) (f4 := f4) (k0_off3_inb i k h) (if k.val = 0 then 2 * (i 1).val else 2 * (k.val - 1)) (by
      rw [k0_off3_eq]; congr 2; split <;> split <;> omega)
    have hv2 := val_read (arg2 := arg2) (arg3 := arg3) (f2 := f2) (f3 := f3) (arg4 := arg4) (f4 := f4) (k0_off4_inb i k h) (if k.val = 0 then 2 * (i 1).val + 1 else 2 * (k.val - 1) + 1) (by
      rw [k0_off4_eq]; congr 2; split <;> split <;> omega)
    have hkey := key_read (arg2 := arg2) (arg3 := arg3) (f2 := f2) (f3 := f3) (arg4 := arg4) (f4 := f4) (k0_off2_inb i k h) (min (k.val + 2) (max (i 1).val 1) - 1) (by
      rw [k0_off2_eq]; congr 2; omega)
    have hacc := hat.acc
    generalize tiles arg2 arg3 arg4 f2 f3 f4 = T at *
    sl_unfold [k0_t1_body]
    sl_exec!
    sl_step
    isplitl [H3]; · iexact H3
    isplitl [H4]; · iexact H4
    iexists _; iexists _; iexists _; iexists _
    isplitl [H6]; · iexact H6
    isplitl [H7]; · iexact H7
    isplitl [H8]; · iexact H8
    isplitl [H9]; · iexact H9
    ipureintro
    subst ha
    have hs : min (k.val + 1 + 1) (max (i 1).val 1) = min (k.val + 2) (max (i 1).val 1) - 1 + 1 := by omega
    refine ⟨?_, ⟨?_, ?_, ?_⟩⟩
    · unfold trip.sl.r trip.sl.r_1; rw [T.run_succ, T.scale_succ]
    · unfold trip.sl.H9_1; rw [ld_self, T.acc_succ]; rfl
    · intro _
      refine ⟨?_, ?_, ?_⟩
      · rw [ld_self, T.prob_succ, T.run_succ]; unfold trip.sl.r_3; rfl
      · rw [ld_self, T.score_pos _ hs]
      · rw [ld_self, T.colMax_pos _ hs]
    · intro ho; omega
  · have hpar : k.val % 2 = 0 := by have := mt hk.mpr h; omega
    obtain ⟨h8, h6, h7⟩ := hat.even hpar
    rw [hmin] at h6 h7
    have hv1 := val_read (arg2 := arg2) (arg3 := arg3) (f2 := f2) (f3 := f3) (arg4 := arg4) (f4 := f4) (k0_off6_inb i k h) (if k.val = 0 then 2 * (i 1).val else 2 * (k.val - 1)) (by
      rw [k0_off6_eq]; congr 2; split <;> split <;> omega)
    have hv2 := val_read (arg2 := arg2) (arg3 := arg3) (f2 := f2) (f3 := f3) (arg4 := arg4) (f4 := f4) (k0_off7_inb i k h) (if k.val = 0 then 2 * (i 1).val + 1 else 2 * (k.val - 1) + 1) (by
      rw [k0_off7_eq]; congr 2; split <;> split <;> omega)
    have hkey := key_read (arg2 := arg2) (arg3 := arg3) (f2 := f2) (f3 := f3) (arg4 := arg4) (f4 := f4) (k0_off5_inb i k h) (min (k.val + 2) (max (i 1).val 1) - 1) (by
      rw [k0_off5_eq]; congr 2; omega)
    have hacc := hat.acc
    generalize tiles arg2 arg3 arg4 f2 f3 f4 = T at *
    sl_unfold [k0_t1_body]
    sl_exec!
    sl_step
    isplitl [H3]; · iexact H3
    isplitl [H4]; · iexact H4
    iexists _; iexists _; iexists _; iexists _
    isplitl [H6]; · iexact H6
    isplitl [H7]; · iexact H7
    isplitl [H8]; · iexact H8
    isplitl [H9]; · iexact H9
    ipureintro
    subst ha
    have hs : min (k.val + 1 + 1) (max (i 1).val 1) = min (k.val + 2) (max (i 1).val 1) - 1 + 1 := by omega
    refine ⟨?_, ⟨?_, ?_, ?_⟩⟩
    · unfold trip.sl.r_5 trip.sl.r_6; rw [T.run_succ, T.scale_succ]; rfl
    · unfold trip.sl.H9_1_1; rw [ld_self, T.acc_succ]; rfl
    · intro he; omega
    · intro _
      refine ⟨?_, ?_, ?_⟩
      · rw [ld_self, T.prob_succ, T.run_succ]; unfold trip.sl.r_8; rfl
      · rw [ld_self, T.score_pos _ hs]; rfl
      · rw [ld_self, T.colMax_pos _ hs]; rfl

end Cert.Proof.Mla

end
-- ==== Proof.Body.lean ====
/-
  The kernel at one grid point: the diagonal step, the loop over the key tiles below it, the last step.
-/
module

public import proofs.«01_k».proof.Proof.Trip

@[expose] public section

set_option maxRecDepth 16384

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

set_option maxHeartbeats 2000000 in
theorem kernelRun (c : Dev nD) (i : grid0.Coords)
    (arg2 : Memref sig .tc .vmem S1x2x192x256 .bf16) (harg2 : arg2.IsWhole) (arg3 : Memref sig .tc .vmem S1x16384x192 .bf16) (harg3 : arg3.IsWhole) (arg4 : Memref sig .tc .vmem S1x64x144x256 .bf16) (harg4 : arg4.IsWhole) (arg5 : Memref sig .tc .vmem S512x128 .bf16) (harg5 : arg5.IsWhole) (arg6 : Memref sig .tc .vmem S2x512x512 .f32) (harg6 : arg6.IsWhole) (arg7 : Memref sig .tc .vmem S2x1x512 .f32) (harg7 : arg7.IsWhole) (arg8 : Memref sig .tc .vmem S2x512x512 .bf16) (harg8 : arg8.IsWhole) (arg9 : Memref sig .tc .vmem S144x512 .f32) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (Q : PUnit → sProp 𝕄) :
    iprop((pt c arg2 f2 ∗ pt c arg3 f3 ∗ pt c arg4 f4 ∗ pt c arg5 f5 ∗ pt c arg6 f6 ∗ pt c arg7 f7 ∗ pt c arg8 f8 ∗ pt c arg9 f9)
      ∗ ((pt c arg2 f2 ∗ pt c arg3 f3 ∗ pt c arg4 f4
          ∗ (∃ f, pt c arg5 f ∗ ⌜arg5.view.read (Elt F) f = (tiles arg2 arg3 arg4 f2 f3 f4).out (i 1).val⌝)
          ∗ (∃ f, pt c arg6 f) ∗ (∃ f, pt c arg7 f) ∗ (∃ f, pt c arg8 f) ∗ (∃ f, pt c arg9 f)) -∗ Q ⟨⟩))
    ⊢ wp frame (wpE (defs₀ (F := F)) 𝒱₀ (c : Thread nD τ) none) Set.univ
      (cc0_mla_attention i arg2 harg2 arg3 harg3 arg4 harg4 arg5 harg5 arg6 harg6 arg7 harg7 arg8 harg8 arg9 harg9) Q := by
  have hi : (i 1).val < 32 := (i 1).isLt
  have hkey : ld arg3 f3 (k0_off1 i) S1x512x192.size (k0_off1_inb i) = (tiles arg2 arg3 arg4 f2 f3 f4).key (i 1).val :=
    key_read (k0_off1_inb i) (i 1).val (by rw [k0_off1_eq]; congr 2; omega)
  iintro ⟨⟨H2, H3, H4, H5, H6, H7, H8, H9⟩, Hk⟩
  sl_unfold [cc0_mla_attention]
  sl_exec!
  have hq : kernelRun.sl.r c arg2 f2 = (tiles arg2 arg3 arg4 f2 f3 f4).q := rfl
  rw [hq]
  sl_for (inv1 c i arg2 arg3 arg4 arg6 arg7 arg8 arg9 f2 f3 f4) $$ [H3 H4 H6 H7 H8 H9]
  case region =>
    intro k a
    exact trip c i arg2 harg2 arg3 harg3 arg4 harg4 arg5 harg5 arg6 harg6 arg7 harg7 arg8 harg8 arg9 harg9 _ _ _ _ _ f2 f3 f4 k a
  · unfold inv1
    isplitl [H3]; · iexact H3
    isplitl [H4]; · iexact H4
    iexists _, _, _, _
    isplitl [H6]; · iexact H6
    isplitl [H7]; · iexact H7
    isplitl [H8]; · iexact H8
    isplitl [H9]; · iexact H9
    ipureintro
    have hr : kernelRun.sl.v31 c i arg2 arg3 arg4 arg7 f2 f3 f4 = (tiles arg2 arg3 arg4 f2 f3 f4).colMax (i 1).val 0 := by
      unfold kernelRun.sl.v31 kernelRun.sl.H7_1; exact ld_self _ _ _ _ _
    have hs : kernelRun.sl.v33 c i arg2 arg3 arg4 arg6 f2 f3 f4 = (tiles arg2 arg3 arg4 f2 f3 f4).score (i 1).val 0 := by
      unfold kernelRun.sl.v33 kernelRun.sl.H6_1; exact ld_self _ _ _ _ _
    unfold kernelRun.sl.H6_2 kernelRun.sl.H7_2 kernelRun.sl.H9_1 kernelRun.sl.r_1
    rw [hr, hs, hq]
    have h1 : min (0 + 1) (max (i 1).val 1) = 0 + 1 := by omega
    refine ⟨rfl, ⟨ld_self _ _ _ _ _, fun _ => ?_, fun h => absurd h (by decide)⟩⟩
    rw [h1, Tiles.score_pos _ _ rfl, Tiles.colMax_pos _ _ rfl]
    exact ⟨ld_self _ _ _ _ _, ld_self _ _ _ _ _, ld_self _ _ _ _ _⟩
  have ht : Scf.trips (k0_t1_loop i).lb (k0_t1_loop i).ub (k0_t1_loop i).st = (i 1).val := trips1 i
  rw [ht]
  unfold inv1
  iintro %a ⟨H3, H4, ⟨%f6', %f7', %f8', %f9', H6, H7, H8, H9, %hp⟩⟩
  obtain ⟨rfl, hat⟩ := hp
  sl_exec!
  sl_for0 (trips2 i)
  have hacc := hat.acc
  have hv1 := val_read (arg2 := arg2) (arg3 := arg3) (f2 := f2) (f3 := f3) (arg4 := arg4) (f4 := f4) (k0_off14_inb i) (if (i 1).val = 0 then 2 * (i 1).val else 2 * ((i 1).val - 1)) (by
      rw [k0_off14_eq]; congr 2; split <;> omega)
  have hv2 := val_read (arg2 := arg2) (arg3 := arg3) (f2 := f2) (f3 := f3) (arg4 := arg4) (f4 := f4) (k0_off15_inb i) (if (i 1).val = 0 then 2 * (i 1).val + 1 else 2 * ((i 1).val - 1) + 1) (by
      rw [k0_off15_eq]; congr 2; split <;> omega)
  have hprob : ld arg8 f8' (k0_off16 i) S1x512x512.size (k0_off16_inb i) = (tiles arg2 arg3 arg4 f2 f3 f4).prob (i 1).val (i 1).val := by
    rcases Nat.mod_two_eq_zero_or_one (i 1).val with h | h
    · rw [← (hat.even h).1]; exact ld_congr _ _ _ _ (by rw [off16, h])
    · rw [← (hat.odd h).1]; exact ld_congr _ _ _ _ (by rw [off16, h])
  sl_exec!
  unfold kernelRun.sl.H5_1
  sl_step
  iapply Hk
  isplitl [H2]; · iexact H2
  isplitl [H3]; · iexact H3
  isplitl [H4]; · iexact H4
  isplitl [H5]
  · iexists _
    isplitl [H5]; · iexact H5
    ipureintro
    refine (View.read_writes_full _ _ _ _ _).trans ?_
    unfold kernelRun.sl.r_2 kernelRun.sl.r_3
    rfl
  isplitl [H6]; · iexists _; iexact H6
  isplitl [H7]; · iexists _; iexact H7
  isplitl [H8]; · iexists _; iexact H8
  iexists _; iexact H9

end Cert.Proof.Mla

end
-- ==== Proof.Run.lean ====
/-
  The run of the attention program: the pipeline's proof data, the body at every grid point, the launch, and the frame,
  for any float values. The two printed programs have the same text, so the same run serves both.
-/
module

public import proofs.«01_k».proof.Proof.Body
public import proofs.«01_k».proof.Proof.Gen.KernelIdeal.Frame

@[expose] public section

set_option maxRecDepth 16384

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## What a grid point writes -/

/-- The tiles of three staged blocks, given by their entries. -/
def blockTiles (x2 : Vec F S1x2x192x256 .bf16) (x3 : Vec F S1x16384x192 .bf16) (x4 : Vec F S1x64x144x256 .bf16) : Tiles F where
  q0 := fun x => x2 ((Rect.unit (s := S1x2x192x256) ![0, 0, 0, 0] S1x1x192x256.size inb_S1x2x192x256_S1x1x192x256_0_0_0_0).toLoadRect.idx x)
  q1 := fun x => x2 ((Rect.unit (s := S1x2x192x256) ![0, 1, 0, 0] S1x1x192x256.size inb_S1x2x192x256_S1x1x192x256_0_1_0_0).toLoadRect.idx x)
  key n := fun x => x3 ((Rect.unit (s := S1x16384x192) ![0, 512 * min n 31, 0] S1x512x192.size (keyOff_inb n)).toLoadRect.idx x)
  val n := fun x => x4 ((Rect.unit (s := S1x64x144x256) ![0, min n 63, 0, 0] S1x1x144x256.size (valOff_inb n)).toLoadRect.idx x)

theorem tiles_eq (arg2 : Memref sig .tc .vmem S1x2x192x256 .bf16) (arg3 : Memref sig .tc .vmem S1x16384x192 .bf16) (arg4 : Memref sig .tc .vmem S1x64x144x256 .bf16)
    (f2 : arg2.view.ty.Contents (Elt F)) (f3 : arg3.view.ty.Contents (Elt F)) (f4 : arg4.view.ty.Contents (Elt F)) :
    tiles arg2 arg3 arg4 f2 f3 f4 = blockTiles (arg2.view.read (Elt F) f2) (arg3.view.read (Elt F) f3) (arg4.view.read (Elt F) f4) := rfl

/-- The tiles of grid point `t`. -/
def tilesAt (c : Dev nD) (t : Fin cfg0.N) : Tiles F := blockTiles (iblk m c 0 t) (iblk m c 1 t) (iblk m c 2 t)

/-- The block grid point `t` leaves in the result's staging buffer. -/
def outAt (c : Dev nD) (t : Fin cfg0.N) : FVec F S512x128 .bf16 := (tilesAt m c t).out (grid0.coords t 1).val

/-! ## The pipeline's proof data -/

/-- The arrays as the region finds them; each input's buffer left at its block, the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a grid point -/

/-- The kernel's triple in terms of what its staged blocks read. -/
theorem kernelOwns (c : Dev nD) (i : grid0.Coords)
    (arg2 : Memref sig .tc .vmem S1x2x192x256 .bf16) (harg2 : arg2.IsWhole) (arg3 : Memref sig .tc .vmem S1x16384x192 .bf16) (harg3 : arg3.IsWhole) (arg4 : Memref sig .tc .vmem S1x64x144x256 .bf16) (harg4 : arg4.IsWhole) (arg5 : Memref sig .tc .vmem S512x128 .bf16) (harg5 : arg5.IsWhole)
    (x2 : Vec F S1x2x192x256 .bf16) (x3 : Vec F S1x16384x192 .bf16) (x4 : Vec F S1x64x144x256 .bf16) (Q : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ Pipeline.ΦA spec0 c
        ∗ (iprop(owns (c : Thread nD τ) arg2 fullShare x2 ∗ owns (c : Thread nD τ) arg3 fullShare x3 ∗ owns (c : Thread nD τ) arg4 fullShare x4
            ∗ owns (c : Thread nD τ) arg5 fullShare ((blockTiles x2 x3 x4).out (i 1).val) ∗ Pipeline.ΦA spec0 c) -∗ Q ⟨⟩))
      ⊢ wp frame (wpE (defs₀ (F := F)) 𝒱₀ (c : Thread nD τ) none) Set.univ
        (cc0_mla_attention i arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _)) Q := by
  unfold owns Pipeline.ΦA
  rw [scopedRest0_eq, harg2.set_eq_univ, harg3.set_eq_univ, harg4.set_eq_univ, harg5.set_eq_univ]
  iintro ⟨⟨%f2, %h2, H2⟩, ⟨%f3, %h3, H3⟩, ⟨%f4, %h4, H4⟩, ⟨%d5, %f5, -, H5⟩, ⟨⟨⟨%f6, H6⟩, ⟨%f7, H7⟩, ⟨%f8, H8⟩, ⟨%f9, H9⟩⟩, Hρ⟩, Hk⟩
  subst h2 h3 h4
  iapply (kernelRun c i arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) f2 f3 f4 f5 f6 f7 f8 f9 Q)
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H2, H3, H4, ⟨%g5, H5, %h5⟩, H6, H7, H8, H9⟩
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists g5; isplitr; · ipureintro; exact h5
                  iexact H5
  isplitl [H6 H7 H8 H9]
  · isplitl [H6]; · iexact H6
    isplitl [H7]; · iexact H7
    isplitl [H8]; · iexact H8
    iexact H9
  iexact Hρ

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (kernelOwns c (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HΦ]; · iexact HΦ
  iintro ⟨H0, H1, H2, H3, HΦ⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (body_at m c t) rfl .rfl fun _ => .rfl

/-! ## The launch -/

set_option backward.isDefEq.respectTransparency.types false in
/-- Every execution terminates; at every final state the pipeline's arrays are as the proof data computes them, every
    other array as the region found it, every semaphore counter zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The result array after the run. -/
abbrev result (c : Dev nD) : Buf (Elt F) ((c : Thread nD τ).loc main_v28) := (dats m 0 c).arrAt 3 cfg0.N

/-- The run, read at the arrays the claims name: the result's, and the arguments' unchanged. -/
theorem run_result : θ_run defs (onTc (τ := τ) (main (F := F))) ⟨m, fun _ => 0, ρ⟩ (fun r => (∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

/-- The frame: the arguments unchanged, every semaphore counter back at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_result m ρ)

end Cert.Proof.Mla

end
-- ==== Proof.Same.lean ====
/-
  The program and its ideal reading have the same text, hence at any float values the same body table: the frame of the
  one is the frame of the other.
-/
module

public import proofs.«01_k».proof.Proof.Run
public import proofs.«01_k».proof.Proof.Gen.Kernel
public import Idealize.ShloMosaic.PureOps.BitExact
public import Idealize.ShloMosaic.Init

@[expose] public section

set_option maxRecDepth 16384

noncomputable section

namespace Cert.Proof.Mla

open Idealize.ShloMosaic Idealize.ShloMosaic.TcCoe Idealize.SL Idealize.SL.Sem

theorem defs₀_same : Cert.Kernel.defs₀ (F := Bits) = Cert.KernelIdeal.defs₀ (F := Bits) := by
  unfold Cert.Kernel.defs₀ Cert.KernelIdeal.defs₀
  congr 1
  funext l a
  match l, a with
  | 0, (_, _) => rfl
  | ⟨_ + 1, h⟩, _ => exact absurd h (Nat.not_lt.2 (Nat.le_add_left _ _))

theorem defs_same : Cert.Kernel.defs (F := Bits) = Cert.KernelIdeal.defs (F := Bits) :=
  congrArg (Pipeline.defs Cert.KernelIdeal.pcfgs) defs₀_same

theorem run_frame_bits (m : (ℓ : Loc Cert.Kernel.nD Cert.Kernel.τ Cert.Kernel.sig) → Buf (Elt Bits) ℓ) (ρ : Dev Cert.Kernel.nD → PrngReg) :
    θ_run Cert.Kernel.defs (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)) ∧ r.2.sem = fun _ => 0) := by
  rw [defs_same]
  exact run_frame (F := Bits) m ρ

end Cert.Proof.Mla

end
-- ==== Proof.Consts.lean ====
/-
  The literals both programs carry, as extended reals, and the comparison of two positions.
-/
module

public import Idealize.ShloMosaic.Lib.Pointwise
public import Idealize.ShloMosaic.Lib.IdealHost

@[expose] public section

noncomputable section

namespace Cert.Proof.Mla

open Idealize.ShloMosaic

/-- The word of −∞. -/
theorem ofBits_neg_inf : Ideal.ofBits .f32 0xFF800000#32 = ⊥ := by simp [Ideal.ofBits, Ideal.ieee]

/-- The word of +∞. -/
theorem ofBits_inf : Ideal.ofBits .f32 0x7F800000#32 = ⊤ := by simp [Ideal.ofBits, Ideal.ieee]

/-- The word of 2. -/
theorem ofBits_two : Ideal.ofBits .f32 0x40000000#32 = ((2 : ℝ) : EReal) := by
  have e : Ideal.ofBits .f32 0x40000000#32 = (((1 : ℝ) * (2 ^ 23 + 0 : ℕ) * (2 : ℝ) ^ ((128 : ℤ) - (2 ^ 7 - 1) - (23 : ℕ)) : ℝ) : EReal) := by
    simp [Ideal.ofBits, Ideal.ieee]
  rw [e]
  congr 1
  norm_num

/-- The softmax scale's word names a real number. -/
theorem ofBits_scale : ∃ r : ℝ, Ideal.ofBits .f32 0x3D93CD3A#32 = r := by
  simp only [Ideal.ofBits, Ideal.ieee]
  simp
  exact ⟨_, rfl⟩

/-- A choice by the signed comparison of two small positions is a choice by the positions. -/
theorem select_sle {α : Type} (k j : ℕ) (hk : k < 2 ^ 31) (hj : j < 2 ^ 31) (x y : α) :
    Scalar.select (IntOp.cmpi .sle (BitVec.ofNat 32 k) (BitVec.ofNat 32 j)) x y = if k ≤ j then x else y := by
  have h : (BitVec.ofNat 32 k).sle (BitVec.ofNat 32 j) = decide (k ≤ j) := by
    rw [BitVec.sle_eq_decide, BitVec.toInt_ofNat', BitVec.toInt_ofNat']
    congr 1
    rw [Int.bmod_eq_of_le (by omega) (by omega), Int.bmod_eq_of_le (by omega) (by omega)]
    exact propext Int.ofNat_le
  simp only [IntOp.cmpi, Scalar.select, h]
  by_cases hkj : k ≤ j <;> simp [hkj]

end Cert.Proof.Mla

end
-- ==== Proof.Online.lean ====
/-
  The mathematics of the kernel's rescaled sums, over the extended reals: exponentials taken against a running maximum
  and rescaled step by step are the exponentials taken against the last maximum, and their quotient is the softmax
  average, whatever number the exponents are shifted by. Scores are real or −∞ (a masked key); values are anything.
-/
module

public import Idealize.ShloMosaic.PureOps.Ideal

@[expose] public section

noncomputable section

namespace Cert.Proof.Mla.Online

open Idealize.ShloMosaic

/-! ## Exponentials of real or −∞ scores -/

theorem exp2_nonneg (x : EReal) : 0 ≤ Ideal.exp2 x := by
  induction x with
  | bot => simp
  | top => simp
  | coe r => rw [Ideal.exp2_coe]; exact_mod_cast Real.rpow_nonneg zero_le_two r

theorem exp2_ne_top {x : EReal} (hx : x ≠ ⊤) : Ideal.exp2 x ≠ ⊤ := by
  induction x with
  | bot => simp
  | top => exact absurd rfl hx
  | coe r => rw [Ideal.exp2_coe]; exact EReal.coe_ne_top _

theorem sub_coe_ne_top {x : EReal} (hx : x ≠ ⊤) (a : ℝ) : x - a ≠ ⊤ := by
  induction x with
  | bot => simp
  | top => exact absurd rfl hx
  | coe r => rw [← EReal.coe_sub]; exact EReal.coe_ne_top _

/-- A change of the number subtracted in the exponent, as a factor. -/
theorem exp2_rescale {x : EReal} (hx : x ≠ ⊤) (a b : ℝ) :
    Ideal.exp2 ((a : EReal) - b) * Ideal.exp2 (x - a) = Ideal.exp2 (x - b) := by
  induction x with
  | bot => simp
  | top => exact absurd rfl hx
  | coe r =>
    rw [← EReal.coe_sub, ← EReal.coe_sub, ← EReal.coe_sub, Ideal.exp2_coe, Ideal.exp2_coe, Ideal.exp2_coe, ← EReal.coe_mul]
    congr 1
    exact (Real.rpow_add zero_lt_two _ _).symm.trans (congrArg _ (by ring))

/-- Powers of two of scores divided by log 2 are exponentials of the scores, up to one positive factor. -/
theorem exp2_eq_exp {x : EReal} (hx : x ≠ ⊤) (a m : ℝ) :
    Ideal.exp2 (x * ((Real.log 2)⁻¹ : ℝ) - a) = Ideal.exp (x - m) * (Real.exp (m - a * Real.log 2) : ℝ) := by
  have h2 : (0 : ℝ) < Real.log 2 := Real.log_pos one_lt_two
  induction x with
  | bot => rw [EReal.bot_mul_coe_of_pos (inv_pos.mpr h2)]; simp
  | top => exact absurd rfl hx
  | coe r =>
    rw [← EReal.coe_mul, ← EReal.coe_sub, ← EReal.coe_sub, Ideal.exp2_coe, Ideal.exp_coe, ← EReal.coe_mul]
    congr 1
    show (2 : ℝ) ^ (r * (Real.log 2)⁻¹ - a) = _
    rw [Real.rpow_def_of_pos zero_lt_two, ← Real.exp_add]
    congr 1
    field_simp
    ring

/-! ## Sums under a nonnegative real factor -/

theorem mul_sum_of_real {ι : Type*} (s : Finset ι) (f : ι → EReal) {c : EReal} (h0 : 0 ≤ c) (ht : c ≠ ⊤) :
    c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 ht, ih]

/-! ## Maxima -/

theorem fold_max_ne_top {n : ℕ} (f : Fin n → EReal) (h : ∀ k, f k ≠ ⊤) : Finset.univ.fold max ⊥ f ≠ ⊤ :=
  (Finset.fold_max_lt ⊤ |>.mpr ⟨bot_lt_top, fun k _ => lt_top_iff_ne_top.mpr (h k)⟩).ne

theorem fold_max_ne_bot {n : ℕ} (f : Fin n → EReal) (k : Fin n) (h : f k ≠ ⊥) : Finset.univ.fold max ⊥ f ≠ ⊥ :=
  (Finset.lt_fold_max ⊥ |>.mpr (.inr ⟨k, Finset.mem_univ k, bot_lt_iff_ne_bot.mpr h⟩)).ne'

/-- The running maximum is a real number once the first step has a real score. -/
theorem running_max_real {n : ℕ} (S : ℕ → Fin n → EReal) (M : ℕ → EReal) (hS : ∀ t k, S t k ≠ ⊤) (k : Fin n)
    (hk : S 0 k ≠ ⊥) (h0 : M 0 = Finset.univ.fold max ⊥ (S 0)) (hM : ∀ t, M (t + 1) = max (M t) (Finset.univ.fold max ⊥ (S (t + 1)))) :
    ∃ R : ℕ → ℝ, ∀ t, M t = R t := by
  have h : ∀ t, M t ≠ ⊤ ∧ M t ≠ ⊥ := by
    intro t
    induction t with
    | zero => rw [h0]; exact ⟨fold_max_ne_top _ (hS 0), fold_max_ne_bot _ k hk⟩
    | succ t ih =>
      rw [hM]
      exact ⟨(max_lt (lt_top_iff_ne_top.mpr ih.1) (lt_top_iff_ne_top.mpr (fold_max_ne_top _ (hS (t + 1))))).ne,
        (lt_of_lt_of_le (bot_lt_iff_ne_bot.mpr ih.2) (le_max_left _ _)).ne'⟩
  exact ⟨fun t => (M t).toReal, fun t => (EReal.coe_toReal (h t).1 (h t).2).symm⟩

/-! ## The rescaled sums -/

/-- The accumulator after step `t`: every step's values under exponentials taken against step `t`'s maximum. -/
theorem acc_eq {n : ℕ} (S V : ℕ → Fin n → EReal) (R : ℕ → ℝ) (A al : ℕ → EReal) (hS : ∀ t k, S t k ≠ ⊤)
    (h0 : A 0 = 0) (hal : ∀ t, al (t + 1) = Ideal.exp2 ((R t : EReal) - R (t + 1)))
    (hA : ∀ t, A (t + 1) = al t * A t + ∑ k, V t k * Ideal.exp2 (S t k - R t)) (t : ℕ) :
    A (t + 1) = ∑ u ∈ Finset.range (t + 1), ∑ k, V u k * Ideal.exp2 (S u k - R t) := by
  induction t with
  | zero => rw [hA, h0, mul_zero, zero_add, Finset.sum_range_one]
  | succ t ih =>
    have hr : (R t : EReal) - R (t + 1) ≠ ⊤ := by rw [← EReal.coe_sub]; exact EReal.coe_ne_top _
    rw [hA (t + 1), Finset.sum_range_succ, ih, hal, mul_sum_of_real _ _ (exp2_nonneg _) (exp2_ne_top hr)]
    congr 1
    refine Finset.sum_congr rfl fun u _ => ?_
    rw [mul_sum_of_real _ _ (exp2_nonneg _) (exp2_ne_top hr)]
    refine Finset.sum_congr rfl fun k _ => ?_
    rw [mul_left_comm, exp2_rescale (hS u k)]

/-! ## The steps' keys, in order -/

/-- The key block of step `t` at query block `i`: the diagonal block first, then the blocks below it. -/
def block (i t : ℕ) : ℕ := if t = 0 then i else t - 1

/-- The steps of query block `i` run through all keys, the ones past the block giving nothing. -/
theorem sum_steps (f : ℕ → EReal) (i : ℕ) (hi : i < 32) (h : ∀ n, 512 * (i + 1) ≤ n → f n = 0) :
    ∑ t ∈ Finset.range (i + 1), ∑ k : Fin 512, f (512 * block i t + k) = ∑ n : Fin 16384, f n := by
  have hall : ∑ n : Fin 16384, f n = ∑ b ∈ Finset.range 32, ∑ k : Fin 512, f (512 * b + k) := by
    rw [Fin.sum_univ_eq_sum_range f 16384]
    have hs : ∀ B : ℕ, ∑ n ∈ Finset.range (512 * B), f n = ∑ b ∈ Finset.range B, ∑ k : Fin 512, f (512 * b + k) := by
      intro B
      induction B with
      | zero => simp
      | succ B ih =>
        rw [Finset.sum_range_succ, ← ih, Nat.mul_succ, Finset.sum_range_add, Fin.sum_univ_eq_sum_range (fun k => f (512 * B + k)) 512]
    exact hs 32
  rw [hall, Finset.sum_range_succ']
  have hb : ∀ t, block i (t + 1) = t := fun t => rfl
  have h0 : block i 0 = i := rfl
  simp only [hb, h0]
  rw [← Finset.sum_range_succ (fun b => ∑ k : Fin 512, f (512 * b + k))]
  refine Finset.sum_subset (fun b hb => ?_) fun b _ hn => Finset.sum_eq_zero fun k _ => h _ ?_
  · rw [Finset.mem_range] at hb ⊢; omega
  · rw [Finset.mem_range] at hn; omega

/-! ## The quotient -/

theorem exp_nonneg (x : EReal) : 0 ≤ Ideal.exp x := by
  induction x with
  | bot => simp
  | top => simp
  | coe r => rw [Ideal.exp_coe]; exact_mod_cast (Real.exp_pos r).le

theorem exp_ne_top {x : EReal} (hx : x ≠ ⊤) : Ideal.exp x ≠ ⊤ := by
  induction x with
  | bot => simp
  | top => exact absurd rfl hx
  | coe r => rw [Ideal.exp_coe]; exact EReal.coe_ne_top _

/-- The sum of the exponentials is a positive real number, one score being real. -/
theorem sum_exp_real {n : ℕ} (s : Fin n → EReal) (m : ℝ) (hs : ∀ k, s k ≠ ⊤) (k₀ : Fin n) (hk : s k₀ ≠ ⊥) :
    ∃ l : ℝ, 0 < l ∧ ∑ k, Ideal.exp (s k - m) = l := by
  have hr : ∀ k, ∃ e : ℝ, 0 ≤ e ∧ Ideal.exp (s k - m) = e := by
    intro k
    have h0 := exp_nonneg (s k - m)
    have ht := exp_ne_top (sub_coe_ne_top (hs k) m)
    refine ⟨(Ideal.exp (s k - m)).toReal, EReal.toReal_nonneg h0, (EReal.coe_toReal ht fun hb => ?_).symm⟩
    rw [hb] at h0; exact absurd h0 (by simp)
  choose e he0 he using hr
  refine ⟨∑ k, e k, ?_, ?_⟩
  · refine Finset.sum_pos' (fun k _ => he0 k) ⟨k₀, Finset.mem_univ _, ?_⟩
    have h := he k₀
    obtain ⟨r, hr⟩ : ∃ r : ℝ, s k₀ = r := ⟨_, (EReal.coe_toReal (hs k₀) hk).symm⟩
    rw [hr, ← EReal.coe_sub, Ideal.exp_coe] at h
    rw [← EReal.coe_injective h]; exact Real.exp_pos _
  · simp only [he]; exact (map_sum (⟨⟨(↑), EReal.coe_zero⟩, EReal.coe_add⟩ : ℝ →+ EReal) e Finset.univ).symm

/-- The quotient of the two sums of powers of two is the average under the softmax weights. -/
theorem quotient_eq {n : ℕ} (s V : Fin n → EReal) (a m : ℝ) (hs : ∀ k, s k ≠ ⊤) (k₀ : Fin n) (hk : s k₀ ≠ ⊥) :
    Ideal.div (∑ k, V k * Ideal.exp2 (s k * ((Real.log 2)⁻¹ : ℝ) - a)) (∑ k, 1 * Ideal.exp2 (s k * ((Real.log 2)⁻¹ : ℝ) - a))
      = ∑ k, Ideal.div (Ideal.exp (s k - m)) (∑ k', Ideal.exp (s k' - m)) * V k := by
  obtain ⟨l, hl, hL⟩ := sum_exp_real s m hs k₀ hk
  have hc : (0 : ℝ) < Real.exp (m - a * Real.log 2) := Real.exp_pos _
  generalize hcd : Real.exp (m - a * Real.log 2) = c at hc
  have hc0 : (0 : EReal) ≤ c := by exact_mod_cast hc.le
  have e1 : ∀ k, Ideal.exp2 (s k * ((Real.log 2)⁻¹ : ℝ) - a) = c * Ideal.exp (s k - m) := by
    intro k; rw [exp2_eq_exp (hs k) a m, hcd, mul_comm]
  have div_real : ∀ (x : EReal) {y : ℝ}, 0 < y → Ideal.div x y = x * (y⁻¹ : ℝ) := by
    intro x y hy
    have hy' : (y : EReal) ≠ 0 := by exact_mod_cast hy.ne'
    rw [Ideal.div, if_neg hy', EReal.coe_inv]
  simp only [e1, one_mul, mul_left_comm _ (c : EReal)]
  rw [← mul_sum_of_real _ _ hc0 (EReal.coe_ne_top c), ← mul_sum_of_real _ _ hc0 (EReal.coe_ne_top c), hL, ← EReal.coe_mul,
    div_real _ (mul_pos hc hl), mul_comm, mul_inv, EReal.coe_mul, mul_comm ((c⁻¹ : ℝ) : EReal), mul_assoc, ← mul_assoc (((c⁻¹ : ℝ) : EReal)),
    ← EReal.coe_mul, inv_mul_cancel₀ hc.ne', EReal.coe_one, one_mul,
    mul_sum_of_real _ _ (by exact_mod_cast (inv_pos.mpr hl).le) (EReal.coe_ne_top _)]
  refine Finset.sum_congr rfl fun k _ => ?_
  rw [div_real _ hl, mul_comm (V k), ← mul_assoc, mul_comm (Ideal.exp _)]

end Cert.Proof.Mla.Online

end
-- ==== Proof.Spec.lean ====
/-
  What both programs compute, over the extended reals: causal softmax attention, and the kernel's scores against it.

  A query `Q` of head `h` meets key `n` with the product of their 128 own features plus the product of their 64 rotary
  features, both scaled; keys past the query are masked by −∞. The kernel joins the features to 192 and divides the
  scale by log 2: its scores are these, over log 2, when queries and keys are finite.
-/
module

public import proofs.«01_k».proof.Proof.Consts
public import proofs.«01_k».proof.Proof.Online

@[expose] public section

noncomputable section

namespace Cert.Proof.Mla

open Idealize.ShloMosaic

variable (qn : Vec Ideal ⟨4, ![1, 16384, 8, 128]⟩ .f32) (qr : Vec Ideal ⟨4, ![1, 16384, 8, 64]⟩ .f32)
  (kn : Vec Ideal ⟨4, ![1, 16384, 8, 128]⟩ .f32) (kr : Vec Ideal ⟨3, ![1, 16384, 64]⟩ .f32) (v : Vec Ideal ⟨4, ![1, 16384, 8, 128]⟩ .f32)

/-- Feature `d` of query `n` of head `h`: its own features, then the rotary ones. -/
def queryFeature (n : Fin 16384) (h : Fin 8) (d : Fin 192) : EReal :=
  if hd : d.val < 128 then qn (ix4 0 n h ⟨d.val, hd⟩) else qr (ix4 0 n h ⟨d.val - 128, by omega⟩)

/-- Feature `d` of key `n` of head `h`: the head's own features, then the rotary ones that the heads share. -/
def keyFeature (n : Fin 16384) (h : Fin 8) (d : Fin 192) : EReal :=
  if hd : d.val < 128 then kn (ix4 0 n h ⟨d.val, hd⟩) else kr (ix3 0 n ⟨d.val - 128, by omega⟩)

/-- The softmax scale, as both programs write it. -/
def scaleWord : EReal := Ideal.ofBits .f32 0x3D93CD3A#32

/-- The scaled product of query `Q` and key `n`. -/
def raw (h : Fin 8) (Q n : Fin 16384) : EReal :=
  (∑ d : Fin 128, qn (ix4 0 Q h d) * scaleWord * kn (ix4 0 n h d)) + ∑ d : Fin 64, qr (ix4 0 Q h d) * scaleWord * kr (ix3 0 n d)

/-- The causal score: keys past the query are masked. -/
def causal (h : Fin 8) (Q n : Fin 16384) : EReal := if n.val ≤ Q.val then raw qn qr kn kr h Q n else ⊥

/-- The greatest score of a query. -/
def top (h : Fin 8) (Q : Fin 16384) : EReal := Finset.univ.fold max ⊥ fun n => causal qn qr kn kr h Q n

/-- The attention output: the values averaged under the softmax of the scores. -/
def attention (h : Fin 8) (Q : Fin 16384) (d : Fin 128) : EReal :=
  ∑ n, Ideal.div (Ideal.exp (causal qn qr kn kr h Q n - top qn qr kn kr h Q))
    (∑ n', Ideal.exp (causal qn qr kn kr h Q n' - top qn qr kn kr h Q)) * v (ix4 0 n h d)

/-- Every entry of an array is a real number. -/
def Finite {s : Shape} (x : Vec Ideal s .f32) : Prop := ∀ i, ∃ r : ℝ, x i = (r : EReal)

theorem coe_sum {ι : Type*} (s : Finset ι) (f : ι → ℝ) : ((∑ k ∈ s, f k : ℝ) : EReal) = ∑ k ∈ s, (f k : EReal) :=
  map_sum (⟨⟨(↑), EReal.coe_zero⟩, EReal.coe_add⟩ : ℝ →+ EReal) f s

variable {qn qr kn kr}

/-- A scaled product of finite features is a real number, and the kernel's joined product is that number over log 2. -/
theorem raw_real (hqn : Finite qn) (hqr : Finite qr) (hkn : Finite kn) (hkr : Finite kr) (h : Fin 8) (Q n : Fin 16384) :
    ∃ r : ℝ, raw qn qr kn kr h Q n = r ∧
      ∑ d : Fin 192, keyFeature kn kr n h d * (queryFeature qn qr Q h d * Ideal.div scaleWord (Ideal.log (Ideal.ofBits .f32 0x40000000#32)))
        = raw qn qr kn kr h Q n * ((Real.log 2)⁻¹ : ℝ) := by
  choose a ha using hqn
  choose b hb using hqr
  choose a' ha' using hkn
  choose b' hb' using hkr
  obtain ⟨s, hs⟩ := ofBits_scale
  have h2 : (0 : ℝ) < Real.log 2 := Real.log_pos one_lt_two
  have hlog : Ideal.log (Ideal.ofBits .f32 0x40000000#32) = (Real.log 2 : ℝ) := by
    rw [ofBits_two]; exact if_neg (by norm_num)
  have hdiv : Ideal.div scaleWord (Ideal.log (Ideal.ofBits .f32 0x40000000#32)) = ((s * (Real.log 2)⁻¹ : ℝ) : EReal) := by
    have hz : ((Real.log 2 : ℝ) : EReal) ≠ 0 := by exact_mod_cast h2.ne'
    rw [hlog, scaleWord, hs, Ideal.div, if_neg hz, ← EReal.coe_inv, ← EReal.coe_mul]
  have hraw : raw qn qr kn kr h Q n = (((∑ d : Fin 128, a (ix4 0 Q h d) * s * a' (ix4 0 n h d))
      + ∑ d : Fin 64, b (ix4 0 Q h d) * s * b' (ix3 0 n d) : ℝ) : EReal) := by
    unfold raw scaleWord
    rw [EReal.coe_add, coe_sum, coe_sum]
    simp only [ha, hb, ha', hb', hs, EReal.coe_mul]
  refine ⟨_, hraw, ?_⟩
  have hsplit : ∀ f : Fin 192 → EReal, ∑ d, f d = (∑ d : Fin 128, f ⟨d.val, by omega⟩) + ∑ d : Fin 64, f ⟨128 + d.val, by omega⟩ :=
    fun f => Fin.sum_univ_add (a := 128) (b := 64) f
  have e1 : ∀ d : Fin 128, keyFeature kn kr n h ⟨d.val, by omega⟩ = a' (ix4 0 n h d) := fun d => (dif_pos d.isLt).trans (ha' _)
  have e2 : ∀ d : Fin 128, queryFeature qn qr Q h ⟨d.val, by omega⟩ = a (ix4 0 Q h d) := fun d => (dif_pos d.isLt).trans (ha _)
  have hn : ∀ d : Fin 64, ¬ (128 + d.val < 128) := fun d => by omega
  have hc : ∀ d : Fin 64, (⟨128 + d.val - 128, by omega⟩ : Fin 64) = d := fun d => Fin.ext (Nat.add_sub_cancel_left 128 d.val)
  have e3 : ∀ d : Fin 64, keyFeature kn kr n h ⟨128 + d.val, by omega⟩ = b' (ix3 0 n d) := fun d =>
    (dif_neg (hn d)).trans ((congrArg (fun e => kr (ix3 0 n e)) (hc d)).trans (hb' _))
  have e4 : ∀ d : Fin 64, queryFeature qn qr Q h ⟨128 + d.val, by omega⟩ = b (ix4 0 Q h d) := fun d =>
    (dif_neg (hn d)).trans ((congrArg (fun e => qr (ix4 0 Q h e)) (hc d)).trans (hb _))
  rw [hraw, hdiv, hsplit]
  simp only [e1, e2, e3, e4, ← EReal.coe_mul, ← coe_sum, ← EReal.coe_add]
  congr 1
  rw [add_mul, Finset.sum_mul, Finset.sum_mul]
  congr 1 <;> exact Finset.sum_congr rfl fun d _ => by ring

theorem causal_ne_top (hqn : Finite qn) (hqr : Finite qr) (hkn : Finite kn) (hkr : Finite kr) (h : Fin 8) (Q n : Fin 16384) :
    causal qn qr kn kr h Q n ≠ ⊤ := by
  unfold causal
  split
  · obtain ⟨r, hr, -⟩ := raw_real hqn hqr hkn hkr h Q n
    rw [hr]; exact EReal.coe_ne_top r
  · exact bot_ne_top

theorem causal_self (hqn : Finite qn) (hqr : Finite qr) (hkn : Finite kn) (hkr : Finite kr) (h : Fin 8) (Q : Fin 16384) :
    causal qn qr kn kr h Q Q ≠ ⊥ := by
  obtain ⟨r, hr, -⟩ := raw_real hqn hqr hkn hkr h Q Q
  rw [causal, if_pos le_rfl, hr]; exact EReal.coe_ne_bot r

/-- The greatest score is a real number: the query's own key is never masked. -/
theorem top_real (hqn : Finite qn) (hqr : Finite qr) (hkn : Finite kn) (hkr : Finite kr) (h : Fin 8) (Q : Fin 16384) :
    ∃ r : ℝ, top qn qr kn kr h Q = r :=
  ⟨_, (EReal.coe_toReal (Online.fold_max_ne_top _ fun n => causal_ne_top hqn hqr hkn hkr h Q n)
    (Online.fold_max_ne_bot _ Q (causal_self hqn hqr hkn hkr h Q))).symm⟩

end Cert.Proof.Mla

end
-- ==== Proof.Operands.lean ====
/-
  The attention call's three operands at an index, over the extended reals, in terms of the program's arguments.
-/
module

public import proofs.«01_k».proof.Proof.Gen.KernelIdeal.Frame
public import proofs.«01_k».proof.Proof.Spec
public import Idealize.ShloMosaic.Lib.Claim
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe

variable (m : (ℓ : Loc nD τ sig) → Buf (Elt Ideal) ℓ)

/-- The softmax scale over log 2, as the host computes it. -/
def factor : EReal := Ideal.div (Ideal.ofBits .f32 0x3D93CD3A#32) (Ideal.log (Ideal.ofBits .f32 0x40000000#32))

/-- The query operand: feature `d` of query `256 b + x` of head `h`, scaled. -/
theorem query_at (c : Dev nD) (h : Fin 8) (b : Fin 64) (d : Fin 192) (x : Fin 256) :
    V m c main_v11 (ix4 h b d x)
      = queryFeature (m ((c : Thread nD τ).loc main_arg0)) (m ((c : Thread nD τ).loc main_arg1)) ⟨b.val * 256 + x.val, by omega⟩ h d * factor := by
  unfold queryFeature factor
  entry_read
  pointwise
  split <;> rfl

/-- The key operand: the head's own features, then the ones the heads share. -/
theorem key_at (c : Dev nD) (h : Fin 8) (n : Fin 16384) (d : Fin 192) :
    V m c main_v18 (ix3 h n d)
      = keyFeature (m ((c : Thread nD τ).loc main_arg2)) (m ((c : Thread nD τ).loc main_arg3)) n h d := by
  unfold keyFeature
  entry_read
  pointwise

/-- The value operand above its summing rows. -/
theorem value_at (c : Dev nD) (h : Fin 8) (b : Fin 64) (d : Fin 128) (x : Fin 256) :
    V m c main_v27 (ix4 h b ⟨d.val, by omega⟩ x) = m ((c : Thread nD τ).loc main_arg4) (ix4 0 ⟨b.val * 256 + x.val, by omega⟩ h d) := by
  entry_read
  pointwise

/-- The value operand's first summing row is one throughout. -/
theorem ones_at (c : Dev nD) (h : Fin 8) (b : Fin 64) (x : Fin 256) :
    V m c main_v27 (ix4 h b ⟨128, by omega⟩ x) = (1 : EReal) := by
  entry_read
  pointwise
  simp [FloatOps.uitofp, IntOp.cmpi]

end Cert.Proof.Mla

end
-- ==== Proof.TileValue.lean ====
/-
  The kernel's payload terms at one index, over the extended reals.
-/
module

public import proofs.«01_k».proof.Proof.Steps
public import proofs.«01_k».proof.Proof.Consts
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe

/-- Two tiles of 256 columns side by side, at a column. -/
def beside {R : ℕ} (x y : Vec Ideal ⟨4, ![1, 1, R, 256]⟩ .bf16) (d : Fin R) (j : Fin 512) : EReal :=
  if h : j.val < 256 then x (ix4 0 0 d ⟨j.val, h⟩) else y (ix4 0 0 d ⟨j.val - 256, by omega⟩)

theorem pay34_at (q0 q1 : Vec Ideal S1x1x192x256 .bf16) (d : Fin 192) (j : Fin 512) :
    k0_pay34 q0 q1 (ix2 d j) = beside q0 q1 d j := by
  unfold beside
  pointwise [k0_pay34]

/-- The scores of a key tile: one product per half of the tile, over the 192 features. -/
theorem pay2_at (q : FVec Ideal S192x512 .bf16) (kt : Vec Ideal S1x512x192 .bf16) (k j : Fin 512) :
    k0_pay2 q kt (ix2 k j) = ∑ d : Fin 192, kt (ix3 0 k d) * q (ix2 d j) := by
  pointwise [k0_pay2]
  split
  · rfl
  · rename_i h
    refine Finset.sum_congr rfl fun d _ => ?_
    have e : (⟨256 + (k.val - 256), by omega⟩ : Fin 512) = k := Fin.ext (by simp only []; omega)
    exact congrArg (fun n => kt (ix3 0 n d) * q (ix2 d j)) e

theorem pay3_at (q : FVec Ideal S192x512 .bf16) (kt : Vec Ideal S1x512x192 .bf16) (k j : Fin 512) :
    k0_pay3 q kt (ix3 0 k j) = ∑ d : Fin 192, kt (ix3 0 k d) * q (ix2 d j) := by
  rw [← pay2_at]
  pointwise [k0_pay3]

theorem pay4_at (q : FVec Ideal S192x512 .bf16) (kt : Vec Ideal S1x512x192 .bf16) (j : Fin 512) :
    k0_pay4 q kt (ix3 0 0 j) = Finset.univ.fold max ⊥ fun k : Fin 512 => k0_pay3 q kt (ix3 0 k j) := by
  pointwise [k0_pay4, k0_pay3]
  rw [ofBits_neg_inf]

theorem pay35_at (q0 q1 : Vec Ideal S1x1x192x256 .bf16) (kt : Vec Ideal S1x512x192 .bf16) (k j : Fin 512) :
    k0_pay35 q0 q1 kt (ix2 k j) = if k.val ≤ j.val then ∑ d : Fin 192, kt (ix3 0 k d) * beside q0 q1 d j else ⊥ := by
  have e : k0_pay35 q0 q1 kt = select (cmpi .sle (iota .tc S512x512 32 [0] iota_S512x512_d0_w32) (iota .tc S512x512 32 [1] iota_S512x512_d1_w32))
      (k0_pay2 (k0_pay34 q0 q1) kt) (broadcast S512x512 (Scalar.ofBits .f32 0xFF800000#32)) := rfl
  rw [e]
  pointwise [pay2_at, pay34_at]
  rw [ofBits_neg_inf, select_sle k.val j.val (by omega) (by omega)]

theorem pay36_at (q0 q1 : Vec Ideal S1x1x192x256 .bf16) (kt : Vec Ideal S1x512x192 .bf16) (k j : Fin 512) :
    k0_pay36 q0 q1 kt (ix3 0 k j) = if k.val ≤ j.val then ∑ d : Fin 192, kt (ix3 0 k d) * beside q0 q1 d j else ⊥ := by
  rw [← pay35_at]
  pointwise [k0_pay36]

theorem pay37_at (q0 q1 : Vec Ideal S1x1x192x256 .bf16) (kt : Vec Ideal S1x512x192 .bf16) (j : Fin 512) :
    k0_pay37 q0 q1 kt (ix3 0 0 j) = Finset.univ.fold max ⊥ fun k : Fin 512 => k0_pay36 q0 q1 kt (ix3 0 k j) := by
  pointwise [k0_pay37, k0_pay36]
  rw [ofBits_neg_inf]

theorem pay5_at (a : FVec Ideal S1x512 .f32) (b : Vec Ideal S1x1x512 .f32) (j : Fin 512) :
    k0_pay5 a b (ix2 0 j) = max (a (ix2 0 j)) (b (ix3 0 0 j)) := by
  pointwise [k0_pay5]

theorem pay6_at (a : FVec Ideal S1x512 .f32) (b : Vec Ideal S1x1x512 .f32) (j : Fin 512) :
    k0_pay6 a b (ix2 0 j) = Ideal.exp2 (a (ix2 0 j) - k0_pay5 a b (ix2 0 j)) := by
  pointwise [k0_pay6]
  rfl

theorem pay38_at (b : Vec Ideal S1x1x512 .f32) (j : Fin 512) : k0_pay38 b (ix2 0 j) = b (ix3 0 0 j) := by
  pointwise [k0_pay38]

theorem pay39_at (b : Vec Ideal S1x1x512 .f32) (s : Vec Ideal S1x512x512 .f32) (k j : Fin 512) :
    k0_pay39 b s (ix3 0 k j) = Ideal.exp2 (s (ix3 0 k j) - k0_pay38 b (ix2 0 j)) := by
  pointwise [k0_pay39]
  rfl

theorem pay40_at (d : Fin 144) (j : Fin 512) : k0_pay40 (F := Ideal) (ix2 d j) = 0 := by
  pointwise [k0_pay40]

theorem pay44_at (j : Fin 512) : k0_pay44 (F := Ideal) (ix2 0 j) = 1 := by
  pointwise [k0_pay44]

theorem pay45_at (r : FVec Ideal S1x512 .f32) (s : Vec Ideal S1x512x512 .f32) (k j : Fin 512) :
    k0_pay45 (k0_pay9 r (k0_pay7 s)) (ix3 0 k j) = Ideal.exp2 (s (ix3 0 k j) - r (ix2 0 j)) := by
  pointwise [k0_pay45, k0_pay9, k0_pay7]
  rfl

/-- One step of the accumulator. -/
theorem pay8_at (al : FVec Ideal S1x512 .f32) (acc : Vec Ideal S144x512 .f32) (v1 v2 : Vec Ideal S1x1x144x256 .bf16)
    (p : Vec Ideal S1x512x512 .bf16) (d : Fin 144) (j : Fin 512) :
    k0_pay8 al acc v1 v2 p (ix2 d j) = al (ix2 0 j) * acc (ix2 d j) + ∑ k : Fin 512, beside v1 v2 d k * p (ix3 0 k j) := by
  unfold beside
  pointwise [k0_pay8]

/-- The last step and the division by the row of sums. -/
theorem pay1_at (al : FVec Ideal S1x512 .f32) (acc : Vec Ideal S144x512 .f32) (v1 v2 : Vec Ideal S1x1x144x256 .bf16)
    (p : Vec Ideal S1x512x512 .bf16) (j : Fin 512) (d : Fin 128) :
    k0_pay1 (k0_pay49 al acc) (k0_pay50 v1) v2 p (ix2 j d)
      = Ideal.div (k0_pay8 al acc v1 v2 p (ix2 ⟨d.val, by omega⟩ j)) (k0_pay8 al acc v1 v2 p (ix2 ⟨128, by omega⟩ j)) := by
  pointwise [k0_pay1, k0_pay49, k0_pay50, k0_pay8]

end Cert.Proof.Mla

end
-- ==== Proof.Column.lean ====
/-
  One query's column of the kernel's pipeline, over the extended reals: its scores, its running maximum, and its output
  as the quotient of two sums over the steps.
-/
module

public import proofs.«01_k».proof.Proof.TileValue
public import proofs.«01_k».proof.Proof.Online

@[expose] public section

set_option maxRecDepth 16384

noncomputable section

namespace Cert.Proof.Mla

open Cert.KernelIdeal Cert.KernelIdeal.Gen
open Idealize.ShloMosaic Idealize.ShloMosaic.TcCoe
open Online (block)

namespace Tiles
variable (T : Tiles Ideal) (i : ℕ)

/-- The score of key `k` of step `t` for query `j`: masked on the diagonal step past the query's own position. -/
theorem score_at (t : ℕ) (k j : Fin 512) :
    T.score i t (ix3 0 k j)
      = if t = 0 ∧ j.val < k.val then ⊥ else ∑ d : Fin 192, T.key (block i t) (ix3 0 k d) * beside T.q0 T.q1 d j := by
  unfold score block
  by_cases ht : t = 0
  · rw [if_pos ht, if_pos ht, pay36_at]
    by_cases hk : k.val ≤ j.val
    · rw [if_pos hk, if_neg (by omega)]
    · rw [if_neg hk, if_pos ⟨ht, by omega⟩]
  · rw [if_neg ht, if_neg ht, if_neg (fun h => ht h.1), pay3_at]
    simp only [q, pay34_at]

theorem colMax_at (t : ℕ) (j : Fin 512) :
    T.colMax i t (ix3 0 0 j) = Finset.univ.fold max ⊥ fun k : Fin 512 => T.score i t (ix3 0 k j) := by
  unfold colMax score
  by_cases ht : t = 0
  · rw [if_pos ht, if_pos ht, pay37_at]
  · rw [if_neg ht, if_neg ht, pay4_at]

theorem run_zero_at (j : Fin 512) : T.run i 0 (ix2 0 j) = T.colMax i 0 (ix3 0 0 j) := pay38_at _ j

theorem run_succ_at (t : ℕ) (j : Fin 512) :
    T.run i (t + 1) (ix2 0 j) = max (T.run i t (ix2 0 j)) (T.colMax i (t + 1) (ix3 0 0 j)) := by
  rw [run_succ, pay5_at]

theorem scale_succ_at (t : ℕ) (j : Fin 512) :
    T.scale i (t + 1) (ix2 0 j) = Ideal.exp2 (T.run i t (ix2 0 j) - T.run i (t + 1) (ix2 0 j)) := by
  rw [scale_succ, pay6_at, ← run_succ]

theorem prob_at (t : ℕ) (k j : Fin 512) :
    T.prob i t (ix3 0 k j) = Ideal.exp2 (T.score i t (ix3 0 k j) - T.run i t (ix2 0 j)) := by
  cases t with
  | zero => exact pay39_at _ _ k j
  | succ t => rw [prob_succ, pay45_at]

/-- The value of key `k` of step `t` at feature `d`. -/
def value (d : Fin 144) (t : ℕ) (k : Fin 512) : EReal := beside (T.val (2 * block i t)) (T.val (2 * block i t + 1)) d k

theorem value_eq (d : Fin 144) (t : ℕ) (k : Fin 512) : beside (T.v1 i t) (T.v2 i t) d k = T.value i d t k := by
  unfold value v1 v2 block
  by_cases ht : t = 0
  · rw [if_pos ht, if_pos ht, if_pos ht]
  · rw [if_neg ht, if_neg ht, if_neg ht]

theorem acc_zero_at (d : Fin 144) (j : Fin 512) : T.acc i 0 (ix2 d j) = 0 := pay40_at d j

theorem acc_succ_at (t : ℕ) (d : Fin 144) (j : Fin 512) :
    T.acc i (t + 1) (ix2 d j) = T.scale i t (ix2 0 j) * T.acc i t (ix2 d j)
      + ∑ k : Fin 512, T.value i d t k * Ideal.exp2 (T.score i t (ix3 0 k j) - T.run i t (ix2 0 j)) := by
  rw [acc_succ, pay8_at]
  simp only [prob_at, value_eq]

theorem out_at (j : Fin 512) (d : Fin 128) :
    T.out i (ix2 j d) = Ideal.div (T.acc i (i + 1) (ix2 ⟨d.val, by omega⟩ j)) (T.acc i (i + 1) (ix2 ⟨128, by omega⟩ j)) := by
  unfold out
  rw [pay1_at, ← acc_succ]

/-- The output of query `j`: a quotient of two sums over the steps, under powers of two of scores less one real number. -/
theorem out_eq (j : Fin 512) (d : Fin 128) (hS : ∀ t k, T.score i t (ix3 0 k j) ≠ ⊤) (k₀ : Fin 512)
    (hk : T.score i 0 (ix3 0 k₀ j) ≠ ⊥) :
    ∃ r : ℝ, T.out i (ix2 j d) = Ideal.div
      (∑ t ∈ Finset.range (i + 1), ∑ k, T.value i ⟨d.val, by omega⟩ t k * Ideal.exp2 (T.score i t (ix3 0 k j) - r))
      (∑ t ∈ Finset.range (i + 1), ∑ k, T.value i ⟨128, by omega⟩ t k * Ideal.exp2 (T.score i t (ix3 0 k j) - r)) := by
  obtain ⟨R, hR⟩ := Online.running_max_real (fun t k => T.score i t (ix3 0 k j)) (fun t => T.run i t (ix2 0 j)) hS k₀ hk
    (by rw [run_zero_at, colMax_at]) (fun t => by rw [run_succ_at, colMax_at])
  have hacc : ∀ d' : Fin 144, T.acc i (i + 1) (ix2 d' j)
      = ∑ t ∈ Finset.range (i + 1), ∑ k, T.value i d' t k * Ideal.exp2 (T.score i t (ix3 0 k j) - R i) := fun d' =>
    Online.acc_eq (fun t k => T.score i t (ix3 0 k j)) (T.value i d') R (fun t => T.acc i t (ix2 d' j))
      (fun t => T.scale i t (ix2 0 j)) hS (acc_zero_at T i d' j)
      (fun t => by rw [scale_succ_at]; simp only [hR])
      (fun t => by rw [acc_succ_at]; simp only [hR]) i
  exact ⟨R i, by rw [out_at, hacc, hacc]⟩

end Tiles

end Cert.Proof.Mla

end
-- ==== Proof.Blocks.lean ====
/-
  The tiles of a grid point in terms of the operands, and the result array in terms of the grid points' blocks.
-/
module

public import proofs.«01_k».proof.Proof.Run
public import proofs.«01_k».proof.Proof.Operands
public import proofs.«01_k».proof.Proof.Column

@[expose] public section

set_option maxRecDepth 16384

noncomputable section

namespace Cert.Proof.Mla

open Cert.KernelIdeal Cert.KernelIdeal.Gen
open Idealize.ShloMosaic Idealize.ShloMosaic.TcCoe

variable (m : (ℓ : Loc nD τ sig) → Buf (Elt Ideal) ℓ) (c : Dev nD)

/-! ## The windows' blocks -/

theorem index_0 : ∀ t : Fin cfg0.N, (cfg0.win 0).index t = ![(grid0.coords t 0).val, (grid0.coords t 1).val, 0, 0] := by decide +kernel
theorem index_1 : ∀ t : Fin cfg0.N, (cfg0.win 1).index t = ![(grid0.coords t 0).val, 0, 0] := by decide +kernel
theorem index_2 : ∀ t : Fin cfg0.N, (cfg0.win 2).index t = ![(grid0.coords t 0).val, 0, 0, 0] := by decide +kernel
theorem index_3 : ∀ t : Fin cfg0.N, (cfg0.win 3).index t = ![(grid0.coords t 1).val, (grid0.coords t 0).val] := by decide +kernel

/-- The head and the query block of a grid point. -/
def headOf (t : Fin cfg0.N) : Fin 8 := grid0.coords t 0
def blockOf (t : Fin cfg0.N) : Fin 32 := grid0.coords t 1

/-- Query `j` of a grid point's block, among all queries. -/
def queryOf (t : Fin cfg0.N) (j : Fin 512) : Fin 16384 := ⟨512 * (blockOf t).val + j.val, by have := (blockOf t).isLt; omega⟩

theorem place_0 (t : Fin cfg0.N) (a : Fin 2) (d : Fin 192) (x : Fin 256) :
    ((cfg0.win 0).blk t).view.emb (ix4 0 a d x)
      = ix4 (headOf t) ⟨2 * (blockOf t).val + a.val, by have := (blockOf t).isLt; omega⟩ d x := by
  unfold headOf blockOf
  blk_ext [index_0 t]

theorem place_1 (t : Fin cfg0.N) (n : Fin 16384) (d : Fin 192) :
    ((cfg0.win 1).blk t).view.emb (ix3 0 n d) = ix3 (headOf t) n d := by
  unfold headOf
  blk_ext [index_1 t]

theorem place_2 (t : Fin cfg0.N) (b : Fin 64) (d : Fin 144) (x : Fin 256) :
    ((cfg0.win 2).blk t).view.emb (ix4 0 b d x) = ix4 (headOf t) b d x := by
  unfold headOf
  blk_ext [index_2 t]

theorem place_3 (t : Fin cfg0.N) (j : Fin 512) (d : Fin 128) :
    ((cfg0.win 3).blk t).view.emb (ix2 j d)
      = ix2 (queryOf t j) ⟨128 * (headOf t).val + d.val, by have := (headOf t).isLt; omega⟩ := by
  unfold queryOf headOf blockOf
  blk_ext [index_3 t]

/-! ## The tiles -/

/-- The query tile: query `j` of the block, its features scaled. -/
theorem query_tile (t : Fin cfg0.N) (d : Fin 192) (j : Fin 512) :
    beside (tilesAt m c t).q0 (tilesAt m c t).q1 d j
      = queryFeature (m ((c : Thread nD τ).loc main_arg0)) (m ((c : Thread nD τ).loc main_arg1)) (queryOf t j) (headOf t) d * factor := by
  have e : ∀ (a : Fin 2) (x : Fin 256), iblk m c 0 t (ix4 0 a d x)
      = queryFeature (m ((c : Thread nD τ).loc main_arg0)) (m ((c : Thread nD τ).loc main_arg1))
          ⟨(2 * (blockOf t).val + a.val) * 256 + x.val, by have := (blockOf t).isLt; omega⟩ (headOf t) d * factor := fun a x =>
    (congrArg (V m c main_v11) (place_0 t a d x)).trans (query_at m c _ _ d x)
  unfold tilesAt blockTiles beside
  split
  · rename_i hj
    pointwise
    rw [e]
    congr 2
    exact Fin.ext (by unfold queryOf; simp; omega)
  · rename_i hj
    pointwise
    rw [e]
    congr 2
    exact Fin.ext (by unfold queryOf; simp; omega)

/-- Key tile `b`: keys `512 b …`. -/
theorem key_tile (t : Fin cfg0.N) (b : ℕ) (hb : b < 32) (k : Fin 512) (d : Fin 192) :
    (tilesAt m c t).key b (ix3 0 k d)
      = keyFeature (m ((c : Thread nD τ).loc main_arg2)) (m ((c : Thread nD τ).loc main_arg3)) ⟨512 * b + k.val, by omega⟩ (headOf t) d := by
  have e : ∀ n : Fin 16384, iblk m c 1 t (ix3 0 n d)
      = keyFeature (m ((c : Thread nD τ).loc main_arg2)) (m ((c : Thread nD τ).loc main_arg3)) n (headOf t) d := fun n =>
    (congrArg (V m c main_v18) (place_1 t n d)).trans (key_at m c _ n d)
  unfold tilesAt blockTiles
  pointwise
  rw [e]
  congr 1
  exact Fin.ext (by simp; omega)

/-- Value tiles `2 b` and `2 b + 1` side by side: the values of keys `512 b …`. -/
theorem value_tile (t : Fin cfg0.N) (b : ℕ) (hb : b < 32) (k : Fin 512) (d : Fin 128) :
    beside ((tilesAt m c t).val (2 * b)) ((tilesAt m c t).val (2 * b + 1)) ⟨d.val, by omega⟩ k
      = m ((c : Thread nD τ).loc main_arg4) (ix4 0 ⟨512 * b + k.val, by omega⟩ (headOf t) d) := by
  have e : ∀ (a : Fin 64) (x : Fin 256), iblk m c 2 t (ix4 0 a ⟨d.val, by omega⟩ x)
      = m ((c : Thread nD τ).loc main_arg4) (ix4 0 ⟨a.val * 256 + x.val, by omega⟩ (headOf t) d) := fun a x =>
    (congrArg (V m c main_v27) (place_2 t a _ x)).trans (value_at m c _ a d x)
  unfold tilesAt blockTiles beside
  split
  · rename_i hj
    pointwise
    rw [e]
    congr 2
    exact Fin.ext (by simp; omega)
  · rename_i hj
    pointwise
    rw [e]
    congr 2
    exact Fin.ext (by simp; omega)

/-- The summing row of the value tiles is one throughout. -/
theorem ones_tile (t : Fin cfg0.N) (b : ℕ) (k : Fin 512) :
    beside ((tilesAt m c t).val (2 * b)) ((tilesAt m c t).val (2 * b + 1)) ⟨128, by omega⟩ k = 1 := by
  have e : ∀ (a : Fin 64) (x : Fin 256), iblk m c 2 t (ix4 0 a ⟨128, by omega⟩ x) = (1 : EReal) := fun a x =>
    (congrArg (V m c main_v27) (place_2 t a _ x)).trans (ones_at m c _ a x)
  unfold tilesAt blockTiles beside
  split <;> (pointwise; exact e _ _)

/-! ## The result array -/

/-- The result array is `G` as soon as every grid point's block is `G` there. -/
theorem result_eq (G : Buf (Elt Ideal) ((c : Thread nD τ).loc main_v28))
    (h : ∀ (t : Fin cfg0.N) (j : Fin 512) (d : Fin 128), outAt m c t (ix2 j d)
      = G (ix2 (queryOf t j) ⟨128 * (headOf t).val + d.val, by have := (headOf t).isLt; omega⟩)) :
    result m c = G := by
  refine (dats m 0 c).arrAt_eq_of_covers 3 G (by decide +kernel) fun t hf y => ?_
  obtain ⟨j, d, rfl⟩ : ∃ (j : Fin 512) (d : Fin 128), y = ix2 j d := ⟨y 0, y 1, eq_ix2 y⟩
  blk_simp
  rw [after_3, h]
  exact congrArg G (place_3 t j d).symm

end Cert.Proof.Mla

end
-- ==== Proof.Attention.lean ====
/-
  The kernel's result array over the extended reals is causal softmax attention, queries and keys being finite.
-/
module

public import proofs.«01_k».proof.Proof.Blocks

@[expose] public section

set_option maxRecDepth 16384

noncomputable section

namespace Cert.Proof.Mla

open Cert.KernelIdeal Cert.KernelIdeal.Gen
open Idealize.ShloMosaic Idealize.ShloMosaic.TcCoe
open Online (block)

variable (m : (ℓ : Loc nD τ sig) → Buf (Elt Ideal) ℓ) (c : Dev nD)

/-- Queries and keys are finite. -/
def FiniteArgs : Prop :=
  Finite (s := S1x16384x8x128) (m ((c : Thread nD τ).loc main_arg0)) ∧ Finite (s := S1x16384x8x64) (m ((c : Thread nD τ).loc main_arg1))
    ∧ Finite (s := S1x16384x8x128) (m ((c : Thread nD τ).loc main_arg2)) ∧ Finite (s := S1x16384x64) (m ((c : Thread nD τ).loc main_arg3))

/-- The causal score of query `Q` and key `n` of head `h`, from the program's arguments. -/
abbrev scoreOf (h : Fin 8) (Q n : Fin 16384) : EReal :=
  causal (m ((c : Thread nD τ).loc main_arg0)) (m ((c : Thread nD τ).loc main_arg1)) (m ((c : Thread nD τ).loc main_arg2)) (m ((c : Thread nD τ).loc main_arg3)) h Q n

/-- The attention output from the program's arguments. -/
abbrev attentionOf (h : Fin 8) (Q : Fin 16384) (d : Fin 128) : EReal :=
  attention (m ((c : Thread nD τ).loc main_arg0)) (m ((c : Thread nD τ).loc main_arg1)) (m ((c : Thread nD τ).loc main_arg2)) (m ((c : Thread nD τ).loc main_arg3)) (m ((c : Thread nD τ).loc main_arg4)) h Q d

variable {m c}

theorem block_lt {i t : ℕ} (hi : i < 32) (ht : t < i + 1) : block i t < 32 := by unfold block; split <;> omega

/-- A step's scores are the causal scores of its keys, over log 2. -/
theorem score_tile (hf : FiniteArgs m c) (g : Fin cfg0.N) (t : ℕ) (ht : t < (blockOf g).val + 1) (k j : Fin 512) :
    (tilesAt m c g).score (blockOf g).val t (ix3 0 k j)
      = scoreOf m c (headOf g) (queryOf g j) ⟨512 * block (blockOf g).val t + k.val, by have := block_lt (blockOf g).isLt ht; omega⟩
        * ((Real.log 2)⁻¹ : ℝ) := by
  have hb := block_lt (blockOf g).isLt ht
  have h2 : (0 : ℝ) < (Real.log 2)⁻¹ := inv_pos.mpr (Real.log_pos one_lt_two)
  rw [Tiles.score_at, scoreOf, causal]
  by_cases hm : t = 0 ∧ j.val < k.val
  · rw [if_pos hm, if_neg, EReal.bot_mul_coe_of_pos h2]
    obtain ⟨rfl, hk⟩ := hm
    show ¬ (512 * (blockOf g).val + k.val ≤ 512 * (blockOf g).val + j.val)
    omega
  · rw [if_neg hm, if_pos]
    · obtain ⟨r, -, hr⟩ := raw_real hf.1 hf.2.1 hf.2.2.1 hf.2.2.2 (headOf g) (queryOf g j) ⟨512 * block (blockOf g).val t + k.val, by omega⟩
      rw [← hr]
      refine Finset.sum_congr rfl fun d _ => ?_
      rw [key_tile m c g _ hb, query_tile]
      rfl
    · show 512 * block (blockOf g).val t + k.val ≤ 512 * (blockOf g).val + j.val
      unfold block at hb ⊢
      split at hb
      · rename_i h0
        rw [if_pos h0]; have := not_and.mp hm h0; omega
      · rename_i h0
        rw [if_neg h0]; omega

/-- Past the last key tile a step would read the last tile again. -/
theorem key_clamped (g : Fin cfg0.N) (b : ℕ) : (tilesAt m c g).key b = (tilesAt m c g).key (min b 31) := by
  have h : min (min b 31) 31 = min b 31 := by omega
  show (fun x : S1x512x192.Idx => iblk m c 1 g ((Rect.unit (s := S1x16384x192) ![0, 512 * min b 31, 0] S1x512x192.size (keyOff_inb b)).toLoadRect.idx x))
    = fun x => iblk m c 1 g ((Rect.unit (s := S1x16384x192) ![0, 512 * min (min b 31) 31, 0] S1x512x192.size (keyOff_inb (min b 31))).toLoadRect.idx x)
  funext x
  exact congrArg (iblk m c 1 g) (by funext a; apply Fin.ext; fin_cases a <;> simp [LoadRect.idx, h])

/-- Every score is real or −∞. -/
theorem score_ne_top (hf : FiniteArgs m c) (g : Fin cfg0.N) (t : ℕ) (k j : Fin 512) :
    (tilesAt m c g).score (blockOf g).val t (ix3 0 k j) ≠ ⊤ := by
  rw [Tiles.score_at]
  split
  · exact bot_ne_top
  · obtain ⟨r, hr, hs⟩ := raw_real hf.1 hf.2.1 hf.2.2.1 hf.2.2.2 (headOf g) (queryOf g j)
      ⟨512 * min (block (blockOf g).val t) 31 + k.val, by omega⟩
    rw [key_clamped]
    simp only [key_tile m c g _ (show min (block (blockOf g).val t) 31 < 32 by omega), query_tile]
    refine ne_of_eq_of_ne hs ?_
    rw [hr, ← EReal.coe_mul]
    exact EReal.coe_ne_top _

/-- The sum of weighted values over the steps is the sum over all keys. -/
theorem steps_sum (hf : FiniteArgs m c) (g : Fin cfg0.N) (j : Fin 512) (r : ℝ) (d : Fin 144) (W : Fin 16384 → EReal)
    (hW : ∀ b (hb : b < 32) (k : Fin 512), beside ((tilesAt m c g).val (2 * b)) ((tilesAt m c g).val (2 * b + 1)) d k = W ⟨512 * b + k.val, by omega⟩) :
    ∑ t ∈ Finset.range ((blockOf g).val + 1), ∑ k, (tilesAt m c g).value (blockOf g).val d t k
        * Ideal.exp2 ((tilesAt m c g).score (blockOf g).val t (ix3 0 k j) - r)
      = ∑ n, W n * Ideal.exp2 (scoreOf m c (headOf g) (queryOf g j) n * ((Real.log 2)⁻¹ : ℝ) - r) := by
  have h2 : (0 : ℝ) < (Real.log 2)⁻¹ := inv_pos.mpr (Real.log_pos one_lt_two)
  let f : ℕ → EReal := fun n =>
    if h : n < 16384 then W ⟨n, h⟩ * Ideal.exp2 (scoreOf m c (headOf g) (queryOf g j) ⟨n, h⟩ * ((Real.log 2)⁻¹ : ℝ) - r) else 0
  have hz : ∀ n, 512 * ((blockOf g).val + 1) ≤ n → f n = 0 := by
    intro n hn
    by_cases h : n < 16384
    · have hq : ¬ (n ≤ 512 * (blockOf g).val + j.val) := by omega
      have hs : scoreOf m c (headOf g) (queryOf g j) ⟨n, h⟩ = ⊥ := if_neg hq
      show dite _ _ _ = _
      rw [dif_pos h, hs, EReal.bot_mul_coe_of_pos h2, EReal.bot_sub, Ideal.exp2_bot, mul_zero]
    · exact dif_neg h
  have hall : ∑ n : Fin 16384, f n = ∑ n, W n * Ideal.exp2 (scoreOf m c (headOf g) (queryOf g j) n * ((Real.log 2)⁻¹ : ℝ) - r) :=
    Finset.sum_congr rfl fun n _ => dif_pos n.isLt
  rw [← hall, ← Online.sum_steps f (blockOf g).val (blockOf g).isLt hz]
  refine Finset.sum_congr rfl fun t ht => Finset.sum_congr rfl fun k _ => ?_
  have ht' := Finset.mem_range.mp ht
  have hb := block_lt (blockOf g).isLt ht'
  have hn : 512 * block (blockOf g).val t + k.val < 16384 := by omega
  refine Eq.trans ?_ (dif_pos hn).symm
  rw [score_tile hf g t ht', Tiles.value, hW _ hb]

/-- A query's own key has a score above −∞. -/
theorem score_self (hf : FiniteArgs m c) (g : Fin cfg0.N) (j : Fin 512) : (tilesAt m c g).score (blockOf g).val 0 (ix3 0 j j) ≠ ⊥ := by
  obtain ⟨x, hx, -⟩ := raw_real hf.1 hf.2.1 hf.2.2.1 hf.2.2.2 (headOf g) (queryOf g j) (queryOf g j)
  have e : scoreOf m c (headOf g) (queryOf g j) (queryOf g j) = x := (if_pos le_rfl).trans hx
  have hq : ∀ h : 512 * block (blockOf g).val 0 + j.val < 16384, (⟨512 * block (blockOf g).val 0 + j.val, h⟩ : Fin 16384) = queryOf g j :=
    fun h => Fin.ext rfl
  rw [score_tile hf g 0 (Nat.succ_pos _) j j, hq, e, ← EReal.coe_mul]
  exact EReal.coe_ne_bot _

/-- A grid point's block is the attention output of its queries. -/
theorem outAt_eq (hf : FiniteArgs m c) (g : Fin cfg0.N) (j : Fin 512) (d : Fin 128) :
    outAt m c g (ix2 j d) = attentionOf m c (headOf g) (queryOf g j) d := by
  have hs : ∀ n, scoreOf m c (headOf g) (queryOf g j) n ≠ ⊤ := causal_ne_top hf.1 hf.2.1 hf.2.2.1 hf.2.2.2 _ _
  have hself : scoreOf m c (headOf g) (queryOf g j) (queryOf g j) ≠ ⊥ := causal_self hf.1 hf.2.1 hf.2.2.1 hf.2.2.2 _ _
  have h0 := score_self hf g j
  obtain ⟨r, hr⟩ := Tiles.out_eq (tilesAt m c g) (blockOf g).val j d (fun t k => score_ne_top hf g t k j) j h0
  obtain ⟨M, hM⟩ := top_real hf.1 hf.2.1 hf.2.2.1 hf.2.2.2 (headOf g) (queryOf g j)
  have hq := Online.quotient_eq (scoreOf m c (headOf g) (queryOf g j)) (fun n => m ((c : Thread nD τ).loc main_arg4) (ix4 0 n (headOf g) d)) r M hs (queryOf g j) hself
  have e1 := steps_sum hf g j r ⟨d.val, by omega⟩ (fun n => m ((c : Thread nD τ).loc main_arg4) (ix4 0 n (headOf g) d)) (fun b hb k => value_tile m c g b hb k d)
  have e2 := steps_sum hf g j r ⟨128, by omega⟩ (fun _ => 1) (fun b _ k => ones_tile m c g b k)
  have e3 : (tilesAt m c g).out (blockOf g).val (ix2 j d) = _ := hr.trans ((congr (congrArg Ideal.div e1) e2).trans hq)
  have e4 : attentionOf m c (headOf g) (queryOf g j) d
      = ∑ n, Ideal.div (Ideal.exp (scoreOf m c (headOf g) (queryOf g j) n - (M : EReal))) (∑ n', Ideal.exp (scoreOf m c (headOf g) (queryOf g j) n' - (M : EReal)))
          * m ((c : Thread nD τ).loc main_arg4) (ix4 0 n (headOf g) d) := by
    rw [← hM]; rfl
  exact Eq.trans (congrFun (show outAt m c g = (tilesAt m c g).out (blockOf g).val from rfl) (ix2 j d)) (e3.trans e4.symm)

/-- The attention output as the result array lays it out: query by query, the heads' features side by side. -/
def attentionArray (m : (ℓ : Loc nD τ sig) → Buf (Elt Ideal) ℓ) (c : Dev nD) : FVec Ideal S16384x1024 .bf16 := fun i =>
  attentionOf m c ⟨(i 1).val / 128, by have h : (i 1).val < 1024 := (i 1).isLt; omega⟩ (i 0) ⟨(i 1).val % 128, by omega⟩

/-- The kernel's result is the attention output. -/
theorem result_attention (hf : FiniteArgs m c) : result m c = attentionArray m c := by
  refine result_eq m c _ fun g j d => ?_
  rw [outAt_eq hf]
  unfold attentionArray
  have e1 : (⟨(128 * (headOf g).val + d.val) / 128, by have := (headOf g).isLt; omega⟩ : Fin 8) = headOf g := Fin.ext (by simp only []; omega)
  have e2 : (⟨(128 * (headOf g).val + d.val) % 128, by omega⟩ : Fin 128) = d := Fin.ext (by simp only []; omega)
  exact (congr (congrArg (fun h => attentionOf m c h (queryOf g j)) e1) e2).symm

end Cert.Proof.Mla

end
-- ==== Proof.Precondition.lean ====
/-
  The precondition, read: every entry of the queries and keys is a real number.
-/
module

public import proofs.«01_k».proof.Defs
public import proofs.«01_k».proof.Proof.Gen.Pre_finite_scores
public import proofs.«01_k».proof.Proof.Attention
public import Idealize.ShloMosaic.Lib.ReduceAll

@[expose] public section

noncomputable section

namespace Cert.Proof.Mla

open Idealize.ShloMosaic Idealize.ShloMosaic.TcCoe

instance : Subsingleton Cert.Pre_finite_scores.S_.Idx := ⟨fun _ _ => funext fun a => a.elim0⟩

/-- A value whose absolute value is below +∞ is real. -/
theorem real_of_abs_lt (x : EReal) (h : Ideal.cmp .olt (max x (-x)) (Ideal.ofBits .f32 0x7F800000#32) = 1#1) : ∃ r : ℝ, x = r := by
  rw [ofBits_inf] at h
  induction x with
  | bot => simp [Ideal.cmp] at h
  | coe r => exact ⟨r, rfl⟩
  | top => simp [Ideal.cmp] at h

/-- One array's clause: if all its absolute values compare below +∞, the array is finite. -/
theorem finite_of_all {s u : Shape} {axes : List (Fin s.rank)} [Subsingleton u.Idx] (x : FVec Ideal s .f32) (y : FVec Ideal s .f32) (init : u.Idx → BitVec 1)
    (h : s.ReducesTo axes u) (hu : 0 < u.numel) (j : u.Idx) (hy : ∀ i, y i = Ideal.ofBits .f32 0x7F800000#32)
    (e : Host.reduce IntOp.andi (cmpf .olt (Host.absf x) y) init h hu j = 1#1) : Finite x := fun i => by
  have hi := Host.reduce_andi_all _ _ _ _ j e i
  refine real_of_abs_lt (x i) ?_
  rw [← hy i]
  exact hi

/-- The precondition makes the queries and keys finite. -/
theorem finite_args (m : (ℓ : Loc Cert.KernelIdeal.nD Cert.KernelIdeal.τ Cert.KernelIdeal.sig) → Buf (Elt Ideal) ℓ)
    (h : Cert.Pre_KernelIdeal_finite_scores m) (c : Dev Cert.KernelIdeal.nD) : FiniteArgs m c := by
  have e := congrFun (h c) ix0
  unfold Cert.Pre_finite_scores.fn Cert.Pre_finite_scores.fn_part1 at e
  obtain ⟨e, e3⟩ := IntOp.andi_eq_one.1 e
  obtain ⟨e, e2⟩ := IntOp.andi_eq_one.1 e
  obtain ⟨e0, e1⟩ := IntOp.andi_eq_one.1 e
  have f0 := finite_of_all _ _ _ _ _ _ (fun _ => rfl) e0
  have f1 := finite_of_all _ _ _ _ _ _ (fun _ => rfl) e1
  have f2 := finite_of_all _ _ _ _ _ _ (fun _ => rfl) e2
  have f3 := finite_of_all _ _ _ _ _ _ (fun _ => rfl) e3
  exact ⟨f0, f1, f2, f3⟩

end Cert.Proof.Mla

end
-- ==== Proof.OutSame.lean ====
/-
  The output projection's two forms and their ideal readings have the same texts, hence at any float values the same body
  tables: the frame of the ideal reading's run serves for both.
-/
module

public import proofs.«01_k».proof.Proof.Gen.OutProj
public import proofs.«01_k».proof.Proof.Gen.OutProjEven
public import proofs.«01_k».proof.Proof.Gen.OutProjIdeal.Frame
public import proofs.«01_k».proof.Proof.Gen.OutProjEvenIdeal.Frame
public import Idealize.ShloMosaic.PureOps.BitExact
public import Idealize.ShloMosaic.Init

@[expose] public section

set_option maxRecDepth 16384

noncomputable section

namespace Cert.Proof

open Idealize.ShloMosaic Idealize.ShloMosaic.TcCoe Idealize.SL Idealize.SL.Sem

namespace Out

theorem defs₀_same : Cert.OutProj.defs₀ (F := Bits) = Cert.OutProjIdeal.defs₀ (F := Bits) := by
  unfold Cert.OutProj.defs₀ Cert.OutProjIdeal.defs₀
  congr 1
  funext l a
  match l, a with
  | 0, (_, _) => rfl
  | ⟨_ + 1, h⟩, _ => exact absurd h (Nat.not_lt.2 (Nat.le_add_left _ _))

theorem defs_same : Cert.OutProj.defs (F := Bits) = Cert.OutProjIdeal.defs (F := Bits) :=
  congrArg (Pipeline.defs Cert.OutProjIdeal.pcfgs) defs₀_same

theorem run_frame_bits (m : (ℓ : Loc Cert.OutProj.nD Cert.OutProj.τ Cert.OutProj.sig) → Buf (Elt Bits) ℓ) (ρ : Dev Cert.OutProj.nD → PrngReg) :
    θ_run Cert.OutProj.defs (onTc (τ := Cert.OutProj.τ) (Cert.OutProj.main (F := Bits))) ⟨m, fun _ => 0, ρ⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0) := by
  rw [defs_same]
  exact Cert.OutProjIdeal.Gen.frame (F := Bits) m ρ

end Out

namespace OutEven

theorem defs₀_same : Cert.OutProjEven.defs₀ (F := Bits) = Cert.OutProjEvenIdeal.defs₀ (F := Bits) := by
  unfold Cert.OutProjEven.defs₀ Cert.OutProjEvenIdeal.defs₀
  congr 1
  funext l a
  match l, a with
  | 0, (_, _) => rfl
  | ⟨_ + 1, h⟩, _ => exact absurd h (Nat.not_lt.2 (Nat.le_add_left _ _))

theorem defs_same : Cert.OutProjEven.defs (F := Bits) = Cert.OutProjEvenIdeal.defs (F := Bits) :=
  congrArg (Pipeline.defs Cert.OutProjEvenIdeal.pcfgs) defs₀_same

theorem run_frame_bits (m : (ℓ : Loc Cert.OutProjEven.nD Cert.OutProjEven.τ Cert.OutProjEven.sig) → Buf (Elt Bits) ℓ) (ρ : Dev Cert.OutProjEven.nD → PrngReg) :
    θ_run Cert.OutProjEven.defs (onTc (τ := Cert.OutProjEven.τ) (Cert.OutProjEven.main (F := Bits))) ⟨m, fun _ => 0, ρ⟩ (fun r => (∀ c : Dev Cert.OutProjEven.nD,
      r.2.mem ((c.tc : Thread Cert.OutProjEven.nD Cert.OutProjEven.τ).loc Cert.OutProjEven.main_arg0) = m ((c.tc : Thread Cert.OutProjEven.nD Cert.OutProjEven.τ).loc Cert.OutProjEven.main_arg0)
      ∧ r.2.mem ((c.tc : Thread Cert.OutProjEven.nD Cert.OutProjEven.τ).loc Cert.OutProjEven.main_arg1) = m ((c.tc : Thread Cert.OutProjEven.nD Cert.OutProjEven.τ).loc Cert.OutProjEven.main_arg1)
      ∧ r.2.mem ((c.tc : Thread Cert.OutProjEven.nD Cert.OutProjEven.τ).loc Cert.OutProjEven.main_arg2) = m ((c.tc : Thread Cert.OutProjEven.nD Cert.OutProjEven.τ).loc Cert.OutProjEven.main_arg2)
      ∧ r.2.mem ((c.tc : Thread Cert.OutProjEven.nD Cert.OutProjEven.τ).loc Cert.OutProjEven.main_arg3) = m ((c.tc : Thread Cert.OutProjEven.nD Cert.OutProjEven.τ).loc Cert.OutProjEven.main_arg3)
      ∧ r.2.mem ((c.tc : Thread Cert.OutProjEven.nD Cert.OutProjEven.τ).loc Cert.OutProjEven.main_arg4) = m ((c.tc : Thread Cert.OutProjEven.nD Cert.OutProjEven.τ).loc Cert.OutProjEven.main_arg4)
      ∧ r.2.mem ((c.tc : Thread Cert.OutProjEven.nD Cert.OutProjEven.τ).loc Cert.OutProjEven.main_arg5) = m ((c.tc : Thread Cert.OutProjEven.nD Cert.OutProjEven.τ).loc Cert.OutProjEven.main_arg5)
      ∧ r.2.mem ((c.tc : Thread Cert.OutProjEven.nD Cert.OutProjEven.τ).loc Cert.OutProjEven.main_arg6) = m ((c.tc : Thread Cert.OutProjEven.nD Cert.OutProjEven.τ).loc Cert.OutProjEven.main_arg6)
      ∧ r.2.mem ((c.tc : Thread Cert.OutProjEven.nD Cert.OutProjEven.τ).loc Cert.OutProjEven.main_arg7) = m ((c.tc : Thread Cert.OutProjEven.nD Cert.OutProjEven.τ).loc Cert.OutProjEven.main_arg7)
      ∧ r.2.mem ((c.tc : Thread Cert.OutProjEven.nD Cert.OutProjEven.τ).loc Cert.OutProjEven.main_arg8) = m ((c.tc : Thread Cert.OutProjEven.nD Cert.OutProjEven.τ).loc Cert.OutProjEven.main_arg8)
      ∧ r.2.mem ((c.tc : Thread Cert.OutProjEven.nD Cert.OutProjEven.τ).loc Cert.OutProjEven.main_arg9) = m ((c.tc : Thread Cert.OutProjEven.nD Cert.OutProjEven.τ).loc Cert.OutProjEven.main_arg9))
      ∧ r.2.sem = fun _ => 0) := by
  rw [defs_same]
  exact Cert.OutProjEvenIdeal.Gen.frame (F := Bits) m ρ

end OutEven

end Cert.Proof

end
-- ==== Proof.OutSpec.lean ====
/-
  What the output projection computes for one position, over the extended reals: the residual stream, its normalised
  and modulated features, and the scores of its queries against the sub-keys. Both forms of the call and both references
  are stated in these words; they differ only in the projected row that they start from.
-/
module

public import Idealize.ShloMosaic.Lib.Pointwise
public import Idealize.ShloMosaic.Lib.IdealHost

@[expose] public section

noncomputable section

namespace Cert.Proof.Out

open Idealize.ShloMosaic

/-- A row of mixed features, projected. -/
def project (o : Fin 1024 → EReal) (w : Vec Ideal ⟨2, ![1024, 1024]⟩ .f32) (e : Fin 1024) : EReal := ∑ k, o k * w (ix2 k e)

/-- The residual stream behind the mixer: the stream before it plus the gated projection. -/
def stream (x g y : Fin 1024 → EReal) (e : Fin 1024) : EReal := x e + g e * y e

/-- The features of a position under root-mean-square normalisation, weight, scale and shift. -/
def hidden (x w sc sh : Fin 1024 → EReal) (e : Fin 1024) : EReal :=
  x e * Ideal.rsqrt (Ideal.div (∑ k, x k * x k) (Ideal.ofBits .f32 0x44800000#32) + Ideal.ofBits .f32 0x358637BD#32) * w e
    * (Ideal.ofBits .f32 0x3F800000#32 + sc e) + sh e

/-- Feature `j` of a position's queries. -/
def query (h : Fin 1024 → EReal) (wq : Vec Ideal ⟨2, ![1024, 2048]⟩ .f32) (j : Fin 2048) : EReal := ∑ k, h k * wq (ix2 k j)

/-- The score of sub-key `n` of half `p` of head `a`. -/
def score (h : Fin 1024 → EReal) (wq : Vec Ideal ⟨2, ![1024, 2048]⟩ .f32) (keys : Vec Ideal ⟨4, ![8, 2, 128, 128]⟩ .f32)
    (a : Fin 16) (n : Fin 128) : EReal :=
  ∑ d : Fin 128, keys (ix4 ⟨a.val / 2, by omega⟩ ⟨a.val % 2, by omega⟩ n d) * query h wq ⟨128 * a.val + d.val, by omega⟩

section
variable (mix : Fin 16384 → Fin 1024 → EReal) (w : Vec Ideal ⟨2, ![1024, 1024]⟩ .f32) (x : Vec Ideal ⟨3, ![1, 16384, 1024]⟩ .f32)
  (g : Vec Ideal ⟨3, ![1, 1, 1024]⟩ .f32) (nw : Vec Ideal ⟨1, ![1024]⟩ .f32) (sc sh : Vec Ideal ⟨3, ![1, 1, 1024]⟩ .f32)
  (wq : Vec Ideal ⟨2, ![1024, 2048]⟩ .f32) (keys : Vec Ideal ⟨4, ![8, 2, 128, 128]⟩ .f32)

/-- The residual stream at position `Q`, from the layer's arrays and the mixed features. -/
def streamAt (Q : Fin 16384) : Fin 1024 → EReal :=
  stream (fun e => x (ix3 0 Q e)) (fun e => g (ix3 0 0 e)) (project (mix Q) w)

/-- The normalised features at position `Q`. -/
def hiddenAt (Q : Fin 16384) : Fin 1024 → EReal :=
  hidden (streamAt mix w x g Q) (fun e => nw (ix1 e)) (fun e => sc (ix3 0 0 e)) fun e => sh (ix3 0 0 e)

/-- The three results: the stream and the normalised features by position, the scores by sub-key and position. -/
def streamOut : Vec Ideal ⟨2, ![16384, 1024]⟩ .f32 := fun y => streamAt mix w x g (y 0) (y 1)
def hiddenOut : Vec Ideal ⟨2, ![16384, 1024]⟩ .bf16 := fun y => hiddenAt mix w x g nw sc sh (y 0) (y 1)
def scoreOut : Vec Ideal ⟨3, ![16, 128, 16384]⟩ .f32 := fun y => score (hiddenAt mix w x g nw sc sh (y 2)) wq keys (y 0) (y 1)

end

/-- The mixed features of an odd layer. -/
def whole (o : Vec Ideal ⟨3, ![1, 16384, 1024]⟩ .f32) (Q : Fin 16384) (k : Fin 1024) : EReal := o (ix3 0 Q k)

/-- The mixed features of an even layer: those of its one mixer, then those of its other. -/
def joined (oa ob : Vec Ideal ⟨3, ![1, 16384, 512]⟩ .f32) (Q : Fin 16384) (k : Fin 1024) : EReal :=
  if h : k.val < 512 then oa (ix3 0 Q ⟨k.val, h⟩) else ob (ix3 0 Q ⟨k.val - 512, by omega⟩)

/-- A sum over the joined features is the sum over the one half plus the sum over the other. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

/-- The projection of joined features is the one half's plus the other half's. -/
theorem project_joined (oa ob : Vec Ideal ⟨3, ![1, 16384, 512]⟩ .f32) (w : Vec Ideal ⟨2, ![1024, 1024]⟩ .f32) (Q : Fin 16384) (e : Fin 1024) :
    project (joined oa ob Q) w e
      = (∑ k : Fin 512, oa (ix3 0 Q k) * w (ix2 ⟨k.val, by omega⟩ e)) + ∑ k : Fin 512, ob (ix3 0 Q k) * w (ix2 ⟨512 + k.val, by omega⟩ e) := by
  have hn : ∀ k : Fin 512, ¬ (512 + k.val < 512) := fun k => by omega
  have hc : ∀ k : Fin 512, (⟨512 + k.val - 512, by omega⟩ : Fin 512) = k := fun k => Fin.ext (Nat.add_sub_cancel_left 512 k.val)
  have e1 : ∀ k : Fin 512, joined oa ob Q ⟨k.val, by omega⟩ = oa (ix3 0 Q k) := fun k => dif_pos k.isLt
  have e2 : ∀ k : Fin 512, joined oa ob Q ⟨512 + k.val, by omega⟩ = ob (ix3 0 Q k) := fun k =>
    (dif_neg (hn k)).trans (congrArg (fun d => ob (ix3 0 Q d)) (hc k))
  rw [project, sum_halves]
  simp only [e1, e2]

end Cert.Proof.Out

end
-- ==== Proof.OutTile.lean ====
/-
  The output projection's body at one grid point, over the extended reals: what it leaves in its three output tiles,
  index by index, in terms of its input tiles.
-/
module

public import proofs.«01_k».proof.Proof.Gen.OutProjIdeal.Value
public import proofs.«01_k».proof.Proof.OutSpec
public import Idealize.ShloMosaic.Lib.Pipeline.ValueKit

@[expose] public section

set_option maxRecDepth 16384

noncomputable section

namespace Cert.Proof.Out

open Cert.OutProjIdeal Cert.OutProjIdeal.Gen
open Idealize.ShloMosaic Idealize.ShloMosaic.TcCoe

variable (x0 : Vec Ideal S256x1024 .bf16) (x1 : Vec Ideal S1024x1024 .bf16) (x2 : Vec Ideal S256x1024 .f32) (x3 x4 x5 x6 : Vec Ideal S1x1024 .f32)
  (x7 : Vec Ideal S1024x2048 .bf16) (x8 : Vec Ideal S16x128x128 .bf16)

/-- Row `r` of the residual tile. -/
def streamRow (r : Fin 256) : Fin 1024 → EReal :=
  stream (fun e => x2 (ix2 r e)) (fun e => x3 (ix2 0 e)) fun e => ∑ k, x0 (ix2 r k) * x1 (ix2 k e)

/-- Row `r` of the normalised tile. -/
def hiddenRow (r : Fin 256) : Fin 1024 → EReal :=
  hidden (streamRow x0 x1 x2 x3 r) (fun e => x4 (ix2 0 e)) (fun e => x5 (ix2 0 e)) fun e => x6 (ix2 0 e)

theorem pay2_at (r : Fin 256) (e : Fin 1024) : k0_pay2 (F := Ideal) x0 x1 x2 x3 (ix2 r e) = streamRow x0 x1 x2 x3 r e := by
  unfold streamRow stream
  pointwise [k0_pay2]

theorem pay3_at (r : Fin 256) (e : Fin 1024) : k0_pay3 (F := Ideal) x0 x1 x2 x3 x4 x5 x6 (ix2 r e) = hiddenRow x0 x1 x2 x3 x4 x5 x6 r e := by
  unfold hiddenRow hidden
  pointwise [k0_pay3, pay2_at]

theorem pay5_at (h : FVec Ideal S256x1024 .f32) (r : Fin 256) (j : Fin 2048) :
    k0_pay5 h x7 (ix2 r j) = query (fun k => h (ix2 r k)) x7 j := by
  unfold query
  pointwise [k0_pay5, k0_pay4]

theorem out9_at (r : Fin 256) (e : Fin 1024) : out0_9 x0 x1 x2 x3 x4 x5 x6 x7 x8 (ix2 r e) = streamRow x0 x1 x2 x3 r e := by
  unfold out0_9
  frame_out
  exact pay2_at _ _ _ _ r e

theorem out10_at (r : Fin 256) (e : Fin 1024) :
    out0_10 x0 x1 x2 x3 x4 x5 x6 x7 x8 (ix2 r e) = hiddenRow x0 x1 x2 x3 x4 x5 x6 r e := by
  unfold_out out0_10
  frame_out
  exact pay3_at _ _ _ _ _ _ _ r e

/-- The scores of sub-key `n` for row `r`, from the queries `q` and the sub-keys of one half of a head. -/
def pieceAt (q : FVec Ideal S256x2048 .bf16) (a : Fin 16) (n : Fin 128) (r : Fin 256) : EReal :=
  ∑ d : Fin 128, x8 (ix3 a n d) * q (ix2 r ⟨128 * a.val + d.val, by omega⟩)

/-- A store of one half of a head's scores lands in its own plane of the tile. -/
theorem piece_of (q : FVec Ideal S256x2048 .bf16) (a : Fin 16) {inb : ∀ i, (![a.val, 0, 0] : Fin 3 → ℕ) i + S1x128x256.size i ≤ S16x128x256.size i}
    {p : Vec Ideal S1x128x256 .f32} (h : ∀ (n : Fin 128) (r : Fin 256), p (ix3 0 n r) = pieceAt x8 q a n r)
    (y : (Rect.unit (s := S16x128x256) ![a.val, 0, 0] S1x128x256.size inb).shape.Idx) :
    p y = (fun y : S16x128x256.Idx => pieceAt x8 q (y 0) (y 1) (y 2)) ((Rect.unit (s := S16x128x256) ![a.val, 0, 0] S1x128x256.size inb).emb y) := by
  obtain ⟨n, r, rfl⟩ : ∃ (n : Fin 128) (r : Fin 256), y = ix3 0 n r := ⟨y 1, y 2, by
    funext i; fin_cases i
    · exact Subsingleton.elim (α := Fin 1) _ _
    · rfl
    · rfl⟩
  have e : (Rect.unit (s := S16x128x256) ![a.val, 0, 0] S1x128x256.size inb).emb (ix3 0 n r) = ix3 a n r := by
    funext i; apply Fin.ext; fin_cases i <;> simp
  rw [e]
  exact h n r

/-- The third output tile, whole: each of its sixteen stores leaves the scores of its half of a head. -/
theorem out11_at (a : Fin 16) (n : Fin 128) (r : Fin 256) :
    out0_11 x0 x1 x2 x3 x4 x5 x6 x7 x8 (ix3 a n r) = pieceAt x8 (k0_pay22 x0 x1 x2 x3 x4 x5 x6 x7 x8) a n r := by
  unfold out0_11
  refine View.canon_apply_of_pieces (Val := Elt Ideal) (S := S16x128x256) (e := .f32)
    (fun y => pieceAt x8 (k0_pay22 x0 x1 x2 x3 x4 x5 x6 x7 x8) (y 0) (y 1) (y 2)) _ ?_ _ (cover0_11 _ _ _ _ _ _ _ _ _ _ _ _ _ _ _ _ _)
  simp only [List.forall_mem_cons, List.not_mem_nil, false_implies, implies_true, and_true]
  refine ⟨piece_of x8 _ 15 ?_, piece_of x8 _ 14 ?_, piece_of x8 _ 13 ?_, piece_of x8 _ 12 ?_, piece_of x8 _ 11 ?_, piece_of x8 _ 10 ?_, piece_of x8 _ 9 ?_, piece_of x8 _ 8 ?_,
    piece_of x8 _ 7 ?_, piece_of x8 _ 6 ?_, piece_of x8 _ 5 ?_, piece_of x8 _ 4 ?_, piece_of x8 _ 3 ?_, piece_of x8 _ 2 ?_, piece_of x8 _ 1 ?_, piece_of x8 _ 0 ?_⟩ <;> intro n r <;> unfold pieceAt k0_pay22 <;>
    pointwise [k0_pay1, k0_pay6, k0_pay7, k0_pay8, k0_pay9, k0_pay10, k0_pay11, k0_pay12, k0_pay13, k0_pay14, k0_pay15, k0_pay16, k0_pay17, k0_pay18, k0_pay19, k0_pay20]

theorem pay22_at (r : Fin 256) (j : Fin 2048) :
    k0_pay22 x0 x1 x2 x3 x4 x5 x6 x7 x8 (ix2 r j) = query (hiddenRow x0 x1 x2 x3 x4 x5 x6 r) x7 j := by
  have e : ∀ k, k0_pay21 x0 x1 x2 x3 x4 x5 x6 x7 x8 (ix2 r k) = hiddenRow x0 x1 x2 x3 x4 x5 x6 r k := fun k => by
    unfold k0_pay21
    frame_out
    exact pay3_at _ _ _ _ _ _ _ r k
  rw [k0_pay22, pay5_at, funext e]
  frame_out

/-- The same scores over the normalised row. -/
theorem out11_row (a : Fin 16) (n : Fin 128) (r : Fin 256) :
    out0_11 x0 x1 x2 x3 x4 x5 x6 x7 x8 (ix3 a n r)
      = ∑ d : Fin 128, x8 (ix3 a n d) * query (hiddenRow x0 x1 x2 x3 x4 x5 x6 r) x7 ⟨128 * a.val + d.val, by omega⟩ := by
  simp only [out11_at, pieceAt, pay22_at]

end Cert.Proof.Out

end
-- ==== Proof.OutValue.lean ====
/-
  The output projection's three result arrays over the extended reals, in terms of the program's arguments.
-/
module

public import proofs.«01_k».proof.Proof.OutTile

@[expose] public section

set_option maxRecDepth 16384

noncomputable section

namespace Cert.Proof.Out

open Cert.OutProjIdeal Cert.OutProjIdeal.Gen
open Idealize.ShloMosaic Idealize.ShloMosaic.TcCoe Idealize.SL.Sem

variable (m : (ℓ : Loc nD τ sig) → Buf (Elt Ideal) ℓ) (c : Dev nD)

/-! ## The windows' blocks -/

theorem index_0 : ∀ t : Fin cfg0.N, (cfg0.win 0).index t = ![(grid0.coords t 0).val, 0] := by decide +kernel
theorem index_1 : ∀ t : Fin cfg0.N, (cfg0.win 1).index t = ![0, 0] := by decide +kernel
theorem index_2 : ∀ t : Fin cfg0.N, (cfg0.win 2).index t = ![(grid0.coords t 0).val, 0] := by decide +kernel
theorem index_3 : ∀ t : Fin cfg0.N, (cfg0.win 3).index t = ![0, 0] := by decide +kernel
theorem index_4 : ∀ t : Fin cfg0.N, (cfg0.win 4).index t = ![0, 0] := by decide +kernel
theorem index_5 : ∀ t : Fin cfg0.N, (cfg0.win 5).index t = ![0, 0] := by decide +kernel
theorem index_6 : ∀ t : Fin cfg0.N, (cfg0.win 6).index t = ![0, 0] := by decide +kernel
theorem index_7 : ∀ t : Fin cfg0.N, (cfg0.win 7).index t = ![0, 0] := by decide +kernel
theorem index_8 : ∀ t : Fin cfg0.N, (cfg0.win 8).index t = ![0, 0, 0] := by decide +kernel
theorem index_9 : ∀ t : Fin cfg0.N, (cfg0.win 9).index t = ![(grid0.coords t 0).val, 0] := by decide +kernel
theorem index_10 : ∀ t : Fin cfg0.N, (cfg0.win 10).index t = ![(grid0.coords t 0).val, 0] := by decide +kernel
theorem index_11 : ∀ t : Fin cfg0.N, (cfg0.win 11).index t = ![0, 0, (grid0.coords t 0).val] := by decide +kernel

/-- Row `r` of a grid point's tile, among all positions. -/
def posOf (t : Fin cfg0.N) (r : Fin 256) : Fin 16384 :=
  ⟨256 * (grid0.coords t 0).val + r.val, by have : (grid0.coords t 0).val < 64 := (grid0.coords t 0).isLt; omega⟩

/-! ## The input tiles from the arguments -/

theorem mixed_tile (t : Fin cfg0.N) (r : Fin 256) (k : Fin 1024) :
    iblk m c 0 t (ix2 r k) = m ((c : Thread nD τ).loc main_arg0) (ix3 0 (posOf t r) k) := by
  have e : ((cfg0.win 0).blk t).view.emb (ix2 r k) = ix2 (posOf t r) k := by
    unfold posOf
    blk_ext [index_0 t]
  refine (congrArg (V m c main_v3) e).trans ?_
  entry_read
  pointwise

theorem weight_tile (t : Fin cfg0.N) (k e : Fin 1024) :
    iblk m c 1 t (ix2 k e) = m ((c : Thread nD τ).loc main_arg1) (ix2 k e) := by
  have h : ((cfg0.win 1).blk t).view.emb (ix2 k e) = ix2 k e := by blk_ext [index_1 t]
  refine (congrArg (V m c main_v4) h).trans ?_
  entry_read
  pointwise

theorem stream_tile (t : Fin cfg0.N) (r : Fin 256) (e : Fin 1024) :
    iblk m c 2 t (ix2 r e) = m ((c : Thread nD τ).loc main_arg2) (ix3 0 (posOf t r) e) := by
  have h : ((cfg0.win 2).blk t).view.emb (ix2 r e) = ix2 (posOf t r) e := by
    unfold posOf
    blk_ext [index_2 t]
  refine (congrArg (V m c main_v5) h).trans ?_
  entry_read
  pointwise

theorem gate_tile (t : Fin cfg0.N) (e : Fin 1024) :
    iblk m c 3 t (ix2 0 e) = m ((c : Thread nD τ).loc main_arg3) (ix3 0 0 e) := by
  have h : ((cfg0.win 3).blk t).view.emb (ix2 0 e) = ix2 0 e := by blk_ext [index_3 t]
  refine (congrArg (V m c main_v6) h).trans ?_
  entry_read
  pointwise

theorem norm_tile (t : Fin cfg0.N) (e : Fin 1024) :
    iblk m c 4 t (ix2 0 e) = m ((c : Thread nD τ).loc main_arg4) (ix1 e) := by
  have h : ((cfg0.win 4).blk t).view.emb (ix2 0 e) = ix2 0 e := by blk_ext [index_4 t]
  refine (congrArg (V m c main_v7) h).trans ?_
  entry_read
  pointwise

theorem scale_tile (t : Fin cfg0.N) (e : Fin 1024) :
    iblk m c 5 t (ix2 0 e) = m ((c : Thread nD τ).loc main_arg5) (ix3 0 0 e) := by
  have h : ((cfg0.win 5).blk t).view.emb (ix2 0 e) = ix2 0 e := by blk_ext [index_5 t]
  refine (congrArg (V m c main_v8) h).trans ?_
  entry_read
  pointwise

theorem shift_tile (t : Fin cfg0.N) (e : Fin 1024) :
    iblk m c 6 t (ix2 0 e) = m ((c : Thread nD τ).loc main_arg6) (ix3 0 0 e) := by
  have h : ((cfg0.win 6).blk t).view.emb (ix2 0 e) = ix2 0 e := by blk_ext [index_6 t]
  refine (congrArg (V m c main_v9) h).trans ?_
  entry_read
  pointwise

theorem query_tile (t : Fin cfg0.N) (k : Fin 1024) (j : Fin 2048) :
    iblk m c 7 t (ix2 k j) = m ((c : Thread nD τ).loc main_arg7) (ix2 k j) := by
  have h : ((cfg0.win 7).blk t).view.emb (ix2 k j) = ix2 k j := by blk_ext [index_7 t]
  refine (congrArg (V m c main_v10) h).trans ?_
  entry_read
  pointwise

theorem keys_tile (t : Fin cfg0.N) (a : Fin 16) (n d : Fin 128) :
    iblk m c 8 t (ix3 a n d) = m ((c : Thread nD τ).loc main_arg8) (ix4 ⟨a.val / 2, by omega⟩ ⟨a.val % 2, by omega⟩ n d) := by
  have h : ((cfg0.win 8).blk t).view.emb (ix3 a n d) = ix3 a n d := by blk_ext [index_8 t]
  refine (congrArg (V m c main_v1) h).trans ?_
  entry_read
  pointwise

/-! ## The results, from the arguments -/

abbrev streamOf : Vec Ideal S16384x1024 .f32 := streamOut (whole (m ((c : Thread nD τ).loc main_arg0))) (m ((c : Thread nD τ).loc main_arg1)) (m ((c : Thread nD τ).loc main_arg2)) (m ((c : Thread nD τ).loc main_arg3))
abbrev hiddenOf : Vec Ideal S16384x1024 .bf16 := hiddenOut (whole (m ((c : Thread nD τ).loc main_arg0))) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
abbrev scoreOf : Vec Ideal S16x128x16384 .f32 := scoreOut (whole (m ((c : Thread nD τ).loc main_arg0))) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8))

theorem streamRow_eq (t : Fin cfg0.N) (r : Fin 256) :
    streamRow (iblk m c 0 t) (iblk m c 1 t) (iblk m c 2 t) (iblk m c 3 t) r = fun e => streamOf m c (ix2 (posOf t r) e) := by
  unfold streamRow
  simp only [mixed_tile, weight_tile, stream_tile, gate_tile]
  rfl

theorem hiddenRow_eq (t : Fin cfg0.N) (r : Fin 256) :
    hiddenRow (iblk m c 0 t) (iblk m c 1 t) (iblk m c 2 t) (iblk m c 3 t) (iblk m c 4 t) (iblk m c 5 t) (iblk m c 6 t) r
      = fun e => hiddenOf m c (ix2 (posOf t r) e) := by
  unfold hiddenRow
  simp only [streamRow_eq, norm_tile, scale_tile, shift_tile]
  rfl

/-- The first result array: the residual stream. -/
theorem result_9 : (dats m 0 c).arrAt 9 cfg0.N = streamOf m c := by
  refine (dats m 0 c).arrAt_eq_of_covers 9 _ (by decide +kernel) fun t hf y => ?_
  obtain ⟨r, e, rfl⟩ : ∃ (r : Fin 256) (e : Fin 1024), y = ix2 r e := ⟨y 0, y 1, eq_ix2 y⟩
  have h : ((cfg0.win 9).blk t).view.emb (ix2 r e) = ix2 (posOf t r) e := by
    unfold posOf
    blk_ext [index_9 t]
  blk_simp
  rw [after0_9, out9_at, streamRow_eq]
  exact congrArg (streamOf m c) h.symm

/-- The second: the normalised features. -/
theorem result_10 : (dats m 0 c).arrAt 10 cfg0.N = hiddenOf m c := by
  refine (dats m 0 c).arrAt_eq_of_covers 10 _ (by decide +kernel) fun t hf y => ?_
  obtain ⟨r, e, rfl⟩ : ∃ (r : Fin 256) (e : Fin 1024), y = ix2 r e := ⟨y 0, y 1, eq_ix2 y⟩
  have h : ((cfg0.win 10).blk t).view.emb (ix2 r e) = ix2 (posOf t r) e := by
    unfold posOf
    blk_ext [index_10 t]
  blk_simp
  rw [after0_10, out10_at, hiddenRow_eq]
  exact congrArg (hiddenOf m c) h.symm

/-- The third: the scores, sub-keys before positions. -/
theorem result_11 : (dats m 0 c).arrAt 11 cfg0.N = scoreOf m c := by
  refine (dats m 0 c).arrAt_eq_of_covers 11 _ (by decide +kernel) fun t hf y => ?_
  obtain ⟨a, n, r, rfl⟩ : ∃ (a : Fin 16) (n : Fin 128) (r : Fin 256), y = ix3 a n r := ⟨y 0, y 1, y 2, eq_ix3 y⟩
  have h : ((cfg0.win 11).blk t).view.emb (ix3 a n r) = ix3 a n (posOf t r) := by
    unfold posOf
    blk_ext [index_11 t]
  blk_simp
  rw [after0_11, out11_row, hiddenRow_eq]
  refine Eq.trans ?_ (congrArg (scoreOf m c) h.symm)
  show _ = score (fun e => hiddenOf m c (ix2 (posOf t r) e)) (m ((c : Thread nD τ).loc main_arg7)) (m ((c : Thread nD τ).loc main_arg8)) a n
  unfold score query
  simp only [keys_tile, query_tile]

/-- The kernel's run: its results are the stream, the normalised features and the scores; its arguments stay. -/
theorem run (ρ : Dev nD → PrngReg) :
    θ_run defs (onTc (τ := τ) (main (F := Ideal))) ⟨m, fun _ => 0, ρ⟩ fun r => ∀ c : Dev nD,
      (r.2.mem ((c.tc : Thread nD τ).loc main_v11_0) = streamOf m c ∧ r.2.mem ((c.tc : Thread nD τ).loc main_v11_1) = hiddenOf m c
      ∧ r.2.mem ((c.tc : Thread nD τ).loc main_v11_2) = scoreOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨⟨(h c).1.trans (result_9 m c), (h c).2.1.trans (result_10 m c), (h c).2.2.1.trans (result_11 m c)⟩,
    (h c).2.2.2⟩) (Value.run_blocks (F := Ideal) m ρ)

end Cert.Proof.Out

end
-- ==== Proof.OutRef.lean ====
/-
  The plain lines behind the mixer at an index, over the extended reals. The composed terms of the reference's run are
  cut where the lines are: the stream, its normalised features, and the scores.
-/
module

public import proofs.«01_k».proof.Proof.Gen.OutProjRefIdeal.Run
public import proofs.«01_k».proof.Proof.OutSpec
public import Idealize.ShloMosaic.Lib.Pipeline.ValueKit

@[expose] public section

set_option maxRecDepth 16384

noncomputable section

namespace Cert.Proof.OutRef

open Cert.OutProjRefIdeal Cert.OutProjRefIdeal.Gen
open Idealize.ShloMosaic Idealize.ShloMosaic.TcCoe Idealize.SL.Sem

/-- The gated projection added to the stream. -/
def added (o : FVec Ideal S1x16384x1024 .f32) (w : FVec Ideal S1024x1024 .f32) (x : FVec Ideal S1x16384x1024 .f32) (g : FVec Ideal S1x1x1024 .f32) :
    FVec Ideal S1x16384x1024 .f32 :=
  addf x (mulf (broadcastInDim S1x16384x1024 ![0, 1, 2] bcast_S1x1x1024_S1x16384x1024_0_1_2 g)
    (Host.dotGeneral dot_S1x16384x1024_S1024x1024_S1x16384x1024_2_0_01_1_n_n none o w))

/-- The reciprocal root of the mean square, spread over the features. -/
def inverse (x : FVec Ideal S1x16384x1024 .f32) : FVec Ideal S1x16384x1024 .f32 :=
  broadcastInDim S1x16384x1024 ![0, 1, 2] bcast_S1x16384x1_S1x16384x1024_0_1_2
    (Host.rsqrt (addf (Host.divf (broadcastInDim S1x16384x1 ![0, 1] bcast_S1x16384_S1x16384x1_0_1
      (Host.reduceAdd (mulf x x) (constant S_ .f32 0x00000000#32) reducesTo_S1x16384x1024_S1x16384_d2 h_S_))
      (broadcastInDim S1x16384x1 ![] bcast_S_S1x16384x1 (constant S_ .f32 0x44800000#32)))
      (broadcastInDim S1x16384x1 ![] bcast_S_S1x16384x1 (constant S_ .f32 0x358637BD#32))))

/-- The normalised stream, weighted, scaled and shifted. -/
def normed (x : FVec Ideal S1x16384x1024 .f32) (w : FVec Ideal S1024 .f32) (sc sh : FVec Ideal S1x1x1024 .f32) : FVec Ideal S1x16384x1024 .f32 :=
  addf (mulf (mulf (mulf x (inverse x)) (broadcastInDim S1x16384x1024 ![0, 1, 2] bcast_S1x1x1024_S1x16384x1024_0_1_2 (broadcastInDim S1x1x1024 ![2] bcast_S1024_S1x1x1024_2 w)))
    (broadcastInDim S1x16384x1024 ![0, 1, 2] bcast_S1x1x1024_S1x16384x1024_0_1_2 (addf (broadcastInDim S1x1x1024 ![] bcast_S_S1x1x1024 (constant S_ .f32 0x3F800000#32)) sc)))
    (broadcastInDim S1x16384x1024 ![0, 1, 2] bcast_S1x1x1024_S1x16384x1024_0_1_2 sh)

/-- The queries, by head and half. -/
def queries (h : FVec Ideal S1x16384x1024 .f32) (wq : FVec Ideal S1024x2048 .f32) : FVec Ideal S1x16384x8x2x128 .f32 :=
  shapeCast S1x16384x8x2x128 (Host.dotGeneral dot_S1x16384x1024_S1024x2048_S1x16384x2048_2_0_01_1_n_n none h wq) shapeCasts_S1x16384x2048_S1x16384x8x2x128

/-- The scores, sub-keys before positions. -/
def scores (q : FVec Ideal S1x16384x8x2x128 .f32) (keys : FVec Ideal S8x2x128x128 .f32) : FVec Ideal S16x128x16384 .f32 :=
  transpose S16x128x16384 [1, 2, 0] (shapeCast S16384x16x128 (transpose S1x16384x8x2x128 [3, 4, 0, 1, 2]
    (Host.dotGeneral dot_S8x2x128x128_S1x16384x8x2x128_S8x2x128x1x16384_3_4_2_01_01_23 none keys q) transposes_S8x2x128x1x16384_S1x16384x8x2x128_3_4_0_1_2)
    shapeCasts_S1x16384x8x2x128_S16384x16x128) transposes_S16384x16x128_S16x128x16384_1_2_0

theorem added_at (o : FVec Ideal S1x16384x1024 .f32) (w : FVec Ideal S1024x1024 .f32) (x : FVec Ideal S1x16384x1024 .f32) (g : FVec Ideal S1x1x1024 .f32)
    (Q : Fin 16384) (e : Fin 1024) :
    added o w x g (ix3 0 Q e) = Out.stream (fun e => x (ix3 0 Q e)) (fun e => g (ix3 0 0 e)) (Out.project (fun k => o (ix3 0 Q k)) w) e := by
  unfold Out.stream Out.project
  pointwise [added]

theorem inverse_at (x : FVec Ideal S1x16384x1024 .f32) (Q : Fin 16384) (e : Fin 1024) :
    inverse x (ix3 0 Q e) = Ideal.rsqrt (Ideal.div (∑ k, x (ix3 0 Q k) * x (ix3 0 Q k)) (Ideal.ofBits .f32 0x44800000#32) + Ideal.ofBits .f32 0x358637BD#32) := by
  pointwise [inverse]

theorem normed_at (x : FVec Ideal S1x16384x1024 .f32) (w : FVec Ideal S1024 .f32) (sc sh : FVec Ideal S1x1x1024 .f32) (Q : Fin 16384) (e : Fin 1024) :
    normed x w sc sh (ix3 0 Q e)
      = Out.hidden (fun e => x (ix3 0 Q e)) (fun e => w (ix1 e)) (fun e => sc (ix3 0 0 e)) (fun e => sh (ix3 0 0 e)) e := by
  unfold Out.hidden
  pointwise [normed, inverse_at]

theorem queries_at (h : FVec Ideal S1x16384x1024 .f32) (wq : FVec Ideal S1024x2048 .f32) (Q : Fin 16384) (a : Fin 8) (p : Fin 2) (d : Fin 128) :
    queries h wq (ix5 0 Q a p d) = Out.query (fun k => h (ix3 0 Q k)) wq ⟨a.val * 256 + p.val * 128 + d.val, by omega⟩ := by
  unfold Out.query
  pointwise [queries]

theorem scores_at (q : FVec Ideal S1x16384x8x2x128 .f32) (keys : FVec Ideal S8x2x128x128 .f32) (a : Fin 16) (n : Fin 128) (Q : Fin 16384) :
    scores q keys (ix3 a n Q) = ∑ d : Fin 128, keys (ix4 ⟨a.val / 2, by omega⟩ ⟨a.val % 2, by omega⟩ n d)
      * q (ix5 0 Q ⟨a.val / 2, by omega⟩ ⟨a.val % 2, by omega⟩ d) := by
  pointwise [scores]

/-! ## The results -/

section
variable (o : FVec Ideal S1x16384x1024 .f32) (w : FVec Ideal S1024x1024 .f32) (x : FVec Ideal S1x16384x1024 .f32) (g : FVec Ideal S1x1x1024 .f32)
  (nw : FVec Ideal S1024 .f32) (sc sh : FVec Ideal S1x1x1024 .f32) (wq : FVec Ideal S1024x2048 .f32) (keys : FVec Ideal S8x2x128x128 .f32)

theorem hidden_at (Q : Fin 16384) (e : Fin 1024) :
    normed (added o w x g) nw sc sh (ix3 0 Q e) = Out.hiddenAt (Out.whole o) w x g nw sc sh Q e := by
  rw [normed_at, funext fun e => added_at o w x g Q e]
  rfl

theorem stream_result : shapeCast S16384x1024 (added o w x g) shapeCasts_S1x16384x1024_S16384x1024 = Out.streamOut (Out.whole o) w x g := by
  funext y
  obtain ⟨Q, e, rfl⟩ : ∃ (Q : Fin 16384) (e : Fin 1024), y = ix2 Q e := ⟨y 0, y 1, eq_ix2 y⟩
  refine Eq.trans ?_ (added_at o w x g Q e)
  pointwise

theorem hidden_result : truncf .bf16 (shapeCast S16384x1024 (normed (added o w x g) nw sc sh) shapeCasts_S1x16384x1024_S16384x1024) bitsLt_bf16_f32
    = Out.hiddenOut (Out.whole o) w x g nw sc sh := by
  funext y
  obtain ⟨Q, e, rfl⟩ : ∃ (Q : Fin 16384) (e : Fin 1024), y = ix2 Q e := ⟨y 0, y 1, eq_ix2 y⟩
  refine Eq.trans ?_ (hidden_at o w x g nw sc sh Q e)
  pointwise

theorem score_result : scores (queries (normed (added o w x g) nw sc sh) wq) keys = Out.scoreOut (Out.whole o) w x g nw sc sh wq keys := by
  funext y
  obtain ⟨a, n, Q, rfl⟩ : ∃ (a : Fin 16) (n : Fin 128) (Q : Fin 16384), y = ix3 a n Q := ⟨y 0, y 1, y 2, eq_ix3 y⟩
  refine (scores_at _ _ a n Q).trans ?_
  show _ = Out.score (Out.hiddenAt (Out.whole o) w x g nw sc sh Q) wq keys a n
  unfold Out.score
  refine Finset.sum_congr rfl fun d _ => congrArg _ ?_
  rw [queries_at, funext fun e => hidden_at o w x g nw sc sh Q e]
  exact congrArg _ (Fin.ext (show a.val / 2 * 256 + a.val % 2 * 128 + d.val = 128 * a.val + d.val by omega))

end

variable (m : (ℓ : Loc nD τ sig) → Buf (Elt Ideal) ℓ)

/-- The reference's run: its results are the stream, the normalised features and the scores; its arguments stay. -/
theorem run (ρ : Dev nD → PrngReg) :
    θ_run defs (onTc (τ := τ) (main (F := Ideal))) ⟨m, fun _ => 0, ρ⟩ fun r => ∀ c : Dev nD,
      (r.2.mem ((c.tc : Thread nD τ).loc main_v27) = Out.streamOut (Out.whole (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v29) = Out.hiddenOut (Out.whole (m ((c.tc : Thread nD τ).loc main_arg0))) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_v31) = Out.scoreOut (Out.whole (m ((c.tc : Thread nD τ).loc main_arg0))) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨⟨(h c).1.trans (stream_result _ _ _ _), (h c).2.1.trans (hidden_result _ _ _ _ _ _ _), (h c).2.2.1.trans (score_result _ _ _ _ _ _ _ _ _)⟩,
    (h c).2.2.2⟩) (Value.run (F := Ideal) m ρ)

end Cert.Proof.OutRef

end
-- ==== Proof.OutEvenTile.lean ====
/-
  The even layers' form of the output projection at one grid point, over the extended reals: two mixers' features, each
  projected by its half of the weights, and then the odd layers' lines.
-/
module

public import proofs.«01_k».proof.Proof.Gen.OutProjEvenIdeal.Value
public import proofs.«01_k».proof.Proof.OutTile

@[expose] public section

set_option maxRecDepth 16384

noncomputable section

namespace Cert.Proof.OutEven

open Cert.OutProjEvenIdeal Cert.OutProjEvenIdeal.Gen
open Idealize.ShloMosaic Idealize.ShloMosaic.TcCoe

variable (x0 x1 : Vec Ideal S256x512 .bf16) (x2 x3 : Vec Ideal S512x1024 .bf16) (x4 : Vec Ideal S256x1024 .f32) (x5 x6 x7 x8 : Vec Ideal S1x1024 .f32)
  (x9 : Vec Ideal S1024x2048 .bf16) (x10 : Vec Ideal S16x128x128 .bf16)

/-- Row `r` of the residual tile. -/
def streamRow (r : Fin 256) : Fin 1024 → EReal :=
  Out.stream (fun e => x4 (ix2 r e)) (fun e => x5 (ix2 0 e)) fun e => (∑ k, x0 (ix2 r k) * x2 (ix2 k e)) + ∑ k, x1 (ix2 r k) * x3 (ix2 k e)

/-- Row `r` of the normalised tile. -/
def hiddenRow (r : Fin 256) : Fin 1024 → EReal :=
  Out.hidden (streamRow x0 x1 x2 x3 x4 x5 r) (fun e => x6 (ix2 0 e)) (fun e => x7 (ix2 0 e)) fun e => x8 (ix2 0 e)

theorem pay3_at (r : Fin 256) (e : Fin 1024) : k0_pay3 (F := Ideal) x0 x2 x1 x3 x4 x5 (ix2 r e) = streamRow x0 x1 x2 x3 x4 x5 r e := by
  unfold streamRow Out.stream
  pointwise [k0_pay3]

/-- The tile's normalised features, from its residual rows. -/
theorem pay8_at (r : Fin 256) (e : Fin 1024) :
    k0_pay8 (F := Ideal) (k0_pay3 x0 x2 x1 x3 x4 x5) (k0_pay4 x6) (k0_pay5 x7) (k0_pay6 x8) (k0_pay7 x0 x2 x1 x3 x4 x5) (ix2 r e)
      = hiddenRow x0 x1 x2 x3 x4 x5 x6 x7 x8 r e := by
  unfold hiddenRow Out.hidden
  pointwise [k0_pay8, k0_pay7, k0_pay4, k0_pay5, k0_pay6, pay3_at]

/-- The tile's queries. -/
theorem pay9_at (r : Fin 256) (j : Fin 2048) :
    k0_pay9 (F := Ideal) (k0_pay3 x0 x2 x1 x3 x4 x5) (k0_pay4 x6) (k0_pay5 x7) (k0_pay6 x8) (k0_pay7 x0 x2 x1 x3 x4 x5) x9 (ix2 r j)
      = Out.query (hiddenRow x0 x1 x2 x3 x4 x5 x6 x7 x8 r) x9 j := by
  unfold Out.query
  pointwise [k0_pay9, pay8_at]

theorem out11_at (r : Fin 256) (e : Fin 1024) :
    out0_11 x0 x1 x2 x3 x4 x5 x6 x7 x8 x9 x10 (ix2 r e) = streamRow x0 x1 x2 x3 x4 x5 r e := by
  unfold out0_11
  frame_out
  exact pay3_at _ _ _ _ _ _ r e

theorem out12_at (r : Fin 256) (e : Fin 1024) :
    out0_12 x0 x1 x2 x3 x4 x5 x6 x7 x8 x9 x10 (ix2 r e) = hiddenRow x0 x1 x2 x3 x4 x5 x6 x7 x8 r e := by
  unfold_out out0_12
  frame_out
  exact pay8_at _ _ _ _ _ _ _ _ _ r e

/-- The third output tile, whole: each of its sixteen stores leaves the scores of its half of a head. -/
theorem out13_at (a : Fin 16) (n : Fin 128) (r : Fin 256) :
    out0_13 x0 x1 x2 x3 x4 x5 x6 x7 x8 x9 x10 (ix3 a n r) = Out.pieceAt x10 (k0_pay37 x0 x1 x2 x3 x4 x5 x6 x7 x8 x9 x10) a n r := by
  unfold out0_13
  refine View.canon_apply_of_pieces (Val := Elt Ideal) (S := S16x128x256) (e := .f32)
    (fun y => Out.pieceAt x10 (k0_pay37 x0 x1 x2 x3 x4 x5 x6 x7 x8 x9 x10) (y 0) (y 1) (y 2)) _ ?_ _ (cover0_13 _ _ _ _ _ _ _ _ _ _ _ _ _ _ _ _ _)
  simp only [List.forall_mem_cons, List.not_mem_nil, false_implies, implies_true, and_true]
  refine ⟨Out.piece_of x10 _ 15 ?_, Out.piece_of x10 _ 14 ?_, Out.piece_of x10 _ 13 ?_, Out.piece_of x10 _ 12 ?_, Out.piece_of x10 _ 11 ?_, Out.piece_of x10 _ 10 ?_,
    Out.piece_of x10 _ 9 ?_, Out.piece_of x10 _ 8 ?_, Out.piece_of x10 _ 7 ?_, Out.piece_of x10 _ 6 ?_, Out.piece_of x10 _ 5 ?_, Out.piece_of x10 _ 4 ?_,
    Out.piece_of x10 _ 3 ?_, Out.piece_of x10 _ 2 ?_, Out.piece_of x10 _ 1 ?_, Out.piece_of x10 _ 0 ?_⟩ <;> intro n r <;> unfold Out.pieceAt k0_pay37 <;>
    pointwise [k0_pay1, k0_pay2, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31]

theorem pay37_at (r : Fin 256) (j : Fin 2048) :
    k0_pay37 x0 x1 x2 x3 x4 x5 x6 x7 x8 x9 x10 (ix2 r j) = Out.query (hiddenRow x0 x1 x2 x3 x4 x5 x6 x7 x8 r) x9 j := by
  unfold k0_pay37 k0_pay36 k0_pay35 k0_pay34 k0_pay33 k0_pay32
  frame_out
  exact pay9_at _ _ _ _ _ _ _ _ _ _ r j

/-- The same scores over the normalised row. -/
theorem out13_row (a : Fin 16) (n : Fin 128) (r : Fin 256) :
    out0_13 x0 x1 x2 x3 x4 x5 x6 x7 x8 x9 x10 (ix3 a n r)
      = ∑ d : Fin 128, x10 (ix3 a n d) * Out.query (hiddenRow x0 x1 x2 x3 x4 x5 x6 x7 x8 r) x9 ⟨128 * a.val + d.val, by omega⟩ := by
  simp only [out13_at, Out.pieceAt, pay37_at]

end Cert.Proof.OutEven

end
-- ==== Proof.OutEvenValue.lean ====
/-
  The even layers' output projection: its three result arrays over the extended reals, in terms of the program's
  arguments. The two halves of the weights meet the two mixers' features, so a row's two products are the product of
  the joined features with the whole weights.
-/
module

public import proofs.«01_k».proof.Proof.OutEvenTile

@[expose] public section

set_option maxRecDepth 16384

noncomputable section

namespace Cert.Proof.OutEven

open Cert.OutProjEvenIdeal Cert.OutProjEvenIdeal.Gen
open Idealize.ShloMosaic Idealize.ShloMosaic.TcCoe Idealize.SL.Sem

variable (m : (ℓ : Loc nD τ sig) → Buf (Elt Ideal) ℓ) (c : Dev nD)

/-! ## The windows' blocks: a block of rows per grid point, or the whole array -/

theorem index_0 : ∀ t : Fin cfg0.N, (cfg0.win 0).index t = ![(grid0.coords t 0).val, 0] := by decide +kernel
theorem index_1 : ∀ t : Fin cfg0.N, (cfg0.win 1).index t = ![(grid0.coords t 0).val, 0] := by decide +kernel
theorem index_2 : ∀ t : Fin cfg0.N, (cfg0.win 2).index t = ![0, 0] := by decide +kernel
theorem index_3 : ∀ t : Fin cfg0.N, (cfg0.win 3).index t = ![0, 0] := by decide +kernel
theorem index_4 : ∀ t : Fin cfg0.N, (cfg0.win 4).index t = ![(grid0.coords t 0).val, 0] := by decide +kernel
theorem index_5 : ∀ t : Fin cfg0.N, (cfg0.win 5).index t = ![0, 0] := by decide +kernel
theorem index_6 : ∀ t : Fin cfg0.N, (cfg0.win 6).index t = ![0, 0] := by decide +kernel
theorem index_7 : ∀ t : Fin cfg0.N, (cfg0.win 7).index t = ![0, 0] := by decide +kernel
theorem index_8 : ∀ t : Fin cfg0.N, (cfg0.win 8).index t = ![0, 0] := by decide +kernel
theorem index_9 : ∀ t : Fin cfg0.N, (cfg0.win 9).index t = ![0, 0] := by decide +kernel
theorem index_10 : ∀ t : Fin cfg0.N, (cfg0.win 10).index t = ![0, 0, 0] := by decide +kernel
theorem index_11 : ∀ t : Fin cfg0.N, (cfg0.win 11).index t = ![(grid0.coords t 0).val, 0] := by decide +kernel
theorem index_12 : ∀ t : Fin cfg0.N, (cfg0.win 12).index t = ![(grid0.coords t 0).val, 0] := by decide +kernel
theorem index_13 : ∀ t : Fin cfg0.N, (cfg0.win 13).index t = ![0, 0, (grid0.coords t 0).val] := by decide +kernel

/-- Row `r` of a grid point's tile, among all positions. -/
def posOf (t : Fin cfg0.N) (r : Fin 256) : Fin 16384 :=
  ⟨256 * (grid0.coords t 0).val + r.val, by have : (grid0.coords t 0).val < 64 := (grid0.coords t 0).isLt; omega⟩

/-! ## The input tiles from the arguments -/

theorem first_tile (t : Fin cfg0.N) (r : Fin 256) (k : Fin 512) :
    iblk m c 0 t (ix2 r k) = m ((c : Thread nD τ).loc main_arg0) (ix3 0 (posOf t r) k) := by
  have h : ((cfg0.win 0).blk t).view.emb (ix2 r k) = ix2 (posOf t r) k := by
    unfold posOf
    blk_ext [index_0 t]
  refine (congrArg (V m c main_v4) h).trans ?_
  entry_read
  pointwise

theorem second_tile (t : Fin cfg0.N) (r : Fin 256) (k : Fin 512) :
    iblk m c 1 t (ix2 r k) = m ((c : Thread nD τ).loc main_arg1) (ix3 0 (posOf t r) k) := by
  have h : ((cfg0.win 1).blk t).view.emb (ix2 r k) = ix2 (posOf t r) k := by
    unfold posOf
    blk_ext [index_1 t]
  refine (congrArg (V m c main_v6) h).trans ?_
  entry_read
  pointwise

theorem upper_tile (t : Fin cfg0.N) (k : Fin 512) (e : Fin 1024) :
    iblk m c 2 t (ix2 k e) = m ((c : Thread nD τ).loc main_arg2) (ix2 ⟨k.val, by omega⟩ e) := by
  have h : ((cfg0.win 2).blk t).view.emb (ix2 k e) = ix2 k e := by blk_ext [index_2 t]
  refine (congrArg (V m c main_v7) h).trans ?_
  entry_read
  pointwise

theorem lower_tile (t : Fin cfg0.N) (k : Fin 512) (e : Fin 1024) :
    iblk m c 3 t (ix2 k e) = m ((c : Thread nD τ).loc main_arg2) (ix2 ⟨512 + k.val, by omega⟩ e) := by
  have h : ((cfg0.win 3).blk t).view.emb (ix2 k e) = ix2 k e := by blk_ext [index_3 t]
  refine (congrArg (V m c main_v8) h).trans ?_
  entry_read
  pointwise

theorem stream_tile (t : Fin cfg0.N) (r : Fin 256) (e : Fin 1024) :
    iblk m c 4 t (ix2 r e) = m ((c : Thread nD τ).loc main_arg3) (ix3 0 (posOf t r) e) := by
  have h : ((cfg0.win 4).blk t).view.emb (ix2 r e) = ix2 (posOf t r) e := by
    unfold posOf
    blk_ext [index_4 t]
  refine (congrArg (V m c main_v9) h).trans ?_
  entry_read
  pointwise

theorem gate_tile (t : Fin cfg0.N) (e : Fin 1024) :
    iblk m c 5 t (ix2 0 e) = m ((c : Thread nD τ).loc main_arg4) (ix3 0 0 e) := by
  have h : ((cfg0.win 5).blk t).view.emb (ix2 0 e) = ix2 0 e := by blk_ext [index_5 t]
  refine (congrArg (V m c main_v10) h).trans ?_
  entry_read
  pointwise

theorem norm_tile (t : Fin cfg0.N) (e : Fin 1024) :
    iblk m c 6 t (ix2 0 e) = m ((c : Thread nD τ).loc main_arg5) (ix1 e) := by
  have h : ((cfg0.win 6).blk t).view.emb (ix2 0 e) = ix2 0 e := by blk_ext [index_6 t]
  refine (congrArg (V m c main_v11) h).trans ?_
  entry_read
  pointwise

theorem scale_tile (t : Fin cfg0.N) (e : Fin 1024) :
    iblk m c 7 t (ix2 0 e) = m ((c : Thread nD τ).loc main_arg6) (ix3 0 0 e) := by
  have h : ((cfg0.win 7).blk t).view.emb (ix2 0 e) = ix2 0 e := by blk_ext [index_7 t]
  refine (congrArg (V m c main_v12) h).trans ?_
  entry_read
  pointwise

theorem shift_tile (t : Fin cfg0.N) (e : Fin 1024) :
    iblk m c 8 t (ix2 0 e) = m ((c : Thread nD τ).loc main_arg7) (ix3 0 0 e) := by
  have h : ((cfg0.win 8).blk t).view.emb (ix2 0 e) = ix2 0 e := by blk_ext [index_8 t]
  refine (congrArg (V m c main_v13) h).trans ?_
  entry_read
  pointwise

theorem query_tile (t : Fin cfg0.N) (k : Fin 1024) (j : Fin 2048) :
    iblk m c 9 t (ix2 k j) = m ((c : Thread nD τ).loc main_arg8) (ix2 k j) := by
  have h : ((cfg0.win 9).blk t).view.emb (ix2 k j) = ix2 k j := by blk_ext [index_9 t]
  refine (congrArg (V m c main_v14) h).trans ?_
  entry_read
  pointwise

theorem keys_tile (t : Fin cfg0.N) (a : Fin 16) (n d : Fin 128) :
    iblk m c 10 t (ix3 a n d) = m ((c : Thread nD τ).loc main_arg9) (ix4 ⟨a.val / 2, by omega⟩ ⟨a.val % 2, by omega⟩ n d) := by
  have h : ((cfg0.win 10).blk t).view.emb (ix3 a n d) = ix3 a n d := by blk_ext [index_10 t]
  refine (congrArg (V m c main_v2) h).trans ?_
  entry_read
  pointwise

/-! ## The results, from the arguments -/

/-- The two mixers' features, joined. -/
abbrev mixOf : Fin 16384 → Fin 1024 → EReal := Out.joined (m ((c : Thread nD τ).loc main_arg0)) (m ((c : Thread nD τ).loc main_arg1))
abbrev streamOf : Vec Ideal S16384x1024 .f32 := Out.streamOut (mixOf m c) (m ((c : Thread nD τ).loc main_arg2)) (m ((c : Thread nD τ).loc main_arg3)) (m ((c : Thread nD τ).loc main_arg4))
abbrev hiddenOf : Vec Ideal S16384x1024 .bf16 := Out.hiddenOut (mixOf m c) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
abbrev scoreOf : Vec Ideal S16x128x16384 .f32 := Out.scoreOut (mixOf m c) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8))
  (m ((c : Thread nD τ).loc main_arg9))

theorem streamRow_eq (t : Fin cfg0.N) (r : Fin 256) :
    streamRow (iblk m c 0 t) (iblk m c 1 t) (iblk m c 2 t) (iblk m c 3 t) (iblk m c 4 t) (iblk m c 5 t) r = fun e => streamOf m c (ix2 (posOf t r) e) := by
  unfold streamRow
  simp only [first_tile, second_tile, upper_tile, lower_tile, stream_tile, gate_tile]
  refine Eq.trans (congrArg (Out.stream _ _) (funext fun e => (Out.project_joined (m ((c : Thread nD τ).loc main_arg0)) (m ((c : Thread nD τ).loc main_arg1))
    (m ((c : Thread nD τ).loc main_arg2)) (posOf t r) e).symm)) ?_
  rfl

theorem hiddenRow_eq (t : Fin cfg0.N) (r : Fin 256) :
    hiddenRow (iblk m c 0 t) (iblk m c 1 t) (iblk m c 2 t) (iblk m c 3 t) (iblk m c 4 t) (iblk m c 5 t) (iblk m c 6 t) (iblk m c 7 t) (iblk m c 8 t) r
      = fun e => hiddenOf m c (ix2 (posOf t r) e) := by
  unfold hiddenRow
  simp only [streamRow_eq, norm_tile, scale_tile, shift_tile]
  rfl

/-- The first result array: the residual stream. -/
theorem result_11 : (dats m 0 c).arrAt 11 cfg0.N = streamOf m c := by
  refine (dats m 0 c).arrAt_eq_of_covers 11 _ (by decide +kernel) fun t hf y => ?_
  obtain ⟨r, e, rfl⟩ : ∃ (r : Fin 256) (e : Fin 1024), y = ix2 r e := ⟨y 0, y 1, eq_ix2 y⟩
  have h : ((cfg0.win 11).blk t).view.emb (ix2 r e) = ix2 (posOf t r) e := by
    unfold posOf
    blk_ext [index_11 t]
  blk_simp
  rw [after0_11, out11_at, streamRow_eq]
  exact congrArg (streamOf m c) h.symm

/-- The second: the normalised features. -/
theorem result_12 : (dats m 0 c).arrAt 12 cfg0.N = hiddenOf m c := by
  refine (dats m 0 c).arrAt_eq_of_covers 12 _ (by decide +kernel) fun t hf y => ?_
  obtain ⟨r, e, rfl⟩ : ∃ (r : Fin 256) (e : Fin 1024), y = ix2 r e := ⟨y 0, y 1, eq_ix2 y⟩
  have h : ((cfg0.win 12).blk t).view.emb (ix2 r e) = ix2 (posOf t r) e := by
    unfold posOf
    blk_ext [index_12 t]
  blk_simp
  rw [after0_12, out12_at, hiddenRow_eq]
  exact congrArg (hiddenOf m c) h.symm

/-- The third: the scores, sub-keys before positions. -/
theorem result_13 : (dats m 0 c).arrAt 13 cfg0.N = scoreOf m c := by
  refine (dats m 0 c).arrAt_eq_of_covers 13 _ (by decide +kernel) fun t hf y => ?_
  obtain ⟨a, n, r, rfl⟩ : ∃ (a : Fin 16) (n : Fin 128) (r : Fin 256), y = ix3 a n r := ⟨y 0, y 1, y 2, eq_ix3 y⟩
  have h : ((cfg0.win 13).blk t).view.emb (ix3 a n r) = ix3 a n (posOf t r) := by
    unfold posOf
    blk_ext [index_13 t]
  blk_simp
  rw [after0_13, out13_row, hiddenRow_eq]
  refine Eq.trans ?_ (congrArg (scoreOf m c) h.symm)
  show _ = Out.score (fun e => hiddenOf m c (ix2 (posOf t r) e)) (m ((c : Thread nD τ).loc main_arg8)) (m ((c : Thread nD τ).loc main_arg9)) a n
  unfold Out.score Out.query
  simp only [keys_tile, query_tile]

/-- The kernel's run: its results are the stream, the normalised features and the scores; its arguments stay. -/
theorem run (ρ : Dev nD → PrngReg) :
    θ_run defs (onTc (τ := τ) (main (F := Ideal))) ⟨m, fun _ => 0, ρ⟩ fun r => ∀ c : Dev nD,
      (r.2.mem ((c.tc : Thread nD τ).loc main_v15_0) = streamOf m c ∧ r.2.mem ((c.tc : Thread nD τ).loc main_v15_1) = hiddenOf m c
      ∧ r.2.mem ((c.tc : Thread nD τ).loc main_v15_2) = scoreOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨⟨(h c).1.trans (result_11 m c), (h c).2.1.trans (result_12 m c), (h c).2.2.1.trans (result_13 m c)⟩,
    (h c).2.2.2⟩) (Value.run_blocks (F := Ideal) m ρ)

end Cert.Proof.OutEven

end
-- ==== Proof.OutEvenRef.lean ====
/-
  The plain lines behind the even layers' mixers: the odd layers' lines of the joined features.
-/
module

public import proofs.«01_k».proof.Proof.Gen.OutProjEvenRefIdeal.Run
public import proofs.«01_k».proof.Proof.OutRef

@[expose] public section

set_option maxRecDepth 16384

noncomputable section

namespace Cert.Proof.OutEvenRef

open Cert.OutProjEvenRefIdeal Cert.OutProjEvenRefIdeal.Gen
open Idealize.ShloMosaic Idealize.ShloMosaic.TcCoe Idealize.SL.Sem

/-- The two mixers' features, side by side. -/
def both (oa ob : FVec Ideal S1x16384x512 .f32) : FVec Ideal S1x16384x1024 .f32 :=
  concatenate S1x16384x1024 2 [⟨S1x16384x512, oa⟩, ⟨S1x16384x512, ob⟩] concatenates_S1x16384x512_S1x16384x512_S1x16384x1024_d2

theorem both_joined (oa ob : FVec Ideal S1x16384x512 .f32) : Out.whole (both oa ob) = Out.joined oa ob := by
  funext Q k
  unfold Out.whole Out.joined
  pointwise [both]

section
variable (oa ob : FVec Ideal S1x16384x512 .f32) (w : FVec Ideal S1024x1024 .f32) (x : FVec Ideal S1x16384x1024 .f32) (g : FVec Ideal S1x1x1024 .f32)
  (nw : FVec Ideal S1024 .f32) (sc sh : FVec Ideal S1x1x1024 .f32) (wq : FVec Ideal S1024x2048 .f32) (keys : FVec Ideal S8x2x128x128 .f32)

theorem stream_result : shapeCast S16384x1024 (OutRef.added (both oa ob) w x g) shapeCasts_S1x16384x1024_S16384x1024 = Out.streamOut (Out.joined oa ob) w x g :=
  (OutRef.stream_result _ w x g).trans (by rw [both_joined])

theorem hidden_result : truncf .bf16 (shapeCast S16384x1024 (OutRef.normed (OutRef.added (both oa ob) w x g) nw sc sh) shapeCasts_S1x16384x1024_S16384x1024) bitsLt_bf16_f32
    = Out.hiddenOut (Out.joined oa ob) w x g nw sc sh :=
  (OutRef.hidden_result _ w x g nw sc sh).trans (by rw [both_joined])

theorem score_result : OutRef.scores (OutRef.queries (OutRef.normed (OutRef.added (both oa ob) w x g) nw sc sh) wq) keys
    = Out.scoreOut (Out.joined oa ob) w x g nw sc sh wq keys :=
  (OutRef.score_result _ w x g nw sc sh wq keys).trans (by rw [both_joined])

end

variable (m : (ℓ : Loc nD τ sig) → Buf (Elt Ideal) ℓ)

/-- The reference's run: its results are the stream, the normalised features and the scores; its arguments stay. -/
theorem run (ρ : Dev nD → PrngReg) :
    θ_run defs (onTc (τ := τ) (main (F := Ideal))) ⟨m, fun _ => 0, ρ⟩ fun r => ∀ c : Dev nD,
      (r.2.mem ((c.tc : Thread nD τ).loc main_v28) = Out.streamOut (Out.joined (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))
      ∧ r.2.mem ((c.tc : Thread nD τ).loc main_v30) = Out.hiddenOut (Out.joined (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_v32) = Out.scoreOut (Out.joined (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨⟨(h c).1.trans (stream_result _ _ _ _ _), (h c).2.1.trans (hidden_result _ _ _ _ _ _ _ _),
    (h c).2.2.1.trans (score_result _ _ _ _ _ _ _ _ _ _)⟩, (h c).2.2.2⟩) (Value.run (F := Ideal) m ρ)

end Cert.Proof.OutEvenRef

end
-- ==== Proof.RefValue.lean ====
/-
  The reference's result at an index, over the extended reals: causal softmax attention. Its composed term is cut in
  three, each read at an index by itself: the masked scores, their exponentials, and the averaged values.
-/
module

public import proofs.«01_k».proof.Proof.Gen.ReferenceIdeal.Run
public import proofs.«01_k».proof.Proof.Spec
public import Idealize.ShloMosaic.Lib.Pipeline.ValueKit

@[expose] public section

set_option maxRecDepth 16384

noncomputable section

namespace Cert.Proof.MlaRef

open Cert.ReferenceIdeal Cert.ReferenceIdeal.Gen
open Idealize.ShloMosaic Idealize.ShloMosaic.TcCoe

/-- Which keys a query sees. -/
def seen : IVec S16384x16384 1 :=
  cmpi .sle (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The products of queries and keys. -/
def products (a0 : FVec Ideal S1x16384x8x128 .f32) (a1 : FVec Ideal S1x16384x8x64 .f32) (a2 : FVec Ideal S1x16384x8x128 .f32)
    (a3 : FVec Ideal S1x16384x64 .f32) : FVec Ideal S1x8x16384x16384 .f32 :=
  addf (Host.dotGeneral dot_S1x8x16384x128_S1x8x16384x128_S1x8x16384x16384_3_3_2_2_01_01 none
      (mulf (transpose S1x8x16384x128 [0, 2, 1, 3] a0 transposes_S1x16384x8x128_S1x8x16384x128_0_2_1_3) (broadcastInDim S1x8x16384x128 ![] bcast_S_S1x8x16384x128 (constant S_ .f32 0x3D93CD3A#32)))
      (transpose S1x8x16384x128 [0, 2, 1, 3] a2 transposes_S1x16384x8x128_S1x8x16384x128_0_2_1_3))
    (Host.dotGeneral dot_S1x8x16384x64_S1x16384x64_S1x8x16384x16384_3_2_12_1_0_0 none
      (mulf (transpose S1x8x16384x64 [0, 2, 1, 3] a1 transposes_S1x16384x8x64_S1x8x16384x64_0_2_1_3) (broadcastInDim S1x8x16384x64 ![] bcast_S_S1x8x16384x64 (constant S_ .f32 0x3D93CD3A#32)))
      a3)

/-- The masked scores. -/
def masked (p : FVec Ideal S1x8x16384x16384 .f32) : FVec Ideal S1x8x16384x16384 .f32 :=
  select (broadcastInDim S1x8x16384x16384 ![2, 3] bcast_S16384x16384_S1x8x16384x16384_2_3 seen) p
    (broadcastInDim S1x8x16384x16384 ![] bcast_S_S1x8x16384x16384 (constant (F := Ideal) S_ .f32 0xFF800000#32))

/-- The array a query's maximum is spread over. -/
def shift (u : FVec Ideal S1x8x16384 .f32) : FVec Ideal S1x8x16384x16384 .f32 :=
  broadcastInDim S1x8x16384x16384 ![0, 1, 2, 3] bcast_S1x8x16384x1_S1x8x16384x16384_0_1_2_3 (broadcastInDim S1x8x16384x1 ![0, 1, 2] bcast_S1x8x16384_S1x8x16384x1_0_1_2
    (maximumf (broadcastInDim S1x8x16384 ![] bcast_S_S1x8x16384 (constant S_ .f32 0xFF800000#32)) u))

/-- The exponentials of scores less their query's maximum. -/
def exps (s : FVec Ideal S1x8x16384x16384 .f32) : FVec Ideal S1x8x16384x16384 .f32 :=
  Host.exp (subf s (shift (Host.reduce FloatOps.maximumf s (constant S_ .f32 0xFF800000#32) reducesTo_S1x8x16384x16384_S1x8x16384_d3 h_S_)))

/-- The values averaged under normalised exponentials, laid out query by query. -/
def averaged (e : FVec Ideal S1x8x16384x16384 .f32) (a4 : FVec Ideal S1x16384x8x128 .f32) : FVec Ideal S16384x1024 .bf16 :=
  truncf .bf16 (shapeCast S16384x1024 (transpose S1x16384x8x128 [0, 2, 1, 3] (Host.dotGeneral dot_S1x8x16384x16384_S1x8x16384x128_S1x8x16384x128_3_2_2_3_01_01 none
    (Host.divf e (broadcastInDim S1x8x16384x16384 ![0, 1, 2, 3] bcast_S1x8x16384x1_S1x8x16384x16384_0_1_2_3 (broadcastInDim S1x8x16384x1 ![0, 1, 2] bcast_S1x8x16384_S1x8x16384x1_0_1_2
      (Host.reduceAdd e (constant S_ .f32 0x00000000#32) reducesTo_S1x8x16384x16384_S1x8x16384_d3 h_S_))))
    (transpose S1x8x16384x128 [0, 2, 1, 3] a4 transposes_S1x16384x8x128_S1x8x16384x128_0_2_1_3)) transposes_S1x8x16384x128_S1x16384x8x128_0_2_1_3) shapeCasts_S1x16384x8x128_S16384x1024) bitsLt_bf16_f32

theorem products_at (a0 : FVec Ideal S1x16384x8x128 .f32) (a1 : FVec Ideal S1x16384x8x64 .f32) (a2 : FVec Ideal S1x16384x8x128 .f32)
    (a3 : FVec Ideal S1x16384x64 .f32) (h : Fin 8) (Q n : Fin 16384) :
    products a0 a1 a2 a3 (ix4 0 h Q n) = Mla.raw a0 a1 a2 a3 h Q n := by
  unfold Mla.raw Mla.scaleWord
  pointwise [products]

theorem seen_at (Q n : Fin 16384) : seen (ix2 Q n) = IntOp.cmpi .sle (BitVec.ofNat 32 n.val) (BitVec.ofNat 32 Q.val) := by
  pointwise [seen]

theorem masked_at (p : FVec Ideal S1x8x16384x16384 .f32) (h : Fin 8) (Q n : Fin 16384) :
    masked p (ix4 0 h Q n) = if n.val ≤ Q.val then p (ix4 0 h Q n) else ⊥ := by
  pointwise [masked, seen_at]
  rw [Mla.ofBits_neg_inf]
  exact Mla.select_sle n.val Q.val (by omega) (by omega) _ _

/-- The maximum over the keys. -/
theorem maximum_at (s : FVec Ideal S1x8x16384x16384 .f32) (h : Fin 8) (Q : Fin 16384) :
    Host.reduce FloatOps.maximumf s (constant S_ .f32 0xFF800000#32) reducesTo_S1x8x16384x16384_S1x8x16384_d3 h_S_ (ix3 0 h Q)
      = Finset.univ.fold max (Ideal.ofBits .f32 0xFF800000#32) fun n => s (ix4 0 h Q n) := by
  pointwise

theorem shift_at (u : FVec Ideal S1x8x16384 .f32) (h : Fin 8) (Q n : Fin 16384) :
    shift u (ix4 0 h Q n) = max (Ideal.ofBits .f32 0xFF800000#32) (u (ix3 0 h Q)) := by
  pointwise [shift]

theorem exps_at (s : FVec Ideal S1x8x16384x16384 .f32) (h : Fin 8) (Q n : Fin 16384) :
    exps s (ix4 0 h Q n) = Ideal.exp (s (ix4 0 h Q n) - Finset.univ.fold max ⊥ fun n' => s (ix4 0 h Q n')) := by
  have e : shift (Host.reduce FloatOps.maximumf s (constant S_ .f32 0xFF800000#32) reducesTo_S1x8x16384x16384_S1x8x16384_d3 h_S_) (ix4 0 h Q n)
      = Finset.univ.fold max ⊥ fun n' => s (ix4 0 h Q n') := by
    rw [shift_at, maximum_at, Mla.ofBits_neg_inf, max_bot_left]
  exact congrArg (fun y => Ideal.exp (s (ix4 0 h Q n) - y)) e

theorem averaged_at (e : FVec Ideal S1x8x16384x16384 .f32) (a4 : FVec Ideal S1x16384x8x128 .f32) (Q : Fin 16384) (x : Fin 1024) :
    averaged e a4 (ix2 Q x) = ∑ n, Ideal.div (e (ix4 0 ⟨x.val / 128, by omega⟩ Q n)) (∑ n', e (ix4 0 ⟨x.val / 128, by omega⟩ Q n'))
      * a4 (ix4 0 n ⟨x.val / 128, by omega⟩ ⟨x.val % 128, by omega⟩) := by
  pointwise [averaged]

variable (m : (ℓ : Loc nD τ sig) → Buf (Elt Ideal) ℓ) (c : Dev nD)

/-- The reference's composed term, cut in its parts. -/
theorem result_eq : Value.res_main_v32 m c
    = averaged (exps (masked (products (m ((c : Thread nD τ).loc main_arg0)) (m ((c : Thread nD τ).loc main_arg1)) (m ((c : Thread nD τ).loc main_arg2))
        (m ((c : Thread nD τ).loc main_arg3))))) (m ((c : Thread nD τ).loc main_arg4)) := rfl

theorem result_at (Q : Fin 16384) (e : Fin 1024) :
    Value.res_main_v32 m c (ix2 Q e)
      = Mla.attention (m ((c : Thread nD τ).loc main_arg0)) (m ((c : Thread nD τ).loc main_arg1)) (m ((c : Thread nD τ).loc main_arg2))
          (m ((c : Thread nD τ).loc main_arg3)) (m ((c : Thread nD τ).loc main_arg4)) ⟨e.val / 128, by omega⟩ Q ⟨e.val % 128, by omega⟩ := by
  refine (congrFun (result_eq m c) (ix2 Q e)).trans ((averaged_at _ _ Q e).trans ?_)
  simp only [exps_at, masked_at, products_at]
  rfl

end Cert.Proof.MlaRef

end
-- ==== Proof.ProjSame.lean ====
/-
  The final norm and the two input projections have the same texts as their ideal readings, hence at any float values the
  same body tables: the frame of the ideal reading's run serves for both.
-/
module

public import proofs.«01_k».proof.Proof.Gen.FinalNorm
public import proofs.«01_k».proof.Proof.Gen.MlaProj
public import proofs.«01_k».proof.Proof.Gen.HyProj
public import proofs.«01_k».proof.Proof.Gen.FinalNormIdeal.Frame
public import proofs.«01_k».proof.Proof.Gen.MlaProjIdeal.Frame
public import proofs.«01_k».proof.Proof.Gen.HyProjIdeal.Frame
public import Idealize.ShloMosaic.PureOps.BitExact
public import Idealize.ShloMosaic.Init

@[expose] public section

set_option maxRecDepth 16384

noncomputable section

namespace Cert.Proof

open Idealize.ShloMosaic Idealize.ShloMosaic.TcCoe Idealize.SL Idealize.SL.Sem

namespace Final

set_option maxHeartbeats 4000000 in
theorem defs₀_same : Cert.FinalNorm.defs₀ (F := Bits) = Cert.FinalNormIdeal.defs₀ (F := Bits) := by
  unfold Cert.FinalNorm.defs₀ Cert.FinalNormIdeal.defs₀
  congr 1
  funext l a
  match l, a with
  | 0, (_, _) => rfl
  | ⟨_ + 1, h⟩, _ => exact absurd h (Nat.not_lt.2 (Nat.le_add_left _ _))

theorem defs_same : Cert.FinalNorm.defs (F := Bits) = Cert.FinalNormIdeal.defs (F := Bits) :=
  congrArg (Pipeline.defs Cert.FinalNormIdeal.pcfgs) defs₀_same

set_option maxHeartbeats 4000000 in
theorem run_frame_bits (m : (ℓ : Loc Cert.FinalNorm.nD Cert.FinalNorm.τ Cert.FinalNorm.sig) → Buf (Elt Bits) ℓ) (ρ : Dev Cert.FinalNorm.nD → PrngReg) :
    θ_run Cert.FinalNorm.defs (onTc (τ := Cert.FinalNorm.τ) (Cert.FinalNorm.main (F := Bits))) ⟨m, fun _ => 0, ρ⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0) := by
  rw [defs_same]
  exact Cert.FinalNormIdeal.Gen.frame (F := Bits) m ρ

end Final

namespace MlaP

set_option maxHeartbeats 4000000 in
theorem defs₀_same : Cert.MlaProj.defs₀ (F := Bits) = Cert.MlaProjIdeal.defs₀ (F := Bits) := by
  unfold Cert.MlaProj.defs₀ Cert.MlaProjIdeal.defs₀
  congr 1
  funext l a
  match l, a with
  | 0, (_, _) => rfl
  | ⟨_ + 1, h⟩, _ => exact absurd h (Nat.not_lt.2 (Nat.le_add_left _ _))

theorem defs_same : Cert.MlaProj.defs (F := Bits) = Cert.MlaProjIdeal.defs (F := Bits) :=
  congrArg (Pipeline.defs Cert.MlaProjIdeal.pcfgs) defs₀_same

set_option maxHeartbeats 4000000 in
theorem run_frame_bits (m : (ℓ : Loc Cert.MlaProj.nD Cert.MlaProj.τ Cert.MlaProj.sig) → Buf (Elt Bits) ℓ) (ρ : Dev Cert.MlaProj.nD → PrngReg) :
    θ_run Cert.MlaProj.defs (onTc (τ := Cert.MlaProj.τ) (Cert.MlaProj.main (F := Bits))) ⟨m, fun _ => 0, ρ⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5)
      ∧ r.2.mem ((c.tc : Thread Cert.MlaProj.nD Cert.MlaProj.τ).loc Cert.MlaProj.main_arg6) = m ((c.tc : Thread Cert.MlaProj.nD Cert.MlaProj.τ).loc Cert.MlaProj.main_arg6)
      ∧ r.2.mem ((c.tc : Thread Cert.MlaProj.nD Cert.MlaProj.τ).loc Cert.MlaProj.main_arg7) = m ((c.tc : Thread Cert.MlaProj.nD Cert.MlaProj.τ).loc Cert.MlaProj.main_arg7)
      ∧ r.2.mem ((c.tc : Thread Cert.MlaProj.nD Cert.MlaProj.τ).loc Cert.MlaProj.main_arg8) = m ((c.tc : Thread Cert.MlaProj.nD Cert.MlaProj.τ).loc Cert.MlaProj.main_arg8)
      ∧ r.2.mem ((c.tc : Thread Cert.MlaProj.nD Cert.MlaProj.τ).loc Cert.MlaProj.main_arg9) = m ((c.tc : Thread Cert.MlaProj.nD Cert.MlaProj.τ).loc Cert.MlaProj.main_arg9)
      ∧ r.2.mem ((c.tc : Thread Cert.MlaProj.nD Cert.MlaProj.τ).loc Cert.MlaProj.main_arg10) = m ((c.tc : Thread Cert.MlaProj.nD Cert.MlaProj.τ).loc Cert.MlaProj.main_arg10))
      ∧ r.2.sem = fun _ => 0) := by
  rw [defs_same]
  exact Cert.MlaProjIdeal.Gen.frame (F := Bits) m ρ

end MlaP

namespace Hy

set_option maxHeartbeats 4000000 in
theorem defs₀_same : Cert.HyProj.defs₀ (F := Bits) = Cert.HyProjIdeal.defs₀ (F := Bits) := by
  unfold Cert.HyProj.defs₀ Cert.HyProjIdeal.defs₀
  congr 1
  funext l a
  match l, a with
  | 0, (_, _) => rfl
  | ⟨_ + 1, h⟩, _ => exact absurd h (Nat.not_lt.2 (Nat.le_add_left _ _))

theorem defs_same : Cert.HyProj.defs (F := Bits) = Cert.HyProjIdeal.defs (F := Bits) :=
  congrArg (Pipeline.defs Cert.HyProjIdeal.pcfgs) defs₀_same

set_option maxHeartbeats 4000000 in
theorem run_frame_bits (m : (ℓ : Loc Cert.HyProj.nD Cert.HyProj.τ Cert.HyProj.sig) → Buf (Elt Bits) ℓ) (ρ : Dev Cert.HyProj.nD → PrngReg) :
    θ_run Cert.HyProj.defs (onTc (τ := Cert.HyProj.τ) (Cert.HyProj.main (F := Bits))) ⟨m, fun _ => 0, ρ⟩ (fun r => (∀ c : Dev Cert.HyProj.nD,
      r.2.mem ((c.tc : Thread Cert.HyProj.nD Cert.HyProj.τ).loc Cert.HyProj.main_arg0) = m ((c.tc : Thread Cert.HyProj.nD Cert.HyProj.τ).loc Cert.HyProj.main_arg0)
      ∧ r.2.mem ((c.tc : Thread Cert.HyProj.nD Cert.HyProj.τ).loc Cert.HyProj.main_arg1) = m ((c.tc : Thread Cert.HyProj.nD Cert.HyProj.τ).loc Cert.HyProj.main_arg1)
      ∧ r.2.mem ((c.tc : Thread Cert.HyProj.nD Cert.HyProj.τ).loc Cert.HyProj.main_arg2) = m ((c.tc : Thread Cert.HyProj.nD Cert.HyProj.τ).loc Cert.HyProj.main_arg2)
      ∧ r.2.mem ((c.tc : Thread Cert.HyProj.nD Cert.HyProj.τ).loc Cert.HyProj.main_arg3) = m ((c.tc : Thread Cert.HyProj.nD Cert.HyProj.τ).loc Cert.HyProj.main_arg3)
      ∧ r.2.mem ((c.tc : Thread Cert.HyProj.nD Cert.HyProj.τ).loc Cert.HyProj.main_arg4) = m ((c.tc : Thread Cert.HyProj.nD Cert.HyProj.τ).loc Cert.HyProj.main_arg4)
      ∧ r.2.mem ((c.tc : Thread Cert.HyProj.nD Cert.HyProj.τ).loc Cert.HyProj.main_arg5) = m ((c.tc : Thread Cert.HyProj.nD Cert.HyProj.τ).loc Cert.HyProj.main_arg5)
      ∧ r.2.mem ((c.tc : Thread Cert.HyProj.nD Cert.HyProj.τ).loc Cert.HyProj.main_arg6) = m ((c.tc : Thread Cert.HyProj.nD Cert.HyProj.τ).loc Cert.HyProj.main_arg6))
      ∧ r.2.sem = fun _ => 0) := by
  rw [defs_same]
  exact Cert.HyProjIdeal.Gen.frame (F := Bits) m ρ

end Hy

end Cert.Proof

end
-- ==== Proof.TableSame.lean ====
/-
  The modulation and the tables of the angles have the same texts as their ideal readings, hence at any float values the
  same body tables: the frame of the ideal reading's run serves for both.
-/
module

public import proofs.«01_k».proof.Proof.Gen.Modulation
public import proofs.«01_k».proof.Proof.Gen.Rope
public import proofs.«01_k».proof.Proof.Gen.ModulationIdeal.Frame
public import proofs.«01_k».proof.Proof.Gen.RopeIdeal.Frame
public import Idealize.ShloMosaic.PureOps.BitExact
public import Idealize.ShloMosaic.Init

@[expose] public section

set_option maxRecDepth 16384

noncomputable section

namespace Cert.Proof

open Idealize.ShloMosaic Idealize.ShloMosaic.TcCoe Idealize.SL Idealize.SL.Sem

namespace Modu

set_option maxHeartbeats 4000000 in
theorem defs₀_same : Cert.Modulation.defs₀ (F := Bits) = Cert.ModulationIdeal.defs₀ (F := Bits) := by
  unfold Cert.Modulation.defs₀ Cert.ModulationIdeal.defs₀
  congr 1
  funext l a
  match l, a with
  | 0, (_, _) => rfl
  | ⟨_ + 1, h⟩, _ => exact absurd h (Nat.not_lt.2 (Nat.le_add_left _ _))

theorem defs_same : Cert.Modulation.defs (F := Bits) = Cert.ModulationIdeal.defs (F := Bits) :=
  congrArg (Pipeline.defs Cert.ModulationIdeal.pcfgs) defs₀_same

set_option maxHeartbeats 4000000 in
theorem run_frame_bits (m : (ℓ : Loc Cert.Modulation.nD Cert.Modulation.τ Cert.Modulation.sig) → Buf (Elt Bits) ℓ) (ρ : Dev Cert.Modulation.nD → PrngReg) :
    θ_run Cert.Modulation.defs (onTc (τ := Cert.Modulation.τ) (Cert.Modulation.main (F := Bits))) ⟨m, fun _ => 0, ρ⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0) := by
  rw [defs_same]
  exact Cert.ModulationIdeal.Gen.frame (F := Bits) m ρ

end Modu

namespace Rope

set_option maxHeartbeats 4000000 in
theorem defs₀_same : Cert.Rope.defs₀ (F := Bits) = Cert.RopeIdeal.defs₀ (F := Bits) := by
  unfold Cert.Rope.defs₀ Cert.RopeIdeal.defs₀
  congr 1
  funext l a
  match l, a with
  | 0, (_, _) => rfl
  | ⟨_ + 1, h⟩, _ => exact absurd h (Nat.not_lt.2 (Nat.le_add_left _ _))

theorem defs_same : Cert.Rope.defs (F := Bits) = Cert.RopeIdeal.defs (F := Bits) :=
  congrArg (Pipeline.defs Cert.RopeIdeal.pcfgs) defs₀_same

set_option maxHeartbeats 4000000 in
theorem run_frame_bits (m : (ℓ : Loc Cert.Rope.nD Cert.Rope.τ Cert.Rope.sig) → Buf (Elt Bits) ℓ) (ρ : Dev Cert.Rope.nD → PrngReg) :
    θ_run Cert.Rope.defs (onTc (τ := Cert.Rope.τ) (Cert.Rope.main (F := Bits))) ⟨m, fun _ => 0, ρ⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0) := by
  rw [defs_same]
  exact Cert.RopeIdeal.Gen.frame (F := Bits) m ρ

end Rope

end Cert.Proof

end
-- ==== Proof.TableSpec.lean ====
/-
  What the trunk computes before its layers, over the extended reals: every layer's modulation of the conditioning vector,
  and the tables of the angles' cosines and sines.
-/
module

public import Idealize.ShloMosaic.Lib.Pointwise
public import Idealize.ShloMosaic.Lib.IdealHost

@[expose] public section

set_option maxRecDepth 16384

noncomputable section

namespace Cert.Proof.Table

open Idealize.ShloMosaic

/-- The modulation of layer `y 0`, column `y 2`: the conditioning vector under `x · logistic x`, projected, with the bias. -/
def modOut (c : Vec Ideal ⟨2, ![1, 1024]⟩ .f32) (w : Vec Ideal ⟨3, ![4, 1024, 6144]⟩ .f32) (b : Vec Ideal ⟨2, ![4, 6144]⟩ .f32) :
    Vec Ideal ⟨3, ![4, 1, 6144]⟩ .f32 :=
  fun y => ∑ k, c (ix2 0 k) * Ideal.logistic (c (ix2 0 k)) * w (ix3 (y 0) k (y 2)) + b (ix2 (y 0) (y 2))

/-- The frequency of angle `k`: 10000 to the power of minus `2 k` over the head's size, which `len` spells. -/
def freq (len : BitVec 32) (k : ℕ) : EReal :=
  Ideal.pow (Ideal.ofBits .f32 0x461C4000#32)
    (Ideal.div (-(Ideal.ofBits .f32 0x40000000#32 * FloatOps.sitofp (F := Ideal) .f32 (BitVec.ofNat 32 k))) (Ideal.ofBits .f32 len))

/-- Angle `k` of a position. -/
def angle (len p : BitVec 32) (k : ℕ) : EReal := FloatOps.sitofp (F := Ideal) .f32 p * freq len k

section
variable (len : BitVec 32) (n : ℕ) (p : Vec Ideal ⟨2, ![1, 16384]⟩ .i32)

/-- The cosines of a position's `n` angles, repeated along a row of 128. -/
def cosOut : Vec Ideal ⟨2, ![16384, 128]⟩ .f32 := fun y => Ideal.cos (angle len (p (ix2 0 (y 0))) ((y 1).val % n))

/-- The sines alike, every other time under a sign. -/
def sinOut : Vec Ideal ⟨2, ![16384, 128]⟩ .f32 := fun y =>
  if (y 1).val % (2 * n) < n then -Ideal.sin (angle len (p (ix2 0 (y 0))) ((y 1).val % n))
  else Ideal.sin (angle len (p (ix2 0 (y 0))) ((y 1).val % n))

theorem cosOut_at (Q : Fin 16384) (e : Fin 128) :
    cosOut len n p (ix2 Q e) = Ideal.cos (FloatOps.sitofp (F := Ideal) .f32 (p (ix2 0 Q)) * freq len (e.val % n)) := rfl

theorem sinOut_at (Q : Fin 16384) (e : Fin 128) :
    sinOut len n p (ix2 Q e) = if e.val % (2 * n) < n then -Ideal.sin (FloatOps.sitofp (F := Ideal) .f32 (p (ix2 0 Q)) * freq len (e.val % n))
      else Ideal.sin (FloatOps.sitofp (F := Ideal) .f32 (p (ix2 0 Q)) * freq len (e.val % n)) := rfl

end

end Cert.Proof.Table

end
-- ==== Proof.ModValue.lean ====
/-
  The modulation of every layer over the extended reals: the call's result array in terms of the program's arguments.
-/
module

public import proofs.«01_k».proof.Proof.Gen.ModulationIdeal.Value
public import proofs.«01_k».proof.Proof.TableSpec
public import Idealize.ShloMosaic.Lib.Pipeline.ValueKit

@[expose] public section

set_option maxRecDepth 16384

noncomputable section

namespace Cert.Proof.Modu

open Cert.ModulationIdeal Cert.ModulationIdeal.Gen
open Idealize.ShloMosaic Idealize.ShloMosaic.TcCoe Idealize.SL.Sem

theorem pay_at (x0 : Vec Ideal S1024x1 .f32) (x1 : Vec Ideal S1x1024x1536 .f32) (x2 : Vec Ideal S1x1x1536 .f32) (e : Fin 1536) :
    k0_pay1 (F := Ideal) x0 x1 x2 (ix3 0 0 e)
      = ∑ k, x0 (ix2 k 0) * Ideal.logistic (x0 (ix2 k 0)) * x1 (ix3 0 k e) + x2 (ix3 0 0 e) := by
  pointwise [k0_pay1]

theorem out_at (x0 : Vec Ideal S1024x1 .f32) (x1 : Vec Ideal S1x1024x1536 .f32) (x2 : Vec Ideal S1x1x1536 .f32) (e : Fin 1536) :
    out0_3 (F := Ideal) x0 x1 x2 (ix3 0 0 e)
      = ∑ k, x0 (ix2 k 0) * Ideal.logistic (x0 (ix2 k 0)) * x1 (ix3 0 k e) + x2 (ix3 0 0 e) := by
  unfold out0_3
  frame_out
  exact pay_at _ _ _ e

variable (m : (ℓ : Loc nD τ sig) → Buf (Elt Ideal) ℓ) (c : Dev nD)

theorem index_0 : ∀ t : Fin cfg0.N, (cfg0.win 0).index t = ![0, 0] := by decide +kernel
theorem index_1 : ∀ t : Fin cfg0.N, (cfg0.win 1).index t = ![(grid0.coords t 0).val, 0, (grid0.coords t 1).val] := by decide +kernel
theorem index_2 : ∀ t : Fin cfg0.N, (cfg0.win 2).index t = ![(grid0.coords t 0).val, 0, (grid0.coords t 1).val] := by decide +kernel
theorem index_3 : ∀ t : Fin cfg0.N, (cfg0.win 3).index t = ![(grid0.coords t 0).val, 0, (grid0.coords t 1).val] := by decide +kernel

/-- A grid point's layer, and column `e` of its tile among all columns. -/
def layerOf (t : Fin cfg0.N) : Fin 4 := ⟨(grid0.coords t 0).val, (grid0.coords t 0).isLt⟩
def columnOf (t : Fin cfg0.N) (e : Fin 1536) : Fin 6144 :=
  ⟨1536 * (grid0.coords t 1).val + e.val, by have : (grid0.coords t 1).val < 4 := (grid0.coords t 1).isLt; omega⟩

theorem cond_tile (t : Fin cfg0.N) (k : Fin 1024) :
    iblk m c 0 t (ix2 k 0) = m ((c : Thread nD τ).loc main_arg0) (ix2 0 k) := by
  have h : ((cfg0.win 0).blk t).view.emb (ix2 k 0) = ix2 k 0 := by blk_ext [index_0 t]
  refine (congrArg (V m c main_v0) h).trans ?_
  entry_read
  pointwise

theorem weight_tile (t : Fin cfg0.N) (k : Fin 1024) (e : Fin 1536) :
    iblk m c 1 t (ix3 0 k e) = m ((c : Thread nD τ).loc main_arg1) (ix3 (layerOf t) k (columnOf t e)) := by
  have h : ((cfg0.win 1).blk t).view.emb (ix3 0 k e) = ix3 (layerOf t) k (columnOf t e) := by
    unfold layerOf columnOf
    blk_ext [index_1 t]
  refine (congrArg (V m c main_arg1) h).trans ?_
  exact congrFun (V_main_arg1 m c) _

theorem bias_tile (t : Fin cfg0.N) (e : Fin 1536) :
    iblk m c 2 t (ix3 0 0 e) = m ((c : Thread nD τ).loc main_arg2) (ix2 (layerOf t) (columnOf t e)) := by
  have h : ((cfg0.win 2).blk t).view.emb (ix3 0 0 e) = ix3 (layerOf t) 0 (columnOf t e) := by
    unfold layerOf columnOf
    blk_ext [index_2 t]
  refine (congrArg (V m c main_v1) h).trans ?_
  entry_read
  pointwise

abbrev resultOf : Vec Ideal S4x1x6144 .f32 :=
  Table.modOut (m ((c : Thread nD τ).loc main_arg0)) (m ((c : Thread nD τ).loc main_arg1)) (m ((c : Thread nD τ).loc main_arg2))

/-- The result array: the modulation of every layer. -/
theorem result_3 : (dats m 0 c).arrAt 3 cfg0.N = resultOf m c := by
  refine (dats m 0 c).arrAt_eq_of_covers 3 _ (by decide +kernel) fun t hf y => ?_
  obtain ⟨e, rfl⟩ : ∃ e : Fin 1536, y = ix3 0 0 e := ⟨y 2, by rw [eq_ix3 y]; congr 1 <;> exact Fin.fin_one_eq_zero _⟩
  have h : ((cfg0.win 3).blk t).view.emb (ix3 0 0 e) = ix3 (layerOf t) 0 (columnOf t e) := by
    unfold layerOf columnOf
    blk_ext [index_3 t]
  blk_simp
  rw [after0_3, out_at, bias_tile]
  simp only [cond_tile, weight_tile]
  exact congrArg (resultOf m c) h.symm

/-- The kernel's run: its result is every layer's modulation; its arguments stay. -/
theorem run (ρ : Dev nD → PrngReg) :
    θ_run defs (onTc (τ := τ) (main (F := Ideal))) ⟨m, fun _ => 0, ρ⟩ fun r => ∀ c : Dev nD,
      r.2.mem ((c.tc : Thread nD τ).loc main_v2) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_3 m c), (h c).2⟩) (Value.run_blocks (F := Ideal) m ρ)

end Cert.Proof.Modu

end
-- ==== Proof.ModRef.lean ====
/-
  The modulation as plain lines, at an index, over the extended reals.
-/
module

public import proofs.«01_k».proof.Proof.Gen.ModulationRefIdeal.Run
public import proofs.«01_k».proof.Proof.TableSpec

@[expose] public section

set_option maxRecDepth 16384

noncomputable section

namespace Cert.Proof.ModuRef

open Cert.ModulationRefIdeal Cert.ModulationRefIdeal.Gen
open Idealize.ShloMosaic Idealize.ShloMosaic.TcCoe Idealize.SL.Sem

variable (x : FVec Ideal S1x1024 .f32) (w : FVec Ideal S4x1024x6144 .f32) (b : FVec Ideal S4x6144 .f32)

/-- The conditioning vector times its logistic function. -/
def swish : FVec Ideal S1x1024 .f32 :=
  mulf x (Host.divf (broadcastInDim S1x1024 ![] bcast_S_S1x1024 (constant S_ .f32 0x3F800000#32))
    (addf (broadcastInDim S1x1024 ![] bcast_S_S1x1024 (constant S_ .f32 0x3F800000#32)) (Host.exp (Host.negf x))))

theorem swish_at (k : Fin 1024) : swish x (ix2 0 k) = x (ix2 0 k) * Ideal.logistic (x (ix2 0 k)) := by
  unfold Ideal.logistic
  pointwise [swish]

/-- Projected by every layer's weights, with its bias. -/
def modulated : FVec Ideal S4x1x6144 .f32 :=
  addf (transpose S4x1x6144 [0, 2, 1] (Host.dotGeneral dot_S4x1024x6144_S1x1024_S4x6144x1_1_1_02_0_n_n none w (swish x)) transposes_S4x6144x1_S4x1x6144_0_2_1)
    (broadcastInDim S4x1x6144 ![0, 2] bcast_S4x6144_S4x1x6144_0_2 b)

theorem modulated_eq : modulated x w b = Table.modOut x w b := by
  funext y
  obtain ⟨l, e, rfl⟩ : ∃ (l : Fin 4) (e : Fin 6144), y = ix3 l 0 e :=
    ⟨y 0, y 2, by rw [eq_ix3 y]; congr 1; exact Fin.fin_one_eq_zero _⟩
  show _ = ∑ k, x (ix2 0 k) * Ideal.logistic (x (ix2 0 k)) * w (ix3 l k e) + b (ix2 l e)
  simp only [← swish_at, mul_comm (swish x _)]
  pointwise [modulated]

variable (m : (ℓ : Loc nD τ sig) → Buf (Elt Ideal) ℓ)

/-- The reference's run: its result is every layer's modulation; its arguments stay. -/
theorem run (ρ : Dev nD → PrngReg) :
    θ_run defs (onTc (τ := τ) (main (F := Ideal))) ⟨m, fun _ => 0, ρ⟩ fun r => ∀ c : Dev nD,
      r.2.mem ((c.tc : Thread nD τ).loc main_v4)
        = Table.modOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (modulated_eq _ _ _), (h c).2⟩) (Value.run (F := Ideal) m ρ)

end Cert.Proof.ModuRef

end
-- ==== Proof.ProjSpec.lean ====
/-
  What the layer's norm, its rotary embedding and the last norm of the trunk compute for one position, over the extended
  reals. The calls before the mixers and their references are stated in these words.
-/
module

public import proofs.«01_k».proof.Proof.OutSpec

@[expose] public section

noncomputable section

namespace Cert.Proof.Proj

open Idealize.ShloMosaic

/-- A row under root-mean-square normalisation and a weight; `len` spells the row's length. -/
def rms {n : ℕ} (len : BitVec 32) (x w : Fin n → EReal) (e : Fin n) : EReal :=
  x e * Ideal.rsqrt (Ideal.div (∑ k, x k * x k) (Ideal.ofBits .f32 len) + Ideal.ofBits .f32 0x358637BD#32) * w e

/-- A head's features turned by a position's angles, the first half against the second. -/
def rotary {h n : ℕ} (hn : n = h + h) (u : Fin n → EReal) (c s : Fin h → EReal) (d : Fin n) : EReal :=
  if p : d.val < h then u d * c ⟨d.val, p⟩ - u ⟨d.val + h, by omega⟩ * s ⟨d.val, p⟩
  else u d * c ⟨d.val - h, by omega⟩ + u ⟨d.val - h, by omega⟩ * s ⟨d.val - h, by omega⟩

/-- Taking a product away is adding the product with the negated factor. -/
theorem sub_mul_eq (a b s : EReal) : a - b * s = a + b * -s := by rw [sub_eq_add_neg, mul_neg]

/-- The last norm of the trunk, by position. -/
def finalOut (x : Vec Ideal ⟨3, ![1, 16384, 1024]⟩ .f32) (w : Vec Ideal ⟨1, ![1024]⟩ .f32) : Vec Ideal ⟨2, ![16384, 1024]⟩ .f32 :=
  fun y => rms 0x44800000#32 (fun e => x (ix3 0 (y 0) e)) (fun e => w (ix1 e)) (y 1)

/-- The features of position `Q` before the mixers, from the layer's arrays. -/
def normedAt (x : Vec Ideal ⟨3, ![1, 16384, 1024]⟩ .f32) (w : Vec Ideal ⟨1, ![1024]⟩ .f32) (sc sh : Vec Ideal ⟨3, ![1, 1, 1024]⟩ .f32)
    (Q : Fin 16384) : Fin 1024 → EReal :=
  Out.hidden (fun e => x (ix3 0 Q e)) (fun e => w (ix1 e)) (fun e => sc (ix3 0 0 e)) fun e => sh (ix3 0 0 e)
/-- The values of a head above the rows that sum the weights: one of ones, fifteen of zeros. -/
def valued (u : Fin 128 → EReal) (n : Fin 144) : EReal :=
  if h : n.val < 128 then u ⟨n.val, h⟩ else if n.val = 128 then 1 else 0

/-- The rotary embedding from tables that hold the angles twice, the sines negated over the first half, and from the lane
half a head away. -/
theorem rotary_of_tables (u : Fin 128 → EReal) (c s : Fin 64 → EReal) (d : Fin 128) :
    u d * (if p : d.val < 64 then c ⟨d.val, p⟩ else c ⟨d.val - 64, by omega⟩)
      + u ⟨(d.val + 128 - 64) % 128, by omega⟩ * (if p : d.val < 64 then -s ⟨d.val, p⟩ else s ⟨d.val - 64, by omega⟩)
      = rotary rfl u c s d := by
  unfold rotary
  by_cases p : d.val < 64
  · rw [dif_pos p, dif_pos p, dif_pos p, sub_mul_eq]
    congr 3
    exact Fin.ext (show (d.val + 128 - 64) % 128 = d.val + 64 by omega)
  · rw [dif_neg p, dif_neg p, dif_neg p]
    congr 3
    exact Fin.ext (show (d.val + 128 - 64) % 128 = d.val - 64 by omega)

/-! ## The hybrid layers' input projection -/

section
variable (x : Vec Ideal ⟨3, ![1, 16384, 1024]⟩ .f32) (w : Vec Ideal ⟨1, ![1024]⟩ .f32) (sc sh : Vec Ideal ⟨3, ![1, 1, 1024]⟩ .f32)
  (cos sin : Vec Ideal ⟨3, ![1, 16384, 64]⟩ .f32) (wi : Vec Ideal ⟨2, ![1024, 3592]⟩ .f32)

/-- Feature `j` of the projection at position `Q`. -/
def hyAt (Q : Fin 16384) (j : Fin 3592) : EReal := ∑ k, normedAt x w sc sh Q k * wi (ix2 k j)

/-- A head's features from `o` on, turned by the angles of position `Q`. -/
def hyTurned (o : ℕ) (ho : o ≤ 3464) (Q : Fin 16384) (d : Fin 128) : EReal :=
  rotary rfl (fun d : Fin 128 => hyAt x w sc sh wi Q ⟨o + d.val, by omega⟩) (fun k : Fin 64 => cos (ix3 0 Q k)) (fun k => sin (ix3 0 Q k)) d

/-- Position `r` of block `b`. -/
def rowOf (b : Fin 64) (r : Fin 256) : Fin 16384 := ⟨256 * b.val + r.val, by omega⟩

/-- The six results: the delta rule's queries, keys and values; its gate; its step sizes and decays, with unused lanes of
zeros; the block-sparse attention's queries by head and block; its keys by position; its values by head and block. -/
def hyMixOut : Vec Ideal ⟨2, ![16384, 1536]⟩ .f32 := fun y => hyAt x w sc sh wi (y 0) ⟨(y 1).val, by have : (y 1).val < 1536 := (y 1).isLt; omega⟩
def hyGateOut : Vec Ideal ⟨2, ![16384, 512]⟩ .f32 := fun y => hyAt x w sc sh wi (y 0) ⟨1536 + (y 1).val, by have : (y 1).val < 512 := (y 1).isLt; omega⟩
def hyStepOut : Vec Ideal ⟨2, ![16384, 128]⟩ .f32 := fun y => if h : (y 1).val < 8 then hyAt x w sc sh wi (y 0) ⟨2048 + (y 1).val, by omega⟩ else 0
def hyQueryOut : Vec Ideal ⟨4, ![4, 64, 128, 256]⟩ .bf16 := fun y =>
  hyTurned x w sc sh cos sin wi (2056 + 128 * (y 0).val) (by have : (y 0).val < 4 := (y 0).isLt; omega) (rowOf (y 1) (y 3)) (y 2)
def hyKeyOut : Vec Ideal ⟨2, ![16384, 512]⟩ .bf16 := fun y =>
  hyTurned x w sc sh cos sin wi (2568 + 128 * ((y 1).val / 128)) (by have : (y 1).val < 512 := (y 1).isLt; omega) (y 0) ⟨(y 1).val % 128, by omega⟩
def hyValueOut : Vec Ideal ⟨4, ![4, 64, 144, 256]⟩ .bf16 := fun y =>
  valued (fun d => hyAt x w sc sh wi (rowOf (y 1) (y 3)) ⟨3080 + 128 * (y 0).val + d.val, by have : (y 0).val < 4 := (y 0).isLt; omega⟩) (y 2)

end

end Cert.Proof.Proj

end
-- ==== Proof.MlaSpec.lean ====
/-
  What the latent attention's projection computes, over the extended reals: the queries, keys and values that the attention
  takes, from the layer's arrays.
-/
module

public import proofs.«01_k».proof.Proof.ProjSpec

@[expose] public section

noncomputable section

namespace Cert.Proof.MlaP

open Idealize.ShloMosaic

/-! ## Two heads' rotary features in one row of 128 lanes -/

/-- Head `s` of two that share a row, turned by tables: each lane against the lane 32 away within its head. -/
def half (u c n : Fin 128 → EReal) (s : Fin 2) (d : Fin 64) : EReal :=
  u ⟨64 * s.val + d.val, by omega⟩ * c ⟨64 * s.val + d.val, by omega⟩
    + (if d.val < 32 then u ⟨(64 * s.val + d.val + 128 - 96) % 128, by omega⟩ else u ⟨(64 * s.val + d.val + 128 - 32) % 128, by omega⟩)
      * n ⟨64 * s.val + d.val, by omega⟩

/-- Lane `j` of a table that holds the 32 angles four times, each other time under a sign. -/
def fourfold (a b : Fin 32 → EReal) (j : Fin 128) : EReal :=
  if j.val % 64 < 32 then a ⟨j.val % 32, by omega⟩ else b ⟨j.val % 32, by omega⟩

/-- With such tables, the sines negated over a head's first half, the kernel's form is the rotary embedding. -/
theorem half_eq (u : Fin 128 → EReal) (c n : Fin 32 → EReal) (s : Fin 2) (d : Fin 64) :
    half u (fourfold c c) (fourfold (fun k => -n k) n) s d
      = Proj.rotary rfl (fun d : Fin 64 => u ⟨64 * s.val + d.val, by omega⟩) c n d := by
  unfold half fourfold Proj.rotary
  have hs : s.val < 2 := s.isLt
  by_cases p : d.val < 32
  · have e1 : (64 * s.val + d.val) % 64 < 32 := by omega
    have e2 : (64 * s.val + d.val) % 32 = d.val := by omega
    have e3 : (64 * s.val + d.val + 128 - 96) % 128 = 64 * s.val + (d.val + 32) := by omega
    simp only [e1, e2, e3, p, if_true, dif_pos, Proj.sub_mul_eq]
  · have e1 : ¬ (64 * s.val + d.val) % 64 < 32 := by omega
    have e2 : (64 * s.val + d.val) % 32 = d.val - 32 := by omega
    have e3 : (64 * s.val + d.val + 128 - 32) % 128 = 64 * s.val + (d.val - 32) := by omega
    simp only [e1, e2, e3, p, if_false, dif_neg, not_false_eq_true]

/-! ## The results -/

section
variable (x : Vec Ideal ⟨3, ![1, 16384, 1024]⟩ .f32) (w : Vec Ideal ⟨1, ![1024]⟩ .f32) (sc sh : Vec Ideal ⟨3, ![1, 1, 1024]⟩ .f32)
  (cos sin : Vec Ideal ⟨3, ![1, 16384, 32]⟩ .f32) (wi : Vec Ideal ⟨2, ![1024, 832]⟩ .f32) (wq : Vec Ideal ⟨1, ![512]⟩ .f32)
  (wk : Vec Ideal ⟨1, ![256]⟩ .f32) (uq : Vec Ideal ⟨2, ![512, 1536]⟩ .f32) (uk : Vec Ideal ⟨2, ![256, 2048]⟩ .f32)

/-- Feature `j` of the input projection at position `Q`: 512 of the queries' latent, 256 of the keys' and values', 64 of the
rotary key that the heads share. -/
def inAt (Q : Fin 16384) (j : Fin 832) : EReal := ∑ k, Proj.normedAt x w sc sh Q k * wi (ix2 k j)

/-- The queries' latent under its norm. -/
def latentQ (Q : Fin 16384) : Fin 512 → EReal :=
  Proj.rms 0x44000000#32 (fun e : Fin 512 => inAt x w sc sh wi Q ⟨e.val, by omega⟩) fun e => wq (ix1 e)

/-- The keys' and values' latent under its norm. -/
def latentK (Q : Fin 16384) : Fin 256 → EReal :=
  Proj.rms 0x43800000#32 (fun e : Fin 256 => inAt x w sc sh wi Q ⟨512 + e.val, by omega⟩) fun e => wk (ix1 e)

/-- Feature `j` of all heads' queries, and of all heads' keys and values. -/
def upQ (Q : Fin 16384) (j : Fin 1536) : EReal := ∑ k, latentQ x w sc sh wi wq Q k * uq (ix2 k j)
def upK (Q : Fin 16384) (j : Fin 2048) : EReal := ∑ k, latentK x w sc sh wi wk Q k * uk (ix2 k j)

/-- Head `a`'s query at position `Q`: 128 features as projected, 64 turned by the position's angles. -/
def queryAt (a : Fin 8) (Q : Fin 16384) (n : Fin 192) : EReal :=
  if h : n.val < 128 then upQ x w sc sh wi wq uq Q ⟨192 * a.val + n.val, by omega⟩
  else Proj.rotary rfl (fun d : Fin 64 => upQ x w sc sh wi wq uq Q ⟨192 * a.val + 128 + d.val, by omega⟩) (fun k : Fin 32 => cos (ix3 0 Q k))
    (fun k => sin (ix3 0 Q k)) ⟨n.val - 128, by omega⟩

/-- Head `a`'s key: 128 features of its own, 64 of the shared rotary key. -/
def keyAt (a : Fin 8) (Q : Fin 16384) (n : Fin 192) : EReal :=
  if h : n.val < 128 then upK x w sc sh wi wk uk Q ⟨256 * a.val + n.val, by omega⟩
  else Proj.rotary rfl (fun d : Fin 64 => inAt x w sc sh wi Q ⟨768 + d.val, by omega⟩) (fun k : Fin 32 => cos (ix3 0 Q k))
    (fun k => sin (ix3 0 Q k)) ⟨n.val - 128, by omega⟩

/-- Head `a`'s value. -/
def valueAt (a : Fin 8) (Q : Fin 16384) (d : Fin 128) : EReal := upK x w sc sh wi wk uk Q ⟨256 * a.val + 128 + d.val, by omega⟩

/-- The three results: queries by head and block, keys by head, values by head and block above the rows that sum the weights. -/
def queryOut : Vec Ideal ⟨4, ![8, 64, 192, 256]⟩ .bf16 := fun y => queryAt x w sc sh cos sin wi wq uq (y 0) (Proj.rowOf (y 1) (y 3)) (y 2)
def keyOut : Vec Ideal ⟨3, ![8, 16384, 192]⟩ .bf16 := fun y => keyAt x w sc sh cos sin wi wk uk (y 0) (y 1) (y 2)
def valueOut : Vec Ideal ⟨4, ![8, 64, 144, 256]⟩ .bf16 := fun y => Proj.valued (valueAt x w sc sh wi wk uk (y 0) (Proj.rowOf (y 1) (y 3))) (y 2)

end

end Cert.Proof.MlaP

end
-- ==== Proof.HyTile.lean ====
/-
  The hybrid layers' input projection at one grid point, over the extended reals: what the body leaves in its six output
  tiles, index by index, in terms of its input tiles.
-/
module

public import proofs.«01_k».proof.Proof.Gen.HyProjIdeal.Value
public import proofs.«01_k».proof.Proof.ProjSpec
public import Idealize.ShloMosaic.Lib.Pipeline.ValueKit

@[expose] public section

set_option maxRecDepth 16384

noncomputable section

namespace Cert.Proof.Hy

open Cert.HyProjIdeal Cert.HyProjIdeal.Gen
open Idealize.ShloMosaic Idealize.ShloMosaic.TcCoe

variable (x0 : Vec Ideal S256x1024 .f32) (x1 x2 x3 : Vec Ideal S1x1024 .f32) (x4 : Vec Ideal S1024x1536 .bf16) (x5 : Vec Ideal S1024x512 .bf16)
  (x6 : Vec Ideal S1024x128 .bf16) (x7 : Vec Ideal S1024x1536 .bf16) (x8 x9 : Vec Ideal S256x128 .f32)

/-- Row `r` of the normalised tile. -/
def hiddenRow (r : Fin 256) : Fin 1024 → EReal :=
  Out.hidden (fun e => x0 (ix2 r e)) (fun e => x1 (ix2 0 e)) (fun e => x2 (ix2 0 e)) fun e => x3 (ix2 0 e)

theorem pay3_at (r : Fin 256) (e : Fin 1024) : k0_pay3 (F := Ideal) x0 x1 x2 x3 (ix2 r e) = hiddenRow x0 x1 x2 x3 r e := by
  unfold hiddenRow Out.hidden
  pointwise [k0_pay3]

theorem pay28_at (r : Fin 256) (e : Fin 1024) :
    k0_pay28 (F := Ideal) x0 x1 x2 x3 x4 x5 x6 x7 x8 x9 (ix2 r e) = hiddenRow x0 x1 x2 x3 r e := by
  unfold k0_pay28
  frame_out
  exact pay3_at _ _ _ _ r e

/-- The projection of row `r` that the block-sparse attention takes: its queries, keys and values. -/
def wide (r : Fin 256) (j : Fin 1536) : EReal := ∑ k, hiddenRow x0 x1 x2 x3 r k * x7 (ix2 k j)

theorem pay29_at (r : Fin 256) (j : Fin 1536) :
    k0_pay29 (F := Ideal) x0 x1 x2 x3 x4 x5 x6 x7 x8 x9 (ix2 r j) = wide x0 x1 x2 x3 x7 r j := by
  unfold k0_pay29 wide
  frame_out
  pointwise [k0_pay7, pay28_at]

theorem pay30_at (r : Fin 256) (d : Fin 128) : k0_pay30 (F := Ideal) x0 x1 x2 x3 x4 x5 x6 x7 x8 x9 (ix2 r d) = x8 (ix2 r d) := by
  unfold k0_pay30
  frame_out
  pointwise [k0_pay8]

theorem pay31_at (r : Fin 256) (d : Fin 128) : k0_pay31 (F := Ideal) x0 x1 x2 x3 x4 x5 x6 x7 x8 x9 (ix2 r d) = x9 (ix2 r d) := by
  unfold k0_pay31
  frame_out
  pointwise [k0_pay9]

/-! ## The three plain projections -/

theorem out10_at (r : Fin 256) (e : Fin 1536) :
    out0_10 x0 x1 x2 x3 x4 x5 x6 x7 x8 x9 (ix2 r e) = ∑ k, hiddenRow x0 x1 x2 x3 r k * x4 (ix2 k e) := by
  unfold out0_10
  frame_out
  pointwise [k0_pay4, pay3_at]

theorem out11_at (r : Fin 256) (e : Fin 512) :
    out0_11 x0 x1 x2 x3 x4 x5 x6 x7 x8 x9 (ix2 r e) = ∑ k, hiddenRow x0 x1 x2 x3 r k * x5 (ix2 k e) := by
  unfold out0_11
  frame_out
  pointwise [k0_pay5, pay3_at]

theorem out12_at (r : Fin 256) (e : Fin 128) :
    out0_12 x0 x1 x2 x3 x4 x5 x6 x7 x8 x9 (ix2 r e) = ∑ k, hiddenRow x0 x1 x2 x3 r k * x6 (ix2 k e) := by
  unfold out0_12
  frame_out
  pointwise [k0_pay6, pay28_at]

/-! ## The queries, the keys and the values -/

/-- Columns `o` to `o + 128` of a projected row, turned by the tables: each lane against the lane half a head away. -/
def turned (u : FVec Ideal S256x1536 .f32) (cs sn : FVec Ideal S256x128 .f32) (o : ℕ) (ho : o ≤ 1408) (r : Fin 256) (d : Fin 128) : EReal :=
  u (ix2 r ⟨o + d.val, by omega⟩) * cs (ix2 r d) + u (ix2 r ⟨o + (d.val + 128 - 64) % 128, by omega⟩) * sn (ix2 r d)

/-- A store of one head's queries lands in its own plane of the tile. -/
theorem plane_of {n : ℕ} (G : Fin 4 → Fin n → Fin 256 → EReal) (a : Fin 4)
    {inb : ∀ i, (![a.val, 0, 0, 0] : Fin 4 → ℕ) i + (![1, 1, n, 256] : Fin 4 → ℕ) i ≤ (![4, 1, n, 256] : Fin 4 → ℕ) i}
    {p : Vec Ideal ⟨4, ![1, 1, n, 256]⟩ .bf16} (h : ∀ (d : Fin n) (r : Fin 256), p (ix4 0 0 d r) = G a d r)
    (y : (Rect.unit (s := ⟨4, ![4, 1, n, 256]⟩) ![a.val, 0, 0, 0] ![1, 1, n, 256] inb).shape.Idx) :
    p y = (fun y : Shape.Idx ⟨4, ![4, 1, n, 256]⟩ => G (y 0) (y 2) (y 3)) ((Rect.unit (s := ⟨4, ![4, 1, n, 256]⟩) ![a.val, 0, 0, 0] ![1, 1, n, 256] inb).emb y) := by
  obtain ⟨d, r, rfl⟩ : ∃ (d : Fin n) (r : Fin 256), y = ix4 0 0 d r := ⟨y 2, y 3, by
    funext i; fin_cases i
    · exact Subsingleton.elim (α := Fin 1) _ _
    · exact Subsingleton.elim (α := Fin 1) _ _
    · rfl
    · rfl⟩
  have e : (Rect.unit (s := ⟨4, ![4, 1, n, 256]⟩) ![a.val, 0, 0, 0] ![1, 1, n, 256] inb).emb (ix4 0 0 d r) = ix4 a 0 d r := by
    funext i; apply Fin.ext; fin_cases i <;> simp
  rw [e]
  exact h d r

/-- A store of one head's keys lands in its own columns of the tile. -/
theorem columns_of (G : Fin 256 → Fin 4 → Fin 128 → EReal) (a : Fin 4)
    {inb : ∀ i, (![0, 128 * a.val] : Fin 2 → ℕ) i + S256x128.size i ≤ S256x512.size i}
    {p : Vec Ideal S256x128 .bf16} (h : ∀ (r : Fin 256) (d : Fin 128), p (ix2 r d) = G r a d)
    (y : (Rect.unit (s := S256x512) ![0, 128 * a.val] S256x128.size inb).shape.Idx) :
    p y = (fun y : S256x512.Idx => G (y 0) ⟨(y 1).val / 128, by have : (y 1).val < 512 := (y 1).isLt; omega⟩ ⟨(y 1).val % 128, by omega⟩)
      ((Rect.unit (s := S256x512) ![0, 128 * a.val] S256x128.size inb).emb y) := by
  obtain ⟨r, d, rfl⟩ : ∃ (r : Fin 256) (d : Fin 128), y = ix2 r d := ⟨y 0, y 1, eq_ix2 y⟩
  have e : (Rect.unit (s := S256x512) ![0, 128 * a.val] S256x128.size inb).emb (ix2 r d) = ix2 r ⟨128 * a.val + d.val, by omega⟩ := by
    funext i; apply Fin.ext; fin_cases i <;> simp
  rw [e]
  refine (h r d).trans ?_
  show G r a d = G r ⟨(128 * a.val + d.val) / 128, _⟩ ⟨(128 * a.val + d.val) % 128, _⟩
  congr 1
  · exact Fin.ext (show a.val = (128 * a.val + d.val) / 128 by omega)
  · exact Fin.ext (show d.val = (128 * a.val + d.val) % 128 by omega)

/-- The kernel writes those rows as a comparison of the row's number with zero. -/
theorem flag_eq (j : ℕ) (h : j < 16) :
    FloatOps.sitofp (F := Ideal) .f32 (BitVec.setWidth 32 (IntOp.cmpi CmpIPredicate.eq (BitVec.ofNat 32 j) 0#32)) = if j = 0 then 1 else 0 := by
  have e : ∀ i : Fin 16, BitVec.setWidth 32 (IntOp.cmpi CmpIPredicate.eq (BitVec.ofNat 32 i.val) 0#32) = if i.val = 0 then 1#32 else 0#32 := by decide
  rw [e ⟨j, h⟩]
  show (((if j = 0 then 1#32 else 0#32 : BitVec 32).toInt : ℝ) : EReal) = _
  split <;> simp

theorem valued_eq (u : Fin 128 → EReal) (n : Fin 144) :
    Proj.valued u n = if h : n.val < 128 then u ⟨n.val, h⟩
      else FloatOps.sitofp (F := Ideal) .f32 (BitVec.setWidth 32 (IntOp.cmpi CmpIPredicate.eq (BitVec.ofNat 32 (n.val - 128)) 0#32)) := by
  unfold Proj.valued
  split
  · rfl
  · rw [flag_eq _ (by omega)]
    exact if_congr (by omega) rfl rfl

theorem out13_at (a : Fin 4) (d : Fin 128) (r : Fin 256) :
    out0_13 x0 x1 x2 x3 x4 x5 x6 x7 x8 x9 (ix4 a 0 d r)
      = turned (k0_pay29 x0 x1 x2 x3 x4 x5 x6 x7 x8 x9) (k0_pay30 x0 x1 x2 x3 x4 x5 x6 x7 x8 x9) (k0_pay31 x0 x1 x2 x3 x4 x5 x6 x7 x8 x9)
          (128 * a.val) (by omega) r d := by
  unfold out0_13
  refine View.canon_apply_of_pieces (Val := Elt Ideal) (S := S4x1x128x256) (e := .bf16)
    (fun y => turned (k0_pay29 x0 x1 x2 x3 x4 x5 x6 x7 x8 x9) (k0_pay30 x0 x1 x2 x3 x4 x5 x6 x7 x8 x9) (k0_pay31 x0 x1 x2 x3 x4 x5 x6 x7 x8 x9)
      (128 * (y 0).val) (by have : (y 0).val < 4 := (y 0).isLt; omega) (y 3) (y 2)) _ ?_ _ (cover0_13 _ _ _ _ _)
  simp only [List.forall_mem_cons, List.not_mem_nil, false_implies, implies_true, and_true]
  refine ⟨plane_of (fun a d r => turned _ _ _ (128 * a.val) (by omega) r d) 3 ?_, plane_of (fun a d r => turned _ _ _ (128 * a.val) (by omega) r d) 2 ?_,
    plane_of (fun a d r => turned _ _ _ (128 * a.val) (by omega) r d) 1 ?_, plane_of (fun a d r => turned _ _ _ (128 * a.val) (by omega) r d) 0 ?_⟩ <;>
    intro d r <;> unfold turned <;>
    pointwise [k0_pay10, k0_pay14, k0_pay17, k0_pay19, k0_pay20, k0_pay21, k0_pay25, k0_pay29, k0_pay30, k0_pay31]

theorem out14_whole (y : S256x512.Idx) : out0_14 x0 x1 x2 x3 x4 x5 x6 x7 x8 x9 y
    = (fun (r : Fin 256) (a : Fin 4) (d : Fin 128) => turned (k0_pay29 x0 x1 x2 x3 x4 x5 x6 x7 x8 x9) (k0_pay30 x0 x1 x2 x3 x4 x5 x6 x7 x8 x9) (k0_pay31 x0 x1 x2 x3 x4 x5 x6 x7 x8 x9) (512 + 128 * a.val) (by omega) r d)
      (y 0) ⟨(y 1).val / 128, by have : (y 1).val < 512 := (y 1).isLt; omega⟩ ⟨(y 1).val % 128, by omega⟩ := by
  unfold out0_14
  refine View.canon_apply_of_pieces (Val := Elt Ideal) (S := S256x512) (e := .bf16)
    (fun y => (fun (r : Fin 256) (a : Fin 4) (d : Fin 128) => turned (k0_pay29 x0 x1 x2 x3 x4 x5 x6 x7 x8 x9) (k0_pay30 x0 x1 x2 x3 x4 x5 x6 x7 x8 x9) (k0_pay31 x0 x1 x2 x3 x4 x5 x6 x7 x8 x9) (512 + 128 * a.val) (by omega) r d)
      (y 0) ⟨(y 1).val / 128, by have : (y 1).val < 512 := (y 1).isLt; omega⟩ ⟨(y 1).val % 128, by omega⟩) _ ?_ _ (cover0_14 _ _ _ _ _)
  simp only [List.forall_mem_cons, List.not_mem_nil, false_implies, implies_true, and_true]
  refine ⟨columns_of (fun r a d => turned _ _ _ (512 + 128 * a.val) (by omega) r d) 3 ?_, columns_of (fun r a d => turned _ _ _ (512 + 128 * a.val) (by omega) r d) 2 ?_,
    columns_of (fun r a d => turned _ _ _ (512 + 128 * a.val) (by omega) r d) 1 ?_, columns_of (fun r a d => turned _ _ _ (512 + 128 * a.val) (by omega) r d) 0 ?_⟩ <;>
    intro r d <;> unfold turned <;>
    pointwise [k0_pay1, k0_pay11, k0_pay15, k0_pay18, k0_pay22, k0_pay24, k0_pay26, k0_pay27, k0_pay29, k0_pay30, k0_pay31]

theorem out14_at (a : Fin 4) (d : Fin 128) (r : Fin 256) :
    out0_14 x0 x1 x2 x3 x4 x5 x6 x7 x8 x9 (ix2 r ⟨128 * a.val + d.val, by omega⟩)
      = turned (k0_pay29 x0 x1 x2 x3 x4 x5 x6 x7 x8 x9) (k0_pay30 x0 x1 x2 x3 x4 x5 x6 x7 x8 x9) (k0_pay31 x0 x1 x2 x3 x4 x5 x6 x7 x8 x9)
          (512 + 128 * a.val) (by omega) r d := by
  refine (out14_whole _ _ _ _ _ _ _ _ _ _ _).trans ?_
  show turned (k0_pay29 x0 x1 x2 x3 x4 x5 x6 x7 x8 x9) (k0_pay30 x0 x1 x2 x3 x4 x5 x6 x7 x8 x9) (k0_pay31 x0 x1 x2 x3 x4 x5 x6 x7 x8 x9) (512 + 128 * ((128 * a.val + d.val) / 128)) _ r ⟨(128 * a.val + d.val) % 128, _⟩ = _
  have e1 : (128 * a.val + d.val) / 128 = a.val := by omega
  have e2 : (⟨(128 * a.val + d.val) % 128, by omega⟩ : Fin 128) = d := Fin.ext (show (128 * a.val + d.val) % 128 = d.val by omega)
  simp only [e1, e2]

theorem out15_at (a : Fin 4) (n : Fin 144) (r : Fin 256) :
    out0_15 x0 x1 x2 x3 x4 x5 x6 x7 x8 x9 (ix4 a 0 n r)
      = Proj.valued (fun d => k0_pay29 x0 x1 x2 x3 x4 x5 x6 x7 x8 x9 (ix2 r ⟨1024 + 128 * a.val + d.val, by omega⟩)) n := by
  unfold out0_15
  refine View.canon_apply_of_pieces (Val := Elt Ideal) (S := S4x1x144x256) (e := .bf16)
    (fun y => Proj.valued (fun d => k0_pay29 x0 x1 x2 x3 x4 x5 x6 x7 x8 x9 (ix2 (y 3) ⟨1024 + 128 * (y 0).val + d.val, by have : (y 0).val < 4 := (y 0).isLt; omega⟩)) (y 2)) _ ?_ _ (cover0_15 _ _ _ _ _)
  simp only [List.forall_mem_cons, List.not_mem_nil, false_implies, implies_true, and_true]
  refine ⟨plane_of (fun a n r => Proj.valued (fun d => k0_pay29 x0 x1 x2 x3 x4 x5 x6 x7 x8 x9 (ix2 r ⟨1024 + 128 * a.val + d.val, by omega⟩)) n) 3 ?_,
    plane_of (fun a n r => Proj.valued (fun d => k0_pay29 x0 x1 x2 x3 x4 x5 x6 x7 x8 x9 (ix2 r ⟨1024 + 128 * a.val + d.val, by omega⟩)) n) 2 ?_,
    plane_of (fun a n r => Proj.valued (fun d => k0_pay29 x0 x1 x2 x3 x4 x5 x6 x7 x8 x9 (ix2 r ⟨1024 + 128 * a.val + d.val, by omega⟩)) n) 1 ?_,
    plane_of (fun a n r => Proj.valued (fun d => k0_pay29 x0 x1 x2 x3 x4 x5 x6 x7 x8 x9 (ix2 r ⟨1024 + 128 * a.val + d.val, by omega⟩)) n) 0 ?_⟩ <;>
    intro n r <;> beta_reduce <;> rw [valued_eq] <;>
    pointwise [k0_pay2, k0_pay12, k0_pay13, k0_pay16, k0_pay23, k0_pay29]

/-- The three tiles over the normalised row. -/
def turnedRow (r : Fin 256) (o : ℕ) (ho : o ≤ 1408) (d : Fin 128) : EReal :=
  wide x0 x1 x2 x3 x7 r ⟨o + d.val, by omega⟩ * x8 (ix2 r d) + wide x0 x1 x2 x3 x7 r ⟨o + (d.val + 128 - 64) % 128, by omega⟩ * x9 (ix2 r d)

theorem out13_row (a : Fin 4) (d : Fin 128) (r : Fin 256) :
    out0_13 x0 x1 x2 x3 x4 x5 x6 x7 x8 x9 (ix4 a 0 d r) = turnedRow x0 x1 x2 x3 x7 x8 x9 r (128 * a.val) (by omega) d := by
  simp only [out13_at, turned, turnedRow, pay29_at, pay30_at, pay31_at]

theorem out14_row (a : Fin 4) (d : Fin 128) (r : Fin 256) :
    out0_14 x0 x1 x2 x3 x4 x5 x6 x7 x8 x9 (ix2 r ⟨128 * a.val + d.val, by omega⟩)
      = turnedRow x0 x1 x2 x3 x7 x8 x9 r (512 + 128 * a.val) (by omega) d := by
  simp only [out14_at, turned, turnedRow, pay29_at, pay30_at, pay31_at]

theorem out15_row (a : Fin 4) (n : Fin 144) (r : Fin 256) :
    out0_15 x0 x1 x2 x3 x4 x5 x6 x7 x8 x9 (ix4 a 0 n r)
      = Proj.valued (fun d => wide x0 x1 x2 x3 x7 r ⟨1024 + 128 * a.val + d.val, by omega⟩) n := by
  simp only [out15_at, pay29_at]

end Cert.Proof.Hy

end
-- ==== Proof.MlaTile.lean ====
/-
  The latent attention's projection at one grid point, over the extended reals: the arrays that the body forms from its
  input tiles, at an index.
-/
module

public import proofs.«01_k».proof.Proof.Gen.MlaProjIdeal.Value
public import proofs.«01_k».proof.Proof.MlaSpec
public import proofs.«01_k».proof.Proof.HyTile
public import Idealize.ShloMosaic.Lib.Pipeline.ValueKit

@[expose] public section

set_option maxRecDepth 16384

noncomputable section

namespace Cert.Proof.MlaP

open Cert.MlaProjIdeal Cert.MlaProjIdeal.Gen
open Idealize.ShloMosaic Idealize.ShloMosaic.TcCoe

variable (x0 : Vec Ideal S256x1024 .f32) (x1 x2 x3 : Vec Ideal S1x1024 .f32) (x4 : Vec Ideal S1024x512 .bf16) (x5 : Vec Ideal S1024x256 .bf16)
  (x6 : Vec Ideal S1024x128 .bf16) (x7 : Vec Ideal S1x512 .f32) (x8 : Vec Ideal S1x256 .f32) (x9 : Vec Ideal S512x1024 .bf16)
  (x10 : Vec Ideal S512x512 .bf16) (x11 x12 : Vec Ideal S256x1024 .bf16) (x13 x14 : Vec Ideal S256x128 .f32)

/-- Row `r` of the normalised tile. -/
def hiddenRow (r : Fin 256) : Fin 1024 → EReal :=
  Out.hidden (fun e => x0 (ix2 r e)) (fun e => x1 (ix2 0 e)) (fun e => x2 (ix2 0 e)) fun e => x3 (ix2 0 e)

theorem hidden_at (r : Fin 256) (e : Fin 1024) : k0_pay4 (F := Ideal) x0 x1 x2 x3 (ix2 r e) = hiddenRow x0 x1 x2 x3 r e := by
  unfold hiddenRow Out.hidden
  pointwise [k0_pay4]

/-- A row times a matrix. -/
def times {K N : ℕ} (h : Fin K → EReal) (w : FVec Ideal ⟨2, ![K, N]⟩ .bf16) (j : Fin N) : EReal := ∑ k, h k * w (ix2 k j)

theorem latentQ_at (r : Fin 256) (j : Fin 512) : k0_pay5 (F := Ideal) x0 x1 x2 x3 x4 (ix2 r j) = times (hiddenRow x0 x1 x2 x3 r) x4 j := by
  unfold times
  pointwise [k0_pay5, hidden_at]

theorem latentK_at (r : Fin 256) (j : Fin 256) : k0_pay6 (F := Ideal) x0 x1 x2 x3 x5 (ix2 r j) = times (hiddenRow x0 x1 x2 x3 r) x5 j := by
  unfold times
  pointwise [k0_pay6, hidden_at]

theorem shared_at (r : Fin 256) (j : Fin 128) : k0_pay7 (F := Ideal) x0 x1 x2 x3 x6 (ix2 r j) = times (hiddenRow x0 x1 x2 x3 r) x6 j := by
  unfold times
  pointwise [k0_pay7, hidden_at]

theorem normQ_at (u : FVec Ideal S256x512 .f32) (r : Fin 256) (j : Fin 512) :
    k0_pay9 (F := Ideal) u (mulf u u) x7 (ix2 r j) = Proj.rms 0x44000000#32 (fun e => u (ix2 r e)) (fun e => x7 (ix2 0 e)) j := by
  unfold Proj.rms
  pointwise [k0_pay9]

theorem normK_at (u : FVec Ideal S256x256 .f32) (r : Fin 256) (j : Fin 256) :
    k0_pay10 (F := Ideal) u x8 (ix2 r j) = Proj.rms 0x43800000#32 (fun e => u (ix2 r e)) (fun e => x8 (ix2 0 e)) j := by
  unfold Proj.rms
  pointwise [k0_pay10]

/-! ## The five arrays that the body's stores cut -/

def queryTile : FVec Ideal S256x1024 .f32 := k0_pay13 (k0_pay5 x0 x1 x2 x3 x4) (k0_pay8 x0 x1 x2 x3 x4) x7 x9
def queryTurnTile : FVec Ideal S256x512 .f32 := k0_pay14 (k0_pay5 x0 x1 x2 x3 x4) (k0_pay8 x0 x1 x2 x3 x4) x7 x10
def keyTile : FVec Ideal S256x1024 .f32 := k0_pay15 (k0_pay10 (k0_pay6 x0 x1 x2 x3 x5) x8) x11
def valueTile : FVec Ideal S256x1024 .f32 := k0_pay16 (k0_pay10 (k0_pay6 x0 x1 x2 x3 x5) x8) x12

/-- The two latents' rows under their norms. -/
def queryRow (r : Fin 256) : Fin 512 → EReal := Proj.rms 0x44000000#32 (times (hiddenRow x0 x1 x2 x3 r) x4) fun e => x7 (ix2 0 e)
def keyRow (r : Fin 256) : Fin 256 → EReal := Proj.rms 0x43800000#32 (times (hiddenRow x0 x1 x2 x3 r) x5) fun e => x8 (ix2 0 e)

theorem queryRow_at (r : Fin 256) (j : Fin 512) :
    k0_pay9 (F := Ideal) (k0_pay5 x0 x1 x2 x3 x4) (k0_pay8 x0 x1 x2 x3 x4) x7 (ix2 r j) = queryRow x0 x1 x2 x3 x4 x7 r j := by
  refine (normQ_at x7 (k0_pay5 x0 x1 x2 x3 x4) r j).trans ?_
  unfold queryRow
  simp only [latentQ_at]

theorem keyRow_at (r : Fin 256) (j : Fin 256) :
    k0_pay10 (F := Ideal) (k0_pay6 x0 x1 x2 x3 x5) x8 (ix2 r j) = keyRow x0 x1 x2 x3 x5 x8 r j := by
  refine (normK_at x8 (k0_pay6 x0 x1 x2 x3 x5) r j).trans ?_
  unfold keyRow
  simp only [latentK_at]

theorem queryTile_at (r : Fin 256) (j : Fin 1024) :
    queryTile x0 x1 x2 x3 x4 x7 x9 (ix2 r j) = times (queryRow x0 x1 x2 x3 x4 x7 r) x9 j := by
  unfold times
  pointwise [queryTile, k0_pay13, queryRow_at]

theorem queryTurnTile_at (r : Fin 256) (j : Fin 512) :
    queryTurnTile x0 x1 x2 x3 x4 x7 x10 (ix2 r j) = times (queryRow x0 x1 x2 x3 x4 x7 r) x10 j := by
  unfold times
  pointwise [queryTurnTile, k0_pay14, queryRow_at]

theorem keyTile_at (r : Fin 256) (j : Fin 1024) :
    keyTile x0 x1 x2 x3 x5 x8 x11 (ix2 r j) = times (keyRow x0 x1 x2 x3 x5 x8 r) x11 j := by
  unfold times
  pointwise [keyTile, k0_pay15, keyRow_at]

theorem valueTile_at (r : Fin 256) (j : Fin 1024) :
    valueTile x0 x1 x2 x3 x5 x8 x12 (ix2 r j) = times (keyRow x0 x1 x2 x3 x5 x8 r) x12 j := by
  unfold times
  pointwise [valueTile, k0_pay16, keyRow_at]

/-! ## The lanes of a head's first half

The kernel asks of a lane's number whether its remainder by 64 is below 32, with the remainder corrected for negative numbers. -/

theorem modulus_eq : Scalar.select (Scalar.cmpi CmpIPredicate.eq 64#32 0#32) 1#32 64#32 = (64#32 : BitVec 32) := by decide

def firstHalf (n : ℕ) : BitVec 1 :=
  IntOp.cmpi CmpIPredicate.slt
    (Scalar.select
      (IntOp.andi
        (IntOp.xori (IntOp.cmpi CmpIPredicate.slt (IntOp.remsi ArithUnit.vector (BitVec.ofNat 32 n) 64#32) 0#32)
          (Scalar.cmpi CmpIPredicate.slt 64#32 0#32))
        (IntOp.cmpi CmpIPredicate.ne (IntOp.remsi ArithUnit.vector (BitVec.ofNat 32 n) 64#32) 0#32))
      (IntOp.addi (IntOp.remsi ArithUnit.vector (BitVec.ofNat 32 n) 64#32) 64#32)
      (IntOp.remsi ArithUnit.vector (BitVec.ofNat 32 n) 64#32))
    32#32

theorem firstHalf_eq : ∀ n : Fin 128, firstHalf n.val = if n.val % 64 < 32 then 1#1 else 0#1 := by decide +kernel

theorem select_low (d : Fin 64) (a b : EReal) : Scalar.select (firstHalf d.val) a b = if d.val < 32 then a else b := by
  rw [firstHalf_eq ⟨d.val, by omega⟩, Nat.mod_eq_of_lt d.isLt]
  split <;> rfl

theorem select_high (d : Fin 64) (a b : EReal) : Scalar.select (firstHalf (64 + d.val)) a b = if d.val < 32 then a else b := by
  rw [firstHalf_eq ⟨64 + d.val, by omega⟩, Nat.add_mod_left, Nat.mod_eq_of_lt d.isLt]
  split <;> rfl

end Cert.Proof.MlaP

end
-- ==== Proof.RopeValue.lean ====
/-
  The tables of the angles over the extended reals: the call's four result arrays in terms of the positions.
-/
module

public import proofs.«01_k».proof.Proof.Gen.RopeIdeal.Frame
public import proofs.«01_k».proof.Proof.TableSpec
public import proofs.«01_k».proof.Proof.MlaTile
public import Idealize.ShloMosaic.Lib.Pipeline.ValueKit

@[expose] public section

set_option maxRecDepth 16384

noncomputable section

namespace Cert.Proof.Rope

open Cert.RopeIdeal Cert.RopeIdeal.Gen
open Idealize.ShloMosaic Idealize.ShloMosaic.TcCoe Idealize.SL.Sem

/-- The lanes below 64, as the kernel asks for them. -/
theorem low_eq : ∀ n : Fin 128, IntOp.cmpi .slt (BitVec.ofNat 32 n.val) 64#32 = if n.val % (2 * 64) < 64 then 1#1 else 0#1 := by decide +kernel

section
variable (x0 : Vec Ideal S1024x1 .i32) (x1 x2 : Vec Ideal S1x128 .f32) (r : Fin 1024) (e : Fin 128)

/-- The product of a position and a lane's frequency. -/
def turn (u : Vec Ideal S1x128 .f32) : EReal := FloatOps.sitofp (F := Ideal) .f32 (x0 (ix2 r 0)) * u (ix2 0 e)

theorem out_3_at : out0_3 (F := Ideal) x0 x1 x2 (ix2 r e) = Ideal.cos (turn x0 r e x1) := by
  unfold out0_3
  frame_out
  unfold turn
  pointwise [k0_pay4, k0_pay3, k0_pay2]

theorem out_4_at : out0_4 (F := Ideal) x0 x1 x2 (ix2 r e)
    = if e.val % (2 * 64) < 64 then -Ideal.sin (turn x0 r e x1) else Ideal.sin (turn x0 r e x1) := by
  unfold out0_4
  frame_out
  unfold turn
  pointwise [k0_pay5, k0_pay3, k0_pay2]
  rw [low_eq e, zero_sub]
  split <;> rfl

theorem out_5_at : out0_5 (F := Ideal) x0 x1 x2 (ix2 r e) = Ideal.cos (turn x0 r e x2) := by
  unfold out0_5
  frame_out
  unfold turn
  pointwise [k0_pay8, k0_pay6, k0_pay2]

theorem out_6_at : out0_6 (F := Ideal) x0 x1 x2 (ix2 r e)
    = if e.val % (2 * 32) < 32 then -Ideal.sin (turn x0 r e x2) else Ideal.sin (turn x0 r e x2) := by
  unfold out0_6
  frame_out
  unfold turn
  pointwise [k0_pay1, k0_pay7, k0_pay6, k0_pay2, k0_pay9, k0_pay10, k0_pay11, k0_pay12]
  rw [MlaP.modulus_eq]
  refine (congrArg (Scalar.select · _ _) (MlaP.firstHalf_eq e)).trans ?_
  rw [zero_sub]
  split <;> rfl

end

variable (m : (ℓ : Loc nD τ sig) → Buf (Elt Ideal) ℓ) (c : Dev nD)

theorem index_0 : ∀ t : Fin cfg0.N, (cfg0.win 0).index t = ![(grid0.coords t 0).val, 0] := by decide +kernel
theorem index_1 : ∀ t : Fin cfg0.N, (cfg0.win 1).index t = ![0, 0] := by decide +kernel
theorem index_2 : ∀ t : Fin cfg0.N, (cfg0.win 2).index t = ![0, 0] := by decide +kernel
theorem index_3 : ∀ t : Fin cfg0.N, (cfg0.win 3).index t = ![(grid0.coords t 0).val, 0] := by decide +kernel
theorem index_4 : ∀ t : Fin cfg0.N, (cfg0.win 4).index t = ![(grid0.coords t 0).val, 0] := by decide +kernel
theorem index_5 : ∀ t : Fin cfg0.N, (cfg0.win 5).index t = ![(grid0.coords t 0).val, 0] := by decide +kernel
theorem index_6 : ∀ t : Fin cfg0.N, (cfg0.win 6).index t = ![(grid0.coords t 0).val, 0] := by decide +kernel

/-- Row `r` of a grid point's tile, among all positions. -/
def posOf (t : Fin cfg0.N) (r : Fin 1024) : Fin 16384 :=
  ⟨1024 * (grid0.coords t 0).val + r.val, by have : (grid0.coords t 0).val < 16 := (grid0.coords t 0).isLt; omega⟩

theorem pos_entry (Q : Fin 16384) : V m c main_v0 (ix2 Q 0) = m ((c : Thread nD τ).loc main_arg0) (ix2 0 Q) := by
  entry_read
  pointwise

theorem freq64_entry (e : Fin 128) : V m c main_v24 (ix2 0 e) = Table.freq 0x43000000#32 (e.val % 64) := by
  unfold Table.freq
  entry_read
  pointwise

theorem freq32_entry (e : Fin 128) : V m c main_v28 (ix2 0 e) = Table.freq 0x42800000#32 (e.val % 32) := by
  unfold Table.freq
  entry_read
  pointwise

theorem pos_tile (t : Fin cfg0.N) (r : Fin 1024) (e : Fin 128) (u : Vec Ideal S1x128 .f32) :
    turn (iblk m c 0 t) r e u = FloatOps.sitofp (F := Ideal) .f32 (m ((c : Thread nD τ).loc main_arg0) (ix2 0 (posOf t r))) * u (ix2 0 e) := by
  have h : ((cfg0.win 0).blk t).view.emb (ix2 r 0) = ix2 (posOf t r) 0 := by
    unfold posOf
    blk_ext [index_0 t]
  exact congrArg (fun p : BitVec 32 => FloatOps.sitofp (F := Ideal) .f32 p * u (ix2 0 e)) ((congrArg (V m c main_v0) h).trans (pos_entry m c _))

theorem freq64_tile (t : Fin cfg0.N) (e : Fin 128) : iblk m c 1 t (ix2 0 e) = Table.freq 0x43000000#32 (e.val % 64) := by
  have h : ((cfg0.win 1).blk t).view.emb (ix2 0 e) = ix2 0 e := by blk_ext [index_1 t]
  exact (congrArg (V m c main_v24) h).trans (freq64_entry m c e)

theorem freq32_tile (t : Fin cfg0.N) (e : Fin 128) : iblk m c 2 t (ix2 0 e) = Table.freq 0x42800000#32 (e.val % 32) := by
  have h : ((cfg0.win 2).blk t).view.emb (ix2 0 e) = ix2 0 e := by blk_ext [index_2 t]
  exact (congrArg (V m c main_v28) h).trans (freq32_entry m c e)

/-- The cosines of the 64 angles, twice. -/
theorem result_3 : (dats m 0 c).arrAt 3 cfg0.N = Table.cosOut 0x43000000#32 64 (m ((c : Thread nD τ).loc main_arg0)) := by
  refine (dats m 0 c).arrAt_eq_of_covers 3 _ (by decide +kernel) fun t hf y => ?_
  obtain ⟨r, e, rfl⟩ : ∃ (r : Fin 1024) (e : Fin 128), y = ix2 r e := ⟨y 0, y 1, eq_ix2 y⟩
  have h : ((cfg0.win 3).blk t).view.emb (ix2 r e) = ix2 (posOf t r) e := by
    unfold posOf
    blk_ext [index_3 t]
  blk_simp
  rw [after0_3, out_3_at, pos_tile, freq64_tile]
  refine Eq.trans ?_ (congrArg (Table.cosOut 0x43000000#32 64 (m ((c : Thread nD τ).loc main_arg0))) h.symm)
  exact (Table.cosOut_at 0x43000000#32 64 _ _ e).symm

/-- Their sines, the first time under a sign. -/
theorem result_4 : (dats m 0 c).arrAt 4 cfg0.N = Table.sinOut 0x43000000#32 64 (m ((c : Thread nD τ).loc main_arg0)) := by
  refine (dats m 0 c).arrAt_eq_of_covers 4 _ (by decide +kernel) fun t hf y => ?_
  obtain ⟨r, e, rfl⟩ : ∃ (r : Fin 1024) (e : Fin 128), y = ix2 r e := ⟨y 0, y 1, eq_ix2 y⟩
  have h : ((cfg0.win 4).blk t).view.emb (ix2 r e) = ix2 (posOf t r) e := by
    unfold posOf
    blk_ext [index_4 t]
  blk_simp
  rw [after0_4, out_4_at, pos_tile, freq64_tile]
  refine Eq.trans ?_ (congrArg (Table.sinOut 0x43000000#32 64 (m ((c : Thread nD τ).loc main_arg0))) h.symm)
  exact (Table.sinOut_at 0x43000000#32 64 _ _ e).symm

/-- The cosines of the 32 angles, four times. -/
theorem result_5 : (dats m 0 c).arrAt 5 cfg0.N = Table.cosOut 0x42800000#32 32 (m ((c : Thread nD τ).loc main_arg0)) := by
  refine (dats m 0 c).arrAt_eq_of_covers 5 _ (by decide +kernel) fun t hf y => ?_
  obtain ⟨r, e, rfl⟩ : ∃ (r : Fin 1024) (e : Fin 128), y = ix2 r e := ⟨y 0, y 1, eq_ix2 y⟩
  have h : ((cfg0.win 5).blk t).view.emb (ix2 r e) = ix2 (posOf t r) e := by
    unfold posOf
    blk_ext [index_5 t]
  blk_simp
  rw [after0_5, out_5_at, pos_tile, freq32_tile]
  refine Eq.trans ?_ (congrArg (Table.cosOut 0x42800000#32 32 (m ((c : Thread nD τ).loc main_arg0))) h.symm)
  exact (Table.cosOut_at 0x42800000#32 32 _ _ e).symm

/-- Their sines, the first and third time under a sign. -/
theorem result_6 : (dats m 0 c).arrAt 6 cfg0.N = Table.sinOut 0x42800000#32 32 (m ((c : Thread nD τ).loc main_arg0)) := by
  refine (dats m 0 c).arrAt_eq_of_covers 6 _ (by decide +kernel) fun t hf y => ?_
  obtain ⟨r, e, rfl⟩ : ∃ (r : Fin 1024) (e : Fin 128), y = ix2 r e := ⟨y 0, y 1, eq_ix2 y⟩
  have h : ((cfg0.win 6).blk t).view.emb (ix2 r e) = ix2 (posOf t r) e := by
    unfold posOf
    blk_ext [index_6 t]
  blk_simp
  rw [after0_6, out_6_at, pos_tile, freq32_tile]
  refine Eq.trans ?_ (congrArg (Table.sinOut 0x42800000#32 32 (m ((c : Thread nD τ).loc main_arg0))) h.symm)
  exact (Table.sinOut_at 0x42800000#32 32 _ _ e).symm

/-- The kernel's run: its results are the four tables; the positions stay. -/
theorem run (ρ : Dev nD → PrngReg) :
    θ_run defs (onTc (τ := τ) (main (F := Ideal))) ⟨m, fun _ => 0, ρ⟩ fun r => ∀ c : Dev nD,
      r.2.mem ((c.tc : Thread nD τ).loc main_v29_0) = Table.cosOut 0x43000000#32 64 (m ((c.tc : Thread nD τ).loc main_arg0))
      ∧ r.2.mem ((c.tc : Thread nD τ).loc main_v29_1) = Table.sinOut 0x43000000#32 64 (m ((c.tc : Thread nD τ).loc main_arg0))
      ∧ r.2.mem ((c.tc : Thread nD τ).loc main_v29_2) = Table.cosOut 0x42800000#32 32 (m ((c.tc : Thread nD τ).loc main_arg0))
      ∧ r.2.mem ((c.tc : Thread nD τ).loc main_v29_3) = Table.sinOut 0x42800000#32 32 (m ((c.tc : Thread nD τ).loc main_arg0))
      ∧ r.2.mem ((c.tc : Thread nD τ).loc main_arg0) = m ((c.tc : Thread nD τ).loc main_arg0) :=
  (θ_run defs _ _).mono (fun _ h c => ⟨((h c).1 3).trans (result_3 m c), ((h c).1 4).trans (result_4 m c), ((h c).1 5).trans (result_5 m c),
    ((h c).1 6).trans (result_6 m c), ((h c).2 main_arg0 (Pipeline.mem_restRefs_of main_arg0 (by decide) (by decide))).trans (V_main_arg0 m c)⟩)
    (run_main (F := Ideal) m ρ)

end Cert.Proof.Rope

end
-- ==== Proof.RopeRef.lean ====
/-
  The tables of the angles as plain lines, at an index, over the extended reals.
-/
module

public import proofs.«01_k».proof.Proof.Gen.RopeRefIdeal.Run
public import proofs.«01_k».proof.Proof.TableSpec

@[expose] public section

set_option maxRecDepth 16384

noncomputable section

namespace Cert.Proof.RopeRef

open Cert.RopeRefIdeal Cert.RopeRefIdeal.Gen
open Idealize.ShloMosaic Idealize.ShloMosaic.TcCoe Idealize.SL.Sem

section
variable (p : IVec S1x16384 32)

/-- The 64 angles of every position. -/
def angles64 : FVec Ideal S1x16384x64 .f32 :=
  mulf (broadcastInDim S1x16384x64 ![0, 1, 2] bcast_S1x16384x1_S1x16384x64_0_1_2 (broadcastInDim S1x16384x1 ![0, 1] bcast_S1x16384_S1x16384x1_0_1 (sitofp .f32 p)))
    (broadcastInDim S1x16384x64 ![0, 1, 2] bcast_S1x1x64_S1x16384x64_0_1_2 (broadcastInDim S1x1x64 ![2] bcast_S64_S1x1x64_2
      (Host.powf (broadcastInDim S64 ![] bcast_S_S64 (constant S_ .f32 0x461C4000#32)) (Host.divf (Host.negf (addf (broadcastInDim S64 ![] bcast_S_S64 (constant S_ .f32 0x00000000#32))
        (mulf (broadcastInDim S64 ![] bcast_S_S64 (constant S_ .f32 0x40000000#32)) (sitofp .f32 (iotaInDim S64 32 0))))) (broadcastInDim S64 ![] bcast_S_S64 (constant S_ .f32 0x43000000#32))))))

theorem angles64_at (Q : Fin 16384) (k : Fin 64) : angles64 p (ix3 0 Q k) = Table.angle 0x43000000#32 (p (ix2 0 Q)) k.val := by
  unfold Table.angle Table.freq
  pointwise [angles64]

/-- The 32 angles of every position. -/
def angles32 : FVec Ideal S1x16384x32 .f32 :=
  mulf (broadcastInDim S1x16384x32 ![0, 1, 2] bcast_S1x16384x1_S1x16384x32_0_1_2 (broadcastInDim S1x16384x1 ![0, 1] bcast_S1x16384_S1x16384x1_0_1 (sitofp .f32 p)))
    (broadcastInDim S1x16384x32 ![0, 1, 2] bcast_S1x1x32_S1x16384x32_0_1_2 (broadcastInDim S1x1x32 ![2] bcast_S32_S1x1x32_2
      (Host.powf (broadcastInDim S32 ![] bcast_S_S32 (constant S_ .f32 0x461C4000#32)) (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0))))) (broadcastInDim S32 ![] bcast_S_S32 (constant S_ .f32 0x42800000#32))))))

theorem angles32_at (Q : Fin 16384) (k : Fin 32) : angles32 p (ix3 0 Q k) = Table.angle 0x42800000#32 (p (ix2 0 Q)) k.val := by
  unfold Table.angle Table.freq
  pointwise [angles32]

end

/-- Two tables of 64 columns side by side, and two of 32. -/
def beside64 (a b : FVec Ideal S16384x64 .f32) : FVec Ideal S16384x128 .f32 :=
  concatenate S16384x128 1 [⟨S16384x64, a⟩, ⟨S16384x64, b⟩] concatenates_S16384x64_S16384x64_S16384x128_d1
def beside32 (a b : FVec Ideal S16384x32 .f32) : FVec Ideal S16384x64 .f32 :=
  concatenate S16384x64 1 [⟨S16384x32, a⟩, ⟨S16384x32, b⟩] concatenates_S16384x32_S16384x32_S16384x64_d1

theorem beside64_at (a b : FVec Ideal S16384x64 .f32) (Q : Fin 16384) (e : Fin 128) :
    beside64 a b (ix2 Q e) = if e.val < 64 then a (ix2 Q ⟨e.val % 64, Nat.mod_lt _ (by decide)⟩) else b (ix2 Q ⟨e.val % 64, Nat.mod_lt _ (by decide)⟩) := by
  pointwise [beside64]
  by_cases h : e.val < 64
  · rw [dif_pos h, if_pos h]
    exact congrArg (fun k => a (ix2 Q k)) (Fin.ext (Nat.mod_eq_of_lt h).symm)
  · rw [dif_neg h, if_neg h]
    exact congrArg (fun k => b (ix2 Q k)) (Fin.ext (show e.val - 64 = e.val % 64 by omega))

theorem beside32_at (a b : FVec Ideal S16384x32 .f32) (Q : Fin 16384) (e : Fin 64) :
    beside32 a b (ix2 Q e) = if e.val < 32 then a (ix2 Q ⟨e.val % 32, Nat.mod_lt _ (by decide)⟩) else b (ix2 Q ⟨e.val % 32, Nat.mod_lt _ (by decide)⟩) := by
  pointwise [beside32]
  by_cases h : e.val < 32
  · rw [dif_pos h, if_pos h]
    exact congrArg (fun k => a (ix2 Q k)) (Fin.ext (Nat.mod_eq_of_lt h).symm)
  · rw [dif_neg h, if_neg h]
    exact congrArg (fun k => b (ix2 Q k)) (Fin.ext (show e.val - 32 = e.val % 32 by omega))

variable (p : IVec S1x16384 32)

/-- The cosines and sines of the angles, by position. -/
def cos64 : FVec Ideal S16384x64 .f32 := shapeCast S16384x64 (Host.cos (angles64 p)) shapeCasts_S1x16384x64_S16384x64
def sin64 : FVec Ideal S16384x64 .f32 := shapeCast S16384x64 (Host.sin (angles64 p)) shapeCasts_S1x16384x64_S16384x64
def cos32 : FVec Ideal S16384x32 .f32 := shapeCast S16384x32 (Host.cos (angles32 p)) shapeCasts_S1x16384x32_S16384x32
def sin32 : FVec Ideal S16384x32 .f32 := shapeCast S16384x32 (Host.sin (angles32 p)) shapeCasts_S1x16384x32_S16384x32

theorem cos64_at (Q : Fin 16384) (k : Fin 64) : cos64 p (ix2 Q k) = Ideal.cos (Table.angle 0x43000000#32 (p (ix2 0 Q)) k.val) := by
  rw [← angles64_at]
  pointwise [cos64]
theorem sin64_at (Q : Fin 16384) (k : Fin 64) : sin64 p (ix2 Q k) = Ideal.sin (Table.angle 0x43000000#32 (p (ix2 0 Q)) k.val) := by
  rw [← angles64_at]
  pointwise [sin64]
theorem cos32_at (Q : Fin 16384) (k : Fin 32) : cos32 p (ix2 Q k) = Ideal.cos (Table.angle 0x42800000#32 (p (ix2 0 Q)) k.val) := by
  rw [← angles32_at]
  pointwise [cos32]
theorem sin32_at (Q : Fin 16384) (k : Fin 32) : sin32 p (ix2 Q k) = Ideal.sin (Table.angle 0x42800000#32 (p (ix2 0 Q)) k.val) := by
  rw [← angles32_at]
  pointwise [sin32]

theorem neg64_at (a : FVec Ideal S16384x64 .f32) (y : S16384x64.Idx) : Host.negf a y = -a y := by pointwise
theorem neg32_at (a : FVec Ideal S16384x32 .f32) (y : S16384x32.Idx) : Host.negf a y = -a y := by pointwise

theorem cosB_eq : beside64 (cos64 p) (cos64 p) = Table.cosOut 0x43000000#32 64 p := by
  funext y
  obtain ⟨Q, e, rfl⟩ : ∃ (Q : Fin 16384) (e : Fin 128), y = ix2 Q e := ⟨y 0, y 1, eq_ix2 y⟩
  rw [beside64_at, ite_self, cos64_at]
  rfl

theorem sinB_eq : beside64 (Host.negf (sin64 p)) (sin64 p) = Table.sinOut 0x43000000#32 64 p := by
  funext y
  obtain ⟨Q, e, rfl⟩ : ∃ (Q : Fin 16384) (e : Fin 128), y = ix2 Q e := ⟨y 0, y 1, eq_ix2 y⟩
  rw [beside64_at, neg64_at, sin64_at]
  unfold Table.sinOut
  show _ = if e.val % (2 * 64) < 64 then _ else _
  rw [Nat.mod_eq_of_lt (show e.val < 2 * 64 from e.isLt)]
  rfl

theorem cosC_eq : beside64 (beside32 (cos32 p) (cos32 p)) (beside32 (cos32 p) (cos32 p)) = Table.cosOut 0x42800000#32 32 p := by
  funext y
  obtain ⟨Q, e, rfl⟩ : ∃ (Q : Fin 16384) (e : Fin 128), y = ix2 Q e := ⟨y 0, y 1, eq_ix2 y⟩
  rw [beside64_at, ite_self, beside32_at, ite_self, cos32_at]
  exact congrArg (fun k => Ideal.cos (Table.angle 0x42800000#32 (p (ix2 0 Q)) k)) (show e.val % 64 % 32 = e.val % 32 by omega)

theorem sinC_eq : beside64 (beside32 (Host.negf (sin32 p)) (sin32 p)) (beside32 (Host.negf (sin32 p)) (sin32 p)) = Table.sinOut 0x42800000#32 32 p := by
  funext y
  obtain ⟨Q, e, rfl⟩ : ∃ (Q : Fin 16384) (e : Fin 128), y = ix2 Q e := ⟨y 0, y 1, eq_ix2 y⟩
  rw [beside64_at, ite_self, beside32_at, neg32_at, sin32_at]
  exact congrArg (fun k => if e.val % 64 < 32 then -Ideal.sin (Table.angle 0x42800000#32 (p (ix2 0 Q)) k) else Ideal.sin (Table.angle 0x42800000#32 (p (ix2 0 Q)) k))
    (show e.val % 64 % 32 = e.val % 32 by omega)

variable (m : (ℓ : Loc nD τ sig) → Buf (Elt Ideal) ℓ)

/-- The reference's run: its results are the four tables; the positions stay. -/
theorem run (ρ : Dev nD → PrngReg) :
    θ_run defs (onTc (τ := τ) (main (F := Ideal))) ⟨m, fun _ => 0, ρ⟩ fun r => ∀ c : Dev nD,
      r.2.mem ((c.tc : Thread nD τ).loc main_v37) = Table.cosOut 0x43000000#32 64 (m ((c.tc : Thread nD τ).loc main_arg0))
      ∧ r.2.mem ((c.tc : Thread nD τ).loc main_v40) = Table.sinOut 0x43000000#32 64 (m ((c.tc : Thread nD τ).loc main_arg0))
      ∧ r.2.mem ((c.tc : Thread nD τ).loc main_v43) = Table.cosOut 0x42800000#32 32 (m ((c.tc : Thread nD τ).loc main_arg0))
      ∧ r.2.mem ((c.tc : Thread nD τ).loc main_v47) = Table.sinOut 0x42800000#32 32 (m ((c.tc : Thread nD τ).loc main_arg0))
      ∧ r.2.mem ((c.tc : Thread nD τ).loc main_arg0) = m ((c.tc : Thread nD τ).loc main_arg0) :=
  (θ_run defs _ _).mono (fun _ h c => ⟨(h c).1.trans (cosB_eq _), (h c).2.1.trans (sinB_eq _), (h c).2.2.1.trans (cosC_eq _), (h c).2.2.2.1.trans (sinC_eq _),
    (h c).2.2.2.2⟩) (Value.run (F := Ideal) m ρ)

end Cert.Proof.RopeRef

end
-- ==== Proof.FinalValue.lean ====
/-
  The last norm of the trunk over the extended reals: the call's result array in terms of the program's arguments.
-/
module

public import proofs.«01_k».proof.Proof.Gen.FinalNormIdeal.Value
public import proofs.«01_k».proof.Proof.ProjSpec
public import Idealize.ShloMosaic.Lib.Pipeline.ValueKit

@[expose] public section

set_option maxRecDepth 16384

noncomputable section

namespace Cert.Proof.Final

open Cert.FinalNormIdeal Cert.FinalNormIdeal.Gen
open Idealize.ShloMosaic Idealize.ShloMosaic.TcCoe Idealize.SL.Sem

theorem pay_at (x0 : Vec Ideal S1024x1024 .f32) (x1 : Vec Ideal S1x1024 .f32) (r e : Fin 1024) :
    k0_pay1 (F := Ideal) x0 x1 (ix2 r e) = Proj.rms 0x44800000#32 (fun e => x0 (ix2 r e)) (fun e => x1 (ix2 0 e)) e := by
  unfold Proj.rms
  pointwise [k0_pay1]

theorem out_at (x0 : Vec Ideal S1024x1024 .f32) (x1 : Vec Ideal S1x1024 .f32) (r e : Fin 1024) :
    out0_2 (F := Ideal) x0 x1 (ix2 r e) = Proj.rms 0x44800000#32 (fun e => x0 (ix2 r e)) (fun e => x1 (ix2 0 e)) e := by
  unfold out0_2
  frame_out
  exact pay_at _ _ r e

variable (m : (ℓ : Loc nD τ sig) → Buf (Elt Ideal) ℓ) (c : Dev nD)

theorem index_0 : ∀ t : Fin cfg0.N, (cfg0.win 0).index t = ![(grid0.coords t 0).val, 0] := by decide +kernel
theorem index_1 : ∀ t : Fin cfg0.N, (cfg0.win 1).index t = ![0, 0] := by decide +kernel
theorem index_2 : ∀ t : Fin cfg0.N, (cfg0.win 2).index t = ![(grid0.coords t 0).val, 0] := by decide +kernel

/-- Row `r` of a grid point's tile, among all positions. -/
def posOf (t : Fin cfg0.N) (r : Fin 1024) : Fin 16384 :=
  ⟨1024 * (grid0.coords t 0).val + r.val, by have : (grid0.coords t 0).val < 16 := (grid0.coords t 0).isLt; omega⟩

theorem stream_tile (t : Fin cfg0.N) (r e : Fin 1024) :
    iblk m c 0 t (ix2 r e) = m ((c : Thread nD τ).loc main_arg0) (ix3 0 (posOf t r) e) := by
  have h : ((cfg0.win 0).blk t).view.emb (ix2 r e) = ix2 (posOf t r) e := by
    unfold posOf
    blk_ext [index_0 t]
  refine (congrArg (V m c main_v0) h).trans ?_
  entry_read
  pointwise

theorem weight_tile (t : Fin cfg0.N) (e : Fin 1024) :
    iblk m c 1 t (ix2 0 e) = m ((c : Thread nD τ).loc main_arg1) (ix1 e) := by
  have h : ((cfg0.win 1).blk t).view.emb (ix2 0 e) = ix2 0 e := by blk_ext [index_1 t]
  refine (congrArg (V m c main_v1) h).trans ?_
  entry_read
  pointwise

abbrev resultOf : Vec Ideal S16384x1024 .f32 := Proj.finalOut (m ((c : Thread nD τ).loc main_arg0)) (m ((c : Thread nD τ).loc main_arg1))

/-- The result array: every position of the stream, normalised and weighted. -/
theorem result_2 : (dats m 0 c).arrAt 2 cfg0.N = resultOf m c := by
  refine (dats m 0 c).arrAt_eq_of_covers 2 _ (by decide +kernel) fun t hf y => ?_
  obtain ⟨r, e, rfl⟩ : ∃ (r e : Fin 1024), y = ix2 r e := ⟨y 0, y 1, eq_ix2 y⟩
  have h : ((cfg0.win 2).blk t).view.emb (ix2 r e) = ix2 (posOf t r) e := by
    unfold posOf
    blk_ext [index_2 t]
  blk_simp
  rw [after0_2, out_at, funext fun e => stream_tile m c t r e, funext fun e => weight_tile m c t e]
  exact congrArg (resultOf m c) h.symm

/-- The kernel's run: its result is the normalised stream; its arguments stay. -/
theorem run (ρ : Dev nD → PrngReg) :
    θ_run defs (onTc (τ := τ) (main (F := Ideal))) ⟨m, fun _ => 0, ρ⟩ fun r => ∀ c : Dev nD,
      r.2.mem ((c.tc : Thread nD τ).loc main_v2) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_2 m c), (h c).2⟩) (Value.run_blocks (F := Ideal) m ρ)

end Cert.Proof.Final

end
-- ==== Proof.FinalRef.lean ====
/-
  The trunk's last norm as plain lines, at an index, over the extended reals.
-/
module

public import proofs.«01_k».proof.Proof.Gen.FinalNormRefIdeal.Run
public import proofs.«01_k».proof.Proof.OutRef
public import proofs.«01_k».proof.Proof.ProjSpec

@[expose] public section

set_option maxRecDepth 16384

noncomputable section

namespace Cert.Proof.FinalRef

open Cert.FinalNormRefIdeal Cert.FinalNormRefIdeal.Gen
open Idealize.ShloMosaic Idealize.ShloMosaic.TcCoe Idealize.SL.Sem

/-- The normalised stream, weighted, its one batch dropped. -/
def weighted (x : FVec Ideal S1x16384x1024 .f32) (w : FVec Ideal S1024 .f32) : FVec Ideal S16384x1024 .f32 :=
  shapeCast S16384x1024 (mulf (mulf x (OutRef.inverse x)) (broadcastInDim S1x16384x1024 ![0, 1, 2] bcast_S1x1x1024_S1x16384x1024_0_1_2
    (broadcastInDim S1x1x1024 ![2] bcast_S1024_S1x1x1024_2 w))) shapeCasts_S1x16384x1024_S16384x1024

theorem weighted_eq (x : FVec Ideal S1x16384x1024 .f32) (w : FVec Ideal S1024 .f32) : weighted x w = Proj.finalOut x w := by
  funext y
  obtain ⟨Q, e, rfl⟩ : ∃ (Q : Fin 16384) (e : Fin 1024), y = ix2 Q e := ⟨y 0, y 1, eq_ix2 y⟩
  show _ = Proj.rms 0x44800000#32 (fun e => x (ix3 0 Q e)) (fun e => w (ix1 e)) e
  unfold Proj.rms
  pointwise [weighted, OutRef.inverse_at]

variable (m : (ℓ : Loc nD τ sig) → Buf (Elt Ideal) ℓ)

/-- The reference's run: its result is the normalised stream; its arguments stay. -/
theorem run (ρ : Dev nD → PrngReg) :
    θ_run defs (onTc (τ := τ) (main (F := Ideal))) ⟨m, fun _ => 0, ρ⟩ fun r => ∀ c : Dev nD,
      r.2.mem ((c.tc : Thread nD τ).loc main_v13) = Proj.finalOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (weighted_eq _ _), (h c).2⟩) (Value.run (F := Ideal) m ρ)

end Cert.Proof.FinalRef

end
-- ==== Proof.MlaStores.lean ====
/-
  The latent attention's projection at one grid point, over the extended reals: what the body's stores leave in its three
  output tiles, index by index.
-/
module

public import proofs.«01_k».proof.Proof.HyTile
public import proofs.«01_k».proof.Proof.MlaTile

@[expose] public section

set_option maxRecDepth 16384

noncomputable section

namespace Cert.Proof.MlaP

open Cert.MlaProjIdeal Cert.MlaProjIdeal.Gen
open Idealize.ShloMosaic Idealize.ShloMosaic.TcCoe

/-! ## Where a store lands -/

/-- A store of `n` rows from row `o` on, into one head's plane of a tile of `N` rows. -/
theorem rows_of {n N : ℕ} (o : ℕ) (G : Fin 8 → Fin N → Fin 256 → EReal) (a : Fin 8)
    {inb : ∀ i, (![a.val, 0, o, 0] : Fin 4 → ℕ) i + (![1, 1, n, 256] : Fin 4 → ℕ) i ≤ (![8, 1, N, 256] : Fin 4 → ℕ) i}
    {p : Vec Ideal ⟨4, ![1, 1, n, 256]⟩ .bf16} (ho : o + n ≤ N) (h : ∀ (d : Fin n) (r : Fin 256), p (ix4 0 0 d r) = G a ⟨o + d.val, by omega⟩ r)
    (y : (Rect.unit (s := ⟨4, ![8, 1, N, 256]⟩) ![a.val, 0, o, 0] ![1, 1, n, 256] inb).shape.Idx) :
    p y = (fun y : Shape.Idx ⟨4, ![8, 1, N, 256]⟩ => G (y 0) (y 2) (y 3)) ((Rect.unit (s := ⟨4, ![8, 1, N, 256]⟩) ![a.val, 0, o, 0] ![1, 1, n, 256] inb).emb y) := by
  obtain ⟨d, r, rfl⟩ : ∃ (d : Fin n) (r : Fin 256), y = ix4 0 0 d r := ⟨y 2, y 3, by
    funext i; fin_cases i
    · exact Subsingleton.elim (α := Fin 1) _ _
    · exact Subsingleton.elim (α := Fin 1) _ _
    · rfl
    · rfl⟩
  have e : (Rect.unit (s := ⟨4, ![8, 1, N, 256]⟩) ![a.val, 0, o, 0] ![1, 1, n, 256] inb).emb (ix4 0 0 d r) = ix4 a 0 ⟨o + d.val, by omega⟩ r := by
    funext i; apply Fin.ext; fin_cases i <;> simp
  rw [e]
  exact h d r

/-- A store of `n` lanes from lane `o` on, into one head's plane of the keys' tile. -/
theorem lanes_of {n : ℕ} (o : ℕ) (G : Fin 8 → Fin 256 → Fin 192 → EReal) (a : Fin 8)
    {inb : ∀ i, (![a.val, 0, o] : Fin 3 → ℕ) i + (![1, 256, n] : Fin 3 → ℕ) i ≤ (![8, 256, 192] : Fin 3 → ℕ) i}
    {p : Vec Ideal ⟨3, ![1, 256, n]⟩ .bf16} (ho : o + n ≤ 192) (h : ∀ (r : Fin 256) (d : Fin n), p (ix3 0 r d) = G a r ⟨o + d.val, by omega⟩)
    (y : (Rect.unit (s := ⟨3, ![8, 256, 192]⟩) ![a.val, 0, o] ![1, 256, n] inb).shape.Idx) :
    p y = (fun y : Shape.Idx ⟨3, ![8, 256, 192]⟩ => G (y 0) (y 1) (y 2)) ((Rect.unit (s := ⟨3, ![8, 256, 192]⟩) ![a.val, 0, o] ![1, 256, n] inb).emb y) := by
  obtain ⟨r, d, rfl⟩ : ∃ (r : Fin 256) (d : Fin n), y = ix3 0 r d := ⟨y 1, y 2, by
    funext i; fin_cases i
    · exact Subsingleton.elim (α := Fin 1) _ _
    · rfl
    · rfl⟩
  have e : (Rect.unit (s := ⟨3, ![8, 256, 192]⟩) ![a.val, 0, o] ![1, 256, n] inb).emb (ix3 0 r d) = ix3 a r ⟨o + d.val, by omega⟩ := by
    funext i; apply Fin.ext; fin_cases i <;> simp
  rw [e]
  exact h r d

/-! ## The queries' tile -/

section
variable (q : FVec Ideal S256x1024 .f32) (u : FVec Ideal S256x512 .f32) (cs sn : FVec Ideal S256x128 .f32)

/-- Head `a`'s query in row `r`: 128 columns of one array, then the head's half of its pair's columns of the other, turned. -/
def queryCell (a : Fin 8) (n : Fin 192) (r : Fin 256) : EReal :=
  if h : n.val < 128 then q (ix2 r ⟨128 * a.val + n.val, by omega⟩)
  else half (fun d => u (ix2 r ⟨128 * (a.val / 2) + d.val, by omega⟩)) (fun d => cs (ix2 r d)) (fun d => sn (ix2 r d)) ⟨a.val % 2, by omega⟩ ⟨n.val - 128, by omega⟩

theorem queryCell_low (a : Fin 8) (d : Fin 128) (r : Fin 256) {p : EReal} (h : p = q (ix2 r ⟨128 * a.val + d.val, by omega⟩)) :
    p = queryCell q u cs sn a ⟨0 + d.val, by omega⟩ r := by
  unfold queryCell
  rw [h, dif_pos (show 0 + d.val < 128 by omega)]
  exact congrArg q (congrArg (ix2 r) (Fin.ext (show 128 * a.val + d.val = 128 * a.val + (0 + d.val) by omega)))

theorem queryCell_high (a : Fin 8) (k : Fin 4) (s : Fin 2) (ha : a.val = 2 * k.val + s.val) (d : Fin 64) (r : Fin 256) {p : EReal}
    (h : p = half (fun d => u (ix2 r ⟨128 * k.val + d.val, by omega⟩)) (fun d => cs (ix2 r d)) (fun d => sn (ix2 r d)) s d) :
    p = queryCell q u cs sn a ⟨128 + d.val, by omega⟩ r := by
  unfold queryCell
  have e1 : a.val / 2 = k.val := by omega
  have e2 : (⟨a.val % 2, by omega⟩ : Fin 2) = s := Fin.ext (show a.val % 2 = s.val by omega)
  have e3 : (⟨128 + d.val - 128, by omega⟩ : Fin 64) = d := Fin.ext (show 128 + d.val - 128 = d.val by omega)
  rw [h, dif_neg (show ¬ 128 + d.val < 128 by omega)]
  simp only [e1, e2, e3]

end

section
variable (u : FVec Ideal S256x512 .f32) (cs sn : FVec Ideal S256x128 .f32)

/-- The eight stores of turned features: a pair of heads shares 128 columns. -/
theorem turned_0 (d : Fin 64) (r : Fin 256) : k0_pay23 cs sn (k0_pay18 u) 64#32 k0_pay19 k0_pay20 k0_pay21 (ix4 0 0 d r)
    = half (fun d => u (ix2 r ⟨128 * ((0 : Fin 4) : ℕ) + d.val, by omega⟩)) (fun d => cs (ix2 r d)) (fun d => sn (ix2 r d)) 0 d := by
  unfold half
  simp only [← select_low]
  unfold firstHalf
  pointwise [k0_pay23, k0_pay18, k0_pay19, k0_pay20, k0_pay21, k0_pay22, modulus_eq]

theorem turned_1 (d : Fin 64) (r : Fin 256) : k0_pay24 cs sn (k0_pay18 u) 64#32 k0_pay19 k0_pay20 k0_pay21 (ix4 0 0 d r)
    = half (fun d => u (ix2 r ⟨128 * ((0 : Fin 4) : ℕ) + d.val, by omega⟩)) (fun d => cs (ix2 r d)) (fun d => sn (ix2 r d)) 1 d := by
  unfold half
  simp only [← select_high]
  unfold firstHalf
  pointwise [k0_pay24, k0_pay18, k0_pay19, k0_pay20, k0_pay21, k0_pay22, modulus_eq]

theorem turned_2 (d : Fin 64) (r : Fin 256) : k0_pay31 cs sn (k0_pay25 u) 64#32 k0_pay26 k0_pay27 k0_pay28 k0_pay29 (ix4 0 0 d r)
    = half (fun d => u (ix2 r ⟨128 * ((1 : Fin 4) : ℕ) + d.val, by omega⟩)) (fun d => cs (ix2 r d)) (fun d => sn (ix2 r d)) 0 d := by
  unfold half
  simp only [← select_low]
  unfold firstHalf
  pointwise [k0_pay31, k0_pay25, k0_pay26, k0_pay27, k0_pay28, k0_pay29, k0_pay30, modulus_eq]

theorem turned_3 (d : Fin 64) (r : Fin 256) : k0_pay32 cs sn (k0_pay25 u) 64#32 k0_pay26 k0_pay27 k0_pay28 k0_pay29 (ix4 0 0 d r)
    = half (fun d => u (ix2 r ⟨128 * ((1 : Fin 4) : ℕ) + d.val, by omega⟩)) (fun d => cs (ix2 r d)) (fun d => sn (ix2 r d)) 1 d := by
  unfold half
  simp only [← select_high]
  unfold firstHalf
  pointwise [k0_pay32, k0_pay25, k0_pay26, k0_pay27, k0_pay28, k0_pay29, k0_pay30, modulus_eq]

theorem turned_4 (d : Fin 64) (r : Fin 256) : k0_pay38 cs sn (k0_pay33 u) k0_pay34 k0_pay35 k0_pay36 (ix4 0 0 d r)
    = half (fun d => u (ix2 r ⟨128 * ((2 : Fin 4) : ℕ) + d.val, by omega⟩)) (fun d => cs (ix2 r d)) (fun d => sn (ix2 r d)) 0 d := by
  unfold half
  simp only [← select_low]
  unfold firstHalf
  pointwise [k0_pay38, k0_pay33, k0_pay34, k0_pay35, k0_pay36, k0_pay37, modulus_eq]

theorem turned_5 (d : Fin 64) (r : Fin 256) : k0_pay39 cs sn (k0_pay33 u) k0_pay34 k0_pay35 k0_pay36 (ix4 0 0 d r)
    = half (fun d => u (ix2 r ⟨128 * ((2 : Fin 4) : ℕ) + d.val, by omega⟩)) (fun d => cs (ix2 r d)) (fun d => sn (ix2 r d)) 1 d := by
  unfold half
  simp only [← select_high]
  unfold firstHalf
  pointwise [k0_pay39, k0_pay33, k0_pay34, k0_pay35, k0_pay36, k0_pay37, modulus_eq]

theorem turned_6 (d : Fin 64) (r : Fin 256) : k0_pay44 cs sn (k0_pay40 u) k0_pay41 k0_pay42 (ix4 0 0 d r)
    = half (fun d => u (ix2 r ⟨128 * ((3 : Fin 4) : ℕ) + d.val, by omega⟩)) (fun d => cs (ix2 r d)) (fun d => sn (ix2 r d)) 0 d := by
  unfold half
  simp only [← select_low]
  unfold firstHalf
  pointwise [k0_pay44, k0_pay40, k0_pay41, k0_pay42, k0_pay43, modulus_eq]

theorem turned_7 (d : Fin 64) (r : Fin 256) : k0_pay45 cs sn (k0_pay40 u) k0_pay41 k0_pay42 (ix4 0 0 d r)
    = half (fun d => u (ix2 r ⟨128 * ((3 : Fin 4) : ℕ) + d.val, by omega⟩)) (fun d => cs (ix2 r d)) (fun d => sn (ix2 r d)) 1 d := by
  unfold half
  simp only [← select_high]
  unfold firstHalf
  pointwise [k0_pay45, k0_pay40, k0_pay41, k0_pay42, k0_pay43, modulus_eq]

end

/-! ## The keys' tile -/

section
variable (k : FVec Ideal S256x1024 .f32) (u cs sn : FVec Ideal S256x128 .f32)

/-- Head `a`'s key in row `r`: 128 columns of one array, then the shared rotary key, turned. -/
def keyCell (a : Fin 8) (r : Fin 256) (n : Fin 192) : EReal :=
  if h : n.val < 128 then k (ix2 r ⟨128 * a.val + n.val, by omega⟩)
  else half (fun d => u (ix2 r d)) (fun d => cs (ix2 r d)) (fun d => sn (ix2 r d)) 0 ⟨n.val - 128, by omega⟩

theorem shared_turned (r : Fin 256) (d : Fin 64) :
    k0_pay17 u cs sn (ix2 r d) = half (fun d => u (ix2 r d)) (fun d => cs (ix2 r d)) (fun d => sn (ix2 r d)) 0 d := by
  unfold half
  simp only [← select_low]
  unfold firstHalf
  pointwise [k0_pay17, modulus_eq]

theorem keyCell_low (a : Fin 8) (r : Fin 256) (d : Fin 128) {p : EReal} (h : p = k (ix2 r ⟨128 * a.val + d.val, by omega⟩)) :
    p = keyCell k u cs sn a r ⟨0 + d.val, by omega⟩ := by
  unfold keyCell
  rw [h, dif_pos (show 0 + d.val < 128 by omega)]
  exact congrArg k (congrArg (ix2 r) (Fin.ext (show 128 * a.val + d.val = 128 * a.val + (0 + d.val) by omega)))

theorem keyCell_high (a : Fin 8) (r : Fin 256) (d : Fin 64) {p : EReal} (h : p = k0_pay17 u cs sn (ix2 r d)) :
    p = keyCell k u cs sn a r ⟨128 + d.val, by omega⟩ := by
  unfold keyCell
  have e3 : (⟨128 + d.val - 128, by omega⟩ : Fin 64) = d := Fin.ext (show 128 + d.val - 128 = d.val by omega)
  rw [h, shared_turned, dif_neg (show ¬ 128 + d.val < 128 by omega)]
  simp only [e3]

end

/-! ## The tiles after the stores -/

variable (m : (ℓ : Loc nD τ sig) → Buf (Elt Ideal) ℓ) (c : Dev nD)

/-- The arrays at a grid point. -/
abbrev queriesAt (t : Fin cfg0.N) := queryTile (iblk m c 0 t) (iblk m c 1 t) (iblk m c 2 t) (iblk m c 3 t) (iblk m c 4 t) (iblk m c 7 t) (iblk m c 9 t)
abbrev queryTurnsAt (t : Fin cfg0.N) := queryTurnTile (iblk m c 0 t) (iblk m c 1 t) (iblk m c 2 t) (iblk m c 3 t) (iblk m c 4 t) (iblk m c 7 t) (iblk m c 10 t)
abbrev keysAt (t : Fin cfg0.N) := keyTile (iblk m c 0 t) (iblk m c 1 t) (iblk m c 2 t) (iblk m c 3 t) (iblk m c 5 t) (iblk m c 8 t) (iblk m c 11 t)
abbrev valuesAt (t : Fin cfg0.N) := valueTile (iblk m c 0 t) (iblk m c 1 t) (iblk m c 2 t) (iblk m c 3 t) (iblk m c 5 t) (iblk m c 8 t) (iblk m c 12 t)
abbrev sharedAt (t : Fin cfg0.N) : FVec Ideal S256x128 .f32 := k0_pay7 (iblk m c 0 t) (iblk m c 1 t) (iblk m c 2 t) (iblk m c 3 t) (iblk m c 6 t)
abbrev cosAt (t : Fin cfg0.N) : FVec Ideal S256x128 .f32 := k0_pay11 (iblk m c 13 t)
abbrev sinAt (t : Fin cfg0.N) : FVec Ideal S256x128 .f32 := k0_pay12 (iblk m c 14 t)

theorem query_stores (t : Fin cfg0.N) (y : S8x1x192x256.Idx) :
    (outsAt0 m c t).1 y = queryCell (queriesAt m c t) (queryTurnsAt m c t) (cosAt m c t) (sinAt m c t) (y 0) (y 2) (y 3) := by
  rw [outsAt0]
  dsimp only
  frame_out
  refine View.canon_apply_of_pieces (Val := Elt Ideal) (S := S8x1x192x256) (e := .bf16)
    (fun y => queryCell (queriesAt m c t) (queryTurnsAt m c t) (cosAt m c t) (sinAt m c t) (y 0) (y 2) (y 3)) _ ?_ _
    (View.cover_of_tiledBy _ ![1, 1, 64, 256] (by sl_kernel_rfl) y)
  simp only [List.forall_mem_cons, List.not_mem_nil, false_implies, implies_true, and_true]
  change _ ∧ _
  let G := queryCell (queriesAt m c t) (queryTurnsAt m c t) (cosAt m c t) (sinAt m c t)
  refine ⟨rows_of 0 G 7 (by decide) fun d r => queryCell_low _ _ _ _ 7 d r ?_,
    rows_of 0 G 6 (by decide) fun d r => queryCell_low _ _ _ _ 6 d r ?_,
    rows_of 0 G 5 (by decide) fun d r => queryCell_low _ _ _ _ 5 d r ?_,
    rows_of 0 G 4 (by decide) fun d r => queryCell_low _ _ _ _ 4 d r ?_,
    rows_of 0 G 3 (by decide) fun d r => queryCell_low _ _ _ _ 3 d r ?_,
    rows_of 0 G 2 (by decide) fun d r => queryCell_low _ _ _ _ 2 d r ?_,
    rows_of 0 G 1 (by decide) fun d r => queryCell_low _ _ _ _ 1 d r ?_,
    rows_of 0 G 0 (by decide) fun d r => queryCell_low _ _ _ _ 0 d r ?_,
    rows_of 128 G 7 (by decide) fun d r => queryCell_high _ _ _ _ 7 3 1 (by decide) d r (turned_7 _ _ _ d r),
    rows_of 128 G 6 (by decide) fun d r => queryCell_high _ _ _ _ 6 3 0 (by decide) d r (turned_6 _ _ _ d r),
    rows_of 128 G 5 (by decide) fun d r => queryCell_high _ _ _ _ 5 2 1 (by decide) d r (turned_5 _ _ _ d r),
    rows_of 128 G 4 (by decide) fun d r => queryCell_high _ _ _ _ 4 2 0 (by decide) d r (turned_4 _ _ _ d r),
    rows_of 128 G 3 (by decide) fun d r => queryCell_high _ _ _ _ 3 1 1 (by decide) d r (turned_3 _ _ _ d r),
    rows_of 128 G 2 (by decide) fun d r => queryCell_high _ _ _ _ 2 1 0 (by decide) d r (turned_2 _ _ _ d r),
    rows_of 128 G 1 (by decide) fun d r => queryCell_high _ _ _ _ 1 0 1 (by decide) d r (turned_1 _ _ _ d r),
    rows_of 128 G 0 (by decide) fun d r => queryCell_high _ _ _ _ 0 0 0 (by decide) d r (turned_0 _ _ _ d r)⟩
  · pointwise [k0_pay77] <;> rfl
  · pointwise [k0_pay73] <;> rfl
  · pointwise [k0_pay69] <;> rfl
  · pointwise [k0_pay64] <;> rfl
  · pointwise [k0_pay59] <;> rfl
  · pointwise [k0_pay55] <;> rfl
  · pointwise [k0_pay51] <;> rfl
  · pointwise [k0_pay46] <;> rfl

theorem key_stores (t : Fin cfg0.N) (y : S8x256x192.Idx) :
    (outsAt0 m c t).2.1 y = keyCell (keysAt m c t) (sharedAt m c t) (cosAt m c t) (sinAt m c t) (y 0) (y 1) (y 2) := by
  rw [outsAt0]
  dsimp only
  frame_out
  refine View.canon_apply_of_pieces (Val := Elt Ideal) (S := S8x256x192) (e := .bf16)
    (fun y => keyCell (keysAt m c t) (sharedAt m c t) (cosAt m c t) (sinAt m c t) (y 0) (y 1) (y 2)) _ ?_ _
    (View.cover_of_tiledBy _ ![1, 256, 64] (by sl_kernel_rfl) y)
  simp only [List.forall_mem_cons, List.not_mem_nil, false_implies, implies_true, and_true]
  let G := keyCell (keysAt m c t) (sharedAt m c t) (cosAt m c t) (sinAt m c t)
  refine ⟨lanes_of 128 G 7 (by decide) fun r d => keyCell_high _ _ _ _ 7 r d ?_,
    lanes_of 0 G 7 (by decide) fun r d => keyCell_low _ _ _ _ 7 r d ?_,
    lanes_of 128 G 6 (by decide) fun r d => keyCell_high _ _ _ _ 6 r d ?_,
    lanes_of 0 G 6 (by decide) fun r d => keyCell_low _ _ _ _ 6 r d ?_,
    lanes_of 128 G 5 (by decide) fun r d => keyCell_high _ _ _ _ 5 r d ?_,
    lanes_of 0 G 5 (by decide) fun r d => keyCell_low _ _ _ _ 5 r d ?_,
    lanes_of 128 G 4 (by decide) fun r d => keyCell_high _ _ _ _ 4 r d ?_,
    lanes_of 0 G 4 (by decide) fun r d => keyCell_low _ _ _ _ 4 r d ?_,
    lanes_of 128 G 3 (by decide) fun r d => keyCell_high _ _ _ _ 3 r d ?_,
    lanes_of 0 G 3 (by decide) fun r d => keyCell_low _ _ _ _ 3 r d ?_,
    lanes_of 128 G 2 (by decide) fun r d => keyCell_high _ _ _ _ 2 r d ?_,
    lanes_of 0 G 2 (by decide) fun r d => keyCell_low _ _ _ _ 2 r d ?_,
    lanes_of 128 G 1 (by decide) fun r d => keyCell_high _ _ _ _ 1 r d ?_,
    lanes_of 0 G 1 (by decide) fun r d => keyCell_low _ _ _ _ 1 r d ?_,
    lanes_of 128 G 0 (by decide) fun r d => keyCell_high _ _ _ _ 0 r d ?_,
    lanes_of 0 G 0 (by decide) fun r d => keyCell_low _ _ _ _ 0 r d ?_⟩
  · pointwise [k0_pay2] <;> rfl
  · pointwise [k0_pay1, k0_pay78] <;> rfl
  · pointwise [k0_pay75] <;> rfl
  · pointwise [k0_pay74] <;> rfl
  · pointwise [k0_pay71] <;> rfl
  · pointwise [k0_pay70] <;> rfl
  · pointwise [k0_pay66] <;> rfl
  · pointwise [k0_pay65] <;> rfl
  · pointwise [k0_pay62] <;> rfl
  · pointwise [k0_pay61, k0_pay60] <;> rfl
  · pointwise [k0_pay57] <;> rfl
  · pointwise [k0_pay56] <;> rfl
  · pointwise [k0_pay53] <;> rfl
  · pointwise [k0_pay52] <;> rfl
  · pointwise [k0_pay48] <;> rfl
  · pointwise [k0_pay47] <;> rfl

theorem value_stores (t : Fin cfg0.N) (y : S8x1x144x256.Idx) :
    (outsAt0 m c t).2.2 y = Proj.valued (fun d => valuesAt m c t (ix2 (y 3) ⟨128 * (y 0).val + d.val, by have : (y 0).val < 8 := (y 0).isLt; omega⟩)) (y 2) := by
  rw [outsAt0]
  dsimp only
  frame_out
  refine View.canon_apply_of_pieces (Val := Elt Ideal) (S := S8x1x144x256) (e := .bf16)
    (fun y => Proj.valued (fun d => valuesAt m c t (ix2 (y 3) ⟨128 * (y 0).val + d.val, by have : (y 0).val < 8 := (y 0).isLt; omega⟩)) (y 2)) _ ?_ _
    (View.cover_of_tiledBy _ ![1, 1, 144, 256] (by sl_kernel_rfl) y)
  simp only [List.forall_mem_cons, List.not_mem_nil, false_implies, implies_true, and_true]
  let G : Fin 8 → Fin 144 → Fin 256 → EReal := fun a n r => Proj.valued (fun d => valuesAt m c t (ix2 r ⟨128 * a.val + d.val, by omega⟩)) n
  refine ⟨rows_of 0 G 7 (by decide) ?_,
    rows_of 0 G 6 (by decide) ?_,
    rows_of 0 G 5 (by decide) ?_,
    rows_of 0 G 4 (by decide) ?_,
    rows_of 0 G 3 (by decide) ?_,
    rows_of 0 G 2 (by decide) ?_,
    rows_of 0 G 1 (by decide) ?_,
    rows_of 0 G 0 (by decide) ?_⟩ <;> intro n r
  all_goals
    beta_reduce
    refine Eq.trans ?_ (congrArg (fun k => Proj.valued _ k) (Fin.ext (show n.val = 0 + n.val by omega)))
    rw [Hy.valued_eq]
  · pointwise [k0_pay3] <;> rfl
  · pointwise [k0_pay76] <;> rfl
  · pointwise [k0_pay72] <;> rfl
  · pointwise [k0_pay68, k0_pay67] <;> rfl
  · pointwise [k0_pay63] <;> rfl
  · pointwise [k0_pay58] <;> rfl
  · pointwise [k0_pay54] <;> rfl
  · pointwise [k0_pay50, k0_pay49] <;> rfl

end Cert.Proof.MlaP

end
-- ==== Proof.MlaValue.lean ====
/-
  The latent attention's projection over the extended reals: the call's three result arrays in terms of the program's
  arguments.
-/
module

public import proofs.«01_k».proof.Proof.Gen.MlaProjIdeal.Value
public import proofs.«01_k».proof.Proof.MlaSpec
public import proofs.«01_k».proof.Proof.MlaStores

@[expose] public section

set_option maxRecDepth 16384

noncomputable section

namespace Cert.Proof.MlaP

open Cert.MlaProjIdeal Cert.MlaProjIdeal.Gen
open Idealize.ShloMosaic Idealize.ShloMosaic.TcCoe Idealize.SL.Sem

variable (m : (ℓ : Loc nD τ sig) → Buf (Elt Ideal) ℓ) (c : Dev nD)

/-- The arguments, as arrays. -/
abbrev arg0 : Vec Ideal S1x16384x1024 .f32 := m ((c : Thread nD τ).loc main_arg0)
abbrev arg1 : Vec Ideal S1024 .f32 := m ((c : Thread nD τ).loc main_arg1)
abbrev arg2 : Vec Ideal S1x1x1024 .f32 := m ((c : Thread nD τ).loc main_arg2)
abbrev arg3 : Vec Ideal S1x1x1024 .f32 := m ((c : Thread nD τ).loc main_arg3)
abbrev arg4 : Vec Ideal S1x16384x32 .f32 := m ((c : Thread nD τ).loc main_arg4)
abbrev arg5 : Vec Ideal S1x16384x32 .f32 := m ((c : Thread nD τ).loc main_arg5)
abbrev arg6 : Vec Ideal S1024x832 .f32 := m ((c : Thread nD τ).loc main_arg6)
abbrev arg7 : Vec Ideal S512 .f32 := m ((c : Thread nD τ).loc main_arg7)
abbrev arg8 : Vec Ideal S256 .f32 := m ((c : Thread nD τ).loc main_arg8)
abbrev arg9 : Vec Ideal S512x1536 .f32 := m ((c : Thread nD τ).loc main_arg9)
abbrev arg10 : Vec Ideal S256x2048 .f32 := m ((c : Thread nD τ).loc main_arg10)

/-! ## The windows' blocks -/

theorem index_0 : ∀ t : Fin cfg0.N, (cfg0.win 0).index t = ![(grid0.coords t 0).val, 0] := by decide +kernel
theorem index_1 : ∀ t : Fin cfg0.N, (cfg0.win 1).index t = ![0, 0] := by decide +kernel
theorem index_2 : ∀ t : Fin cfg0.N, (cfg0.win 2).index t = ![0, 0] := by decide +kernel
theorem index_3 : ∀ t : Fin cfg0.N, (cfg0.win 3).index t = ![0, 0] := by decide +kernel
theorem index_4 : ∀ t : Fin cfg0.N, (cfg0.win 4).index t = ![0, 0] := by decide +kernel
theorem index_5 : ∀ t : Fin cfg0.N, (cfg0.win 5).index t = ![0, 0] := by decide +kernel
theorem index_6 : ∀ t : Fin cfg0.N, (cfg0.win 6).index t = ![0, 0] := by decide +kernel
theorem index_7 : ∀ t : Fin cfg0.N, (cfg0.win 7).index t = ![0, 0] := by decide +kernel
theorem index_8 : ∀ t : Fin cfg0.N, (cfg0.win 8).index t = ![0, 0] := by decide +kernel
theorem index_9 : ∀ t : Fin cfg0.N, (cfg0.win 9).index t = ![0, 0] := by decide +kernel
theorem index_10 : ∀ t : Fin cfg0.N, (cfg0.win 10).index t = ![0, 0] := by decide +kernel
theorem index_11 : ∀ t : Fin cfg0.N, (cfg0.win 11).index t = ![0, 0] := by decide +kernel
theorem index_12 : ∀ t : Fin cfg0.N, (cfg0.win 12).index t = ![0, 0] := by decide +kernel
theorem index_13 : ∀ t : Fin cfg0.N, (cfg0.win 13).index t = ![(grid0.coords t 0).val, 0] := by decide +kernel
theorem index_14 : ∀ t : Fin cfg0.N, (cfg0.win 14).index t = ![(grid0.coords t 0).val, 0] := by decide +kernel
theorem index_15 : ∀ t : Fin cfg0.N, (cfg0.win 15).index t = ![0, (grid0.coords t 0).val, 0, 0] := by decide +kernel
theorem index_16 : ∀ t : Fin cfg0.N, (cfg0.win 16).index t = ![0, (grid0.coords t 0).val, 0] := by decide +kernel
theorem index_17 : ∀ t : Fin cfg0.N, (cfg0.win 17).index t = ![0, (grid0.coords t 0).val, 0, 0] := by decide +kernel

/-- The block of positions that a grid point takes. -/
def blockOf (t : Fin cfg0.N) : Fin 64 := ⟨(grid0.coords t 0).val, (grid0.coords t 0).isLt⟩

/-- Row `r` of a grid point's tile, among all positions. -/
abbrev posOf (t : Fin cfg0.N) (r : Fin 256) : Fin 16384 := Proj.rowOf (blockOf t) r

/-! ## The input tiles from the arguments -/

theorem stream_tile (t : Fin cfg0.N) (r : Fin 256) (e : Fin 1024) :
    iblk m c 0 t (ix2 r e) = arg0 m c (ix3 0 (posOf t r) e) := by
  have h : ((cfg0.win 0).blk t).view.emb (ix2 r e) = ix2 (posOf t r) e := by
    unfold posOf Proj.rowOf blockOf
    blk_ext [index_0 t]
  refine (congrArg (V m c main_v24) h).trans ?_
  simp only [V, hostOps0, hostOps0_1, hostOps0_2, List.flatten_cons, List.flatten_nil, List.append_nil, List.cons_append, List.nil_append]
  entry_read
  pointwise

theorem norm_tile (t : Fin cfg0.N) (e : Fin 1024) :
    iblk m c 1 t (ix2 0 e) = arg1 m c (ix1 e) := by
  have h : ((cfg0.win 1).blk t).view.emb (ix2 0 e) = ix2 0 e := by blk_ext [index_1 t]
  refine (congrArg (V m c main_v25) h).trans ?_
  simp only [V, hostOps0, hostOps0_1, hostOps0_2, List.flatten_cons, List.flatten_nil, List.append_nil, List.cons_append, List.nil_append]
  entry_read
  pointwise

theorem scale_tile (t : Fin cfg0.N) (e : Fin 1024) :
    iblk m c 2 t (ix2 0 e) = arg2 m c (ix3 0 0 e) := by
  have h : ((cfg0.win 2).blk t).view.emb (ix2 0 e) = ix2 0 e := by blk_ext [index_2 t]
  refine (congrArg (V m c main_v26) h).trans ?_
  simp only [V, hostOps0, hostOps0_1, hostOps0_2, List.flatten_cons, List.flatten_nil, List.append_nil, List.cons_append, List.nil_append]
  entry_read
  pointwise

theorem shift_tile (t : Fin cfg0.N) (e : Fin 1024) :
    iblk m c 3 t (ix2 0 e) = arg3 m c (ix3 0 0 e) := by
  have h : ((cfg0.win 3).blk t).view.emb (ix2 0 e) = ix2 0 e := by blk_ext [index_3 t]
  refine (congrArg (V m c main_v27) h).trans ?_
  simp only [V, hostOps0, hostOps0_1, hostOps0_2, List.flatten_cons, List.flatten_nil, List.append_nil, List.cons_append, List.nil_append]
  entry_read
  pointwise

theorem latentQ_tile (t : Fin cfg0.N) (k : Fin 1024) (j : Fin 512) :
    iblk m c 4 t (ix2 k j) = arg6 m c (ix2 k ⟨j.val, by omega⟩) := by
  have h : ((cfg0.win 4).blk t).view.emb (ix2 k j) = ix2 k j := by blk_ext [index_4 t]
  refine (congrArg (V m c main_v28) h).trans ?_
  simp only [V, hostOps0, hostOps0_1, hostOps0_2, List.flatten_cons, List.flatten_nil, List.append_nil, List.cons_append, List.nil_append]
  entry_read
  pointwise

theorem latentK_tile (t : Fin cfg0.N) (k : Fin 1024) (j : Fin 256) :
    iblk m c 5 t (ix2 k j) = arg6 m c (ix2 k ⟨512 + j.val, by omega⟩) := by
  have h : ((cfg0.win 5).blk t).view.emb (ix2 k j) = ix2 k j := by blk_ext [index_5 t]
  refine (congrArg (V m c main_v29) h).trans ?_
  simp only [V, hostOps0, hostOps0_1, hostOps0_2, List.flatten_cons, List.flatten_nil, List.append_nil, List.cons_append, List.nil_append]
  entry_read
  pointwise

theorem shared_tile (t : Fin cfg0.N) (k : Fin 1024) (j : Fin 128) :
    iblk m c 6 t (ix2 k j) = if h : j.val < 64 then arg6 m c (ix2 k ⟨768 + j.val, by omega⟩) else 0 := by
  have h : ((cfg0.win 6).blk t).view.emb (ix2 k j) = ix2 k j := by blk_ext [index_6 t]
  refine (congrArg (V m c main_v2) h).trans ?_
  simp only [V, hostOps0, hostOps0_1, hostOps0_2, List.flatten_cons, List.flatten_nil, List.append_nil, List.cons_append, List.nil_append]
  entry_read
  show pad S1024x128 ![0, 0] ![0, 64] ![0, 0] (extractStridedSlice S1024x64 ![0, 768] (truncf .bf16 (arg6 m c) bitsLt_bf16_f32 : FVec Ideal S1024x832 .bf16) slices_S1024x832_S1024x64_0_768)
    (sitofp .bf16 (constantI S_ 32 0#32)) pads_S1024x64_S1024x128_000_0640 h_S_ (ix2 k j) = _
  have z : FloatOps.sitofp (F := Ideal) .bf16 0#32 = 0 := by
    show (((0#32 : BitVec 32).toInt : ℝ) : EReal) = 0
    simp
  pointwise [z]

theorem normQ_tile (t : Fin cfg0.N) (e : Fin 512) :
    iblk m c 7 t (ix2 0 e) = arg7 m c (ix1 e) := by
  have h : ((cfg0.win 7).blk t).view.emb (ix2 0 e) = ix2 0 e := by blk_ext [index_7 t]
  refine (congrArg (V m c main_v30) h).trans ?_
  simp only [V, hostOps0, hostOps0_1, hostOps0_2, List.flatten_cons, List.flatten_nil, List.append_nil, List.cons_append, List.nil_append]
  entry_read
  pointwise

theorem normK_tile (t : Fin cfg0.N) (e : Fin 256) :
    iblk m c 8 t (ix2 0 e) = arg8 m c (ix1 e) := by
  have h : ((cfg0.win 8).blk t).view.emb (ix2 0 e) = ix2 0 e := by blk_ext [index_8 t]
  refine (congrArg (V m c main_v31) h).trans ?_
  simp only [V, hostOps0, hostOps0_1, hostOps0_2, List.flatten_cons, List.flatten_nil, List.append_nil, List.cons_append, List.nil_append]
  entry_read
  pointwise

theorem queryUp_tile (t : Fin cfg0.N) (k : Fin 512) (a : Fin 8) (n : Fin 128) :
    iblk m c 9 t (ix2 k ⟨128 * a.val + n.val, by omega⟩) = arg9 m c (ix2 k ⟨192 * a.val + n.val, by omega⟩) := by
  have h : ((cfg0.win 9).blk t).view.emb (ix2 k ⟨128 * a.val + n.val, by omega⟩) = ix2 k ⟨128 * a.val + n.val, by omega⟩ := by blk_ext [index_9 t]
  refine (congrArg (V m c main_v6) h).trans ?_
  simp only [V, hostOps0, hostOps0_1, hostOps0_2, List.flatten_cons, List.flatten_nil, List.append_nil, List.cons_append, List.nil_append]
  entry_read
  pointwise
  refine congrArg (arg9 m c) (congrArg (ix2 k) (Fin.ext ?_))
  show a.val * 192 + n.val = 192 * a.val + n.val
  omega

theorem queryTurn_tile (t : Fin cfg0.N) (k : Fin 512) (a : Fin 8) (d : Fin 64) :
    iblk m c 10 t (ix2 k ⟨128 * (a.val / 2) + (64 * (a.val % 2) + d.val), by omega⟩) = arg9 m c (ix2 k ⟨192 * a.val + 128 + d.val, by omega⟩) := by
  have h : ((cfg0.win 10).blk t).view.emb (ix2 k ⟨128 * (a.val / 2) + (64 * (a.val % 2) + d.val), by omega⟩) = ix2 k ⟨128 * (a.val / 2) + (64 * (a.val % 2) + d.val), by omega⟩ := by blk_ext [index_10 t]
  refine (congrArg (V m c main_v8) h).trans ?_
  simp only [V, hostOps0, hostOps0_1, hostOps0_2, List.flatten_cons, List.flatten_nil, List.append_nil, List.cons_append, List.nil_append]
  entry_read
  pointwise
  refine congrArg (arg9 m c) (congrArg (ix2 k) (Fin.ext ?_))
  show a.val * 192 + (128 + d.val) = 192 * a.val + 128 + d.val
  omega

theorem keyUp_tile (t : Fin cfg0.N) (k : Fin 256) (a : Fin 8) (n : Fin 128) :
    iblk m c 11 t (ix2 k ⟨128 * a.val + n.val, by omega⟩) = arg10 m c (ix2 k ⟨256 * a.val + n.val, by omega⟩) := by
  have h : ((cfg0.win 11).blk t).view.emb (ix2 k ⟨128 * a.val + n.val, by omega⟩) = ix2 k ⟨128 * a.val + n.val, by omega⟩ := by blk_ext [index_11 t]
  refine (congrArg (V m c main_v12) h).trans ?_
  simp only [V, hostOps0, hostOps0_1, hostOps0_2, List.flatten_cons, List.flatten_nil, List.append_nil, List.cons_append, List.nil_append]
  entry_read
  pointwise
  refine congrArg (arg10 m c) (congrArg (ix2 k) (Fin.ext ?_))
  show a.val * 256 + n.val = 256 * a.val + n.val
  omega

theorem valueUp_tile (t : Fin cfg0.N) (k : Fin 256) (a : Fin 8) (n : Fin 128) :
    iblk m c 12 t (ix2 k ⟨128 * a.val + n.val, by omega⟩) = arg10 m c (ix2 k ⟨256 * a.val + 128 + n.val, by omega⟩) := by
  have h : ((cfg0.win 12).blk t).view.emb (ix2 k ⟨128 * a.val + n.val, by omega⟩) = ix2 k ⟨128 * a.val + n.val, by omega⟩ := by blk_ext [index_12 t]
  refine (congrArg (V m c main_v14) h).trans ?_
  simp only [V, hostOps0, hostOps0_1, hostOps0_2, List.flatten_cons, List.flatten_nil, List.append_nil, List.cons_append, List.nil_append]
  entry_read
  pointwise
  refine congrArg (arg10 m c) (congrArg (ix2 k) (Fin.ext ?_))
  show a.val * 256 + (128 + n.val) = 256 * a.val + 128 + n.val
  omega

/-- Two tables side by side, twice. -/
theorem four_at (u v : FVec Ideal S16384x32 .f32) (Q : Fin 16384) (j : Fin 128) :
    concatenate S16384x128 1 [⟨S16384x64, concatenate S16384x64 1 [⟨S16384x32, u⟩, ⟨S16384x32, v⟩] concatenates_S16384x32_S16384x32_S16384x64_d1⟩,
        ⟨S16384x64, concatenate S16384x64 1 [⟨S16384x32, u⟩, ⟨S16384x32, v⟩] concatenates_S16384x32_S16384x32_S16384x64_d1⟩]
      concatenates_S16384x64_S16384x64_S16384x128_d1 (ix2 Q j) = fourfold (fun k => u (ix2 Q k)) (fun k => v (ix2 Q k)) j := by
  have f (a b : Fin 32 → EReal) : (if p : j.val < 64 then if p : j.val < 32 then a ⟨j.val, p⟩ else b ⟨j.val - 32, by omega⟩
      else if p : j.val - 64 < 32 then a ⟨j.val - 64, p⟩ else b ⟨j.val - 64 - 32, by omega⟩) = fourfold a b j := by
    unfold fourfold
    split <;> split
    · rw [if_pos (by omega)]
      exact congrArg a (Fin.ext (show j.val = j.val % 32 by omega))
    · rw [if_neg (by omega)]
      exact congrArg b (Fin.ext (show j.val - 32 = j.val % 32 by omega))
    · rw [if_pos (by omega)]
      exact congrArg a (Fin.ext (show j.val - 64 = j.val % 32 by omega))
    · rw [if_neg (by omega)]
      exact congrArg b (Fin.ext (show j.val - 64 - 32 = j.val % 32 by omega))
  rw [← f]
  pointwise

theorem cos_tile (t : Fin cfg0.N) (r : Fin 256) (j : Fin 128) :
    iblk m c 13 t (ix2 r j) = fourfold (fun k => arg4 m c (ix3 0 (posOf t r) k)) (fun k => arg4 m c (ix3 0 (posOf t r) k)) j := by
  have h : ((cfg0.win 13).blk t).view.emb (ix2 r j) = ix2 (posOf t r) j := by
    unfold posOf Proj.rowOf blockOf
    blk_ext [index_13 t]
  refine (congrArg (V m c main_v22) h).trans ?_
  simp only [V, hostOps0, hostOps0_1, hostOps0_2, List.flatten_cons, List.flatten_nil, List.append_nil, List.cons_append, List.nil_append]
  entry_read
  refine (four_at _ _ _ _).trans (congrArg₂ (fun a b => fourfold a b j) (funext fun k => ?_) (funext fun k => ?_)) <;> after_results_simp <;> pointwise

theorem sin_tile (t : Fin cfg0.N) (r : Fin 256) (j : Fin 128) :
    iblk m c 14 t (ix2 r j) = fourfold (fun k => -arg5 m c (ix3 0 (posOf t r) k)) (fun k => arg5 m c (ix3 0 (posOf t r) k)) j := by
  have h : ((cfg0.win 14).blk t).view.emb (ix2 r j) = ix2 (posOf t r) j := by
    unfold posOf Proj.rowOf blockOf
    blk_ext [index_14 t]
  refine (congrArg (V m c main_v23) h).trans ?_
  simp only [V, hostOps0, hostOps0_1, hostOps0_2, List.flatten_cons, List.flatten_nil, List.append_nil, List.cons_append, List.nil_append]
  entry_read
  refine (four_at _ _ _ _).trans (congrArg₂ (fun a b => fourfold a b j) (funext fun k => ?_) (funext fun k => ?_)) <;> after_results_simp <;> pointwise

/-! ## The rows of a grid point's arrays -/

theorem hiddenRow_eq (t : Fin cfg0.N) (r : Fin 256) :
    hiddenRow (iblk m c 0 t) (iblk m c 1 t) (iblk m c 2 t) (iblk m c 3 t) r
      = Proj.normedAt (arg0 m c) (arg1 m c) (arg2 m c) (arg3 m c) (posOf t r) := by
  unfold hiddenRow Proj.normedAt
  simp only [stream_tile, norm_tile, scale_tile, shift_tile]

theorem queryRow_eq (t : Fin cfg0.N) (r : Fin 256) :
    queryRow (iblk m c 0 t) (iblk m c 1 t) (iblk m c 2 t) (iblk m c 3 t) (iblk m c 4 t) (iblk m c 7 t) r
      = latentQ (arg0 m c) (arg1 m c) (arg2 m c) (arg3 m c) (arg6 m c) (arg7 m c) (posOf t r) := by
  unfold queryRow latentQ times inAt
  rw [hiddenRow_eq]
  simp only [latentQ_tile, normQ_tile]

theorem keyRow_eq (t : Fin cfg0.N) (r : Fin 256) :
    keyRow (iblk m c 0 t) (iblk m c 1 t) (iblk m c 2 t) (iblk m c 3 t) (iblk m c 5 t) (iblk m c 8 t) r
      = latentK (arg0 m c) (arg1 m c) (arg2 m c) (arg3 m c) (arg6 m c) (arg8 m c) (posOf t r) := by
  unfold keyRow latentK times inAt
  rw [hiddenRow_eq]
  simp only [latentK_tile, normK_tile]

theorem queries_eq (t : Fin cfg0.N) (r : Fin 256) (a : Fin 8) (n : Fin 128) :
    queriesAt m c t (ix2 r ⟨128 * a.val + n.val, by omega⟩)
      = upQ (arg0 m c) (arg1 m c) (arg2 m c) (arg3 m c) (arg6 m c) (arg7 m c) (arg9 m c) (posOf t r) ⟨192 * a.val + n.val, by omega⟩ := by
  rw [queriesAt, queryTile_at, queryRow_eq]
  unfold times upQ
  simp only [queryUp_tile]

theorem queryTurns_eq (t : Fin cfg0.N) (r : Fin 256) (a : Fin 8) (d : Fin 64) :
    queryTurnsAt m c t (ix2 r ⟨128 * (a.val / 2) + (64 * (a.val % 2) + d.val), by omega⟩)
      = upQ (arg0 m c) (arg1 m c) (arg2 m c) (arg3 m c) (arg6 m c) (arg7 m c) (arg9 m c) (posOf t r) ⟨192 * a.val + 128 + d.val, by omega⟩ := by
  rw [queryTurnsAt, queryTurnTile_at, queryRow_eq]
  unfold times upQ
  simp only [queryTurn_tile]

theorem keys_eq (t : Fin cfg0.N) (r : Fin 256) (a : Fin 8) (n : Fin 128) :
    keysAt m c t (ix2 r ⟨128 * a.val + n.val, by omega⟩)
      = upK (arg0 m c) (arg1 m c) (arg2 m c) (arg3 m c) (arg6 m c) (arg8 m c) (arg10 m c) (posOf t r) ⟨256 * a.val + n.val, by omega⟩ := by
  rw [keysAt, keyTile_at, keyRow_eq]
  unfold times upK
  simp only [keyUp_tile]

theorem values_eq (t : Fin cfg0.N) (r : Fin 256) (a : Fin 8) (d : Fin 128) :
    valuesAt m c t (ix2 r ⟨128 * a.val + d.val, by omega⟩)
      = valueAt (arg0 m c) (arg1 m c) (arg2 m c) (arg3 m c) (arg6 m c) (arg8 m c) (arg10 m c) a (posOf t r) d := by
  rw [valuesAt, valueTile_at, keyRow_eq]
  unfold times valueAt upK
  simp only [valueUp_tile]

theorem shared_eq (t : Fin cfg0.N) (r : Fin 256) (d : Fin 64) :
    sharedAt m c t (ix2 r ⟨d.val, by omega⟩)
      = inAt (arg0 m c) (arg1 m c) (arg2 m c) (arg3 m c) (arg6 m c) (posOf t r) ⟨768 + d.val, by omega⟩ := by
  rw [sharedAt, shared_at, hiddenRow_eq]
  unfold times inAt
  simp only [shared_tile, dif_pos d.isLt]

theorem cos_eq (t : Fin cfg0.N) (r : Fin 256) :
    (fun j => cosAt m c t (ix2 r j)) = fourfold (fun k => arg4 m c (ix3 0 (posOf t r) k)) (fun k => arg4 m c (ix3 0 (posOf t r) k)) := by
  funext j
  rw [← cos_tile]
  exact (show ∀ b : Vec Ideal S256x128 .f32, k0_pay11 b (ix2 r j) = b (ix2 r j) from fun b => by pointwise [k0_pay11]) _

theorem sin_eq (t : Fin cfg0.N) (r : Fin 256) :
    (fun j => sinAt m c t (ix2 r j)) = fourfold (fun k => -arg5 m c (ix3 0 (posOf t r) k)) (fun k => arg5 m c (ix3 0 (posOf t r) k)) := by
  funext j
  rw [← sin_tile]
  exact (show ∀ b : Vec Ideal S256x128 .f32, k0_pay12 b (ix2 r j) = b (ix2 r j) from fun b => by pointwise [k0_pay12]) _

theorem queryCell_eq (t : Fin cfg0.N) (a : Fin 8) (n : Fin 192) (r : Fin 256) :
    queryCell (queriesAt m c t) (queryTurnsAt m c t) (cosAt m c t) (sinAt m c t) a n r
      = queryAt (arg0 m c) (arg1 m c) (arg2 m c) (arg3 m c) (arg4 m c) (arg5 m c) (arg6 m c) (arg7 m c) (arg9 m c) a (posOf t r) n := by
  unfold queryCell queryAt
  by_cases p : n.val < 128
  · rw [dif_pos p, dif_pos p]
    exact queries_eq m c t r a ⟨n.val, p⟩
  · rw [dif_neg p, dif_neg p, cos_eq, sin_eq, half_eq]
    simp only [queryTurns_eq]

theorem keyCell_eq (t : Fin cfg0.N) (a : Fin 8) (r : Fin 256) (n : Fin 192) :
    keyCell (keysAt m c t) (sharedAt m c t) (cosAt m c t) (sinAt m c t) a r n
      = keyAt (arg0 m c) (arg1 m c) (arg2 m c) (arg3 m c) (arg4 m c) (arg5 m c) (arg6 m c) (arg8 m c) (arg10 m c) a (posOf t r) n := by
  unfold keyCell keyAt
  by_cases p : n.val < 128
  · rw [dif_pos p, dif_pos p]
    exact keys_eq m c t r a ⟨n.val, p⟩
  · rw [dif_neg p, dif_neg p, cos_eq, sin_eq, half_eq]
    simp only [Fin.val_zero, Nat.mul_zero, Nat.zero_add, shared_eq]

/-! ## The results, from the arguments -/

abbrev queryOf : Vec Ideal S8x64x192x256 .bf16 :=
  queryOut (arg0 m c) (arg1 m c) (arg2 m c) (arg3 m c) (arg4 m c) (arg5 m c) (arg6 m c) (arg7 m c) (arg9 m c)
abbrev keyOf : Vec Ideal S8x16384x192 .bf16 :=
  keyOut (arg0 m c) (arg1 m c) (arg2 m c) (arg3 m c) (arg4 m c) (arg5 m c) (arg6 m c) (arg8 m c) (arg10 m c)
abbrev valueOf : Vec Ideal S8x64x144x256 .bf16 := valueOut (arg0 m c) (arg1 m c) (arg2 m c) (arg3 m c) (arg6 m c) (arg8 m c) (arg10 m c)

theorem result_15 : (dats m 0 c).arrAt 15 cfg0.N = queryOf m c := by
  refine (dats m 0 c).arrAt_eq_of_covers 15 _ (by decide +kernel) fun t hf y => ?_
  obtain ⟨a, z, n, r, rfl⟩ : ∃ (a : Fin 8) (z : Fin 1) (n : Fin 192) (r : Fin 256), y = ix4 a z n r := ⟨y 0, y 1, y 2, y 3, eq_ix4 y⟩
  obtain rfl : z = 0 := Subsingleton.elim _ _
  have h : ((cfg0.win 15).blk t).view.emb (ix4 a 0 n r) = ix4 a (blockOf t) n r := by
    unfold blockOf
    blk_ext [index_15 t]
  blk_simp
  rw [after0_15]
  exact (query_stores m c t (ix4 a 0 n r)).trans ((queryCell_eq m c t a n r).trans (congrArg (queryOf m c) h.symm))

theorem result_16 : (dats m 0 c).arrAt 16 cfg0.N = keyOf m c := by
  refine (dats m 0 c).arrAt_eq_of_covers 16 _ (by decide +kernel) fun t hf y => ?_
  obtain ⟨a, r, n, rfl⟩ : ∃ (a : Fin 8) (r : Fin 256) (n : Fin 192), y = ix3 a r n := ⟨y 0, y 1, y 2, eq_ix3 y⟩
  have h : ((cfg0.win 16).blk t).view.emb (ix3 a r n) = ix3 a (posOf t r) n := by
    unfold posOf Proj.rowOf blockOf
    blk_ext [index_16 t]
  blk_simp
  rw [after0_16]
  exact (key_stores m c t (ix3 a r n)).trans ((keyCell_eq m c t a r n).trans (congrArg (keyOf m c) h.symm))

theorem result_17 : (dats m 0 c).arrAt 17 cfg0.N = valueOf m c := by
  refine (dats m 0 c).arrAt_eq_of_covers 17 _ (by decide +kernel) fun t hf y => ?_
  obtain ⟨a, z, n, r, rfl⟩ : ∃ (a : Fin 8) (z : Fin 1) (n : Fin 144) (r : Fin 256), y = ix4 a z n r := ⟨y 0, y 1, y 2, y 3, eq_ix4 y⟩
  obtain rfl : z = 0 := Subsingleton.elim _ _
  have h : ((cfg0.win 17).blk t).view.emb (ix4 a 0 n r) = ix4 a (blockOf t) n r := by
    unfold blockOf
    blk_ext [index_17 t]
  blk_simp
  rw [after0_17]
  refine (value_stores m c t (ix4 a 0 n r)).trans (Eq.trans ?_ (congrArg (valueOf m c) h.symm))
  exact congrArg (fun u => Proj.valued u n) (funext fun d => values_eq m c t r a d)

/-- The kernel's run: its three results; its arguments stay. -/
theorem run (ρ : Dev nD → PrngReg) :
    θ_run defs (onTc (τ := τ) (main (F := Ideal))) ⟨m, fun _ => 0, ρ⟩ fun r => ∀ c : Dev nD,
      (r.2.mem ((c.tc : Thread nD τ).loc main_v32_0) = queryOf m c ∧ r.2.mem ((c.tc : Thread nD τ).loc main_v32_1) = keyOf m c
      ∧ r.2.mem ((c.tc : Thread nD τ).loc main_v32_2) = valueOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨⟨(h c).1.trans (result_15 m c), (h c).2.1.trans (result_16 m c), (h c).2.2.1.trans (result_17 m c)⟩, (h c).2.2.2⟩)
    (Value.run_blocks (F := Ideal) m ρ)

end Cert.Proof.MlaP

end
-- ==== Proof.MlaProjRef.lean ====
/-
  The latent attention's projection as plain lines, at an index, over the extended reals. The composed terms of the
  reference's run are cut where the lines are: the norms, the projections, the rotary embedding, and the layouts.
-/
module

public import proofs.«01_k».proof.Proof.Gen.MlaProjRefIdeal.Run
public import proofs.«01_k».proof.Proof.OutRef
public import proofs.«01_k».proof.Proof.MlaSpec

@[expose] public section

set_option maxRecDepth 16384

noncomputable section

namespace Cert.Proof.MlaPRef

open Cert.MlaProjRefIdeal Cert.MlaProjRefIdeal.Gen
open Idealize.ShloMosaic Idealize.ShloMosaic.TcCoe Idealize.SL.Sem

/-! ## The lines -/

section
variable (p : FVec Ideal S1x16384x832 .f32)

/-- The two latents and the shared rotary key, out of the projection. -/
def partQ : FVec Ideal S1x16384x512 .f32 := extractStridedSlice S1x16384x512 ![0, 0, 0] p slices_S1x16384x832_S1x16384x512_0_0_0
def partK : FVec Ideal S1x16384x256 .f32 := extractStridedSlice S1x16384x256 ![0, 0, 512] p slices_S1x16384x832_S1x16384x256_0_0_512
def partR : FVec Ideal S1x16384x1x64 .f32 :=
  broadcastInDim S1x16384x1x64 ![0, 1, 3] bcast_S1x16384x64_S1x16384x1x64_0_1_3 (extractStridedSlice S1x16384x64 ![0, 0, 768] p slices_S1x16384x832_S1x16384x64_0_0_768)

theorem partQ_at (Q : Fin 16384) (e : Fin 512) : partQ p (ix3 0 Q e) = p (ix3 0 Q ⟨e.val, by omega⟩) := by
  pointwise [partQ]

theorem partK_at (Q : Fin 16384) (e : Fin 256) : partK p (ix3 0 Q e) = p (ix3 0 Q ⟨512 + e.val, by omega⟩) := by
  pointwise [partK]

theorem partR_at (Q : Fin 16384) (d : Fin 64) : partR p (ix4 0 Q 0 d) = p (ix3 0 Q ⟨768 + d.val, by omega⟩) := by
  pointwise [partR]

end

/-- The root mean square norm of the queries' latent, and of the keys'. -/
def normedQ (u : FVec Ideal S1x16384x512 .f32) (w : FVec Ideal S512 .f32) : FVec Ideal S1x16384x512 .f32 :=
  mulf (mulf u (broadcastInDim S1x16384x512 ![0, 1, 2] bcast_S1x16384x1_S1x16384x512_0_1_2 (Host.rsqrt (addf
    (Host.divf (broadcastInDim S1x16384x1 ![0, 1] bcast_S1x16384_S1x16384x1_0_1 (Host.reduceAdd (mulf u u) (constant S_ .f32 0x00000000#32) reducesTo_S1x16384x512_S1x16384_d2 h_S_))
      (broadcastInDim S1x16384x1 ![] bcast_S_S1x16384x1 (constant S_ .f32 0x44000000#32)))
    (broadcastInDim S1x16384x1 ![] bcast_S_S1x16384x1 (constant S_ .f32 0x358637BD#32))))))
    (broadcastInDim S1x16384x512 ![0, 1, 2] bcast_S1x1x512_S1x16384x512_0_1_2 (broadcastInDim S1x1x512 ![2] bcast_S512_S1x1x512_2 w))
def normedK (u : FVec Ideal S1x16384x256 .f32) (w : FVec Ideal S256 .f32) : FVec Ideal S1x16384x256 .f32 :=
  mulf (mulf u (broadcastInDim S1x16384x256 ![0, 1, 2] bcast_S1x16384x1_S1x16384x256_0_1_2 (Host.rsqrt (addf
    (Host.divf (broadcastInDim S1x16384x1 ![0, 1] bcast_S1x16384_S1x16384x1_0_1 (Host.reduceAdd (mulf u u) (constant S_ .f32 0x00000000#32) reducesTo_S1x16384x256_S1x16384_d2 h_S_))
      (broadcastInDim S1x16384x1 ![] bcast_S_S1x16384x1 (constant S_ .f32 0x43800000#32)))
    (broadcastInDim S1x16384x1 ![] bcast_S_S1x16384x1 (constant S_ .f32 0x358637BD#32))))))
    (broadcastInDim S1x16384x256 ![0, 1, 2] bcast_S1x1x256_S1x16384x256_0_1_2 (broadcastInDim S1x1x256 ![2] bcast_S256_S1x1x256_2 w))

theorem normedQ_at (u : FVec Ideal S1x16384x512 .f32) (w : FVec Ideal S512 .f32) (Q : Fin 16384) (e : Fin 512) :
    normedQ u w (ix3 0 Q e) = Proj.rms 0x44000000#32 (fun e => u (ix3 0 Q e)) (fun e => w (ix1 e)) e := by
  unfold Proj.rms
  pointwise [normedQ]

theorem normedK_at (u : FVec Ideal S1x16384x256 .f32) (w : FVec Ideal S256 .f32) (Q : Fin 16384) (e : Fin 256) :
    normedK u w (ix3 0 Q e) = Proj.rms 0x43800000#32 (fun e => u (ix3 0 Q e)) (fun e => w (ix1 e)) e := by
  unfold Proj.rms
  pointwise [normedK]

/-- A latent, projected, by heads. -/
def upQ (u : FVec Ideal S1x16384x512 .f32) (w : FVec Ideal S512x1536 .f32) : FVec Ideal S1x16384x8x192 .f32 :=
  shapeCast S1x16384x8x192 (Host.dotGeneral dot_S1x16384x512_S512x1536_S1x16384x1536_2_0_01_1_n_n none u w) shapeCasts_S1x16384x1536_S1x16384x8x192
def upK (u : FVec Ideal S1x16384x256 .f32) (w : FVec Ideal S256x2048 .f32) : FVec Ideal S1x16384x8x256 .f32 :=
  shapeCast S1x16384x8x256 (Host.dotGeneral dot_S1x16384x256_S256x2048_S1x16384x2048_2_0_01_1_n_n none u w) shapeCasts_S1x16384x2048_S1x16384x8x256

theorem upQ_at (u : FVec Ideal S1x16384x512 .f32) (w : FVec Ideal S512x1536 .f32) (Q : Fin 16384) (a : Fin 8) (n : Fin 192) :
    upQ u w (ix4 0 Q a n) = ∑ k : Fin 512, u (ix3 0 Q k) * w (ix2 k ⟨192 * a.val + n.val, by omega⟩) := by
  have e : (⟨192 * a.val + n.val, by omega⟩ : Fin 1536) = ⟨a.val * 192 + n.val, by omega⟩ := Fin.ext (show 192 * a.val + n.val = a.val * 192 + n.val by omega)
  rw [e]
  pointwise [upQ]

theorem upK_at (u : FVec Ideal S1x16384x256 .f32) (w : FVec Ideal S256x2048 .f32) (Q : Fin 16384) (a : Fin 8) (n : Fin 256) :
    upK u w (ix4 0 Q a n) = ∑ k : Fin 256, u (ix3 0 Q k) * w (ix2 k ⟨256 * a.val + n.val, by omega⟩) := by
  have e : (⟨256 * a.val + n.val, by omega⟩ : Fin 2048) = ⟨a.val * 256 + n.val, by omega⟩ := Fin.ext (show 256 * a.val + n.val = a.val * 256 + n.val by omega)
  rw [e]
  pointwise [upK]

section
variable (cos sin : FVec Ideal S1x16384x32 .f32)

/-- An angle's cosines or sines, over one head and over all. -/
def single (c : FVec Ideal S1x16384x32 .f32) : FVec Ideal S1x16384x1x32 .f32 := broadcastInDim S1x16384x1x32 ![0, 1, 3] bcast_S1x16384x32_S1x16384x1x32_0_1_3 c
def spread (c : FVec Ideal S1x16384x32 .f32) : FVec Ideal S1x16384x8x32 .f32 :=
  broadcastInDim S1x16384x8x32 ![0, 1, 2, 3] bcast_S1x16384x1x32_S1x16384x8x32_0_1_2_3 (single c)

/-- The rotary embedding of the shared key. -/
def turnedR (u : FVec Ideal S1x16384x1x64 .f32) : FVec Ideal S1x16384x1x64 .f32 :=
  concatenate S1x16384x1x64 3 [⟨S1x16384x1x32, subf (mulf (extractStridedSlice S1x16384x1x32 ![0, 0, 0, 0] u slices_S1x16384x1x64_S1x16384x1x32_0_0_0_0) (single cos))
      (mulf (extractStridedSlice S1x16384x1x32 ![0, 0, 0, 32] u slices_S1x16384x1x64_S1x16384x1x32_0_0_0_32) (single sin))⟩,
    ⟨S1x16384x1x32, addf (mulf (extractStridedSlice S1x16384x1x32 ![0, 0, 0, 32] u slices_S1x16384x1x64_S1x16384x1x32_0_0_0_32) (single cos))
      (mulf (extractStridedSlice S1x16384x1x32 ![0, 0, 0, 0] u slices_S1x16384x1x64_S1x16384x1x32_0_0_0_0) (single sin))⟩] concatenates_S1x16384x1x32_S1x16384x1x32_S1x16384x1x64_d3

/-- The rotary embedding of the queries. -/
def turnedQ (u : FVec Ideal S1x16384x8x64 .f32) : FVec Ideal S1x16384x8x64 .f32 :=
  concatenate S1x16384x8x64 3 [⟨S1x16384x8x32, subf (mulf (extractStridedSlice S1x16384x8x32 ![0, 0, 0, 0] u slices_S1x16384x8x64_S1x16384x8x32_0_0_0_0) (spread cos))
      (mulf (extractStridedSlice S1x16384x8x32 ![0, 0, 0, 32] u slices_S1x16384x8x64_S1x16384x8x32_0_0_0_32) (spread sin))⟩,
    ⟨S1x16384x8x32, addf (mulf (extractStridedSlice S1x16384x8x32 ![0, 0, 0, 32] u slices_S1x16384x8x64_S1x16384x8x32_0_0_0_32) (spread cos))
      (mulf (extractStridedSlice S1x16384x8x32 ![0, 0, 0, 0] u slices_S1x16384x8x64_S1x16384x8x32_0_0_0_0) (spread sin))⟩] concatenates_S1x16384x8x32_S1x16384x8x32_S1x16384x8x64_d3

theorem turnedR_at (u : FVec Ideal S1x16384x1x64 .f32) (Q : Fin 16384) (d : Fin 64) :
    turnedR cos sin u (ix4 0 Q 0 d) = Proj.rotary rfl (fun d : Fin 64 => u (ix4 0 Q 0 d)) (fun k : Fin 32 => cos (ix3 0 Q k)) (fun k => sin (ix3 0 Q k)) d := by
  unfold Proj.rotary
  pointwise [turnedR, single]
  by_cases p : d.val < 32
  · rw [dif_pos p, dif_pos p]
    congr 4
    exact Fin.ext (show 32 + d.val = d.val + 32 by omega)
  · rw [dif_neg p, dif_neg p]
    congr 4
    exact Fin.ext (show 32 + (d.val - 32) = d.val by omega)

theorem turnedQ_at (u : FVec Ideal S1x16384x8x64 .f32) (Q : Fin 16384) (a : Fin 8) (d : Fin 64) :
    turnedQ cos sin u (ix4 0 Q a d) = Proj.rotary rfl (fun d : Fin 64 => u (ix4 0 Q a d)) (fun k : Fin 32 => cos (ix3 0 Q k)) (fun k => sin (ix3 0 Q k)) d := by
  unfold Proj.rotary
  pointwise [turnedQ, spread, single]
  by_cases p : d.val < 32
  · rw [dif_pos p, dif_pos p]
    congr 4
    exact Fin.ext (show 32 + d.val = d.val + 32 by omega)
  · rw [dif_neg p, dif_neg p]
    congr 4
    exact Fin.ext (show 32 + (d.val - 32) = d.val by omega)

/-- A head's features: 128 as projected, 64 turned. -/
def joined (u : FVec Ideal S1x16384x8x128 .f32) (v : FVec Ideal S1x16384x8x64 .f32) : FVec Ideal S1x16384x8x192 .f32 :=
  concatenate S1x16384x8x192 3 [⟨S1x16384x8x128, u⟩, ⟨S1x16384x8x64, v⟩] concatenates_S1x16384x8x128_S1x16384x8x64_S1x16384x8x192_d3

def queries (u : FVec Ideal S1x16384x8x192 .f32) : FVec Ideal S1x16384x8x192 .f32 :=
  joined (extractStridedSlice S1x16384x8x128 ![0, 0, 0, 0] u slices_S1x16384x8x192_S1x16384x8x128_0_0_0_0)
    (turnedQ cos sin (extractStridedSlice S1x16384x8x64 ![0, 0, 0, 128] u slices_S1x16384x8x192_S1x16384x8x64_0_0_0_128))

def keys (u : FVec Ideal S1x16384x8x256 .f32) (v : FVec Ideal S1x16384x1x64 .f32) : FVec Ideal S1x16384x8x192 .f32 :=
  joined (extractStridedSlice S1x16384x8x128 ![0, 0, 0, 0] u slices_S1x16384x8x256_S1x16384x8x128_0_0_0_0)
    (broadcastInDim S1x16384x8x64 ![0, 1, 2, 3] bcast_S1x16384x1x64_S1x16384x8x64_0_1_2_3 (turnedR cos sin v))

theorem queries_at (u : FVec Ideal S1x16384x8x192 .f32) (Q : Fin 16384) (a : Fin 8) (n : Fin 192) :
    queries cos sin u (ix4 0 Q a n) = if h : n.val < 128 then u (ix4 0 Q a n)
      else Proj.rotary rfl (fun d : Fin 64 => u (ix4 0 Q a ⟨128 + d.val, by omega⟩)) (fun k : Fin 32 => cos (ix3 0 Q k)) (fun k => sin (ix3 0 Q k)) ⟨n.val - 128, by omega⟩ := by
  pointwise [queries, joined, turnedQ_at]

theorem keys_at (u : FVec Ideal S1x16384x8x256 .f32) (v : FVec Ideal S1x16384x1x64 .f32) (Q : Fin 16384) (a : Fin 8) (n : Fin 192) :
    keys cos sin u v (ix4 0 Q a n) = if h : n.val < 128 then u (ix4 0 Q a ⟨n.val, by omega⟩)
      else Proj.rotary rfl (fun d : Fin 64 => v (ix4 0 Q 0 d)) (fun k : Fin 32 => cos (ix3 0 Q k)) (fun k => sin (ix3 0 Q k)) ⟨n.val - 128, by omega⟩ := by
  pointwise [keys, joined, turnedR_at]

end

/-! ## The layouts -/

/-- Heads before blocks of positions, a block's positions last. -/
def laidQ (u : FVec Ideal S1x16384x8x192 .f32) : FVec Ideal S8x64x192x256 .f32 :=
  transpose S8x64x192x256 [2, 0, 3, 1] (shapeCast S64x256x8x192 u shapeCasts_S1x16384x8x192_S64x256x8x192) transposes_S64x256x8x192_S8x64x192x256_2_0_3_1
def laidK (u : FVec Ideal S1x16384x8x192 .f32) : FVec Ideal S8x16384x192 .f32 :=
  transpose S8x16384x192 [1, 0, 2] (shapeCast S16384x8x192 u shapeCasts_S1x16384x8x192_S16384x8x192) transposes_S16384x8x192_S8x16384x192_1_0_2
def laidV (u : FVec Ideal S1x16384x8x256 .f32) : FVec Ideal S8x64x128x256 .f32 :=
  transpose S8x64x128x256 [2, 0, 3, 1] (shapeCast S64x256x8x128 (extractStridedSlice S1x16384x8x128 ![0, 0, 0, 128] u slices_S1x16384x8x256_S1x16384x8x128_0_0_0_128)
    shapeCasts_S1x16384x8x128_S64x256x8x128) transposes_S64x256x8x128_S8x64x128x256_2_0_3_1

/-- The values above the rows that sum the weights. -/
def summed (u : FVec Ideal S8x64x128x256 .f32) : FVec Ideal S8x64x144x256 .f32 :=
  concatenate S8x64x144x256 2 [⟨S8x64x128x256, u⟩, ⟨S8x64x1x256, broadcastInDim S8x64x1x256 ![] bcast_S_S8x64x1x256 (constant S_ .f32 0x3F800000#32)⟩,
    ⟨S8x64x15x256, broadcastInDim S8x64x15x256 ![] bcast_S_S8x64x15x256 (constant S_ .f32 0x00000000#32)⟩] concatenates_S8x64x128x256_S8x64x1x256_S8x64x15x256_S8x64x144x256_d2

theorem laidQ_at (u : FVec Ideal S1x16384x8x192 .f32) (a : Fin 8) (b : Fin 64) (n : Fin 192) (r : Fin 256) :
    laidQ u (ix4 a b n r) = u (ix4 0 (Proj.rowOf b r) a n) := by
  unfold Proj.rowOf
  pointwise [laidQ]
  congr 2
  exact Fin.ext (show b.val * 256 + r.val = 256 * b.val + r.val by omega)

theorem laidK_at (u : FVec Ideal S1x16384x8x192 .f32) (a : Fin 8) (Q : Fin 16384) (n : Fin 192) : laidK u (ix3 a Q n) = u (ix4 0 Q a n) := by
  pointwise [laidK]

theorem laidV_at (u : FVec Ideal S1x16384x8x256 .f32) (a : Fin 8) (b : Fin 64) (d : Fin 128) (r : Fin 256) :
    laidV u (ix4 a b d r) = u (ix4 0 (Proj.rowOf b r) a ⟨128 + d.val, by omega⟩) := by
  unfold Proj.rowOf
  pointwise [laidV]
  congr 2
  exact Fin.ext (show b.val * 256 + r.val = 256 * b.val + r.val by omega)

theorem summed_at (u : FVec Ideal S8x64x128x256 .f32) (a : Fin 8) (b : Fin 64) (n : Fin 144) (r : Fin 256) :
    summed u (ix4 a b n r) = Proj.valued (fun d => u (ix4 a b d r)) n := by
  unfold Proj.valued
  pointwise [summed]
  by_cases p : n.val < 128
  · rw [dif_pos p, dif_pos p]
  · rw [dif_neg p, dif_neg p]
    exact if_congr (by omega) rfl rfl

/-! ## The results -/

section
variable (x : FVec Ideal S1x16384x1024 .f32) (w : FVec Ideal S1024 .f32) (sc sh : FVec Ideal S1x1x1024 .f32)
  (cos sin : FVec Ideal S1x16384x32 .f32) (wi : FVec Ideal S1024x832 .f32) (wq : FVec Ideal S512 .f32) (wk : FVec Ideal S256 .f32)
  (uq : FVec Ideal S512x1536 .f32) (uk : FVec Ideal S256x2048 .f32)

/-- The normalised stream, projected. -/
def projected : FVec Ideal S1x16384x832 .f32 :=
  Host.dotGeneral dot_S1x16384x1024_S1024x832_S1x16384x832_2_0_01_1_n_n none (OutRef.normed x w sc sh) wi

theorem projected_at (Q : Fin 16384) (j : Fin 832) : projected x w sc sh wi (ix3 0 Q j) = MlaP.inAt x w sc sh wi Q j := by
  unfold MlaP.inAt Proj.normedAt
  pointwise [projected, OutRef.normed_at]

/-- The heads' queries, and their keys and values, as projected. -/
abbrev headsQ : FVec Ideal S1x16384x8x192 .f32 := upQ (normedQ (partQ (projected x w sc sh wi)) wq) uq
abbrev headsK : FVec Ideal S1x16384x8x256 .f32 := upK (normedK (partK (projected x w sc sh wi)) wk) uk

theorem headsQ_at (Q : Fin 16384) (a : Fin 8) (n : Fin 192) :
    headsQ x w sc sh wi wq uq (ix4 0 Q a n) = MlaP.upQ x w sc sh wi wq uq Q ⟨192 * a.val + n.val, by omega⟩ := by
  refine (upQ_at _ uq Q a n).trans ?_
  simp only [normedQ_at, partQ_at, projected_at]
  rfl

theorem headsK_at (Q : Fin 16384) (a : Fin 8) (n : Fin 256) :
    headsK x w sc sh wi wk uk (ix4 0 Q a n) = MlaP.upK x w sc sh wi wk uk Q ⟨256 * a.val + n.val, by omega⟩ := by
  refine (upK_at _ uk Q a n).trans ?_
  simp only [normedK_at, partK_at, projected_at]
  rfl

theorem query_result : truncf .bf16 (laidQ (queries cos sin (headsQ x w sc sh wi wq uq))) bitsLt_bf16_f32 = MlaP.queryOut x w sc sh cos sin wi wq uq := by
  funext y
  obtain ⟨a, b, n, r, rfl⟩ : ∃ (a : Fin 8) (b : Fin 64) (n : Fin 192) (r : Fin 256), y = ix4 a b n r := ⟨y 0, y 1, y 2, y 3, eq_ix4 y⟩
  refine (laidQ_at _ a b n r).trans ((queries_at cos sin _ (Proj.rowOf b r) a n).trans ?_)
  simp only [headsQ_at, ← Nat.add_assoc]
  rfl

theorem key_result : truncf .bf16 (laidK (keys cos sin (headsK x w sc sh wi wk uk) (partR (projected x w sc sh wi)))) bitsLt_bf16_f32
    = MlaP.keyOut x w sc sh cos sin wi wk uk := by
  funext y
  obtain ⟨a, Q, n, rfl⟩ : ∃ (a : Fin 8) (Q : Fin 16384) (n : Fin 192), y = ix3 a Q n := ⟨y 0, y 1, y 2, eq_ix3 y⟩
  refine (laidK_at _ a Q n).trans ((keys_at cos sin _ _ Q a n).trans ?_)
  simp only [headsK_at, partR_at, projected_at]
  rfl

theorem value_result : truncf .bf16 (summed (laidV (headsK x w sc sh wi wk uk))) bitsLt_bf16_f32 = MlaP.valueOut x w sc sh wi wk uk := by
  funext y
  obtain ⟨a, b, n, r, rfl⟩ : ∃ (a : Fin 8) (b : Fin 64) (n : Fin 144) (r : Fin 256), y = ix4 a b n r := ⟨y 0, y 1, y 2, y 3, eq_ix4 y⟩
  refine (summed_at _ a b n r).trans ?_
  simp only [laidV_at, headsK_at, ← Nat.add_assoc]
  rfl

end

variable (m : (ℓ : Loc nD τ sig) → Buf (Elt Ideal) ℓ)

/-- The reference's run: its results are the three of the specification; its arguments stay. -/
theorem run (ρ : Dev nD → PrngReg) :
    θ_run defs (onTc (τ := τ) (main (F := Ideal))) ⟨m, fun _ => 0, ρ⟩ fun r => ∀ c : Dev nD,
      (r.2.mem ((c.tc : Thread nD τ).loc main_v89) = MlaP.queryOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9))
      ∧ r.2.mem ((c.tc : Thread nD τ).loc main_v92) = MlaP.keyOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg10))
      ∧ r.2.mem ((c.tc : Thread nD τ).loc main_v98) = MlaP.valueOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg6)) (m ((c.tc : Thread nD τ).loc main_arg8)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨⟨(h c).1.trans (query_result _ _ _ _ _ _ _ _ _), (h c).2.1.trans (key_result _ _ _ _ _ _ _ _ _),
    (h c).2.2.1.trans (value_result _ _ _ _ _ _ _)⟩, (h c).2.2.2⟩) (Value.run (F := Ideal) m ρ)

end Cert.Proof.MlaPRef

end
-- ==== Proof.HyValue.lean ====
/-
  The hybrid layers' input projection over the extended reals: the call's six result arrays in terms of the program's
  arguments.
-/
module

public import proofs.«01_k».proof.Proof.HyTile

@[expose] public section

set_option maxRecDepth 16384

noncomputable section

namespace Cert.Proof.Hy

open Cert.HyProjIdeal Cert.HyProjIdeal.Gen
open Idealize.ShloMosaic Idealize.ShloMosaic.TcCoe Idealize.SL.Sem

variable (m : (ℓ : Loc nD τ sig) → Buf (Elt Ideal) ℓ) (c : Dev nD)

/-- The arguments, as arrays. -/
abbrev arg0 : Vec Ideal S1x16384x1024 .f32 := m ((c : Thread nD τ).loc main_arg0)
abbrev arg1 : Vec Ideal S1024 .f32 := m ((c : Thread nD τ).loc main_arg1)
abbrev arg2 : Vec Ideal S1x1x1024 .f32 := m ((c : Thread nD τ).loc main_arg2)
abbrev arg3 : Vec Ideal S1x1x1024 .f32 := m ((c : Thread nD τ).loc main_arg3)
abbrev arg4 : Vec Ideal S1x16384x64 .f32 := m ((c : Thread nD τ).loc main_arg4)
abbrev arg5 : Vec Ideal S1x16384x64 .f32 := m ((c : Thread nD τ).loc main_arg5)
abbrev arg6 : Vec Ideal S1024x3592 .f32 := m ((c : Thread nD τ).loc main_arg6)

/-! ## The windows' blocks -/

theorem index_0 : ∀ t : Fin cfg0.N, (cfg0.win 0).index t = ![(grid0.coords t 0).val, 0] := by decide +kernel
theorem index_1 : ∀ t : Fin cfg0.N, (cfg0.win 1).index t = ![0, 0] := by decide +kernel
theorem index_2 : ∀ t : Fin cfg0.N, (cfg0.win 2).index t = ![0, 0] := by decide +kernel
theorem index_3 : ∀ t : Fin cfg0.N, (cfg0.win 3).index t = ![0, 0] := by decide +kernel
theorem index_4 : ∀ t : Fin cfg0.N, (cfg0.win 4).index t = ![0, 0] := by decide +kernel
theorem index_5 : ∀ t : Fin cfg0.N, (cfg0.win 5).index t = ![0, 0] := by decide +kernel
theorem index_6 : ∀ t : Fin cfg0.N, (cfg0.win 6).index t = ![0, 0] := by decide +kernel
theorem index_7 : ∀ t : Fin cfg0.N, (cfg0.win 7).index t = ![0, 0] := by decide +kernel
theorem index_8 : ∀ t : Fin cfg0.N, (cfg0.win 8).index t = ![(grid0.coords t 0).val, 0] := by decide +kernel
theorem index_9 : ∀ t : Fin cfg0.N, (cfg0.win 9).index t = ![(grid0.coords t 0).val, 0] := by decide +kernel
theorem index_10 : ∀ t : Fin cfg0.N, (cfg0.win 10).index t = ![(grid0.coords t 0).val, 0] := by decide +kernel
theorem index_11 : ∀ t : Fin cfg0.N, (cfg0.win 11).index t = ![(grid0.coords t 0).val, 0] := by decide +kernel
theorem index_12 : ∀ t : Fin cfg0.N, (cfg0.win 12).index t = ![(grid0.coords t 0).val, 0] := by decide +kernel
theorem index_13 : ∀ t : Fin cfg0.N, (cfg0.win 13).index t = ![0, (grid0.coords t 0).val, 0, 0] := by decide +kernel
theorem index_14 : ∀ t : Fin cfg0.N, (cfg0.win 14).index t = ![(grid0.coords t 0).val, 0] := by decide +kernel
theorem index_15 : ∀ t : Fin cfg0.N, (cfg0.win 15).index t = ![0, (grid0.coords t 0).val, 0, 0] := by decide +kernel

/-- The block of positions that a grid point takes. -/
def blockOf (t : Fin cfg0.N) : Fin 64 := ⟨(grid0.coords t 0).val, (grid0.coords t 0).isLt⟩

/-- Row `r` of a grid point's tile, among all positions. -/
abbrev posOf (t : Fin cfg0.N) (r : Fin 256) : Fin 16384 := Proj.rowOf (blockOf t) r

/-! ## The input tiles from the arguments -/

theorem stream_tile (t : Fin cfg0.N) (r : Fin 256) (e : Fin 1024) :
    iblk m c 0 t (ix2 r e) = arg0 m c (ix3 0 (posOf t r) e) := by
  have h : ((cfg0.win 0).blk t).view.emb (ix2 r e) = ix2 (posOf t r) e := by
    unfold posOf Proj.rowOf blockOf
    blk_ext [index_0 t]
  refine (congrArg (V m c main_v10) h).trans ?_
  simp only [V, hostOps0, hostOps0_1, hostOps0_2, List.flatten_cons, List.flatten_nil, List.append_nil, List.cons_append, List.nil_append]
  entry_read
  pointwise

theorem norm_tile (t : Fin cfg0.N) (e : Fin 1024) : iblk m c 1 t (ix2 0 e) = arg1 m c (ix1 e) := by
  have h : ((cfg0.win 1).blk t).view.emb (ix2 0 e) = ix2 0 e := by blk_ext [index_1 t]
  refine (congrArg (V m c main_v11) h).trans ?_
  simp only [V, hostOps0, hostOps0_1, hostOps0_2, List.flatten_cons, List.flatten_nil, List.append_nil, List.cons_append, List.nil_append]
  entry_read
  pointwise

theorem scale_tile (t : Fin cfg0.N) (e : Fin 1024) : iblk m c 2 t (ix2 0 e) = arg2 m c (ix3 0 0 e) := by
  have h : ((cfg0.win 2).blk t).view.emb (ix2 0 e) = ix2 0 e := by blk_ext [index_2 t]
  refine (congrArg (V m c main_v12) h).trans ?_
  simp only [V, hostOps0, hostOps0_1, hostOps0_2, List.flatten_cons, List.flatten_nil, List.append_nil, List.cons_append, List.nil_append]
  entry_read
  pointwise

theorem shift_tile (t : Fin cfg0.N) (e : Fin 1024) : iblk m c 3 t (ix2 0 e) = arg3 m c (ix3 0 0 e) := by
  have h : ((cfg0.win 3).blk t).view.emb (ix2 0 e) = ix2 0 e := by blk_ext [index_3 t]
  refine (congrArg (V m c main_v13) h).trans ?_
  simp only [V, hostOps0, hostOps0_1, hostOps0_2, List.flatten_cons, List.flatten_nil, List.append_nil, List.cons_append, List.nil_append]
  entry_read
  pointwise

theorem mix_tile (t : Fin cfg0.N) (k : Fin 1024) (j : Fin 1536) :
    iblk m c 4 t (ix2 k j) = arg6 m c (ix2 k ⟨j.val, by omega⟩) := by
  have h : ((cfg0.win 4).blk t).view.emb (ix2 k j) = ix2 k j := by blk_ext [index_4 t]
  refine (congrArg (V m c main_v14) h).trans ?_
  simp only [V, hostOps0, hostOps0_1, hostOps0_2, List.flatten_cons, List.flatten_nil, List.append_nil, List.cons_append, List.nil_append]
  entry_read
  pointwise

theorem gate_tile (t : Fin cfg0.N) (k : Fin 1024) (j : Fin 512) :
    iblk m c 5 t (ix2 k j) = arg6 m c (ix2 k ⟨1536 + j.val, by omega⟩) := by
  have h : ((cfg0.win 5).blk t).view.emb (ix2 k j) = ix2 k j := by blk_ext [index_5 t]
  refine (congrArg (V m c main_v15) h).trans ?_
  simp only [V, hostOps0, hostOps0_1, hostOps0_2, List.flatten_cons, List.flatten_nil, List.append_nil, List.cons_append, List.nil_append]
  entry_read
  pointwise

theorem step_tile (t : Fin cfg0.N) (k : Fin 1024) (j : Fin 128) :
    iblk m c 6 t (ix2 k j) = if h : j.val < 8 then arg6 m c (ix2 k ⟨2048 + j.val, by omega⟩) else 0 := by
  have h : ((cfg0.win 6).blk t).view.emb (ix2 k j) = ix2 k j := by blk_ext [index_6 t]
  refine (congrArg (V m c main_v2) h).trans ?_
  simp only [V, hostOps0, hostOps0_1, hostOps0_2, List.flatten_cons, List.flatten_nil, List.append_nil, List.cons_append, List.nil_append]
  entry_read
  show pad S1024x128 ![0, 0] ![0, 120] ![0, 0] (extractStridedSlice S1024x8 ![0, 2048] (truncf .bf16 (arg6 m c) bitsLt_bf16_f32 : FVec Ideal S1024x3592 .bf16) slices_S1024x3592_S1024x8_0_2048)
    (sitofp .bf16 (constantI S_ 32 0#32)) pads_S1024x8_S1024x128_000_01200 h_S_ (ix2 k j) = _
  have z : FloatOps.sitofp (F := Ideal) .bf16 0#32 = 0 := by
    show (((0#32 : BitVec 32).toInt : ℝ) : EReal) = 0
    simp
  pointwise [z]

theorem wide_tile (t : Fin cfg0.N) (k : Fin 1024) (j : Fin 1536) :
    iblk m c 7 t (ix2 k j) = arg6 m c (ix2 k ⟨2056 + j.val, by omega⟩) := by
  have h : ((cfg0.win 7).blk t).view.emb (ix2 k j) = ix2 k j := by blk_ext [index_7 t]
  refine (congrArg (V m c main_v16) h).trans ?_
  simp only [V, hostOps0, hostOps0_1, hostOps0_2, List.flatten_cons, List.flatten_nil, List.append_nil, List.cons_append, List.nil_append]
  entry_read
  pointwise

theorem cos_tile (t : Fin cfg0.N) (r : Fin 256) (d : Fin 128) :
    iblk m c 8 t (ix2 r d) = if p : d.val < 64 then arg4 m c (ix3 0 (posOf t r) ⟨d.val, p⟩)
      else arg4 m c (ix3 0 (posOf t r) ⟨d.val - 64, by omega⟩) := by
  have h : ((cfg0.win 8).blk t).view.emb (ix2 r d) = ix2 (posOf t r) d := by
    unfold posOf Proj.rowOf blockOf
    blk_ext [index_8 t]
  refine (congrArg (V m c main_v5) h).trans ?_
  simp only [V, hostOps0, hostOps0_1, hostOps0_2, List.flatten_cons, List.flatten_nil, List.append_nil, List.cons_append, List.nil_append]
  entry_read
  pointwise

theorem sin_tile (t : Fin cfg0.N) (r : Fin 256) (d : Fin 128) :
    iblk m c 9 t (ix2 r d) = if p : d.val < 64 then -arg5 m c (ix3 0 (posOf t r) ⟨d.val, p⟩)
      else arg5 m c (ix3 0 (posOf t r) ⟨d.val - 64, by omega⟩) := by
  have h : ((cfg0.win 9).blk t).view.emb (ix2 r d) = ix2 (posOf t r) d := by
    unfold posOf Proj.rowOf blockOf
    blk_ext [index_9 t]
  refine (congrArg (V m c main_v9) h).trans ?_
  simp only [V, hostOps0, hostOps0_1, hostOps0_2, List.flatten_cons, List.flatten_nil, List.append_nil, List.cons_append, List.nil_append]
  entry_read
  pointwise

/-! ## The results, from the arguments -/

theorem hiddenRow_eq (t : Fin cfg0.N) (r : Fin 256) :
    hiddenRow (iblk m c 0 t) (iblk m c 1 t) (iblk m c 2 t) (iblk m c 3 t) r
      = Proj.normedAt (arg0 m c) (arg1 m c) (arg2 m c) (arg3 m c) (posOf t r) := by
  unfold hiddenRow Proj.normedAt
  simp only [stream_tile, norm_tile, scale_tile, shift_tile]

theorem wide_eq (t : Fin cfg0.N) (r : Fin 256) (j : Fin 1536) :
    wide (iblk m c 0 t) (iblk m c 1 t) (iblk m c 2 t) (iblk m c 3 t) (iblk m c 7 t) r j
      = Proj.hyAt (arg0 m c) (arg1 m c) (arg2 m c) (arg3 m c) (arg6 m c) (posOf t r) ⟨2056 + j.val, by omega⟩ := by
  unfold wide Proj.hyAt
  rw [hiddenRow_eq]
  simp only [wide_tile]

theorem turnedRow_eq (t : Fin cfg0.N) (r : Fin 256) (o : ℕ) (ho : o ≤ 1408) (d : Fin 128) :
    turnedRow (iblk m c 0 t) (iblk m c 1 t) (iblk m c 2 t) (iblk m c 3 t) (iblk m c 7 t) (iblk m c 8 t) (iblk m c 9 t) r o ho d
      = Proj.hyTurned (arg0 m c) (arg1 m c) (arg2 m c) (arg3 m c) (arg4 m c) (arg5 m c) (arg6 m c) (2056 + o) (by omega) (posOf t r) d := by
  unfold turnedRow Proj.hyTurned
  rw [← Proj.rotary_of_tables]
  simp only [wide_eq, cos_tile, sin_tile, Nat.add_assoc]

abbrev mixOf : Vec Ideal S16384x1536 .f32 := Proj.hyMixOut (arg0 m c) (arg1 m c) (arg2 m c) (arg3 m c) (arg6 m c)
abbrev gateOf : Vec Ideal S16384x512 .f32 := Proj.hyGateOut (arg0 m c) (arg1 m c) (arg2 m c) (arg3 m c) (arg6 m c)
abbrev stepOf : Vec Ideal S16384x128 .f32 := Proj.hyStepOut (arg0 m c) (arg1 m c) (arg2 m c) (arg3 m c) (arg6 m c)
abbrev queryOf : Vec Ideal S4x64x128x256 .bf16 := Proj.hyQueryOut (arg0 m c) (arg1 m c) (arg2 m c) (arg3 m c) (arg4 m c) (arg5 m c) (arg6 m c)
abbrev keyOf : Vec Ideal S16384x512 .bf16 := Proj.hyKeyOut (arg0 m c) (arg1 m c) (arg2 m c) (arg3 m c) (arg4 m c) (arg5 m c) (arg6 m c)
abbrev valueOf : Vec Ideal S4x64x144x256 .bf16 := Proj.hyValueOut (arg0 m c) (arg1 m c) (arg2 m c) (arg3 m c) (arg6 m c)

theorem result_10 : (dats m 0 c).arrAt 10 cfg0.N = mixOf m c := by
  refine (dats m 0 c).arrAt_eq_of_covers 10 _ (by decide +kernel) fun t hf y => ?_
  obtain ⟨r, e, rfl⟩ : ∃ (r : Fin 256) (e : Fin 1536), y = ix2 r e := ⟨y 0, y 1, eq_ix2 y⟩
  have h : ((cfg0.win 10).blk t).view.emb (ix2 r e) = ix2 (posOf t r) e := by
    unfold posOf Proj.rowOf blockOf
    blk_ext [index_10 t]
  blk_simp
  rw [after0_10, out10_at, hiddenRow_eq]
  refine Eq.trans ?_ (congrArg (mixOf m c) h.symm)
  show _ = Proj.hyAt (arg0 m c) (arg1 m c) (arg2 m c) (arg3 m c) (arg6 m c) (posOf t r) ⟨e.val, by omega⟩
  unfold Proj.hyAt
  simp only [mix_tile]

theorem result_11 : (dats m 0 c).arrAt 11 cfg0.N = gateOf m c := by
  refine (dats m 0 c).arrAt_eq_of_covers 11 _ (by decide +kernel) fun t hf y => ?_
  obtain ⟨r, e, rfl⟩ : ∃ (r : Fin 256) (e : Fin 512), y = ix2 r e := ⟨y 0, y 1, eq_ix2 y⟩
  have h : ((cfg0.win 11).blk t).view.emb (ix2 r e) = ix2 (posOf t r) e := by
    unfold posOf Proj.rowOf blockOf
    blk_ext [index_11 t]
  blk_simp
  rw [after0_11, out11_at, hiddenRow_eq]
  refine Eq.trans ?_ (congrArg (gateOf m c) h.symm)
  show _ = Proj.hyAt (arg0 m c) (arg1 m c) (arg2 m c) (arg3 m c) (arg6 m c) (posOf t r) ⟨1536 + e.val, by omega⟩
  unfold Proj.hyAt
  simp only [gate_tile]

theorem result_12 : (dats m 0 c).arrAt 12 cfg0.N = stepOf m c := by
  refine (dats m 0 c).arrAt_eq_of_covers 12 _ (by decide +kernel) fun t hf y => ?_
  obtain ⟨r, e, rfl⟩ : ∃ (r : Fin 256) (e : Fin 128), y = ix2 r e := ⟨y 0, y 1, eq_ix2 y⟩
  have h : ((cfg0.win 12).blk t).view.emb (ix2 r e) = ix2 (posOf t r) e := by
    unfold posOf Proj.rowOf blockOf
    blk_ext [index_12 t]
  blk_simp
  rw [after0_12, out12_at, hiddenRow_eq]
  refine Eq.trans ?_ (congrArg (stepOf m c) h.symm)
  show _ = if h : e.val < 8 then Proj.hyAt (arg0 m c) (arg1 m c) (arg2 m c) (arg3 m c) (arg6 m c) (posOf t r) ⟨2048 + e.val, by omega⟩ else 0
  simp only [step_tile]
  split
  · rfl
  · exact Finset.sum_eq_zero fun k _ => mul_zero _

theorem result_13 : (dats m 0 c).arrAt 13 cfg0.N = queryOf m c := by
  refine (dats m 0 c).arrAt_eq_of_covers 13 _ (by decide +kernel) fun t hf y => ?_
  obtain ⟨a, z, d, r, rfl⟩ : ∃ (a : Fin 4) (z : Fin 1) (d : Fin 128) (r : Fin 256), y = ix4 a z d r := ⟨y 0, y 1, y 2, y 3, eq_ix4 y⟩
  obtain rfl : z = 0 := Subsingleton.elim _ _
  have h : ((cfg0.win 13).blk t).view.emb (ix4 a 0 d r) = ix4 a (blockOf t) d r := by
    unfold blockOf
    blk_ext [index_13 t]
  blk_simp
  rw [after0_13, out13_row, turnedRow_eq]
  refine Eq.trans ?_ (congrArg (queryOf m c) h.symm)
  rfl

theorem result_14 : (dats m 0 c).arrAt 14 cfg0.N = keyOf m c := by
  refine (dats m 0 c).arrAt_eq_of_covers 14 _ (by decide +kernel) fun t hf y => ?_
  obtain ⟨r, a, d, rfl⟩ : ∃ (r : Fin 256) (a : Fin 4) (d : Fin 128), y = ix2 r ⟨128 * a.val + d.val, by omega⟩ :=
    ⟨y 0, ⟨(y 1).val / 128, by have : (y 1).val < 512 := (y 1).isLt; omega⟩, ⟨(y 1).val % 128, by omega⟩,
      (eq_ix2 y).trans (congrArg (ix2 (y 0)) (Fin.ext (Nat.div_add_mod _ _).symm))⟩
  have h : ((cfg0.win 14).blk t).view.emb (ix2 r ⟨128 * a.val + d.val, by omega⟩) = ix2 (posOf t r) ⟨128 * a.val + d.val, by omega⟩ := by
    unfold posOf Proj.rowOf blockOf
    blk_ext [index_14 t]
  blk_simp
  rw [after0_14, out14_row, turnedRow_eq]
  refine Eq.trans ?_ (congrArg (keyOf m c) h.symm)
  show _ = Proj.hyTurned (arg0 m c) (arg1 m c) (arg2 m c) (arg3 m c) (arg4 m c) (arg5 m c) (arg6 m c)
    (2568 + 128 * ((128 * a.val + d.val) / 128)) _ (posOf t r) ⟨(128 * a.val + d.val) % 128, _⟩
  have e1 : 2568 + 128 * ((128 * a.val + d.val) / 128) = 2056 + (512 + 128 * a.val) := by omega
  have e2 : (⟨(128 * a.val + d.val) % 128, by omega⟩ : Fin 128) = d := Fin.ext (show (128 * a.val + d.val) % 128 = d.val by omega)
  simp only [e1, e2]

theorem result_15 : (dats m 0 c).arrAt 15 cfg0.N = valueOf m c := by
  refine (dats m 0 c).arrAt_eq_of_covers 15 _ (by decide +kernel) fun t hf y => ?_
  obtain ⟨a, z, n, r, rfl⟩ : ∃ (a : Fin 4) (z : Fin 1) (n : Fin 144) (r : Fin 256), y = ix4 a z n r := ⟨y 0, y 1, y 2, y 3, eq_ix4 y⟩
  obtain rfl : z = 0 := Subsingleton.elim _ _
  have h : ((cfg0.win 15).blk t).view.emb (ix4 a 0 n r) = ix4 a (blockOf t) n r := by
    unfold blockOf
    blk_ext [index_15 t]
  blk_simp
  rw [after0_15, out15_row]
  refine Eq.trans ?_ (congrArg (valueOf m c) h.symm)
  show _ = Proj.valued (fun d => Proj.hyAt (arg0 m c) (arg1 m c) (arg2 m c) (arg3 m c) (arg6 m c) (posOf t r) ⟨3080 + 128 * a.val + d.val, _⟩) n
  refine congrArg (fun u => Proj.valued u n) (funext fun d => (wide_eq m c t r _).trans (congrArg _ (Fin.ext ?_)))
  show 2056 + (1024 + 128 * a.val + d.val) = 3080 + 128 * a.val + d.val
  omega

/-- The kernel's run: its six results; its arguments stay. -/
theorem run (ρ : Dev nD → PrngReg) :
    θ_run defs (onTc (τ := τ) (main (F := Ideal))) ⟨m, fun _ => 0, ρ⟩ fun r => ∀ c : Dev nD,
      (r.2.mem ((c.tc : Thread nD τ).loc main_v17_0) = mixOf m c ∧ r.2.mem ((c.tc : Thread nD τ).loc main_v17_1) = gateOf m c
      ∧ r.2.mem ((c.tc : Thread nD τ).loc main_v17_2) = stepOf m c ∧ r.2.mem ((c.tc : Thread nD τ).loc main_v17_3) = queryOf m c
      ∧ r.2.mem ((c.tc : Thread nD τ).loc main_v17_4) = keyOf m c ∧ r.2.mem ((c.tc : Thread nD τ).loc main_v17_5) = valueOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨⟨(h c).1.trans (result_10 m c), (h c).2.1.trans (result_11 m c), (h c).2.2.1.trans (result_12 m c),
    (h c).2.2.2.1.trans (result_13 m c), (h c).2.2.2.2.1.trans (result_14 m c), (h c).2.2.2.2.2.1.trans (result_15 m c)⟩, (h c).2.2.2.2.2.2⟩)
    (Value.run_blocks (F := Ideal) m ρ)

end Cert.Proof.Hy

end
-- ==== Proof.HyRef.lean ====
/-
  The hybrid layers' input projection as plain lines, at an index, over the extended reals. The composed terms of the
  reference's run are cut where the lines are: the norm, the projection, its parts, and the rotary embedding.
-/
module

public import proofs.«01_k».proof.Proof.Gen.HyProjRefIdeal.Run
public import proofs.«01_k».proof.Proof.OutRef
public import proofs.«01_k».proof.Proof.ProjSpec

@[expose] public section

set_option maxRecDepth 16384

noncomputable section

namespace Cert.Proof.HyRef

open Cert.HyProjRefIdeal Cert.HyProjRefIdeal.Gen
open Idealize.ShloMosaic Idealize.ShloMosaic.TcCoe Idealize.SL.Sem

section
variable (x : FVec Ideal S1x16384x1024 .f32) (w : FVec Ideal S1024 .f32) (sc sh : FVec Ideal S1x1x1024 .f32)
  (cos sin : FVec Ideal S1x16384x64 .f32) (wi : FVec Ideal S1024x3592 .f32)

/-- The normalised stream, projected. -/
def projected : FVec Ideal S1x16384x3592 .f32 :=
  Host.dotGeneral dot_S1x16384x1024_S1024x3592_S1x16384x3592_2_0_01_1_n_n none (OutRef.normed x w sc sh) wi

theorem projected_at (Q : Fin 16384) (j : Fin 3592) : projected x w sc sh wi (ix3 0 Q j) = Proj.hyAt x w sc sh wi Q j := by
  unfold Proj.hyAt Proj.normedAt
  pointwise [projected, OutRef.normed_at]

end

variable (p : FVec Ideal S1x16384x3592 .f32) (cos sin : FVec Ideal S1x16384x64 .f32)

/-- The parts of the projection. -/
def mixPart : FVec Ideal S16384x1536 .f32 :=
  shapeCast S16384x1536 (extractStridedSlice S1x16384x1536 ![0, 0, 0] p slices_S1x16384x3592_S1x16384x1536_0_0_0) shapeCasts_S1x16384x1536_S16384x1536
def gatePart : FVec Ideal S16384x512 .f32 :=
  shapeCast S16384x512 (extractStridedSlice S1x16384x512 ![0, 0, 1536] p slices_S1x16384x3592_S1x16384x512_0_0_1536) shapeCasts_S1x16384x512_S16384x512
def stepPart : FVec Ideal S16384x128 .f32 :=
  concatenate S16384x128 1 [⟨S16384x4, shapeCast S16384x4 (extractStridedSlice S1x16384x4 ![0, 0, 2048] p slices_S1x16384x3592_S1x16384x4_0_0_2048) shapeCasts_S1x16384x4_S16384x4⟩,
    ⟨S16384x4, shapeCast S16384x4 (extractStridedSlice S1x16384x4 ![0, 0, 2052] p slices_S1x16384x3592_S1x16384x4_0_0_2052) shapeCasts_S1x16384x4_S16384x4⟩,
    ⟨S16384x120, broadcastInDim S16384x120 ![] bcast_S_S16384x120 (constant S_ .f32 0x00000000#32)⟩] concatenates_S16384x4_S16384x4_S16384x120_S16384x128_d1
def queryPart : FVec Ideal S1x16384x4x128 .f32 :=
  shapeCast S1x16384x4x128 (extractStridedSlice S1x16384x512 ![0, 0, 2056] p slices_S1x16384x3592_S1x16384x512_0_0_2056) shapeCasts_S1x16384x512_S1x16384x4x128
def keyPart : FVec Ideal S1x16384x4x128 .f32 :=
  shapeCast S1x16384x4x128 (extractStridedSlice S1x16384x512 ![0, 0, 2568] p slices_S1x16384x3592_S1x16384x512_0_0_2568) shapeCasts_S1x16384x512_S1x16384x4x128
def valuePart : FVec Ideal S1x16384x4x128 .f32 :=
  shapeCast S1x16384x4x128 (extractStridedSlice S1x16384x512 ![0, 0, 3080] p slices_S1x16384x3592_S1x16384x512_0_0_3080) shapeCasts_S1x16384x512_S1x16384x4x128

/-- An angle's cosines or sines, over the heads. -/
def spread (c : FVec Ideal S1x16384x64 .f32) : FVec Ideal S1x16384x4x64 .f32 :=
  broadcastInDim S1x16384x4x64 ![0, 1, 2, 3] bcast_S1x16384x1x64_S1x16384x4x64_0_1_2_3 (broadcastInDim S1x16384x1x64 ![0, 1, 3] bcast_S1x16384x64_S1x16384x1x64_0_1_3 c)

/-- The rotary embedding: one half of a head's features against the other. -/
def turned (u : FVec Ideal S1x16384x4x128 .f32) : FVec Ideal S1x16384x4x128 .f32 :=
  concatenate S1x16384x4x128 3 [⟨S1x16384x4x64, subf (mulf (extractStridedSlice S1x16384x4x64 ![0, 0, 0, 0] u slices_S1x16384x4x128_S1x16384x4x64_0_0_0_0) (spread cos))
      (mulf (extractStridedSlice S1x16384x4x64 ![0, 0, 0, 64] u slices_S1x16384x4x128_S1x16384x4x64_0_0_0_64) (spread sin))⟩,
    ⟨S1x16384x4x64, addf (mulf (extractStridedSlice S1x16384x4x64 ![0, 0, 0, 64] u slices_S1x16384x4x128_S1x16384x4x64_0_0_0_64) (spread cos))
      (mulf (extractStridedSlice S1x16384x4x64 ![0, 0, 0, 0] u slices_S1x16384x4x128_S1x16384x4x64_0_0_0_0) (spread sin))⟩] concatenates_S1x16384x4x64_S1x16384x4x64_S1x16384x4x128_d3

/-- Heads before positions, the positions in blocks, a block's positions last. -/
def laid (u : FVec Ideal S1x16384x4x128 .f32) : FVec Ideal S4x64x128x256 .f32 :=
  transpose S4x64x128x256 [2, 0, 3, 1] (shapeCast S64x256x4x128 u shapeCasts_S1x16384x4x128_S64x256x4x128) transposes_S64x256x4x128_S4x64x128x256_2_0_3_1

/-- The values above the rows that sum the weights. -/
def summed (u : FVec Ideal S4x64x128x256 .f32) : FVec Ideal S4x64x144x256 .f32 :=
  concatenate S4x64x144x256 2 [⟨S4x64x128x256, u⟩, ⟨S4x64x1x256, broadcastInDim S4x64x1x256 ![] bcast_S_S4x64x1x256 (constant S_ .f32 0x3F800000#32)⟩,
    ⟨S4x64x15x256, broadcastInDim S4x64x15x256 ![] bcast_S_S4x64x15x256 (constant S_ .f32 0x00000000#32)⟩] concatenates_S4x64x128x256_S4x64x1x256_S4x64x15x256_S4x64x144x256_d2

theorem turned_at (u : FVec Ideal S1x16384x4x128 .f32) (Q : Fin 16384) (a : Fin 4) (d : Fin 128) :
    turned cos sin u (ix4 0 Q a d) = Proj.rotary rfl (fun d : Fin 128 => u (ix4 0 Q a d)) (fun k : Fin 64 => cos (ix3 0 Q k)) (fun k => sin (ix3 0 Q k)) d := by
  unfold Proj.rotary
  pointwise [turned, spread]
  by_cases p : d.val < 64
  · rw [dif_pos p, dif_pos p]
    congr 4
    exact Fin.ext (show 64 + d.val = d.val + 64 by omega)
  · rw [dif_neg p, dif_neg p]
    congr 4
    exact Fin.ext (show 64 + (d.val - 64) = d.val by omega)

theorem laid_at (u : FVec Ideal S1x16384x4x128 .f32) (a : Fin 4) (b : Fin 64) (d : Fin 128) (r : Fin 256) :
    laid u (ix4 a b d r) = u (ix4 0 (Proj.rowOf b r) a d) := by
  unfold Proj.rowOf
  pointwise [laid]
  congr 2
  exact Fin.ext (show b.val * 256 + r.val = 256 * b.val + r.val by omega)

theorem summed_at (u : FVec Ideal S4x64x128x256 .f32) (a : Fin 4) (b : Fin 64) (n : Fin 144) (r : Fin 256) :
    summed u (ix4 a b n r) = Proj.valued (fun d => u (ix4 a b d r)) n := by
  unfold Proj.valued
  pointwise [summed]
  by_cases p : n.val < 128
  · rw [dif_pos p, dif_pos p]
  · rw [dif_neg p, dif_neg p]
    exact if_congr (by omega) rfl rfl

theorem mixPart_at (Q : Fin 16384) (e : Fin 1536) : mixPart p (ix2 Q e) = p (ix3 0 Q ⟨e.val, by omega⟩) := by
  pointwise [mixPart]

theorem gatePart_at (Q : Fin 16384) (e : Fin 512) : gatePart p (ix2 Q e) = p (ix3 0 Q ⟨1536 + e.val, by omega⟩) := by
  pointwise [gatePart]

theorem stepPart_at (Q : Fin 16384) (e : Fin 128) :
    stepPart p (ix2 Q e) = if h : e.val < 8 then p (ix3 0 Q ⟨2048 + e.val, by omega⟩) else 0 := by
  pointwise [stepPart]
  by_cases p4 : e.val < 4
  · rw [dif_pos p4, dif_pos (by omega)]
  · rw [dif_neg p4]
    by_cases p8 : e.val < 8
    · rw [dif_pos (by omega), dif_pos p8]
      congr 2
      exact Fin.ext (show 2052 + (e.val - 4) = 2048 + e.val by omega)
    · rw [dif_neg (by omega), dif_neg p8]

theorem queryPart_at (Q : Fin 16384) (a : Fin 4) (d : Fin 128) : queryPart p (ix4 0 Q a d) = p (ix3 0 Q ⟨2056 + 128 * a.val + d.val, by omega⟩) := by
  pointwise [queryPart]
  congr 2
  exact Fin.ext (show 2056 + (a.val * 128 + d.val) = 2056 + 128 * a.val + d.val by omega)

theorem keyPart_at (Q : Fin 16384) (a : Fin 4) (d : Fin 128) : keyPart p (ix4 0 Q a d) = p (ix3 0 Q ⟨2568 + 128 * a.val + d.val, by omega⟩) := by
  pointwise [keyPart]
  congr 2
  exact Fin.ext (show 2568 + (a.val * 128 + d.val) = 2568 + 128 * a.val + d.val by omega)

theorem valuePart_at (Q : Fin 16384) (a : Fin 4) (d : Fin 128) : valuePart p (ix4 0 Q a d) = p (ix3 0 Q ⟨3080 + 128 * a.val + d.val, by omega⟩) := by
  pointwise [valuePart]
  congr 2
  exact Fin.ext (show 3080 + (a.val * 128 + d.val) = 3080 + 128 * a.val + d.val by omega)

section
variable (x : FVec Ideal S1x16384x1024 .f32) (w : FVec Ideal S1024 .f32) (sc sh : FVec Ideal S1x1x1024 .f32)
  (cos sin : FVec Ideal S1x16384x64 .f32) (wi : FVec Ideal S1024x3592 .f32)

theorem mix_result : mixPart (projected x w sc sh wi) = Proj.hyMixOut x w sc sh wi := by
  funext y
  obtain ⟨Q, e, rfl⟩ : ∃ (Q : Fin 16384) (e : Fin 1536), y = ix2 Q e := ⟨y 0, y 1, eq_ix2 y⟩
  exact (mixPart_at _ Q e).trans (projected_at x w sc sh wi Q _)

theorem gate_result : gatePart (projected x w sc sh wi) = Proj.hyGateOut x w sc sh wi := by
  funext y
  obtain ⟨Q, e, rfl⟩ : ∃ (Q : Fin 16384) (e : Fin 512), y = ix2 Q e := ⟨y 0, y 1, eq_ix2 y⟩
  exact (gatePart_at _ Q e).trans (projected_at x w sc sh wi Q _)

theorem step_result : stepPart (projected x w sc sh wi) = Proj.hyStepOut x w sc sh wi := by
  funext y
  obtain ⟨Q, e, rfl⟩ : ∃ (Q : Fin 16384) (e : Fin 128), y = ix2 Q e := ⟨y 0, y 1, eq_ix2 y⟩
  refine (stepPart_at _ Q e).trans ?_
  simp only [projected_at]
  rfl

theorem query_result : truncf .bf16 (laid (turned cos sin (queryPart (projected x w sc sh wi)))) bitsLt_bf16_f32 = Proj.hyQueryOut x w sc sh cos sin wi := by
  funext y
  obtain ⟨a, b, d, r, rfl⟩ : ∃ (a : Fin 4) (b : Fin 64) (d : Fin 128) (r : Fin 256), y = ix4 a b d r := ⟨y 0, y 1, y 2, y 3, eq_ix4 y⟩
  refine (laid_at _ a b d r).trans ((turned_at cos sin _ (Proj.rowOf b r) a d).trans ?_)
  simp only [queryPart_at, projected_at]
  rfl

theorem key_result : truncf .bf16 (shapeCast S16384x512 (turned cos sin (keyPart (projected x w sc sh wi))) shapeCasts_S1x16384x4x128_S16384x512) bitsLt_bf16_f32
    = Proj.hyKeyOut x w sc sh cos sin wi := by
  funext y
  obtain ⟨Q, e, rfl⟩ : ∃ (Q : Fin 16384) (e : Fin 512), y = ix2 Q e := ⟨y 0, y 1, eq_ix2 y⟩
  have h : truncf .bf16 (shapeCast S16384x512 (turned cos sin (keyPart (projected x w sc sh wi))) shapeCasts_S1x16384x4x128_S16384x512) bitsLt_bf16_f32 (ix2 Q e)
      = turned cos sin (keyPart (projected x w sc sh wi)) (ix4 0 Q ⟨e.val / 128, by omega⟩ ⟨e.val % 128, by omega⟩) := by
    generalize turned cos sin (keyPart (projected x w sc sh wi)) = t
    pointwise
  refine h.trans ((turned_at cos sin _ Q _ _).trans ?_)
  simp only [keyPart_at, projected_at]
  rfl

theorem value_result : truncf .bf16 (summed (laid (valuePart (projected x w sc sh wi)))) bitsLt_bf16_f32 = Proj.hyValueOut x w sc sh wi := by
  funext y
  obtain ⟨a, b, n, r, rfl⟩ : ∃ (a : Fin 4) (b : Fin 64) (n : Fin 144) (r : Fin 256), y = ix4 a b n r := ⟨y 0, y 1, y 2, y 3, eq_ix4 y⟩
  refine (summed_at _ a b n r).trans ?_
  simp only [laid_at, valuePart_at, projected_at]
  rfl

end

variable (m : (ℓ : Loc nD τ sig) → Buf (Elt Ideal) ℓ)

/-- The reference's run: its results are the six of the specification; its arguments stay. -/
theorem run (ρ : Dev nD → PrngReg) :
    θ_run defs (onTc (τ := τ) (main (F := Ideal))) ⟨m, fun _ => 0, ρ⟩ fun r => ∀ c : Dev nD,
      (r.2.mem ((c.tc : Thread nD τ).loc main_v64) = Proj.hyMixOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg6))
      ∧ r.2.mem ((c.tc : Thread nD τ).loc main_v65) = Proj.hyGateOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg6))
      ∧ r.2.mem ((c.tc : Thread nD τ).loc main_v63) = Proj.hyStepOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg6))
      ∧ r.2.mem ((c.tc : Thread nD τ).loc main_v68) = Proj.hyQueryOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v70) = Proj.hyKeyOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v76) = Proj.hyValueOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨⟨(h c).1.trans (mix_result _ _ _ _ _), (h c).2.1.trans (gate_result _ _ _ _ _), (h c).2.2.1.trans (step_result _ _ _ _ _),
    (h c).2.2.2.1.trans (query_result _ _ _ _ _ _ _), (h c).2.2.2.2.1.trans (key_result _ _ _ _ _ _ _), (h c).2.2.2.2.2.1.trans (value_result _ _ _ _ _)⟩,
    (h c).2.2.2.2.2.2⟩) (Value.run (F := Ideal) m ρ)

end Cert.Proof.HyRef

end
-- ==== Proof.lean ====
/-
  The certificate's claims, assembled: the frames and the values of the latent attention, of the output projection in its
  two forms, of the mixers' input projections, of the modulation, of the tables of the angles and of the final norm.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.Same
public import proofs.«01_k».proof.Proof.Gen.OutProj
public import proofs.«01_k».proof.Proof.Gen.OutProjEven
public import proofs.«01_k».proof.Proof.Gen.OutProjIdeal.Value
public import proofs.«01_k».proof.Proof.Gen.OutProjEvenIdeal.Value
public import proofs.«01_k».proof.Proof.Gen.OutProjRefIdeal.Run
public import proofs.«01_k».proof.Proof.Gen.OutProjEvenRefIdeal.Run
public import proofs.«01_k».proof.Proof.Gen.FinalNorm
public import proofs.«01_k».proof.Proof.Gen.FinalNormIdeal.Value
public import proofs.«01_k».proof.Proof.Gen.FinalNormRefIdeal.Run
public import proofs.«01_k».proof.Proof.Gen.Modulation
public import proofs.«01_k».proof.Proof.Gen.ModulationIdeal.Value
public import proofs.«01_k».proof.Proof.Gen.ModulationRefIdeal.Run
public import proofs.«01_k».proof.Proof.Gen.Rope
public import proofs.«01_k».proof.Proof.Gen.RopeIdeal.Frame
public import proofs.«01_k».proof.Proof.Gen.RopeRefIdeal.Run
public import proofs.«01_k».proof.Proof.Gen.MlaProj
public import proofs.«01_k».proof.Proof.Gen.MlaProjIdeal.Value
public import proofs.«01_k».proof.Proof.Gen.MlaProjRefIdeal.Run
public import proofs.«01_k».proof.Proof.Gen.HyProj
public import proofs.«01_k».proof.Proof.Gen.HyProjIdeal.Value
public import proofs.«01_k».proof.Proof.Gen.HyProjRefIdeal.Run
public import proofs.«01_k».proof.Proof.Precondition
public import proofs.«01_k».proof.Proof.OutSame
public import proofs.«01_k».proof.Proof.OutValue
public import proofs.«01_k».proof.Proof.OutRef
public import proofs.«01_k».proof.Proof.OutEvenValue
public import proofs.«01_k».proof.Proof.OutEvenRef
public import proofs.«01_k».proof.Proof.RefValue
public import proofs.«01_k».proof.Proof.ProjSame
public import proofs.«01_k».proof.Proof.TableSame
public import proofs.«01_k».proof.Proof.ModValue
public import proofs.«01_k».proof.Proof.ModRef
public import proofs.«01_k».proof.Proof.RopeValue
public import proofs.«01_k».proof.Proof.RopeRef
public import proofs.«01_k».proof.Proof.FinalValue
public import proofs.«01_k».proof.Proof.FinalRef
public import proofs.«01_k».proof.Proof.MlaValue
public import proofs.«01_k».proof.Proof.MlaProjRef
public import proofs.«01_k».proof.Proof.HyValue
public import proofs.«01_k».proof.Proof.HyRef
public import Idealize.ShloMosaic.Adequacy
public import Idealize.ShloMosaic.Lib.Quiescent
public import Idealize.ShloMosaic.Init

@[expose] public section

noncomputable section

namespace Cert.Proof

open Idealize.ShloMosaic Idealize.ShloMosaic.StableHlo Idealize.ShloMosaic.TcCoe Idealize.SL Idealize.SL.Sem

/-- The reference's result, of the same arguments, is the kernel's. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hf : Mla.FiniteArgs m c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v32 m' c = Mla.result m c := by
  rw [Mla.result_attention hf]
  funext i
  have hi : i = ix2 (i 0) (i 1) := by funext a; fin_cases a <;> rfl
  refine (congrArg (Cert.ReferenceIdeal.Value.res_main_v32 m' c) hi).trans ((MlaRef.result_at m' c (i 0) (i 1)).trans ?_)
  rw [h0, h1, h2, h3, h4]
  rfl

/-- A reference that is host code alone leaves its arguments and, having no semaphores, ends quiescent. -/
theorem out_ref_frame : Cert.quiescent_OutProjRefIdeal (hOutProjRefIdeal := Cert.OutProjRefIdeal.Gen.facts) := fun m g _ =>
  (θ_run Cert.OutProjRefIdeal.defs _ _).mono (fun r h => ⟨fun c => (h c).2, sem_eq_zero_of_no_sems rfl r.2⟩) (OutRef.run m g)

theorem out_even_ref_frame : Cert.quiescent_OutProjEvenRefIdeal (hOutProjEvenRefIdeal := Cert.OutProjEvenRefIdeal.Gen.facts) := fun m g _ =>
  (θ_run Cert.OutProjEvenRefIdeal.defs _ _).mono (fun r h => ⟨fun c => (h c).2, sem_eq_zero_of_no_sems rfl r.2⟩) (OutEvenRef.run m g)

theorem final_ref_frame : Cert.quiescent_FinalNormRefIdeal (hFinalNormRefIdeal := Cert.FinalNormRefIdeal.Gen.facts) := fun m g _ =>
  (θ_run Cert.FinalNormRefIdeal.defs _ _).mono (fun r h => ⟨fun c => (h c).2, sem_eq_zero_of_no_sems rfl r.2⟩) (FinalRef.run m g)

theorem mla_proj_ref_frame : Cert.quiescent_MlaProjRefIdeal (hMlaProjRefIdeal := Cert.MlaProjRefIdeal.Gen.facts) := fun m g _ =>
  (θ_run Cert.MlaProjRefIdeal.defs _ _).mono (fun r h => ⟨fun c => (h c).2, sem_eq_zero_of_no_sems rfl r.2⟩) (MlaPRef.run m g)

theorem hy_ref_frame : Cert.quiescent_HyProjRefIdeal (hHyProjRefIdeal := Cert.HyProjRefIdeal.Gen.facts) := fun m g _ =>
  (θ_run Cert.HyProjRefIdeal.defs _ _).mono (fun r h => ⟨fun c => (h c).2, sem_eq_zero_of_no_sems rfl r.2⟩) (HyRef.run m g)

/-- The output projection behind the attention: kernel and reference leave the same three results. -/
theorem out_algebraic [hOutProjIdeal : Cert.OutProjIdeal.Facts] [hOutProjRefIdeal : Cert.OutProjRefIdeal.Facts] :
    Cert.algebraic_OutProjIdeal_OutProjRefIdeal := by
  intro m g m' g' _ hagree
  refine ⟨fun c => Out.streamOf m c, fun c => Out.hiddenOf m c, fun c => Out.scoreOf m c,
    (θ_run Cert.OutProjIdeal.defs _ _).mono (fun r h c => ⟨(h c).1.1, (h c).1.2.1, (h c).1.2.2, (h c).2⟩) (Out.run m g),
    (θ_run Cert.OutProjRefIdeal.defs _ _).mono (fun r h c => ?_) (OutRef.run m' g')⟩
  obtain ⟨h0, h1, h2, h3, h4, h5, h6, h7, h8⟩ := hagree c
  obtain ⟨⟨r0, r1, r2⟩, hargs⟩ := h c
  rw [h0, h1, h2, h3] at r0
  rw [h0, h1, h2, h3, h4, h5, h6] at r1
  rw [h0, h1, h2, h3, h4, h5, h6, h7, h8] at r2
  exact ⟨r0, r1, r2, hargs⟩

/-- The output projection behind the two mixers: kernel and reference leave the same three results. -/
theorem out_even_algebraic [hOutProjEvenIdeal : Cert.OutProjEvenIdeal.Facts] [hOutProjEvenRefIdeal : Cert.OutProjEvenRefIdeal.Facts] :
    Cert.algebraic_OutProjEvenIdeal_OutProjEvenRefIdeal := by
  intro m g m' g' _ hagree
  refine ⟨fun c => OutEven.streamOf m c, fun c => OutEven.hiddenOf m c, fun c => OutEven.scoreOf m c,
    (θ_run Cert.OutProjEvenIdeal.defs _ _).mono (fun r h c => ⟨(h c).1.1, (h c).1.2.1, (h c).1.2.2, (h c).2⟩) (OutEven.run m g),
    (θ_run Cert.OutProjEvenRefIdeal.defs _ _).mono (fun r h c => ?_) (OutEvenRef.run m' g')⟩
  obtain ⟨h0, h1, h2, h3, h4, h5, h6, h7, h8, h9⟩ := hagree c
  obtain ⟨⟨r0, r1, r2⟩, hargs⟩ := h c
  rw [h0, h1, h2, h3, h4] at r0
  rw [h0, h1, h2, h3, h4, h5, h6, h7] at r1
  rw [h0, h1, h2, h3, h4, h5, h6, h7, h8, h9] at r2
  exact ⟨r0, r1, r2, hargs⟩

/-- The final norm: kernel and reference leave the same result. -/
theorem final_algebraic [hFinalNormIdeal : Cert.FinalNormIdeal.Facts] [hFinalNormRefIdeal : Cert.FinalNormRefIdeal.Facts] :
    Cert.algebraic_FinalNormIdeal_FinalNormRefIdeal := by
  intro m g m' g' _ hagree
  refine ⟨fun c => Final.resultOf m c,
    (θ_run Cert.FinalNormIdeal.defs _ _).mono (fun r h c => ⟨(h c).1, (h c).2⟩) (Final.run m g),
    (θ_run Cert.FinalNormRefIdeal.defs _ _).mono (fun r h c => ?_) (FinalRef.run m' g')⟩
  obtain ⟨h0, h1⟩ := hagree c
  obtain ⟨r0, hargs⟩ := h c
  rw [h0, h1] at r0
  exact ⟨r0, hargs⟩

/-- The latent attention's projection: kernel and reference leave the same three results. -/
theorem mla_proj_algebraic [hMlaProjIdeal : Cert.MlaProjIdeal.Facts] [hMlaProjRefIdeal : Cert.MlaProjRefIdeal.Facts] :
    Cert.algebraic_MlaProjIdeal_MlaProjRefIdeal := by
  intro m g m' g' _ hagree
  refine ⟨fun c => MlaP.queryOf m c, fun c => MlaP.keyOf m c, fun c => MlaP.valueOf m c,
    (θ_run Cert.MlaProjIdeal.defs _ _).mono (fun r h c => ⟨(h c).1.1, (h c).1.2.1, (h c).1.2.2, (h c).2⟩) (MlaP.run m g),
    (θ_run Cert.MlaProjRefIdeal.defs _ _).mono (fun r h c => ?_) (MlaPRef.run m' g')⟩
  obtain ⟨h0, h1, h2, h3, h4, h5, h6, h7, h8, h9, h10⟩ := hagree c
  obtain ⟨⟨r0, r1, r2⟩, hargs⟩ := h c
  rw [h0, h1, h2, h3, h4, h5, h6, h7, h9] at r0
  rw [h0, h1, h2, h3, h4, h5, h6, h8, h10] at r1
  rw [h0, h1, h2, h3, h6, h8, h10] at r2
  exact ⟨r0, r1, r2, hargs⟩

/-- The hybrid layers' input projection: kernel and reference leave the same six results. -/
theorem hy_algebraic [hHyProjIdeal : Cert.HyProjIdeal.Facts] [hHyProjRefIdeal : Cert.HyProjRefIdeal.Facts] :
    Cert.algebraic_HyProjIdeal_HyProjRefIdeal := by
  intro m g m' g' _ hagree
  refine ⟨fun c => Hy.mixOf m c, fun c => Hy.gateOf m c, fun c => Hy.stepOf m c, fun c => Hy.queryOf m c, fun c => Hy.keyOf m c,
    fun c => Hy.valueOf m c,
    (θ_run Cert.HyProjIdeal.defs _ _).mono (fun r h c => ⟨(h c).1.1, (h c).1.2.1, (h c).1.2.2.1, (h c).1.2.2.2.1, (h c).1.2.2.2.2.1,
      (h c).1.2.2.2.2.2, (h c).2⟩) (Hy.run m g),
    (θ_run Cert.HyProjRefIdeal.defs _ _).mono (fun r h c => ?_) (HyRef.run m' g')⟩
  obtain ⟨h0, h1, h2, h3, h4, h5, h6⟩ := hagree c
  obtain ⟨⟨r0, r1, r2, r3, r4, r5⟩, hargs⟩ := h c
  rw [h0, h1, h2, h3, h6] at r0 r1 r2 r5
  rw [h0, h1, h2, h3, h4, h5, h6] at r3 r4
  exact ⟨r0, r1, r2, r3, r4, r5, hargs⟩

/-- The modulation: kernel and reference leave the same result. -/
theorem modulation_algebraic [hModulationIdeal : Cert.ModulationIdeal.Facts] [hModulationRefIdeal : Cert.ModulationRefIdeal.Facts] :
    Cert.algebraic_ModulationIdeal_ModulationRefIdeal := by
  intro m g m' g' _ hagree
  refine ⟨fun c => Modu.resultOf m c,
    (θ_run Cert.ModulationIdeal.defs _ _).mono (fun r h c => ⟨(h c).1, (h c).2⟩) (Modu.run m g),
    (θ_run Cert.ModulationRefIdeal.defs _ _).mono (fun r h c => ?_) (ModuRef.run m' g')⟩
  obtain ⟨h0, h1, h2⟩ := hagree c
  obtain ⟨r0, hargs⟩ := h c
  rw [h0, h1, h2] at r0
  exact ⟨r0, hargs⟩

/-- The tables of the angles: kernel and reference leave the same four results. -/
theorem rope_algebraic [hRopeIdeal : Cert.RopeIdeal.Facts] [hRopeRefIdeal : Cert.RopeRefIdeal.Facts] :
    Cert.algebraic_RopeIdeal_RopeRefIdeal := by
  intro m g m' g' _ hagree
  refine ⟨fun c => Table.cosOut 0x43000000#32 64 (m ((c.tc : Thread Cert.RopeIdeal.nD Cert.RopeIdeal.τ).loc Cert.RopeIdeal.main_arg0)),
    fun c => Table.sinOut 0x43000000#32 64 (m ((c.tc : Thread Cert.RopeIdeal.nD Cert.RopeIdeal.τ).loc Cert.RopeIdeal.main_arg0)),
    fun c => Table.cosOut 0x42800000#32 32 (m ((c.tc : Thread Cert.RopeIdeal.nD Cert.RopeIdeal.τ).loc Cert.RopeIdeal.main_arg0)),
    fun c => Table.sinOut 0x42800000#32 32 (m ((c.tc : Thread Cert.RopeIdeal.nD Cert.RopeIdeal.τ).loc Cert.RopeIdeal.main_arg0)),
    Rope.run m g, (θ_run Cert.RopeRefIdeal.defs _ _).mono (fun r h c => ?_) (RopeRef.run m' g')⟩
  have h0 := hagree c
  obtain ⟨r0, r1, r2, r3, hargs⟩ := h c
  rw [h0] at r0 r1 r2 r3
  exact ⟨r0, r1, r2, r3, hargs⟩

theorem modulation_ref_frame : Cert.quiescent_ModulationRefIdeal (hModulationRefIdeal := Cert.ModulationRefIdeal.Gen.facts) := fun m g _ =>
  (θ_run Cert.ModulationRefIdeal.defs _ _).mono (fun r h => ⟨fun c => (h c).2, sem_eq_zero_of_no_sems rfl r.2⟩) (ModuRef.run m g)

theorem rope_ref_frame : Cert.quiescent_RopeRefIdeal (hRopeRefIdeal := Cert.RopeRefIdeal.Gen.facts) := fun m g _ =>
  (θ_run Cert.RopeRefIdeal.defs _ _).mono (fun r h => ⟨fun c => (h c).2.2.2.2, sem_eq_zero_of_no_sems rfl r.2⟩) (RopeRef.run m g)

/-- The attention's kernel and reference leave the same result, of finite queries and keys. -/
theorem mla_algebraic : Cert.algebraic_KernelIdeal_ReferenceIdeal_pre_finite_scores
    (hKernelIdeal := Cert.KernelIdeal.Gen.facts) (hReferenceIdeal := Cert.ReferenceIdeal.Gen.facts) (hPre_finite_scores := Cert.Pre_finite_scores.Gen.facts) := by
  intro m g m' g' hpre hagree
  refine ⟨fun c => Mla.result m c, (θ_run Cert.KernelIdeal.defs _ _).mono (fun r h => h.1) (Mla.run_result (F := Ideal) m g), ?_⟩
  refine (θ_run Cert.ReferenceIdeal.defs _ _).mono (fun r h c => ?_) (Cert.ReferenceIdeal.Value.run (F := Ideal) m' g')
  obtain ⟨h0, h1, h2, h3, h4⟩ := hagree c
  exact ⟨(h c).1.trans (reference_eq m m' c (Mla.finite_args m hpre c) h0 h1 h2 h3 h4), (h c).2⟩

theorem mla_ref_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩) (Cert.ReferenceIdeal.Value.run (F := Ideal) m g)

theorem claim : Cert.Claim :=
  ⟨Cert.Kernel.Gen.facts, Cert.KernelIdeal.Gen.facts, Cert.ReferenceIdeal.Gen.facts,
    Cert.OutProj.Gen.facts, Cert.OutProjIdeal.Gen.facts, Cert.OutProjRefIdeal.Gen.facts,
    Cert.OutProjEven.Gen.facts, Cert.OutProjEvenIdeal.Gen.facts, Cert.OutProjEvenRefIdeal.Gen.facts,
    Cert.FinalNorm.Gen.facts, Cert.FinalNormIdeal.Gen.facts, Cert.FinalNormRefIdeal.Gen.facts,
    Cert.MlaProj.Gen.facts, Cert.MlaProjIdeal.Gen.facts, Cert.MlaProjRefIdeal.Gen.facts,
    Cert.HyProj.Gen.facts, Cert.HyProjIdeal.Gen.facts, Cert.HyProjRefIdeal.Gen.facts,
    Cert.Modulation.Gen.facts, Cert.ModulationIdeal.Gen.facts, Cert.ModulationRefIdeal.Gen.facts,
    Cert.Rope.Gen.facts, Cert.RopeIdeal.Gen.facts, Cert.RopeRefIdeal.Gen.facts,
    Cert.Pre_finite_scores.Gen.facts,
    fun m g _ => Mla.run_frame_bits m g,
    fun m g _ => Mla.run_frame (F := Ideal) m g,
    fun m g _ => Mla.run_frame (F := Ideal) m g,
    mla_ref_frame,
    fun m g _ => mla_ref_frame m g trivial,
    fun m g _ => Out.run_frame_bits m g,
    fun m g _ => Cert.OutProjIdeal.Gen.frame (F := Ideal) m g,
    out_ref_frame,
    fun m g _ => OutEven.run_frame_bits m g,
    fun m g _ => Cert.OutProjEvenIdeal.Gen.frame (F := Ideal) m g,
    out_even_ref_frame,
    fun m g _ => Final.run_frame_bits m g,
    fun m g _ => Cert.FinalNormIdeal.Gen.frame (F := Ideal) m g,
    final_ref_frame,
    fun m g _ => MlaP.run_frame_bits m g,
    fun m g _ => Cert.MlaProjIdeal.Gen.frame (F := Ideal) m g,
    mla_proj_ref_frame,
    fun m g _ => Hy.run_frame_bits m g,
    fun m g _ => Cert.HyProjIdeal.Gen.frame (F := Ideal) m g,
    hy_ref_frame,
    fun m g _ => Modu.run_frame_bits m g,
    fun m g _ => Cert.ModulationIdeal.Gen.frame (F := Ideal) m g,
    modulation_ref_frame,
    fun m g _ => Rope.run_frame_bits m g,
    fun m g _ => Cert.RopeIdeal.Gen.frame (F := Ideal) m g,
    rope_ref_frame,
    trivial, mla_algebraic, trivial, out_algebraic, trivial, out_even_algebraic, trivial, final_algebraic, trivial, mla_proj_algebraic, trivial,
    hy_algebraic, trivial, modulation_algebraic, trivial, rope_algebraic⟩

end Cert.Proof

end
